-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S2x4160x2048 : Shape := ⟨3, ![2, 4160, 2048]⟩
abbrev S2x4160x12800 : Shape := ⟨3, ![2, 4160, 12800]⟩
abbrev S4 : Shape := ⟨1, ![4]⟩
abbrev S_ : Shape := ⟨0, ![]⟩
abbrev S128 : Shape := ⟨1, ![128]⟩
abbrev S1x128 : Shape := ⟨2, ![1, 128]⟩
abbrev S2x65x4x256x512 : Shape := ⟨5, ![2, 65, 4, 256, 512]⟩
abbrev S1x64x1024 : Shape := ⟨3, ![1, 64, 1024]⟩
abbrev S1x64x2048 : Shape := ⟨3, ![1, 64, 2048]⟩
abbrev S1x1x4x256x512 : Shape := ⟨5, ![1, 1, 4, 256, 512]⟩
abbrev S4x256x512 : Shape := ⟨3, ![4, 256, 512]⟩
abbrev S1x256x512 : Shape := ⟨3, ![1, 256, 512]⟩
abbrev S256x512 : Shape := ⟨2, ![256, 512]⟩
abbrev S1x1x1x256x512 : Shape := ⟨5, ![1, 1, 1, 256, 512]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1 : Shape := ⟨1, ![1]⟩
abbrev S1x1 : Shape := ⟨2, ![1, 1]⟩
abbrev S64x64 : Shape := ⟨2, ![64, 64]⟩
abbrev S64x1 : Shape := ⟨2, ![64, 1]⟩
abbrev S1x1x1 : Shape := ⟨3, ![1, 1, 1]⟩
abbrev S64 : Shape := ⟨1, ![64]⟩
abbrev S1x64x64 : Shape := ⟨3, ![1, 64, 64]⟩

abbrev nBuf : Space → Nat
  | .hbm => 13
  | .vmem => 29
  | .smem => 0
  | _ => 0

abbrev bufTy : (tb : Table) → Fin (tcTables nBuf tb) → BufTy
  | .hbm, ⟨0, _⟩ => ⟨S2x4160x2048, .f32⟩
  | .hbm, ⟨1, _⟩ => ⟨S2x4160x12800, .f32⟩
  | .hbm, ⟨2, _⟩ => ⟨S4, .f32⟩
  | .hbm, ⟨3, _⟩ => ⟨S2x4160x2048, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S2x4160x2048, .f32⟩
  | .hbm, ⟨9, _⟩ => ⟨S2x65x4x256x512, .bf16⟩
  | .hbm, ⟨10, _⟩ => ⟨S2x4160x2048, .f32⟩
  | .hbm, ⟨11, _⟩ => ⟨S2x4160x2048, .f32⟩
  | .hbm, ⟨12, _⟩ => ⟨S1x128, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x2048, .f32⟩
  | .local _ .vmem, ⟨5, _⟩ => ⟨S1x64x2048, .f32⟩
  | .local _ .vmem, ⟨6, _⟩ => ⟨S1x128, .f32⟩
  | .local _ .vmem, ⟨7, _⟩ => ⟨S1x64x2048, .f32⟩
  | .local _ .vmem, ⟨8, _⟩ => ⟨S1x64x2048, .f32⟩
  | .local _ .vmem, ⟨9, _⟩ => ⟨S1x1x4x256x512, .bf16⟩
  | .local _ .vmem, ⟨10, _⟩ => ⟨S1x1x4x256x512, .bf16⟩
  | .local _ .vmem, ⟨11, _⟩ => ⟨S4x256x512, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x2048, .f32⟩
  | .local _ .vmem, ⟨17, _⟩ => ⟨S1x64x2048, .f32⟩
  | .local _ .vmem, ⟨18, _⟩ => ⟨S1x128, .f32⟩
  | .local _ .vmem, ⟨19, _⟩ => ⟨S1x1x4x256x512, .bf16⟩
  | .local _ .vmem, ⟨20, _⟩ => ⟨S1x1x4x256x512, .bf16⟩
  | .local _ .vmem, ⟨21, _⟩ => ⟨S1x64x2048, .f32⟩
  | .local _ .vmem, ⟨22, _⟩ => ⟨S1x64x2048, .f32⟩
  | .local _ .vmem, ⟨23, _⟩ => ⟨S1x64x2048, .f32⟩
  | .local _ .vmem, ⟨24, _⟩ => ⟨S1x64x2048, .f32⟩
  | .local _ .vmem, ⟨25, _⟩ => ⟨S1x64x2048, .f32⟩
  | .local _ .vmem, ⟨26, _⟩ => ⟨S1x64x2048, .f32⟩
  | .local _ .vmem, ⟨27, _⟩ => ⟨S1x128, .f32⟩
  | .local _ .vmem, ⟨28, _⟩ => ⟨S4x256x512, .f32⟩
  | _, _ => ⟨S2x4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26

abbrev nD : Nat := 1
abbrev τ : Topo := Topo.v7x

variable {F : FTy → Type} [FloatOps F]

abbrev grid0 : Pipeline.Grid := ⟨2, ![2, 65], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c1_i32 : BitVec 32 := 1#32
  let c0_i32 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c3_i32 : BitVec 32 := 3#32
  let c0_i32 : BitVec 32 := 0#32
  ![arg0.toNat, v0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  ![arg0.toNat, v0.toNat, c0_i32.toNat]

def cc0_transform_5 (i : grid0.Coords) : Fin 5 → Nat :=
  let arg0 : BitVec 32 := BitVec.ofNat 32 (i 0).val
  let arg1 : BitVec 32 := BitVec.ofNat 32 (i 1).val
  let c64_i32 : BitVec 32 := 64#32
  let v0 : BitVec 32 := Scalar.subi c64_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 65], ![false, false]⟩

def k1_cond2 (i : grid1.Coords) : BitVec 1 :=
  let arg0 : BitVec 32 := BitVec.ofNat 32 (i 0).val
  let c0_i32_269 : BitVec 32 := 0#32
  let v735 : BitVec 1 := Scalar.cmpi .eq arg0 c0_i32_269
  let arg1 : BitVec 32 := BitVec.ofNat 32 (i 1).val
  let c0_i32_270 : BitVec 32 := 0#32
  let v736 : BitVec 1 := Scalar.cmpi .eq arg1 c0_i32_270
  let v737 : BitVec 1 := Scalar.andi v735 v736
  let v738 : BitVec 32 := Scalar.extui v737
  let c0_i32_271 : BitVec 32 := 0#32
  let v739 : BitVec 1 := Scalar.cmpi .ne v738 c0_i32_271
  v739

def k1_cond3 (i : grid1.Coords) : BitVec 1 :=
  let arg0 : BitVec 32 := BitVec.ofNat 32 (i 0).val
  let c0_i32_269 : BitVec 32 := 0#32
  let v735 : BitVec 1 := Scalar.cmpi .eq arg0 c0_i32_269
  let arg1 : BitVec 32 := BitVec.ofNat 32 (i 1).val
  let c0_i32_270 : BitVec 32 := 0#32
  let v736 : BitVec 1 := Scalar.cmpi .eq arg1 c0_i32_270
  let v737 : BitVec 1 := Scalar.andi v735 v736
  let v_true : BitVec 1 := 1#1
  let v740 : BitVec 1 := Scalar.xori v737 v_true
  let v741 : BitVec 32 := Scalar.extui v740
  let c0_i32_272 : BitVec 32 := 0#32
  let v742 : BitVec 1 := Scalar.cmpi .ne v741 c0_i32_272
  v742

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x4x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x64x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x64x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== ReferenceIdeal.lean ====
abbrev S2x4160x2048 : Shape := ⟨3, ![2, 4160, 2048]⟩
abbrev S2x4160x12800 : Shape := ⟨3, ![2, 4160, 12800]⟩
abbrev S4 : Shape := ⟨1, ![4]⟩
abbrev S2x4160x1024 : Shape := ⟨3, ![2, 4160, 1024]⟩
abbrev S2x4160x4x256 : Shape := ⟨4, ![2, 4160, 4, 256]⟩
abbrev S2x4160x4x512 : Shape := ⟨4, ![2, 4160, 4, 512]⟩
abbrev S_ : Shape := ⟨0, ![]⟩
abbrev S2x65x64x4x256 : Shape := ⟨5, ![2, 65, 64, 4, 256]⟩
abbrev S65x2x4x64x256 : Shape := ⟨5, ![65, 2, 4, 64, 256]⟩
abbrev S2x65x64x4x512 : Shape := ⟨5, ![2, 65, 64, 4, 512]⟩
abbrev S65x2x4x64x512 : Shape := ⟨5, ![65, 2, 4, 64, 512]⟩
abbrev S64 : Shape := ⟨1, ![64]⟩
abbrev S4x1 : Shape := ⟨2, ![4, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S65x2x4x64x64 : Shape := ⟨5, ![65, 2, 4, 64, 64]⟩
abbrev S1x1x4x64x64 : Shape := ⟨5, ![1, 1, 4, 64, 64]⟩
abbrev S4x64 : Shape := ⟨2, ![4, 64]⟩
abbrev S4x64x1 : Shape := ⟨3, ![4, 64, 1]⟩
abbrev S1x1x4x64x1 : Shape := ⟨5, ![1, 1, 4, 64, 1]⟩
abbrev S2x4x256x512 : Shape := ⟨4, ![2, 4, 256, 512]⟩
abbrev S1x4x1x1 : Shape := ⟨4, ![1, 4, 1, 1]⟩
abbrev S65x2x4x256x512 : Shape := ⟨5, ![65, 2, 4, 256, 512]⟩
abbrev S1x2x4x64x256 : Shape := ⟨5, ![1, 2, 4, 64, 256]⟩
abbrev S2x4x64x256 : Shape := ⟨4, ![2, 4, 64, 256]⟩
abbrev S1x2x4x64x64 : Shape := ⟨5, ![1, 2, 4, 64, 64]⟩
abbrev S2x4x64x64 : Shape := ⟨4, ![2, 4, 64, 64]⟩
abbrev S1x2x4x64x512 : Shape := ⟨5, ![1, 2, 4, 64, 512]⟩
abbrev S2x4x64x512 : Shape := ⟨4, ![2, 4, 64, 512]⟩
abbrev S1x2x4x256x512 : Shape := ⟨5, ![1, 2, 4, 256, 512]⟩
abbrev S2x4x512x64 : Shape := ⟨4, ![2, 4, 512, 64]⟩
abbrev S2x4x256x64 : Shape := ⟨4, ![2, 4, 256, 64]⟩
abbrev S2x4x512x256 : Shape := ⟨4, ![2, 4, 512, 256]⟩
abbrev S128 : Shape := ⟨1, ![128]⟩
abbrev S1x128 : Shape := ⟨2, ![1, 128]⟩

abbrev nBuf : Space → Nat
  | .hbm => 416
  | .vmem => 0
  | .smem => 0
  | _ => 0

abbrev hbmTy0_0 (i : Nat) : BufTy := match i % 128 with
  | 0 => ⟨S2x4160x2048, .f32⟩
  | 1 => ⟨S2x4160x12800, .f32⟩
  | 2 => ⟨S4, .f32⟩
  | 3 => ⟨S2x4160x2048, .f32⟩
  | 4 => ⟨S2x4160x1024, .f32⟩
  | 5 => ⟨S2x4160x1024, .f32⟩
  | 6 => ⟨S2x4160x2048, .f32⟩
  | 7 => ⟨S2x4160x4x256, .f32⟩
  | 8 => ⟨S2x4160x4x256, .f32⟩
  | 9 => ⟨S2x4160x4x512, .f32⟩
  | 10 => ⟨S2x4160x4x256, .f32⟩
  | 11 => ⟨S2x4160x4x256, .f32⟩
  | 12 => ⟨S2x4160x4x512, .f32⟩
  | 13 => ⟨S4, .f32⟩
  | 14 => ⟨S_, .f32⟩
  | 15 => ⟨S4, .f32⟩
  | 16 => ⟨S4, .f32⟩
  | 17 => ⟨S4, .f32⟩
  | 18 => ⟨S4, .f32⟩
  | 19 => ⟨S4, .i1⟩
  | 20 => ⟨S4, .f32⟩
  | 21 => ⟨S4, .f32⟩
  | 22 => ⟨S4, .f32⟩
  | 23 => ⟨S4, .f32⟩
  | 24 => ⟨S4, .f32⟩
  | 25 => ⟨S4, .f32⟩
  | 26 => ⟨S4, .f32⟩
  | 27 => ⟨S4, .f32⟩
  | 28 => ⟨S_, .f32⟩
  | 29 => ⟨S4, .f32⟩
  | 30 => ⟨S4, .i1⟩
  | 31 => ⟨S_, .f32⟩
  | 32 => ⟨S4, .f32⟩
  | 33 => ⟨S4, .f32⟩
  | 34 => ⟨S_, .f32⟩
  | 35 => ⟨S4, .f32⟩
  | 36 => ⟨S4, .i1⟩
  | 37 => ⟨S_, .f32⟩
  | 38 => ⟨S4, .f32⟩
  | 39 => ⟨S4, .f32⟩
  | 40 => ⟨S4, .f32⟩
  | 41 => ⟨S4, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S4, .f32⟩
  | 50 => ⟨S4, .i1⟩
  | 51 => ⟨S_, .f32⟩
  | 52 => ⟨S4, .f32⟩
  | 53 => ⟨S4, .f32⟩
  | 54 => ⟨S4, .f32⟩
  | 55 => ⟨S4, .f32⟩
  | 56 => ⟨S4, .f32⟩
  | 57 => ⟨S_, .f32⟩
  | 58 => ⟨S4, .f32⟩
  | 59 => ⟨S4, .f32⟩
  | 60 => ⟨S4, .f32⟩
  | 61 => ⟨S2x65x64x4x256, .f32⟩
  | 62 => ⟨S65x2x4x64x256, .f32⟩
  | 63 => ⟨S_, .f32⟩
  | 64 => ⟨S2x4160x4x256, .f32⟩
  | 65 => ⟨S2x4160x4x256, .f32⟩
  | 66 => ⟨S2x65x64x4x256, .f32⟩
  | 67 => ⟨S65x2x4x64x256, .f32⟩
  | 68 => ⟨S2x65x64x4x512, .f32⟩
  | 69 => ⟨S65x2x4x64x512, .f32⟩
  | 70 => ⟨S64, .f32⟩
  | 71 => ⟨S4x1, .f32⟩
  | 72 => ⟨S64x1, .f32⟩
  | 73 => ⟨S1x64, .f32⟩
  | 74 => ⟨S64x64, .f32⟩
  | 75 => ⟨S64x64, .f32⟩
  | 76 => ⟨S64x64, .i1⟩
  | 77 => ⟨S64x1, .f32⟩
  | 78 => ⟨S1x64, .f32⟩
  | 79 => ⟨S64x64, .f32⟩
  | 80 => ⟨S64x64, .f32⟩
  | 81 => ⟨S64x64, .f32⟩
  | 82 => ⟨S_, .f32⟩
  | 83 => ⟨S_, .f32⟩
  | 84 => ⟨S64x64, .f32⟩
  | 85 => ⟨S64x64, .f32⟩
  | 86 => ⟨S1x64x64, .f32⟩
  | 87 => ⟨S4x1x1, .f32⟩
  | 88 => ⟨S4x64x64, .f32⟩
  | 89 => ⟨S4x64x64, .f32⟩
  | 90 => ⟨S4x64x64, .f32⟩
  | 91 => ⟨S4x64x64, .f32⟩
  | 92 => ⟨S_, .f32⟩
  | 93 => ⟨S_, .f32⟩
  | 94 => ⟨S4x64x64, .i1⟩
  | 95 => ⟨S4x64x64, .f32⟩
  | 96 => ⟨S4x64x64, .f32⟩
  | 97 => ⟨S_, .f32⟩
  | 98 => ⟨S4x64x64, .f32⟩
  | 99 => ⟨S65x2x4x64x64, .f32⟩
  | 100 => ⟨S1x1x4x64x64, .f32⟩
  | 101 => ⟨S65x2x4x64x64, .f32⟩
  | 102 => ⟨S65x2x4x64x64, .f32⟩
  | 103 => ⟨S_, .f32⟩
  | 104 => ⟨S64, .f32⟩
  | 105 => ⟨S64, .f32⟩
  | 106 => ⟨S1x64, .f32⟩
  | 107 => ⟨S4x64, .f32⟩
  | 108 => ⟨S4x64, .f32⟩
  | 109 => ⟨S4x64, .f32⟩
  | 110 => ⟨S4x64, .f32⟩
  | 111 => ⟨S4x64x1, .f32⟩
  | 112 => ⟨S1x1x4x64x1, .f32⟩
  | 113 => ⟨S65x2x4x64x256, .f32⟩
  | 114 => ⟨S65x2x4x64x256, .f32⟩
  | 115 => ⟨S_, .f32⟩
  | 116 => ⟨S64, .f32⟩
  | 117 => ⟨S64, .f32⟩
  | 118 => ⟨S1x64, .f32⟩
  | 119 => ⟨S4x64, .f32⟩
  | 120 => ⟨S4x64, .f32⟩
  | 121 => ⟨S4x64, .f32⟩
  | 122 => ⟨S4x64, .f32⟩
  | 123 => ⟨S4x64x1, .f32⟩
  | 124 => ⟨S1x1x4x64x1, .f32⟩
  | 125 => ⟨S65x2x4x64x256, .f32⟩
  | 126 => ⟨S65x2x4x64x256, .f32⟩
  | 127 => ⟨S_, .f32⟩
  | _ => ⟨S2x4160x2048, .f32⟩

abbrev hbmTy0_1 (i : Nat) : BufTy := match i % 128 with
  | 0 => ⟨S4x1, .f32⟩
  | 1 => ⟨S4x1, .f32⟩
  | 2 => ⟨S4x1, .f32⟩
  | 3 => ⟨S4x1x1, .f32⟩
  | 4 => ⟨S_, .f32⟩
  | 5 => ⟨S2x4x256x512, .f32⟩
  | 6 => ⟨S1x4x1x1, .f32⟩
  | 7 => ⟨S_, .f32⟩
  | 8 => ⟨S65x2x4x64x512, .f32⟩
  | 9 => ⟨S_, .f32⟩
  | 10 => ⟨S65x2x4x256x512, .f32⟩
  | 11 => ⟨S_, .i32⟩
  | 12 => ⟨S65x2x4x64x256, .f32⟩
  | 13 => ⟨S65x2x4x64x256, .f32⟩
  | 14 => ⟨S65x2x4x64x64, .f32⟩
  | 15 => ⟨S65x2x4x64x512, .f32⟩
  | 16 => ⟨S1x4x1x1, .f32⟩
  | 17 => ⟨S_, .i32⟩
  | 18 => ⟨S2x4x256x512, .f32⟩
  | 19 => ⟨S65x2x4x64x512, .f32⟩
  | 20 => ⟨S65x2x4x256x512, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x2x4x64x256, .f32⟩
  | 28 => ⟨S2x4x64x256, .f32⟩
  | 29 => ⟨S_, .i32⟩
  | 30 => ⟨S_, .i32⟩
  | 31 => ⟨S_, .i32⟩
  | 32 => ⟨S_, .i32⟩
  | 33 => ⟨S1x2x4x64x256, .f32⟩
  | 34 => ⟨S2x4x64x256, .f32⟩
  | 35 => ⟨S_, .i32⟩
  | 36 => ⟨S_, .i32⟩
  | 37 => ⟨S_, .i32⟩
  | 38 => ⟨S_, .i32⟩
  | 39 => ⟨S1x2x4x64x64, .f32⟩
  | 40 => ⟨S2x4x64x64, .f32⟩
  | 41 => ⟨S_, .i32⟩
  | 42 => ⟨S_, .i32⟩
  | 43 => ⟨S_, .i32⟩
  | 44 => ⟨S_, .i32⟩
  | 45 => ⟨S1x2x4x64x512, .f32⟩
  | 46 => ⟨S2x4x64x512, .f32⟩
  | 47 => ⟨S2x4x64x512, .f32⟩
  | 48 => ⟨S2x4x64x512, .f32⟩
  | 49 => ⟨S2x4x64x512, .f32⟩
  | 50 => ⟨S2x4x256x512, .f32⟩
  | 51 => ⟨S2x4x256x512, .f32⟩
  | 52 => ⟨S2x4x256x512, .f32⟩
  | 53 => ⟨S2x4x256x512, .f32⟩
  | 54 => ⟨S1x2x4x64x512, .f32⟩
  | 55 => ⟨S_, .i32⟩
  | 56 => ⟨S_, .i32⟩
  | 57 => ⟨S_, .i32⟩
  | 58 => ⟨S_, .i32⟩
  | 59 => ⟨S65x2x4x64x512, .f32⟩
  | 60 => ⟨S1x2x4x256x512, .f32⟩
  | 61 => ⟨S_, .i32⟩
  | 62 => ⟨S_, .i32⟩
  | 63 => ⟨S_, .i32⟩
  | 64 => ⟨S_, .i32⟩
  | 65 => ⟨S65x2x4x256x512, .f32⟩
  | 66 => ⟨S_, .i32⟩
  | 67 => ⟨S_, .i32⟩
  | 68 => ⟨S2x65x64x4x512, .f32⟩
  | 69 => ⟨S2x4160x4x512, .f32⟩
  | 70 => ⟨S2x4160x4x512, .f32⟩
  | 71 => ⟨S2x4160x2048, .f32⟩
  | 72 => ⟨S_, .f32⟩
  | 73 => ⟨S2x4x256x512, .f32⟩
  | 74 => ⟨S2x4160x4x512, .f32⟩
  | 75 => ⟨S2x4160x4x512, .f32⟩
  | 76 => ⟨S2x65x64x4x512, .f32⟩
  | 77 => ⟨S65x2x4x64x512, .f32⟩
  | 78 => ⟨S_, .f32⟩
  | 79 => ⟨S2x4x256x512, .f32⟩
  | 80 => ⟨S_, .f32⟩
  | 81 => ⟨S4x1x1, .f32⟩
  | 82 => ⟨S_, .f32⟩
  | 83 => ⟨S65x2x4x64x256, .f32⟩
  | 84 => ⟨S_, .f32⟩
  | 85 => ⟨S65x2x4x64x256, .f32⟩
  | 86 => ⟨S_, .f32⟩
  | 87 => ⟨S65x2x4x64x64, .f32⟩
  | 88 => ⟨S_, .f32⟩
  | 89 => ⟨S65x2x4x64x512, .f32⟩
  | 90 => ⟨S_, .i32⟩
  | 91 => ⟨S65x2x4x64x512, .f32⟩
  | 92 => ⟨S65x2x4x256x512, .f32⟩
  | 93 => ⟨S65x2x4x64x256, .f32⟩
  | 94 => ⟨S65x2x4x64x512, .f32⟩
  | 95 => ⟨S65x2x4x64x64, .f32⟩
  | 96 => ⟨S65x2x4x64x256, .f32⟩
  | 97 => ⟨S1x4x1x1, .f32⟩
  | 98 => ⟨S_, .i32⟩
  | 99 => ⟨S4x1x1, .f32⟩
  | 100 => ⟨S2x4x256x512, .f32⟩
  | 101 => ⟨S65x2x4x64x256, .f32⟩
  | 102 => ⟨S65x2x4x64x256, .f32⟩
  | 103 => ⟨S65x2x4x64x64, .f32⟩
  | 104 => ⟨S65x2x4x64x512, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S1x2x4x64x512, .f32⟩
  | 116 => ⟨S2x4x64x512, .f32⟩
  | 117 => ⟨S_, .i32⟩
  | 118 => ⟨S_, .i32⟩
  | 119 => ⟨S_, .i32⟩
  | 120 => ⟨S_, .i32⟩
  | 121 => ⟨S1x2x4x256x512, .f32⟩
  | 122 => ⟨S2x4x256x512, .f32⟩
  | 123 => ⟨S_, .i32⟩
  | 124 => ⟨S_, .i32⟩
  | 125 => ⟨S_, .i32⟩
  | 126 => ⟨S_, .i32⟩
  | 127 => ⟨S1x2x4x64x256, .f32⟩
  | _ => ⟨S2x4160x2048, .f32⟩

abbrev hbmTy0_2 (i : Nat) : BufTy := match i % 128 with
  | 0 => ⟨S2x4x64x256, .f32⟩
  | 1 => ⟨S_, .i32⟩
  | 2 => ⟨S_, .i32⟩
  | 3 => ⟨S_, .i32⟩
  | 4 => ⟨S_, .i32⟩
  | 5 => ⟨S1x2x4x64x512, .f32⟩
  | 6 => ⟨S2x4x64x512, .f32⟩
  | 7 => ⟨S_, .i32⟩
  | 8 => ⟨S_, .i32⟩
  | 9 => ⟨S_, .i32⟩
  | 10 => ⟨S_, .i32⟩
  | 11 => ⟨S1x2x4x64x64, .f32⟩
  | 12 => ⟨S2x4x64x64, .f32⟩
  | 13 => ⟨S_, .i32⟩
  | 14 => ⟨S_, .i32⟩
  | 15 => ⟨S_, .i32⟩
  | 16 => ⟨S_, .i32⟩
  | 17 => ⟨S1x2x4x64x256, .f32⟩
  | 18 => ⟨S2x4x64x256, .f32⟩
  | 19 => ⟨S2x4x512x64, .f32⟩
  | 20 => ⟨S2x4x64x512, .f32⟩
  | 21 => ⟨S2x4x256x64, .f32⟩
  | 22 => ⟨S2x4x64x256, .f32⟩
  | 23 => ⟨S2x4x256x512, .f32⟩
  | 24 => ⟨S_, .f32⟩
  | 25 => ⟨S4, .f32⟩
  | 26 => ⟨S1x4x1x1, .f32⟩
  | 27 => ⟨S2x4x256x512, .f32⟩
  | 28 => ⟨S2x4x256x512, .f32⟩
  | 29 => ⟨S_, .f32⟩
  | 30 => ⟨S4, .f32⟩
  | 31 => ⟨S4x1x1, .f32⟩
  | 32 => ⟨S4x1x1, .f32⟩
  | 33 => ⟨S2x4x512x64, .f32⟩
  | 34 => ⟨S2x4x64x512, .f32⟩
  | 35 => ⟨S2x4x64x512, .f32⟩
  | 36 => ⟨S2x4x64x64, .f32⟩
  | 37 => ⟨S2x4x512x256, .f32⟩
  | 38 => ⟨S2x4x256x512, .f32⟩
  | 39 => ⟨S2x4x256x512, .f32⟩
  | 40 => ⟨S2x4x64x256, .f32⟩
  | 41 => ⟨S1x2x4x64x256, .f32⟩
  | 42 => ⟨S_, .i32⟩
  | 43 => ⟨S_, .i32⟩
  | 44 => ⟨S_, .i32⟩
  | 45 => ⟨S_, .i32⟩
  | 46 => ⟨S65x2x4x64x256, .f32⟩
  | 47 => ⟨S1x2x4x64x256, .f32⟩
  | 48 => ⟨S_, .i32⟩
  | 49 => ⟨S_, .i32⟩
  | 50 => ⟨S_, .i32⟩
  | 51 => ⟨S_, .i32⟩
  | 52 => ⟨S65x2x4x64x256, .f32⟩
  | 53 => ⟨S1x2x4x64x64, .f32⟩
  | 54 => ⟨S_, .i32⟩
  | 55 => ⟨S_, .i32⟩
  | 56 => ⟨S_, .i32⟩
  | 57 => ⟨S_, .i32⟩
  | 58 => ⟨S65x2x4x64x64, .f32⟩
  | 59 => ⟨S1x2x4x64x512, .f32⟩
  | 60 => ⟨S_, .i32⟩
  | 61 => ⟨S_, .i32⟩
  | 62 => ⟨S_, .i32⟩
  | 63 => ⟨S_, .i32⟩
  | 64 => ⟨S65x2x4x64x512, .f32⟩
  | 65 => ⟨S_, .i32⟩
  | 66 => ⟨S_, .i32⟩
  | 67 => ⟨S_, .f32⟩
  | 68 => ⟨S4, .f32⟩
  | 69 => ⟨S4x1, .f32⟩
  | 70 => ⟨S4x1, .f32⟩
  | 71 => ⟨S_, .f32⟩
  | 72 => ⟨S4x1, .f32⟩
  | 73 => ⟨S4x1, .f32⟩
  | 74 => ⟨S65x2x4x64x256, .f32⟩
  | 75 => ⟨S_, .f32⟩
  | 76 => ⟨S4x64, .f32⟩
  | 77 => ⟨S1x1x4x64x1, .f32⟩
  | 78 => ⟨S65x2x4x64x256, .f32⟩
  | 79 => ⟨S65x2x4x64x256, .f32⟩
  | 80 => ⟨S_, .f32⟩
  | 81 => ⟨S4x64, .f32⟩
  | 82 => ⟨S4x64x1, .f32⟩
  | 83 => ⟨S_, .f32⟩
  | 84 => ⟨S4x64, .f32⟩
  | 85 => ⟨S4x64, .f32⟩
  | 86 => ⟨S4x64, .f32⟩
  | 87 => ⟨S4x64, .f32⟩
  | 88 => ⟨S_, .f32⟩
  | 89 => ⟨S4, .f32⟩
  | 90 => ⟨S4x1, .f32⟩
  | 91 => ⟨S4x1, .f32⟩
  | 92 => ⟨S65x2x4x64x256, .f32⟩
  | 93 => ⟨S_, .f32⟩
  | 94 => ⟨S4x64, .f32⟩
  | 95 => ⟨S1x1x4x64x1, .f32⟩
  | 96 => ⟨S65x2x4x64x256, .f32⟩
  | 97 => ⟨S65x2x4x64x256, .f32⟩
  | 98 => ⟨S_, .f32⟩
  | 99 => ⟨S4x64, .f32⟩
  | 100 => ⟨S4x64x1, .f32⟩
  | 101 => ⟨S_, .f32⟩
  | 102 => ⟨S4x64, .f32⟩
  | 103 => ⟨S4x64, .f32⟩
  | 104 => ⟨S4x64, .f32⟩
  | 105 => ⟨S4x64, .f32⟩
  | 106 => ⟨S_, .f32⟩
  | 107 => ⟨S4, .f32⟩
  | 108 => ⟨S4x1, .f32⟩
  | 109 => ⟨S4x1, .f32⟩
  | 110 => ⟨S65x2x4x64x64, .f32⟩
  | 111 => ⟨S_, .f32⟩
  | 112 => ⟨S4x64x64, .f32⟩
  | 113 => ⟨S1x1x4x64x64, .f32⟩
  | 114 => ⟨S65x2x4x64x64, .f32⟩
  | 115 => ⟨S65x2x4x64x64, .f32⟩
  | 116 => ⟨S_, .f32⟩
  | 117 => ⟨S4x64x64, .f32⟩
  | 118 => ⟨S65x2x4x64x256, .f32⟩
  | 119 => ⟨S65x2x4x64x256, .f32⟩
  | 120 => ⟨S65x2x4x64x256, .f32⟩
  | 121 => ⟨S65x2x4x64x256, .f32⟩
  | 122 => ⟨S_, .f32⟩
  | 123 => ⟨S4x64x64, .f32⟩
  | 124 => ⟨S4x64x64, .f32⟩
  | 125 => ⟨S4x64x64, .f32⟩
  | 126 => ⟨S4x64x64, .f32⟩
  | 127 => ⟨S4x64x64, .f32⟩
  | _ => ⟨S2x4160x2048, .f32⟩

abbrev hbmTy0_3 (i : Nat) : BufTy := match i % 128 with
  | 0 => ⟨S_, .f32⟩
  | 1 => ⟨S4, .f32⟩
  | 2 => ⟨S4x1x1, .f32⟩
  | 3 => ⟨S_, .f32⟩
  | 4 => ⟨S4, .f32⟩
  | 5 => ⟨S4x1, .f32⟩
  | 6 => ⟨S4x1, .f32⟩
  | 7 => ⟨S_, .f32⟩
  | 8 => ⟨S4, .f32⟩
  | 9 => ⟨S2x65x64x4x512, .f32⟩
  | 10 => ⟨S2x4160x4x512, .f32⟩
  | 11 => ⟨S2x65x64x4x256, .f32⟩
  | 12 => ⟨S2x4160x4x256, .f32⟩
  | 13 => ⟨S_, .f32⟩
  | 14 => ⟨S2x4160x4x256, .f32⟩
  | 15 => ⟨S2x4160x4x256, .f32⟩
  | 16 => ⟨S2x65x64x4x256, .f32⟩
  | 17 => ⟨S2x4160x4x256, .f32⟩
  | 18 => ⟨S4, .f32⟩
  | 19 => ⟨S4, .f32⟩
  | 20 => ⟨S4, .f32⟩
  | 21 => ⟨S2x4160x4x512, .f32⟩
  | 22 => ⟨S2x4160x4x256, .f32⟩
  | 23 => ⟨S2x4160x4x256, .f32⟩
  | 24 => ⟨S2x4160x2048, .f32⟩
  | 25 => ⟨S2x4160x1024, .f32⟩
  | 26 => ⟨S2x4160x1024, .f32⟩
  | 27 => ⟨S2x4160x2048, .f32⟩
  | 28 => ⟨S_, .i32⟩
  | 29 => ⟨S_, .f32⟩
  | 30 => ⟨S128, .f32⟩
  | 31 => ⟨S1x128, .f32⟩
  | _ => ⟨S2x4160x2048, .f32⟩

abbrev hbmTy (i : Nat) : BufTy := match i / 128 with
  | 0 => hbmTy0_0 i
  | 1 => hbmTy0_1 i
  | 2 => hbmTy0_2 i
  | 3 => hbmTy0_3 i
  | _ => ⟨S2x4160x2048, .f32⟩

abbrev bufTy : (tb : Table) → Fin (tcTables nBuf tb) → BufTy
  | .hbm, ⟨i, _⟩ => hbmTy i
  | _, _ => ⟨S2x4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call3_v0 : Ref sig .tc := ⟨.hbm, 13, rfl⟩
abbrev main_call3_call0_cst : Ref sig .tc := ⟨.hbm, 14, rfl⟩
abbrev main_call3_call0_v0 : Ref sig .tc := ⟨.hbm, 15, rfl⟩
abbrev main_call3_call0_v1 : Ref sig .tc := ⟨.hbm, 16, rfl⟩
abbrev main_call3_call0_v2 : Ref sig .tc := ⟨.hbm, 17, rfl⟩
abbrev main_call3_call0_v3 : Ref sig .tc := ⟨.hbm, 18, rfl⟩
abbrev main_call3_call0_v4 : Ref sig .tc := ⟨.hbm, 19, rfl⟩
abbrev main_call3_call0_v5 : Ref sig .tc := ⟨.hbm, 20, rfl⟩
abbrev main_call3_call0_v6 : Ref sig .tc := ⟨.hbm, 21, rfl⟩
abbrev main_call3_call0_v7 : Ref sig .tc := ⟨.hbm, 22, rfl⟩
abbrev main_call3_call0_v8 : Ref sig .tc := ⟨.hbm, 23, rfl⟩
abbrev main_call3_call0_v9 : Ref sig .tc := ⟨.hbm, 24, rfl⟩
abbrev main_call3_call0_v10 : Ref sig .tc := ⟨.hbm, 25, rfl⟩
abbrev main_call3_call0_v11 : Ref sig .tc := ⟨.hbm, 26, rfl⟩
abbrev main_call3_v1_0 : Ref sig .tc := ⟨.hbm, 27, rfl⟩
abbrev main_call3_call0_cst_0 : Ref sig .tc := ⟨.hbm, 28, rfl⟩
abbrev main_call3_call0_v13 : Ref sig .tc := ⟨.hbm, 29, rfl⟩
abbrev main_call3_call0_v14 : Ref sig .tc := ⟨.hbm, 30, rfl⟩
abbrev main_call3_call0_cst_1 : Ref sig .tc := ⟨.hbm, 31, rfl⟩
abbrev main_call3_call0_v15 : Ref sig .tc := ⟨.hbm, 32, rfl⟩
abbrev main_call3_call0_v16 : Ref sig .tc := ⟨.hbm, 33, rfl⟩
abbrev main_call3_call0_cst_2 : Ref sig .tc := ⟨.hbm, 34, rfl⟩
abbrev main_call3_call0_v17 : Ref sig .tc := ⟨.hbm, 35, rfl⟩
abbrev main_call3_call0_v18 : Ref sig .tc := ⟨.hbm, 36, rfl⟩
abbrev main_call3_call0_cst_3 : Ref sig .tc := ⟨.hbm, 37, rfl⟩
abbrev main_call3_call0_v19 : Ref sig .tc := ⟨.hbm, 38, rfl⟩
abbrev main_call3_call0_v20 : Ref sig .tc := ⟨.hbm, 39, rfl⟩
abbrev main_call3_call0_v21 : Ref sig .tc := ⟨.hbm, 40, rfl⟩
abbrev main_v9_1 : Ref sig .tc := ⟨.hbm, 41, rfl⟩
abbrev main_call3_call0_cst_4 : Ref sig .tc := ⟨.hbm, 42, rfl⟩
abbrev main_call3_call0_cst_5 : Ref sig .tc := ⟨.hbm, 43, rfl⟩
abbrev main_call3_call0_v23 : Ref sig .tc := ⟨.hbm, 44, rfl⟩
abbrev main_call3_call0_cst_6 : Ref sig .tc := ⟨.hbm, 45, rfl⟩
abbrev main_call3_call0_cst_7 : Ref sig .tc := ⟨.hbm, 46, rfl⟩
abbrev main_call3_call0_v24 : Ref sig .tc := ⟨.hbm, 47, rfl⟩
abbrev main_call3_call0_cst_8 : Ref sig .tc := ⟨.hbm, 48, rfl⟩
abbrev main_call3_call0_v25 : Ref sig .tc := ⟨.hbm, 49, rfl⟩
abbrev main_call3_call0_v26 : Ref sig .tc := ⟨.hbm, 50, rfl⟩
abbrev main_call3_call0_cst_9 : Ref sig .tc := ⟨.hbm, 51, rfl⟩
abbrev main_call3_call0_v27 : Ref sig .tc := ⟨.hbm, 52, rfl⟩
abbrev main_call3_call0_v28 : Ref sig .tc := ⟨.hbm, 53, rfl⟩
abbrev main_call3_call0_v29 : Ref sig .tc := ⟨.hbm, 54, rfl⟩
abbrev main_call3_call0_v30 : Ref sig .tc := ⟨.hbm, 55, rfl⟩
abbrev main_call3_call0_v31 : Ref sig .tc := ⟨.hbm, 56, rfl⟩
abbrev main_call3_call0_cst_10 : Ref sig .tc := ⟨.hbm, 57, rfl⟩
abbrev main_call3_call0_v32 : Ref sig .tc := ⟨.hbm, 58, rfl⟩
abbrev main_v9_2 : Ref sig .tc := ⟨.hbm, 59, rfl⟩
abbrev main_v9_0 : Ref sig .tc := ⟨.hbm, 60, rfl⟩
abbrev main_v10 : Ref sig .tc := ⟨.hbm, 61, rfl⟩
abbrev main_v11 : Ref sig .tc := ⟨.hbm, 62, rfl⟩
abbrev main_cst : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_0 : Ref sig .tc := ⟨.hbm, 82, rfl⟩
abbrev main_call4_v0 : Ref sig .tc := ⟨.hbm, 83, rfl⟩
abbrev main_call4_v1 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_1 : Ref sig .tc := ⟨.hbm, 92, rfl⟩
abbrev main_call5_v0 : Ref sig .tc := ⟨.hbm, 93, rfl⟩
abbrev main_v37_1 : Ref sig .tc := ⟨.hbm, 94, rfl⟩
abbrev main_call5_v2 : Ref sig .tc := ⟨.hbm, 95, rfl⟩
abbrev main_v37_0 : Ref sig .tc := ⟨.hbm, 96, rfl⟩
abbrev main_call5_cst : Ref sig .tc := ⟨.hbm, 97, rfl⟩
abbrev main_v37_2 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_2 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_cst_3 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_cst_4 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_5 : Ref sig .tc := ⟨.hbm, 132, rfl⟩
abbrev main_v68 : Ref sig .tc := ⟨.hbm, 133, rfl⟩
abbrev main_v69 : Ref sig .tc := ⟨.hbm, 134, rfl⟩
abbrev main_cst_6 : Ref sig .tc := ⟨.hbm, 135, rfl⟩
abbrev main_v70 : Ref sig .tc := ⟨.hbm, 136, rfl⟩
abbrev main_cst_7 : Ref sig .tc := ⟨.hbm, 137, rfl⟩
abbrev main_v71 : Ref sig .tc := ⟨.hbm, 138, rfl⟩
abbrev main_c : Ref sig .tc := ⟨.hbm, 139, rfl⟩
abbrev main_v72_0 : Ref sig .tc := ⟨.hbm, 140, rfl⟩
abbrev main_v72_1 : Ref sig .tc := ⟨.hbm, 141, rfl⟩
abbrev main_v72_2 : Ref sig .tc := ⟨.hbm, 142, rfl⟩
abbrev main_v72_3 : Ref sig .tc := ⟨.hbm, 143, rfl⟩
abbrev main_v72_4 : Ref sig .tc := ⟨.hbm, 144, rfl⟩
abbrev main_v72_5 : Ref sig .tc := ⟨.hbm, 145, rfl⟩
abbrev main_v72_6 : Ref sig .tc := ⟨.hbm, 146, rfl⟩
abbrev main_v72_7 : Ref sig .tc := ⟨.hbm, 147, rfl⟩
abbrev main_v72_8 : Ref sig .tc := ⟨.hbm, 148, rfl⟩
abbrev main_while0c_c_41 : Ref sig .tc := ⟨.hbm, 149, rfl⟩
abbrev main_while0c_v160 : Ref sig .tc := ⟨.hbm, 150, rfl⟩
abbrev main_while0b_call6_c : Ref sig .tc := ⟨.hbm, 151, rfl⟩
abbrev main_while0b_call6_c_0 : Ref sig .tc := ⟨.hbm, 152, rfl⟩
abbrev main_while0b_call6_c_1 : Ref sig .tc := ⟨.hbm, 153, rfl⟩
abbrev main_while0b_call6_c_2 : Ref sig .tc := ⟨.hbm, 154, rfl⟩
abbrev main_while0b_call6_v0 : Ref sig .tc := ⟨.hbm, 155, rfl⟩
abbrev main_while0b_v160 : Ref sig .tc := ⟨.hbm, 156, rfl⟩
abbrev main_while0b_call7_c : Ref sig .tc := ⟨.hbm, 157, rfl⟩
abbrev main_while0b_call7_c_0 : Ref sig .tc := ⟨.hbm, 158, rfl⟩
abbrev main_while0b_call7_c_1 : Ref sig .tc := ⟨.hbm, 159, rfl⟩
abbrev main_while0b_call7_c_2 : Ref sig .tc := ⟨.hbm, 160, rfl⟩
abbrev main_while0b_call7_v0 : Ref sig .tc := ⟨.hbm, 161, rfl⟩
abbrev main_while0b_v161 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_c_2 : Ref sig .tc := ⟨.hbm, 166, rfl⟩
abbrev main_while0b_call8_v0 : Ref sig .tc := ⟨.hbm, 167, rfl⟩
abbrev main_while0b_v162 : Ref sig .tc := ⟨.hbm, 168, rfl⟩
abbrev main_while0b_call9_c : Ref sig .tc := ⟨.hbm, 169, rfl⟩
abbrev main_while0b_call9_c_0 : Ref sig .tc := ⟨.hbm, 170, rfl⟩
abbrev main_while0b_call9_c_1 : Ref sig .tc := ⟨.hbm, 171, rfl⟩
abbrev main_while0b_call9_c_2 : Ref sig .tc := ⟨.hbm, 172, rfl⟩
abbrev main_while0b_call9_v0 : Ref sig .tc := ⟨.hbm, 173, rfl⟩
abbrev main_while0b_v163 : Ref sig .tc := ⟨.hbm, 174, rfl⟩
abbrev main_while0b_v164 : Ref sig .tc := ⟨.hbm, 175, rfl⟩
abbrev main_while0b_v165 : Ref sig .tc := ⟨.hbm, 176, rfl⟩
abbrev main_while0b_v166 : Ref sig .tc := ⟨.hbm, 177, rfl⟩
abbrev main_while0b_v167 : Ref sig .tc := ⟨.hbm, 178, rfl⟩
abbrev main_while0b_v168 : Ref sig .tc := ⟨.hbm, 179, rfl⟩
abbrev main_while0b_v169 : Ref sig .tc := ⟨.hbm, 180, rfl⟩
abbrev main_while0b_v170 : Ref sig .tc := ⟨.hbm, 181, rfl⟩
abbrev main_while0b_call10_v0 : Ref sig .tc := ⟨.hbm, 182, rfl⟩
abbrev main_while0b_call10_c : Ref sig .tc := ⟨.hbm, 183, rfl⟩
abbrev main_while0b_call10_c_0 : Ref sig .tc := ⟨.hbm, 184, rfl⟩
abbrev main_while0b_call10_c_1 : Ref sig .tc := ⟨.hbm, 185, rfl⟩
abbrev main_while0b_call10_c_2 : Ref sig .tc := ⟨.hbm, 186, rfl⟩
abbrev main_while0b_v171 : Ref sig .tc := ⟨.hbm, 187, rfl⟩
abbrev main_while0b_call11_v0 : Ref sig .tc := ⟨.hbm, 188, rfl⟩
abbrev main_while0b_call11_c : Ref sig .tc := ⟨.hbm, 189, rfl⟩
abbrev main_while0b_call11_c_0 : Ref sig .tc := ⟨.hbm, 190, rfl⟩
abbrev main_while0b_call11_c_1 : Ref sig .tc := ⟨.hbm, 191, rfl⟩
abbrev main_while0b_call11_c_2 : Ref sig .tc := ⟨.hbm, 192, rfl⟩
abbrev main_while0b_v172 : Ref sig .tc := ⟨.hbm, 193, rfl⟩
abbrev main_while0b_c_41 : Ref sig .tc := ⟨.hbm, 194, rfl⟩
abbrev main_while0b_v173 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_cst_8 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_cst_9 : Ref sig .tc := ⟨.hbm, 206, rfl⟩
abbrev main_v82 : Ref sig .tc := ⟨.hbm, 207, rfl⟩
abbrev main_cst_10 : Ref sig .tc := ⟨.hbm, 208, rfl⟩
abbrev main_v83 : Ref sig .tc := ⟨.hbm, 209, rfl⟩
abbrev main_cst_11 : Ref sig .tc := ⟨.hbm, 210, rfl⟩
abbrev main_v84 : Ref sig .tc := ⟨.hbm, 211, rfl⟩
abbrev main_cst_12 : Ref sig .tc := ⟨.hbm, 212, rfl⟩
abbrev main_v85 : Ref sig .tc := ⟨.hbm, 213, rfl⟩
abbrev main_cst_13 : Ref sig .tc := ⟨.hbm, 214, rfl⟩
abbrev main_v86 : Ref sig .tc := ⟨.hbm, 215, rfl⟩
abbrev main_cst_14 : Ref sig .tc := ⟨.hbm, 216, rfl⟩
abbrev main_v87 : Ref sig .tc := ⟨.hbm, 217, rfl⟩
abbrev main_c_15 : Ref sig .tc := ⟨.hbm, 218, rfl⟩
abbrev main_v88_0 : Ref sig .tc := ⟨.hbm, 219, rfl⟩
abbrev main_v88_1 : Ref sig .tc := ⟨.hbm, 220, rfl⟩
abbrev main_v88_2 : Ref sig .tc := ⟨.hbm, 221, rfl⟩
abbrev main_v88_3 : Ref sig .tc := ⟨.hbm, 222, rfl⟩
abbrev main_v88_4 : Ref sig .tc := ⟨.hbm, 223, rfl⟩
abbrev main_v88_5 : Ref sig .tc := ⟨.hbm, 224, rfl⟩
abbrev main_v88_6 : Ref sig .tc := ⟨.hbm, 225, rfl⟩
abbrev main_v88_7 : Ref sig .tc := ⟨.hbm, 226, rfl⟩
abbrev main_v88_8 : Ref sig .tc := ⟨.hbm, 227, rfl⟩
abbrev main_v88_9 : Ref sig .tc := ⟨.hbm, 228, rfl⟩
abbrev main_v88_10 : Ref sig .tc := ⟨.hbm, 229, rfl⟩
abbrev main_v88_11 : Ref sig .tc := ⟨.hbm, 230, rfl⟩
abbrev main_v88_12 : Ref sig .tc := ⟨.hbm, 231, rfl⟩
abbrev main_v88_13 : Ref sig .tc := ⟨.hbm, 232, rfl⟩
abbrev main_while1c_c_46 : Ref sig .tc := ⟨.hbm, 233, rfl⟩
abbrev main_while1c_v160 : Ref sig .tc := ⟨.hbm, 234, rfl⟩
abbrev main_while1b_c_46 : Ref sig .tc := ⟨.hbm, 235, rfl⟩
abbrev main_while1b_v160 : Ref sig .tc := ⟨.hbm, 236, rfl⟩
abbrev main_while1b_c_47 : Ref sig .tc := ⟨.hbm, 237, rfl⟩
abbrev main_while1b_v161 : Ref sig .tc := ⟨.hbm, 238, rfl⟩
abbrev main_while1b_call14_c : Ref sig .tc := ⟨.hbm, 239, rfl⟩
abbrev main_while1b_call14_c_0 : Ref sig .tc := ⟨.hbm, 240, rfl⟩
abbrev main_while1b_call14_c_1 : Ref sig .tc := ⟨.hbm, 241, rfl⟩
abbrev main_while1b_call14_c_2 : Ref sig .tc := ⟨.hbm, 242, rfl⟩
abbrev main_while1b_call14_v0 : Ref sig .tc := ⟨.hbm, 243, rfl⟩
abbrev main_while1b_v162 : Ref sig .tc := ⟨.hbm, 244, rfl⟩
abbrev main_while1b_call15_c : Ref sig .tc := ⟨.hbm, 245, rfl⟩
abbrev main_while1b_call15_c_0 : Ref sig .tc := ⟨.hbm, 246, rfl⟩
abbrev main_while1b_call15_c_1 : Ref sig .tc := ⟨.hbm, 247, rfl⟩
abbrev main_while1b_call15_c_2 : Ref sig .tc := ⟨.hbm, 248, rfl⟩
abbrev main_while1b_call15_v0 : Ref sig .tc := ⟨.hbm, 249, rfl⟩
abbrev main_while1b_v163 : Ref sig .tc := ⟨.hbm, 250, rfl⟩
abbrev main_while1b_call16_c : Ref sig .tc := ⟨.hbm, 251, rfl⟩
abbrev main_while1b_call16_c_0 : Ref sig .tc := ⟨.hbm, 252, rfl⟩
abbrev main_while1b_call16_c_1 : Ref sig .tc := ⟨.hbm, 253, rfl⟩
abbrev main_while1b_call16_c_2 : Ref sig .tc := ⟨.hbm, 254, rfl⟩
abbrev main_while1b_call16_v0 : Ref sig .tc := ⟨.hbm, 255, rfl⟩
abbrev main_while1b_v164 : Ref sig .tc := ⟨.hbm, 256, rfl⟩
abbrev main_while1b_call17_c : Ref sig .tc := ⟨.hbm, 257, rfl⟩
abbrev main_while1b_call17_c_0 : Ref sig .tc := ⟨.hbm, 258, rfl⟩
abbrev main_while1b_call17_c_1 : Ref sig .tc := ⟨.hbm, 259, rfl⟩
abbrev main_while1b_call17_c_2 : Ref sig .tc := ⟨.hbm, 260, rfl⟩
abbrev main_while1b_call17_v0 : Ref sig .tc := ⟨.hbm, 261, rfl⟩
abbrev main_while1b_v165 : Ref sig .tc := ⟨.hbm, 262, rfl⟩
abbrev main_while1b_call18_c : Ref sig .tc := ⟨.hbm, 263, rfl⟩
abbrev main_while1b_call18_c_0 : Ref sig .tc := ⟨.hbm, 264, rfl⟩
abbrev main_while1b_call18_c_1 : Ref sig .tc := ⟨.hbm, 265, rfl⟩
abbrev main_while1b_call18_c_2 : Ref sig .tc := ⟨.hbm, 266, rfl⟩
abbrev main_while1b_call18_v0 : Ref sig .tc := ⟨.hbm, 267, rfl⟩
abbrev main_while1b_v166 : Ref sig .tc := ⟨.hbm, 268, rfl⟩
abbrev main_while1b_call19_c : Ref sig .tc := ⟨.hbm, 269, rfl⟩
abbrev main_while1b_call19_c_0 : Ref sig .tc := ⟨.hbm, 270, rfl⟩
abbrev main_while1b_call19_c_1 : Ref sig .tc := ⟨.hbm, 271, rfl⟩
abbrev main_while1b_call19_c_2 : Ref sig .tc := ⟨.hbm, 272, rfl⟩
abbrev main_while1b_call19_v0 : Ref sig .tc := ⟨.hbm, 273, rfl⟩
abbrev main_while1b_v167 : Ref sig .tc := ⟨.hbm, 274, rfl⟩
abbrev main_while1b_v168 : Ref sig .tc := ⟨.hbm, 275, rfl⟩
abbrev main_while1b_v169 : Ref sig .tc := ⟨.hbm, 276, rfl⟩
abbrev main_while1b_v170 : Ref sig .tc := ⟨.hbm, 277, rfl⟩
abbrev main_while1b_v171 : Ref sig .tc := ⟨.hbm, 278, rfl⟩
abbrev main_while1b_v172 : Ref sig .tc := ⟨.hbm, 279, rfl⟩
abbrev main_while1b_cst_48 : Ref sig .tc := ⟨.hbm, 280, rfl⟩
abbrev main_while1b_v173 : Ref sig .tc := ⟨.hbm, 281, rfl⟩
abbrev main_while1b_v174 : Ref sig .tc := ⟨.hbm, 282, rfl⟩
abbrev main_while1b_v175 : Ref sig .tc := ⟨.hbm, 283, rfl⟩
abbrev main_while1b_v176 : Ref sig .tc := ⟨.hbm, 284, rfl⟩
abbrev main_while1b_cst_49 : Ref sig .tc := ⟨.hbm, 285, rfl⟩
abbrev main_while1b_v177 : Ref sig .tc := ⟨.hbm, 286, rfl⟩
abbrev main_while1b_v178 : Ref sig .tc := ⟨.hbm, 287, rfl⟩
abbrev main_while1b_v179 : Ref sig .tc := ⟨.hbm, 288, rfl⟩
abbrev main_while1b_v180 : Ref sig .tc := ⟨.hbm, 289, rfl⟩
abbrev main_while1b_v181 : Ref sig .tc := ⟨.hbm, 290, rfl⟩
abbrev main_while1b_v182 : Ref sig .tc := ⟨.hbm, 291, rfl⟩
abbrev main_while1b_v183 : Ref sig .tc := ⟨.hbm, 292, rfl⟩
abbrev main_while1b_v184 : Ref sig .tc := ⟨.hbm, 293, rfl⟩
abbrev main_while1b_v185 : Ref sig .tc := ⟨.hbm, 294, rfl⟩
abbrev main_while1b_v186 : Ref sig .tc := ⟨.hbm, 295, rfl⟩
abbrev main_while1b_v187 : Ref sig .tc := ⟨.hbm, 296, rfl⟩
abbrev main_while1b_call20_v0 : Ref sig .tc := ⟨.hbm, 297, rfl⟩
abbrev main_while1b_call20_c : Ref sig .tc := ⟨.hbm, 298, rfl⟩
abbrev main_while1b_call20_c_0 : Ref sig .tc := ⟨.hbm, 299, rfl⟩
abbrev main_while1b_call20_c_1 : Ref sig .tc := ⟨.hbm, 300, rfl⟩
abbrev main_while1b_call20_c_2 : Ref sig .tc := ⟨.hbm, 301, rfl⟩
abbrev main_while1b_v188 : Ref sig .tc := ⟨.hbm, 302, rfl⟩
abbrev main_while1b_call21_v0 : Ref sig .tc := ⟨.hbm, 303, rfl⟩
abbrev main_while1b_call21_c : Ref sig .tc := ⟨.hbm, 304, rfl⟩
abbrev main_while1b_call21_c_0 : Ref sig .tc := ⟨.hbm, 305, rfl⟩
abbrev main_while1b_call21_c_1 : Ref sig .tc := ⟨.hbm, 306, rfl⟩
abbrev main_while1b_call21_c_2 : Ref sig .tc := ⟨.hbm, 307, rfl⟩
abbrev main_while1b_v189 : Ref sig .tc := ⟨.hbm, 308, rfl⟩
abbrev main_while1b_call22_v0 : Ref sig .tc := ⟨.hbm, 309, rfl⟩
abbrev main_while1b_call22_c : Ref sig .tc := ⟨.hbm, 310, rfl⟩
abbrev main_while1b_call22_c_0 : Ref sig .tc := ⟨.hbm, 311, rfl⟩
abbrev main_while1b_call22_c_1 : Ref sig .tc := ⟨.hbm, 312, rfl⟩
abbrev main_while1b_call22_c_2 : Ref sig .tc := ⟨.hbm, 313, rfl⟩
abbrev main_while1b_v190 : Ref sig .tc := ⟨.hbm, 314, rfl⟩
abbrev main_while1b_call23_v0 : Ref sig .tc := ⟨.hbm, 315, rfl⟩
abbrev main_while1b_call23_c : Ref sig .tc := ⟨.hbm, 316, rfl⟩
abbrev main_while1b_call23_c_0 : Ref sig .tc := ⟨.hbm, 317, rfl⟩
abbrev main_while1b_call23_c_1 : Ref sig .tc := ⟨.hbm, 318, rfl⟩
abbrev main_while1b_call23_c_2 : Ref sig .tc := ⟨.hbm, 319, rfl⟩
abbrev main_while1b_v191 : Ref sig .tc := ⟨.hbm, 320, rfl⟩
abbrev main_while1b_c_50 : Ref sig .tc := ⟨.hbm, 321, rfl⟩
abbrev main_while1b_v192 : Ref sig .tc := ⟨.hbm, 322, rfl⟩
abbrev main_cst_16 : Ref sig .tc := ⟨.hbm, 323, rfl⟩
abbrev main_v89 : Ref sig .tc := ⟨.hbm, 324, rfl⟩
abbrev main_v90 : Ref sig .tc := ⟨.hbm, 325, rfl⟩
abbrev main_v91 : Ref sig .tc := ⟨.hbm, 326, rfl⟩
abbrev main_cst_17 : Ref sig .tc := ⟨.hbm, 327, rfl⟩
abbrev main_v92 : Ref sig .tc := ⟨.hbm, 328, rfl⟩
abbrev main_v93 : Ref sig .tc := ⟨.hbm, 329, rfl⟩
abbrev main_v94 : Ref sig .tc := ⟨.hbm, 330, rfl⟩
abbrev main_cst_18 : Ref sig .tc := ⟨.hbm, 331, rfl⟩
abbrev main_v95 : Ref sig .tc := ⟨.hbm, 332, rfl⟩
abbrev main_v96 : Ref sig .tc := ⟨.hbm, 333, rfl⟩
abbrev main_v97 : Ref sig .tc := ⟨.hbm, 334, rfl⟩
abbrev main_v98 : Ref sig .tc := ⟨.hbm, 335, rfl⟩
abbrev main_cst_19 : Ref sig .tc := ⟨.hbm, 336, rfl⟩
abbrev main_v99 : Ref sig .tc := ⟨.hbm, 337, rfl⟩
abbrev main_v100 : Ref sig .tc := ⟨.hbm, 338, rfl⟩
abbrev main_cst_20 : Ref sig .tc := ⟨.hbm, 339, rfl⟩
abbrev main_v101 : Ref sig .tc := ⟨.hbm, 340, rfl⟩
abbrev main_v102 : Ref sig .tc := ⟨.hbm, 341, rfl⟩
abbrev main_v103 : Ref sig .tc := ⟨.hbm, 342, rfl⟩
abbrev main_v104 : Ref sig .tc := ⟨.hbm, 343, rfl⟩
abbrev main_cst_21 : Ref sig .tc := ⟨.hbm, 344, rfl⟩
abbrev main_v105 : Ref sig .tc := ⟨.hbm, 345, rfl⟩
abbrev main_v106 : Ref sig .tc := ⟨.hbm, 346, rfl⟩
abbrev main_v107 : Ref sig .tc := ⟨.hbm, 347, rfl⟩
abbrev main_v108 : Ref sig .tc := ⟨.hbm, 348, rfl⟩
abbrev main_cst_22 : Ref sig .tc := ⟨.hbm, 349, rfl⟩
abbrev main_v109 : Ref sig .tc := ⟨.hbm, 350, rfl⟩
abbrev main_v110 : Ref sig .tc := ⟨.hbm, 351, rfl⟩
abbrev main_v111 : Ref sig .tc := ⟨.hbm, 352, rfl⟩
abbrev main_v112 : Ref sig .tc := ⟨.hbm, 353, rfl⟩
abbrev main_cst_23 : Ref sig .tc := ⟨.hbm, 354, rfl⟩
abbrev main_v113 : Ref sig .tc := ⟨.hbm, 355, rfl⟩
abbrev main_v114 : Ref sig .tc := ⟨.hbm, 356, rfl⟩
abbrev main_cst_24 : Ref sig .tc := ⟨.hbm, 357, rfl⟩
abbrev main_v115 : Ref sig .tc := ⟨.hbm, 358, rfl⟩
abbrev main_v116 : Ref sig .tc := ⟨.hbm, 359, rfl⟩
abbrev main_v117 : Ref sig .tc := ⟨.hbm, 360, rfl⟩
abbrev main_v118 : Ref sig .tc := ⟨.hbm, 361, rfl⟩
abbrev main_cst_25 : Ref sig .tc := ⟨.hbm, 362, rfl⟩
abbrev main_v119 : Ref sig .tc := ⟨.hbm, 363, rfl⟩
abbrev main_v120 : Ref sig .tc := ⟨.hbm, 364, rfl⟩
abbrev main_v121 : Ref sig .tc := ⟨.hbm, 365, rfl⟩
abbrev main_v122 : Ref sig .tc := ⟨.hbm, 366, rfl⟩
abbrev main_cst_26 : Ref sig .tc := ⟨.hbm, 367, rfl⟩
abbrev main_v123 : Ref sig .tc := ⟨.hbm, 368, rfl⟩
abbrev main_v124 : Ref sig .tc := ⟨.hbm, 369, rfl⟩
abbrev main_v125 : Ref sig .tc := ⟨.hbm, 370, rfl⟩
abbrev main_v126 : Ref sig .tc := ⟨.hbm, 371, rfl⟩
abbrev main_cst_27 : Ref sig .tc := ⟨.hbm, 372, rfl⟩
abbrev main_v127 : Ref sig .tc := ⟨.hbm, 373, rfl⟩
abbrev main_v128 : Ref sig .tc := ⟨.hbm, 374, rfl⟩
abbrev main_v129 : Ref sig .tc := ⟨.hbm, 375, rfl⟩
abbrev main_v130 : Ref sig .tc := ⟨.hbm, 376, rfl⟩
abbrev main_v131 : Ref sig .tc := ⟨.hbm, 377, rfl⟩
abbrev main_call24_cst : Ref sig .tc := ⟨.hbm, 378, rfl⟩
abbrev main_call24_v0 : Ref sig .tc := ⟨.hbm, 379, rfl⟩
abbrev main_v132 : Ref sig .tc := ⟨.hbm, 380, rfl⟩
abbrev main_v133 : Ref sig .tc := ⟨.hbm, 381, rfl⟩
abbrev main_v134 : Ref sig .tc := ⟨.hbm, 382, rfl⟩
abbrev main_v135 : Ref sig .tc := ⟨.hbm, 383, rfl⟩
abbrev main_cst_28 : Ref sig .tc := ⟨.hbm, 384, rfl⟩
abbrev main_v136 : Ref sig .tc := ⟨.hbm, 385, rfl⟩
abbrev main_v137 : Ref sig .tc := ⟨.hbm, 386, rfl⟩
abbrev main_cst_29 : Ref sig .tc := ⟨.hbm, 387, rfl⟩
abbrev main_v138 : Ref sig .tc := ⟨.hbm, 388, rfl⟩
abbrev main_v139 : Ref sig .tc := ⟨.hbm, 389, rfl⟩
abbrev main_v140 : Ref sig .tc := ⟨.hbm, 390, rfl⟩
abbrev main_cst_30 : Ref sig .tc := ⟨.hbm, 391, rfl⟩
abbrev main_v141 : Ref sig .tc := ⟨.hbm, 392, rfl⟩
abbrev main_v142 : Ref sig .tc := ⟨.hbm, 393, rfl⟩
abbrev main_v143 : Ref sig .tc := ⟨.hbm, 394, rfl⟩
abbrev main_v144 : Ref sig .tc := ⟨.hbm, 395, rfl⟩
abbrev main_v145 : Ref sig .tc := ⟨.hbm, 396, rfl⟩
abbrev main_cst_31 : Ref sig .tc := ⟨.hbm, 397, rfl⟩
abbrev main_v146 : Ref sig .tc := ⟨.hbm, 398, rfl⟩
abbrev main_v147 : Ref sig .tc := ⟨.hbm, 399, rfl⟩
abbrev main_v148 : Ref sig .tc := ⟨.hbm, 400, rfl⟩
abbrev main_v149 : Ref sig .tc := ⟨.hbm, 401, rfl⟩
abbrev main_call25_v0 : Ref sig .tc := ⟨.hbm, 402, rfl⟩
abbrev main_call25_v1 : Ref sig .tc := ⟨.hbm, 403, rfl⟩
abbrev main_v150 : Ref sig .tc := ⟨.hbm, 404, rfl⟩
abbrev main_v151 : Ref sig .tc := ⟨.hbm, 405, rfl⟩
abbrev main_v152 : Ref sig .tc := ⟨.hbm, 406, rfl⟩
abbrev main_v153 : Ref sig .tc := ⟨.hbm, 407, rfl⟩
abbrev main_v154 : Ref sig .tc := ⟨.hbm, 408, rfl⟩
abbrev main_v155 : Ref sig .tc := ⟨.hbm, 409, rfl⟩
abbrev main_v156 : Ref sig .tc := ⟨.hbm, 410, rfl⟩
abbrev main_v157 : Ref sig .tc := ⟨.hbm, 411, rfl⟩
abbrev main_c_32 : Ref sig .tc := ⟨.hbm, 412, rfl⟩
abbrev main_call29_v0 : Ref sig .tc := ⟨.hbm, 413, rfl⟩
abbrev main_v158 : Ref sig .tc := ⟨.hbm, 414, rfl⟩
abbrev main_v159 : Ref sig .tc := ⟨.hbm, 415, rfl⟩

abbrev nD : Nat := 1
abbrev τ : Topo := Topo.v7x

variable {F : FTy → Type} [FloatOps F]

abbrev main_while0_count : Scf.Loop 32 := ⟨0#32, 65#32, 1#32⟩

abbrev main_while1_count : Scf.Loop 32 := ⟨0#32, 65#32, 1#32⟩
-- ==== Kernel2.lean ====
abbrev S8320x1024 : Shape := ⟨2, ![8320, 1024]⟩
abbrev S1024x12800 : Shape := ⟨2, ![1024, 12800]⟩
abbrev S8320x12800 : Shape := ⟨2, ![8320, 12800]⟩
abbrev S1664x1024 : Shape := ⟨2, ![1664, 1024]⟩
abbrev S1664x1280 : Shape := ⟨2, ![1664, 1280]⟩
abbrev S1024x1280 : Shape := ⟨2, ![1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x12800, .bf16⟩
  | .hbm, ⟨2, _⟩ => ⟨S8320x12800, .bf16⟩
  | .hbm, ⟨3, _⟩ => ⟨S1024x12800, .f32⟩
  | .local _ .vmem, ⟨0, _⟩ => ⟨S1664x1024, .bf16⟩
  | .local _ .vmem, ⟨1, _⟩ => ⟨S1664x1024, .bf16⟩
  | .local _ .vmem, ⟨2, _⟩ => ⟨S1664x1280, .bf16⟩
  | .local _ .vmem, ⟨3, _⟩ => ⟨S1664x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8320x1024 : Shape := ⟨2, ![8320, 1024]⟩
abbrev S1024x12800 : Shape := ⟨2, ![1024, 12800]⟩
abbrev S8320x12800 : Shape := ⟨2, ![8320, 12800]⟩
abbrev S12800x1024 : Shape := ⟨2, ![12800, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x12800, .bf16⟩
  | .hbm, ⟨2, _⟩ => ⟨S8320x12800, .bf16⟩
  | .hbm, ⟨3, _⟩ => ⟨S8320x1024, .f32⟩
  | .hbm, ⟨4, _⟩ => ⟨S1024x12800, .f32⟩
  | .hbm, ⟨5, _⟩ => ⟨S8320x12800, .f32⟩
  | .hbm, ⟨6, _⟩ => ⟨S8320x12800, .f32⟩
  | .hbm, ⟨7, _⟩ => ⟨S12800x1024, .f32⟩
  | .hbm, ⟨8, _⟩ => ⟨S1024x12800, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8320x1024 : Shape := ⟨2, ![8320, 1024]⟩
abbrev S1024x12800 : Shape := ⟨2, ![1024, 12800]⟩
abbrev S8320x12800 : Shape := ⟨2, ![8320, 12800]⟩
abbrev S2080x1280 : Shape := ⟨2, ![2080, 1280]⟩
abbrev S1024x1280 : Shape := ⟨2, ![1024, 1280]⟩
abbrev S2080x1024 : Shape := ⟨2, ![2080, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x12800, .bf16⟩
  | .hbm, ⟨2, _⟩ => ⟨S8320x12800, .bf16⟩
  | .hbm, ⟨3, _⟩ => ⟨S8320x1024, .f32⟩
  | .local _ .vmem, ⟨0, _⟩ => ⟨S2080x1280, .bf16⟩
  | .local _ .vmem, ⟨1, _⟩ => ⟨S2080x1280, .bf16⟩
  | .local _ .vmem, ⟨2, _⟩ => ⟨S1024x1280, .bf16⟩
  | .local _ .vmem, ⟨3, _⟩ => ⟨S1024x1280, .bf16⟩
  | .local _ .vmem, ⟨4, _⟩ => ⟨S2080x1024, .f32⟩
  | .local _ .vmem, ⟨5, _⟩ => ⟨S2080x1024, .f32⟩
  | .local _ .vmem, ⟨6, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 10], ![false, false, false]⟩

def k0_cond3 (i : grid0.Coords) : BitVec 1 :=
  let arg2 : BitVec 32 := BitVec.ofNat 32 (i 2).val
  let c9_i32_3 : BitVec 32 := 9#32
  let v8 : BitVec 1 := Scalar.cmpi .eq arg2 c9_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x1024 : Shape := ⟨2, ![8320, 1024]⟩
abbrev S1024x12800 : Shape := ⟨2, ![1024, 12800]⟩
abbrev S8320x12800 : Shape := ⟨2, ![8320, 12800]⟩
abbrev S12800x1024 : Shape := ⟨2, ![12800, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x12800, .bf16⟩
  | .hbm, ⟨2, _⟩ => ⟨S8320x12800, .bf16⟩
  | .hbm, ⟨3, _⟩ => ⟨S8320x1024, .f32⟩
  | .hbm, ⟨4, _⟩ => ⟨S1024x12800, .f32⟩
  | .hbm, ⟨5, _⟩ => ⟨S8320x12800, .f32⟩
  | .hbm, ⟨6, _⟩ => ⟨S8320x12800, .f32⟩
  | .hbm, ⟨7, _⟩ => ⟨S12800x1024, .f32⟩
  | .hbm, ⟨8, _⟩ => ⟨S1024x12800, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8320x1024 : Shape := ⟨2, ![8320, 1024]⟩
abbrev S1024x12800 : Shape := ⟨2, ![1024, 12800]⟩
abbrev S8320x12800 : Shape := ⟨2, ![8320, 12800]⟩
abbrev S2080x1024 : Shape := ⟨2, ![2080, 1024]⟩
abbrev S1024x1280 : Shape := ⟨2, ![1024, 1280]⟩
abbrev S2080x1280 : Shape := ⟨2, ![2080, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x12800, .bf16⟩
  | .hbm, ⟨2, _⟩ => ⟨S8320x12800, .f32⟩
  | .local _ .vmem, ⟨0, _⟩ => ⟨S2080x1024, .bf16⟩
  | .local _ .vmem, ⟨1, _⟩ => ⟨S2080x1024, .bf16⟩
  | .local _ .vmem, ⟨2, _⟩ => ⟨S1024x1280, .bf16⟩
  | .local _ .vmem, ⟨3, _⟩ => ⟨S1024x1280, .bf16⟩
  | .local _ .vmem, ⟨4, _⟩ => ⟨S2080x1280, .f32⟩
  | .local _ .vmem, ⟨5, _⟩ => ⟨S2080x1280, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8320x1024 : Shape := ⟨2, ![8320, 1024]⟩
abbrev S1024x12800 : Shape := ⟨2, ![1024, 12800]⟩
abbrev S8320x12800 : Shape := ⟨2, ![8320, 12800]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x12800, .bf16⟩
  | .hbm, ⟨2, _⟩ => ⟨S8320x1024, .f32⟩
  | .hbm, ⟨3, _⟩ => ⟨S1024x12800, .f32⟩
  | .hbm, ⟨4, _⟩ => ⟨S8320x12800, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8320x1024 : Shape := ⟨2, ![8320, 1024]⟩
abbrev S1024x5632 : Shape := ⟨2, ![1024, 5632]⟩
abbrev S8320x5632 : Shape := ⟨2, ![8320, 5632]⟩
abbrev S2080x1024 : Shape := ⟨2, ![2080, 1024]⟩
abbrev S1024x1408 : Shape := ⟨2, ![1024, 1408]⟩
abbrev S2080x1408 : Shape := ⟨2, ![2080, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .f32⟩
  | .local _ .vmem, ⟨0, _⟩ => ⟨S2080x1024, .bf16⟩
  | .local _ .vmem, ⟨1, _⟩ => ⟨S2080x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2080x1408, .f32⟩
  | .local _ .vmem, ⟨5, _⟩ => ⟨S2080x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x1024, .f32⟩
  | .hbm, ⟨3, _⟩ => ⟨S1024x5632, .f32⟩
  | .hbm, ⟨4, _⟩ => ⟨S8320x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .hbm, ⟨3, _⟩ => ⟨S1024x5632, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x1024 : Shape := ⟨2, ![8320, 1024]⟩
abbrev S1024x5632 : Shape := ⟨2, ![1024, 5632]⟩
abbrev S8320x5632 : Shape := ⟨2, ![8320, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .hbm, ⟨3, _⟩ => ⟨S8320x1024, .f32⟩
  | .hbm, ⟨4, _⟩ => ⟨S1024x5632, .f32⟩
  | .hbm, ⟨5, _⟩ => ⟨S8320x5632, .f32⟩
  | .hbm, ⟨6, _⟩ => ⟨S8320x5632, .f32⟩
  | .hbm, ⟨7, _⟩ => ⟨S5632x1024, .f32⟩
  | .hbm, ⟨8, _⟩ => ⟨S1024x5632, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8320x1024 : Shape := ⟨2, ![8320, 1024]⟩
abbrev S1024x5632 : Shape := ⟨2, ![1024, 5632]⟩
abbrev S8320x5632 : Shape := ⟨2, ![8320, 5632]⟩
abbrev S1040x1408 : Shape := ⟨2, ![1040, 1408]⟩
abbrev S1024x1408 : Shape := ⟨2, ![1024, 1408]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .hbm, ⟨3, _⟩ => ⟨S8320x1024, .f32⟩
  | .local _ .vmem, ⟨0, _⟩ => ⟨S1040x1408, .bf16⟩
  | .local _ .vmem, ⟨1, _⟩ => ⟨S1040x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8320x1024 : Shape := ⟨2, ![8320, 1024]⟩
abbrev S1024x5632 : Shape := ⟨2, ![1024, 5632]⟩
abbrev S8320x5632 : Shape := ⟨2, ![8320, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .bf16⟩
  | .hbm, ⟨2, _⟩ => ⟨S8320x5632, .bf16⟩
  | .hbm, ⟨3, _⟩ => ⟨S8320x1024, .f32⟩
  | .hbm, ⟨4, _⟩ => ⟨S1024x5632, .f32⟩
  | .hbm, ⟨5, _⟩ => ⟨S8320x5632, .f32⟩
  | .hbm, ⟨6, _⟩ => ⟨S8320x5632, .f32⟩
  | .hbm, ⟨7, _⟩ => ⟨S5632x1024, .f32⟩
  | .hbm, ⟨8, _⟩ => ⟨S1024x5632, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8320x2816 : Shape := ⟨2, ![8320, 2816]⟩
abbrev S2816x1024 : Shape := ⟨2, ![2816, 1024]⟩
abbrev S8320x1024 : Shape := ⟨2, ![8320, 1024]⟩
abbrev S1040x1408 : Shape := ⟨2, ![1040, 1408]⟩
abbrev S1408x1024 : Shape := ⟨2, ![1408, 1024]⟩
abbrev S1040x1024 : Shape := ⟨2, ![1040, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x1024, .f32⟩
  | .local _ .vmem, ⟨0, _⟩ => ⟨S1040x1408, .bf16⟩
  | .local _ .vmem, ⟨1, _⟩ => ⟨S1040x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | .local _ .vmem, ⟨7, _⟩ => ⟨S1040x1024, .f32⟩
  | .local _ .vmem, ⟨8, _⟩ => ⟨S1040x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S2816x1024, .f32⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x2816 : Shape := ⟨2, ![8320, 2816]⟩
abbrev S2816x1024 : Shape := ⟨2, ![2816, 1024]⟩
abbrev S8320x1024 : Shape := ⟨2, ![8320, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S1024x2816, .f32⟩
  | .hbm, ⟨7, _⟩ => ⟨S2816x1024, .f32⟩
  | .hbm, ⟨8, _⟩ => ⟨S8320x2816, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8320x2816 : Shape := ⟨2, ![8320, 2816]⟩
abbrev S2816x1024 : Shape := ⟨2, ![2816, 1024]⟩
abbrev S8320x1024 : Shape := ⟨2, ![8320, 1024]⟩
abbrev S1040x1024 : Shape := ⟨2, ![1040, 1024]⟩
abbrev S1408x1024 : Shape := ⟨2, ![1408, 1024]⟩
abbrev S1040x1408 : Shape := ⟨2, ![1040, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x2816, .f32⟩
  | .local _ .vmem, ⟨0, _⟩ => ⟨S1040x1024, .f32⟩
  | .local _ .vmem, ⟨1, _⟩ => ⟨S1040x1024, .f32⟩
  | .local _ .vmem, ⟨2, _⟩ => ⟨S1408x1024, .bf16⟩
  | .local _ .vmem, ⟨3, _⟩ => ⟨S1408x1024, .bf16⟩
  | .local _ .vmem, ⟨4, _⟩ => ⟨S1040x1408, .f32⟩
  | .local _ .vmem, ⟨5, _⟩ => ⟨S1040x1408, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1040x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8320x2816 : Shape := ⟨2, ![8320, 2816]⟩
abbrev S2816x1024 : Shape := ⟨2, ![2816, 1024]⟩
abbrev S8320x1024 : Shape := ⟨2, ![8320, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S1024x2816, .f32⟩
  | .hbm, ⟨7, _⟩ => ⟨S2816x1024, .f32⟩
  | .hbm, ⟨8, _⟩ => ⟨S8320x2816, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8320x2048 : Shape := ⟨2, ![8320, 2048]⟩
abbrev S2048x1024 : Shape := ⟨2, ![2048, 1024]⟩
abbrev S8320x1024 : Shape := ⟨2, ![8320, 1024]⟩
abbrev S2080x1024 : Shape := ⟨2, ![2080, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .f32⟩
  | .local _ .vmem, ⟨5, _⟩ => ⟨S2080x1024, .f32⟩
  | .local _ .vmem, ⟨6, _⟩ => ⟨S2080x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x2048, .f32⟩
  | .hbm, ⟨3, _⟩ => ⟨S2048x1024, .f32⟩
  | .hbm, ⟨4, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8320x2048 : Shape := ⟨2, ![8320, 2048]⟩
abbrev S2048x1024 : Shape := ⟨2, ![2048, 1024]⟩
abbrev S8320x1024 : Shape := ⟨2, ![8320, 1024]⟩
abbrev S1664x1024 : Shape := ⟨2, ![1664, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .bf16⟩
  | .hbm, ⟨3, _⟩ => ⟨S2048x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8320x2048 : Shape := ⟨2, ![8320, 2048]⟩
abbrev S2048x1024 : Shape := ⟨2, ![2048, 1024]⟩
abbrev S8320x1024 : Shape := ⟨2, ![8320, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .bf16⟩
  | .hbm, ⟨3, _⟩ => ⟨S8320x2048, .f32⟩
  | .hbm, ⟨4, _⟩ => ⟨S2048x1024, .f32⟩
  | .hbm, ⟨5, _⟩ => ⟨S8320x1024, .f32⟩
  | .hbm, ⟨6, _⟩ => ⟨S8320x1024, .f32⟩
  | .hbm, ⟨7, _⟩ => ⟨S1024x2048, .f32⟩
  | .hbm, ⟨8, _⟩ => ⟨S2048x1024, .f32⟩
  | .hbm, ⟨9, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8320x2048 : Shape := ⟨2, ![8320, 2048]⟩
abbrev S2048x1024 : Shape := ⟨2, ![2048, 1024]⟩
abbrev S8320x1024 : Shape := ⟨2, ![8320, 1024]⟩
abbrev S2080x1024 : Shape := ⟨2, ![2080, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .bf16⟩
  | .hbm, ⟨3, _⟩ => ⟨S8320x2048, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2080x1024, .f32⟩
  | .local _ .vmem, ⟨5, _⟩ => ⟨S2080x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8320x2048 : Shape := ⟨2, ![8320, 2048]⟩
abbrev S2048x1024 : Shape := ⟨2, ![2048, 1024]⟩
abbrev S8320x1024 : Shape := ⟨2, ![8320, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .bf16⟩
  | .hbm, ⟨2, _⟩ => ⟨S8320x1024, .bf16⟩
  | .hbm, ⟨3, _⟩ => ⟨S8320x2048, .f32⟩
  | .hbm, ⟨4, _⟩ => ⟨S2048x1024, .f32⟩
  | .hbm, ⟨5, _⟩ => ⟨S8320x1024, .f32⟩
  | .hbm, ⟨6, _⟩ => ⟨S8320x1024, .f32⟩
  | .hbm, ⟨7, _⟩ => ⟨S1024x2048, .f32⟩
  | .hbm, ⟨8, _⟩ => ⟨S2048x1024, .f32⟩
  | .hbm, ⟨9, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8320x1024 : Shape := ⟨2, ![8320, 1024]⟩
abbrev S1024x1024 : Shape := ⟨2, ![1024, 1024]⟩
abbrev S2080x1024 : Shape := ⟨2, ![2080, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S2080x1024, .f32⟩
  | .local _ .vmem, ⟨4, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .hbm, ⟨3, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8320x1024 : Shape := ⟨2, ![8320, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8320x1024 : Shape := ⟨2, ![8320, 1024]⟩
abbrev S1024x1024 : Shape := ⟨2, ![1024, 1024]⟩
abbrev S2080x1024 : Shape := ⟨2, ![2080, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .hbm, ⟨3, _⟩ => ⟨S8320x1024, .f32⟩
  | .local _ .vmem, ⟨0, _⟩ => ⟨S2080x1024, .bf16⟩
  | .local _ .vmem, ⟨1, _⟩ => ⟨S2080x1024, .bf16⟩
  | .local _ .vmem, ⟨2, _⟩ => ⟨S1024x1024, .bf16⟩
  | .local _ .vmem, ⟨3, _⟩ => ⟨S2080x1024, .f32⟩
  | .local _ .vmem, ⟨4, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8320x1024 : Shape := ⟨2, ![8320, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .bf16⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8320x1024 : Shape := ⟨2, ![8320, 1024]⟩
abbrev S1024x1024 : Shape := ⟨2, ![1024, 1024]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8320x1024 : Shape := ⟨2, ![8320, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .f32⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8320x1024 : Shape := ⟨2, ![8320, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8320x1024 : Shape := ⟨2, ![8320, 1024]⟩
abbrev S1024x1024 : Shape := ⟨2, ![1024, 1024]⟩
abbrev S2080x1024 : Shape := ⟨2, ![2080, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .local _ .vmem, ⟨0, _⟩ => ⟨S2080x1024, .f32⟩
  | .local _ .vmem, ⟨1, _⟩ => ⟨S2080x1024, .f32⟩
  | .local _ .vmem, ⟨2, _⟩ => ⟨S1024x1024, .bf16⟩
  | .local _ .vmem, ⟨3, _⟩ => ⟨S2080x1024, .f32⟩
  | .local _ .vmem, ⟨4, _⟩ => ⟨S2080x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2080x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2080x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8320x1024 : Shape := ⟨2, ![8320, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.FwdRun.lean ====
/- The forward retention body at one grid point: the triple of its run, in each of the two cases of its conditional (the
   first chunk of a batch row, where the carried state is cleared, and every other chunk). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body clears the carried state: the chunk coordinate is zero. -/
abbrev start (i : grid0.Coords) : Prop :=
  (Scalar.cmpi .ne (Scalar.extui (Scalar.cmpi .eq (BitVec.ofNat 32 (i 1).val) 0#32)) 0#32) = 1#1

/-- The state is cleared at the first of the 65 chunks of each batch row. -/
theorem start_iff (t : Fin cfg0.N) : start (grid0.coords t) ↔ t.val % 65 = 0 := by
  have ht : t.val < 130 := Nat.lt_of_lt_of_eq t.isLt N_0
  have e1 : (grid0.coords t 1).val = t.val / 1 % 65 := Pipeline.Grid.coords_val t 1 (by decide) rfl
  simp only [start, e1]
  word_cmp

variable (c : Dev nD) (i : grid0.Coords)
  (q : Memref sig .tc .vmem S1x64x1024 .f32) (hq : q.IsWhole) (k : Memref sig .tc .vmem S1x64x1024 .f32) (hk : k.IsWhole)
  (v : Memref sig .tc .vmem S1x64x2048 .f32) (hv : v.IsWhole) (lg : Memref sig .tc .vmem S1x128 .f32) (hlg : lg.IsWhole)
  (o : Memref sig .tc .vmem S1x64x2048 .f32) (ho : o.IsWhole) (st : Memref sig .tc .vmem S1x1x4x256x512 .bf16) (hst : st.IsWhole)
  (r : Memref sig .tc .vmem S4x256x512 .f32) (hr : r.IsWhole)
  (x0 : Vec F S1x64x1024 .f32) (x1 : Vec F S1x64x1024 .f32) (x2 : Vec F S1x64x2048 .f32) (x3 : Vec F S1x128 .f32)
  (xs : Vec F S4x256x512 .f32)

/-- The four input buffers, each held whole at its block. -/
def ins : sProp 𝕄 :=
  iprop(owns (c : Thread nD τ) q fullShare x0 ∗ owns (c : Thread nD τ) k fullShare x1 ∗ owns (c : Thread nD τ) v fullShare x2
    ∗ owns (c : Thread nD τ) lg fullShare x3)

/-- The body started with the state at anything satisfying `R`: from the inputs, any contents of the two output buffers and
    the state, it runs to the inputs unchanged and the listed stores made into the outputs and the state. -/
def Runs (R : sProp 𝕄) (L4 : List (View.Piece (Elt F) S1x64x2048 .f32)) (L5 : List (View.Piece (Elt F) S1x1x4x256x512 .bf16))
    (LS : List (View.Piece (Elt F) S4x256x512 .f32)) : Prop :=
  ∀ K : PUnit → sProp 𝕄,
    iprop(ins c q k v lg x0 x1 x2 x3 ∗ (∃ d, owns (c : Thread nD τ) o fullShare d) ∗ (∃ d, owns (c : Thread nD τ) st fullShare d) ∗ R
      ∗ (iprop(ins c q k v lg x0 x1 x2 x3
          ∗ (∃ f, o.view.loc (c : Thread nD τ) ↦[o.view.set]{fullShare} o.view.writes (Elt F) f L4)
          ∗ (∃ f, st.view.loc (c : Thread nD τ) ↦[st.view.set]{fullShare} st.view.writes (Elt F) f L5)
          ∗ (∃ f, r.view.loc (c : Thread nD τ) ↦[r.view.set]{fullShare} r.view.writes (Elt F) f LS)) -∗ K ⟨⟩))
    ⊢ wp frame (wpE (defs₀ (F := F)) Variants.none c none) Set.univ (cc0_ret_f1 i q hq k hk v hv lg hlg o ho st hst r hr) K

set_option maxHeartbeats 2000000 in
/-- The run at a first chunk: the stores it makes, with its triple. -/
def runStart (hc : start i) :
    Σ' (L4 : List (View.Piece (Elt F) S1x64x2048 .f32)) (L5 : List (View.Piece (Elt F) S1x1x4x256x512 .bf16)),
      { LS : List (View.Piece (Elt F) S4x256x512 .f32) //
        Runs c i q hq k hk v hv lg hlg o ho st hst r hr x0 x1 x2 x3 iprop(∃ d, owns (c : Thread nD τ) r fullShare d) L4 L5 LS } := by
  refine ⟨?_, ?_, ?_, ?run⟩
  case run =>
    intro K
    unfold ins
    simp only [cc0_ret_f1_eq_skeleton]; unfold cc0_ret_f1_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%ds, %fs, -, HS⟩, Hk⟩
    obtain rfl := hq.eq_unread hf0; obtain rfl := hk.eq_unread hf1; obtain rfl := hv.eq_unread hf2; obtain rfl := hlg.eq_unread hf3
    sl_exec (disch := first | sl_exact hc)
    sl_step
    iapply Hk
    isplitl [H0 H1 H2 H3]
    · isplitl [H0]
      · iexists _; isplitr; · ipureintro; exact hq.read_unread _
        iexact H0
      isplitl [H1]
      · iexists _; isplitr; · ipureintro; exact hk.read_unread _
        iexact H1
      isplitl [H2]
      · iexists _; isplitr; · ipureintro; exact hv.read_unread _
        iexact H2
      iexists _; isplitr; · ipureintro; exact hlg.read_unread _
      iexact H3
    isplitl [H4]; · iexists _; iexact H4
    isplitl [H5]; · iexists _; iexact H5
    iexists _; iexact HS

set_option maxHeartbeats 2000000 in
/-- The run at any other chunk, over the state `xs` the chunk before left. -/
def runNext (hc : ¬start i) :
    Σ' (L4 : List (View.Piece (Elt F) S1x64x2048 .f32)) (L5 : List (View.Piece (Elt F) S1x1x4x256x512 .bf16)),
      { LS : List (View.Piece (Elt F) S4x256x512 .f32) //
        Runs c i q hq k hk v hv lg hlg o ho st hst r hr x0 x1 x2 x3 iprop(owns (c : Thread nD τ) r fullShare xs) L4 L5 LS } := by
  refine ⟨?_, ?_, ?_, ?run⟩
  case run =>
    intro K
    unfold ins
    simp only [cc0_ret_f1_eq_skeleton]; unfold cc0_ret_f1_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%fs, %hfs, HS⟩, Hk⟩
    obtain rfl := hq.eq_unread hf0; obtain rfl := hk.eq_unread hf1; obtain rfl := hv.eq_unread hf2; obtain rfl := hlg.eq_unread hf3
    obtain rfl := hr.eq_unread hfs
    sl_exec (disch := first | sl_exact hc)
    sl_step
    iapply Hk
    isplitl [H0 H1 H2 H3]
    · isplitl [H0]
      · iexists _; isplitr; · ipureintro; exact hq.read_unread _
        iexact H0
      isplitl [H1]
      · iexists _; isplitr; · ipureintro; exact hk.read_unread _
        iexact H1
      isplitl [H2]
      · iexists _; isplitr; · ipureintro; exact hv.read_unread _
        iexact H2
      iexists _; isplitr; · ipureintro; exact hlg.read_unread _
      iexact H3
    isplitl [H4]; · iexists _; iexact H4
    isplitl [H5]; · iexists _; iexact H5
    iexists _; iexact HS

end Cert.Fwd

end
-- ==== Proof.Fwd.lean ====
/- The forward retention region: what its outputs and its carried state hold after each grid point, the region's proof data
   over any contents the region may find, and the body obligation. -/
module

public import proofs.«01_k».proof.Proof.FwdRun

@[expose] public section

set_option maxRecDepth 16384

noncomputable section

namespace Cert.Fwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The carried state as a whole memref, and the three views the stored contents are stated through. -/
abbrev scM : Memref sig .tc .vmem S4x256x512 .f32 := Memref.whole cc0_scratch0
abbrev VO : View sig .tc .vmem S1x64x2048 .f32 := (Memref.whole cc0_stg4_0 : Memref sig .tc .vmem S1x64x2048 .f32).view
abbrev VT : View sig .tc .vmem S1x1x4x256x512 .bf16 := (Memref.whole cc0_stg5_0 : Memref sig .tc .vmem S1x1x4x256x512 .bf16).view
abbrev VS : View sig .tc .vmem S4x256x512 .f32 := (scM : Memref sig .tc .vmem S4x256x512 .f32).view

/-- What one point leaves: the output block, the saved state, the carried state. -/
abbrev Outs (F : FTy → Type) : Type := Vec F S1x64x2048 .f32 × Vec F S1x1x4x256x512 .bf16 × Vec F S4x256x512 .f32

/-- The listed stores read back. -/
def readBack (L4 : List (View.Piece (Elt F) S1x64x2048 .f32)) (L5 : List (View.Piece (Elt F) S1x1x4x256x512 .bf16))
    (LS : List (View.Piece (Elt F) S4x256x512 .f32)) : Outs F :=
  (VO.read (Elt F) (VO.writes (Elt F) VO.junk L4), VT.read (Elt F) (VT.writes (Elt F) VT.junk L5),
    VS.read (Elt F) (VS.writes (Elt F) VS.junk LS))

/-- The listed stores cover the output block, the saved state and the carried state. -/
def Covers (L4 : List (View.Piece (Elt F) S1x64x2048 .f32)) (L5 : List (View.Piece (Elt F) S1x1x4x256x512 .bf16))
    (LS : List (View.Piece (Elt F) S4x256x512 .f32)) : Prop :=
  (∀ y, ∃ pc ∈ L4, y ∈ pc.1.set) ∧ (∀ y, ∃ pc ∈ L5, y ∈ pc.1.set) ∧ (∀ y, ∃ pc ∈ LS, y ∈ pc.1.set)

section Cover
variable (c : Dev nD) (i : grid0.Coords)
  (q : Memref sig .tc .vmem S1x64x1024 .f32) (hq : q.IsWhole) (k : Memref sig .tc .vmem S1x64x1024 .f32) (hk : k.IsWhole)
  (v : Memref sig .tc .vmem S1x64x2048 .f32) (hv : v.IsWhole) (lg : Memref sig .tc .vmem S1x128 .f32) (hlg : lg.IsWhole)
  (o : Memref sig .tc .vmem S1x64x2048 .f32) (ho : o.IsWhole) (st : Memref sig .tc .vmem S1x1x4x256x512 .bf16) (hst : st.IsWhole)
  (r : Memref sig .tc .vmem S4x256x512 .f32) (hr : r.IsWhole)
  (x0 : Vec F S1x64x1024 .f32) (x1 : Vec F S1x64x1024 .f32) (x2 : Vec F S1x64x2048 .f32) (x3 : Vec F S1x128 .f32)
  (xs : Vec F S4x256x512 .f32)

/-- A first chunk's stores cover the three buffers: four heads each, the state cleared whole beforehand. -/
theorem coversStart (hc : start i) :
    Covers (runStart c i q hq k hk v hv lg hlg o ho st hst r hr x0 x1 x2 x3 hc).1
      (runStart c i q hq k hk v hv lg hlg o ho st hst r hr x0 x1 x2 x3 hc).2.1
      (runStart c i q hq k hk v hv lg hlg o ho st hst r hr x0 x1 x2 x3 hc).2.2.1 :=
  ⟨View.cover_of_tiledL (runStart c i q hq k hk v hv lg hlg o ho st hst r hr x0 x1 x2 x3 hc).1 S1x64x512.size (by sl_kernel_rfl),
   View.cover_of_tiledL (runStart c i q hq k hk v hv lg hlg o ho st hst r hr x0 x1 x2 x3 hc).2.1 S1x1x1x256x512.size (by sl_kernel_rfl),
   View.cover_of_wholeMem (runStart c i q hq k hk v hv lg hlg o ho st hst r hr x0 x1 x2 x3 hc).2.2.1 (by sl_whole_mem)⟩

/-- Any other chunk's stores cover the three buffers: four heads each. -/
theorem coversNext (hc : ¬start i) :
    Covers (runNext c i q hq k hk v hv lg hlg o ho st hst r hr x0 x1 x2 x3 xs hc).1
      (runNext c i q hq k hk v hv lg hlg o ho st hst r hr x0 x1 x2 x3 xs hc).2.1
      (runNext c i q hq k hk v hv lg hlg o ho st hst r hr x0 x1 x2 x3 xs hc).2.2.1 :=
  ⟨View.cover_of_tiledL (runNext c i q hq k hk v hv lg hlg o ho st hst r hr x0 x1 x2 x3 xs hc).1 S1x64x512.size (by sl_kernel_rfl),
   View.cover_of_tiledL (runNext c i q hq k hk v hv lg hlg o ho st hst r hr x0 x1 x2 x3 xs hc).2.1 S1x1x1x256x512.size (by sl_kernel_rfl),
   View.cover_of_tiledL (runNext c i q hq k hk v hv lg hlg o ho st hst r hr x0 x1 x2 x3 xs hc).2.2.1 S1x256x512.size (by sl_kernel_rfl)⟩

/-- A run whose stores cover the buffers leaves them at those stores read back, whatever they held. -/
theorem runs_readBack {R : sProp 𝕄} {L4 L5 LS}
    (h : Runs c i q hq k hk v hv lg hlg o ho st hst r hr x0 x1 x2 x3 R L4 L5 LS) (hcov : Covers L4 L5 LS) (K : PUnit → sProp 𝕄) :
    iprop(ins c q k v lg x0 x1 x2 x3 ∗ (∃ d, owns (c : Thread nD τ) o fullShare d) ∗ (∃ d, owns (c : Thread nD τ) st fullShare d) ∗ R
      ∗ (iprop(ins c q k v lg x0 x1 x2 x3
          ∗ owns (c : Thread nD τ) o fullShare (readBack L4 L5 LS).1
          ∗ owns (c : Thread nD τ) st fullShare (readBack L4 L5 LS).2.1
          ∗ owns (c : Thread nD τ) r fullShare (readBack L4 L5 LS).2.2) -∗ K ⟨⟩))
    ⊢ wp frame (wpE (defs₀ (F := F)) Variants.none c none) Set.univ (cc0_ret_f1 i q hq k hk v hv lg hlg o ho st hst r hr) K := by
  unfold readBack; dsimp only
  iintro ⟨HI, HO, HT, HR, Hk⟩
  iapply (h K)
  isplitl [HI]; · iexact HI
  isplitl [HO]; · iexact HO
  isplitl [HT]; · iexact HT
  isplitl [HR]; · iexact HR
  iintro ⟨HI, ⟨%e4, H4⟩, ⟨%e5, H5⟩, ⟨%es, HS⟩⟩
  iapply Hk
  isplitl [HI]; · iexact HI
  isplitl [H4]
  · unfold owns; iexists _; isplitr
    swap; · iexact H4
    ipureintro; exact View.read_writes_of_cover _ _ _ _ _ hcov.1
  isplitl [H5]
  · unfold owns; iexists _; isplitr
    swap; · iexact H5
    ipureintro; exact View.read_writes_of_cover _ _ _ _ _ hcov.2.1
  unfold owns; iexists _; isplitr
  swap; · iexact HS
  ipureintro; exact View.read_writes_of_cover _ _ _ _ _ hcov.2.2
end Cover

/-- What the body leaves at point `t`, from the point's blocks and the state `xs` it finds. -/
def step (c : Dev nD) (t : Fin cfg0.N) (x0 : Vec F S1x64x1024 .f32) (x1 : Vec F S1x64x1024 .f32) (x2 : Vec F S1x64x2048 .f32)
    (x3 : Vec F S1x128 .f32) (xs : Vec F S4x256x512 .f32) : Outs F :=
  if h : t.val % 65 = 0 then
    let R := runStart c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM (Memref.isWhole_whole _) x0 x1 x2 x3 ((start_iff t).mpr h)
    readBack R.1 R.2.1 R.2.2.1
  else
    let R := runNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM (Memref.isWhole_whole _) x0 x1 x2 x3 xs (fun e => h ((start_iff t).mp e))
    readBack R.1 R.2.1 R.2.2.1

/-- At a first chunk the state found does not matter. -/
theorem step_start (c : Dev nD) (t : Fin cfg0.N) (h : t.val % 65 = 0) (x0 : Vec F S1x64x1024 .f32) (x1 : Vec F S1x64x1024 .f32)
    (x2 : Vec F S1x64x2048 .f32) (x3 : Vec F S1x128 .f32) (xs xs' : Vec F S4x256x512 .f32) :
    step c t x0 x1 x2 x3 xs = step c t x0 x1 x2 x3 xs' := by
  unfold step; rw [dif_pos h, dif_pos h]

/-- The body at any point, from the point's blocks and any contents of the state, leaves `step`. -/
theorem step_triple (c : Dev nD) (t : Fin cfg0.N) (x0 : Vec F S1x64x1024 .f32) (x1 : Vec F S1x64x1024 .f32) (x2 : Vec F S1x64x2048 .f32)
    (x3 : Vec F S1x128 .f32) (xs : Vec F S4x256x512 .f32) (K : PUnit → sProp 𝕄) :
    iprop(ins c (win0_0.stage (cfg0.slots t 0)) (win0_1.stage (cfg0.slots t 1)) (win0_2.stage (cfg0.slots t 2)) (win0_3.stage (cfg0.slots t 3)) x0 x1 x2 x3
      ∗ (∃ d, owns (c : Thread nD τ) (win0_4.stage (cfg0.slots t 4)) fullShare d) ∗ (∃ d, owns (c : Thread nD τ) (win0_5.stage (cfg0.slots t 5)) fullShare d)
      ∗ owns (c : Thread nD τ) scM fullShare xs
      ∗ (iprop(ins c (win0_0.stage (cfg0.slots t 0)) (win0_1.stage (cfg0.slots t 1)) (win0_2.stage (cfg0.slots t 2)) (win0_3.stage (cfg0.slots t 3)) x0 x1 x2 x3
          ∗ owns (c : Thread nD τ) (win0_4.stage (cfg0.slots t 4)) fullShare (step c t x0 x1 x2 x3 xs).1
          ∗ owns (c : Thread nD τ) (win0_5.stage (cfg0.slots t 5)) fullShare (step c t x0 x1 x2 x3 xs).2.1
          ∗ owns (c : Thread nD τ) scM fullShare (step c t x0 x1 x2 x3 xs).2.2) -∗ K ⟨⟩))
    ⊢ wp frame (wpE (defs₀ (F := F)) Variants.none c none) Set.univ (bodyAt0 t) K := by
  unfold step bodyAt0
  by_cases h : t.val % 65 = 0
  · rw [dif_pos h]
    iintro ⟨HI, HO, HT, HR, Hk⟩
    iapply (runs_readBack c (grid0.coords t) _ _ _ _ _ _ _ _ _ _ _ _ scM (Memref.isWhole_whole _) x0 x1 x2 x3
      (runStart c (grid0.coords t) _ _ _ _ _ _ _ _ _ _ _ _ scM (Memref.isWhole_whole _) x0 x1 x2 x3 ((start_iff t).mpr h)).2.2.2 (coversStart _ _ _ _ _ _ _ _ _ _ _ _ _ _ _ _ _ _ _ _ _) K)
    isplitl [HI]; · iexact HI
    isplitl [HO]; · iexact HO
    isplitl [HT]; · iexact HT
    isplitl [HR]; · iexists _; iexact HR
    iexact Hk
  · rw [dif_neg h]
    exact runs_readBack c (grid0.coords t) _ _ _ _ _ _ _ _ _ _ _ _ scM (Memref.isWhole_whole _) x0 x1 x2 x3
      (runNext c (grid0.coords t) _ _ _ _ _ _ _ _ _ _ _ _ scM (Memref.isWhole_whole _) x0 x1 x2 x3 xs (fun e => h ((start_iff t).mp e))).2.2.2 (coversNext _ _ _ _ _ _ _ _ _ _ _ _ _ _ _ _ _ _ _ _ _ _) K

/-! ## The region over contents `V` of the core's buffers -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A filler for the part of a fetched block that lies outside its array; no block reached is cut, so nothing reads it. -/
def filler : (cfg0.win 2).block.Idx → Elt F (cfg0.win 2).elt := fun _ => Classical.choice inferInstance
/-- The value block at point `t` as its staging buffer holds it. -/
def vblk (c : Dev nD) (t : Fin cfg0.N) : (cfg0.win 2).block.Idx → Elt F (cfg0.win 2).elt :=
  (cfg0.win 2).fill (cfg0.grid.coords t) filler (iblk V c 2 t)
/-- No value block is cut. -/
theorem vsize : ∀ t : Fin cfg0.N, ∀ a, (cfg0.win 2).xsize (cfg0.grid.coords t) a = (cfg0.win 2).size a := by decide +kernel
/-- Every index of a value block is moved by its transfer. -/
theorem vmoved (t : Fin cfg0.N) (j : (cfg0.win 2).block.Idx) : (cfg0.win 2).moved (cfg0.grid.coords t) j = true :=
  ((cfg0.win 2).moved_iff _ j).mpr fun a => by rw [vsize t a]; exact (j a).isLt
/-- Filling a value block does not depend on what the buffer held. -/
theorem vfill (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (vmoved t j), dif_pos (vmoved t j)]

/-- What the outputs and the carried state hold after point `n`: the point's step over the state the point before left (the
    first point's is never read). -/
def outsAt (c : Dev nD) : (n : ℕ) → n < cfg0.N → Outs F
  | 0, hn => step c ⟨0, hn⟩ (iblk V c 0 ⟨0, hn⟩) (iblk V c 1 ⟨0, hn⟩) (vblk V c ⟨0, hn⟩) (iblk V c 3 ⟨0, hn⟩) (VS.read (Elt F) VS.junk)
  | n + 1, hn => step c ⟨n + 1, hn⟩ (iblk V c 0 ⟨n + 1, hn⟩) (iblk V c 1 ⟨n + 1, hn⟩) (vblk V c ⟨n + 1, hn⟩) (iblk V c 3 ⟨n + 1, hn⟩)
      (outsAt c n (Nat.lt_of_succ_lt hn)).2.2

/-- At the first point the step may be taken from any state. -/
theorem outsAt_zero (c : Dev nD) (t : Fin cfg0.N) (h : t.val = 0) (xs : Vec F S4x256x512 .f32) :
    outsAt V c t.val t.isLt = step c t (iblk V c 0 t) (iblk V c 1 t) (vblk V c t) (iblk V c 3 t) xs := by
  obtain ⟨n, hn⟩ := t
  cases n with
  | zero => exact step_start c ⟨0, hn⟩ rfl _ _ _ _ _ _
  | succ n => exact absurd h (Nat.succ_ne_zero n)

/-- At a later point it is taken from what the point before left. -/
theorem outsAt_pos (c : Dev nD) (t : Fin cfg0.N) (h : t.val ≠ 0) :
    outsAt V c t.val t.isLt = step c t (iblk V c 0 t) (iblk V c 1 t) (vblk V c t) (iblk V c 3 t)
      (outsAt V c (t.val - 1) (Nat.lt_of_le_of_lt (Nat.sub_le _ _) t.isLt)).2.2 := by
  obtain ⟨n, hn⟩ := t
  cases n with
  | zero => exact absurd rfl h
  | succ n => rfl

/-- The other region's buffers, which this one leaves alone. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f)
    ∗ (∃ f : Buf (Elt F) ((c : Thread nD τ).loc cc1_stg8_0), ((c : Thread nD τ).loc cc1_stg8_0) ↦{fullShare} f) ∗ (∃ f : Buf (Elt F) ((c : Thread nD τ).loc cc1_scratch0), ((c : Thread nD τ).loc cc1_scratch0) ↦{fullShare} f))

/-- What a launch hands the region beside its windows: the carried state at anything, the other buffers, the generator. -/
theorem PhiA_eq (c : Dev nD) :
    (Pipeline.ΦA spec0 c : sProp 𝕄)
      = iprop(((∃ d, owns (c : Thread nD τ) scM fullShare d) ∗ others (F := F) c) ∗ (∃ r, prngReg c r)) := by
  unfold Pipeline.ΦA others; rw [scopedRest0_eq]; simp only [scM, owns_whole]; rfl

/-- The invariant before point `n`: at the start what the launch hands over; later the carried state at what the point before
    left. -/
def PhiS (c : Dev nD) : (n : ℕ) → n ≤ cfg0.N → sProp 𝕄
  | 0, _ => Pipeline.ΦA spec0 c
  | n + 1, hn => iprop((owns (c : Thread nD τ) scM fullShare (outsAt V c n hn).2.2 ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (outsAt V c n hn).2.2 ∗ others c) ∗ (∃ r, prngReg c r)) := rfl

theorem PhiS_pos (c : Dev nD) (n : ℕ) (h : n ≤ cfg0.N) (hz : n ≠ 0) :
    PhiS V c n h = iprop((owns (c : Thread nD τ) scM fullShare (outsAt V c (n - 1) (by omega)).2.2 ∗ others c) ∗ (∃ r, prngReg c r)) := by
  cases n with
  | zero => exact absurd rfl hz
  | succ n => rfl

/-- The region's proof data: the arrays as found; after each point the inputs' buffers at their blocks and the outputs' at
    `outsAt`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => vblk V c t
    | ⟨3, _⟩ => iblk V c 3 t
    | ⟨4, _⟩ => (outsAt V c t.val t.isLt).1
    | ⟨5, _⟩ => (outsAt V c t.val t.isLt).2.1
  Φ t := PhiS V c t.val (Nat.le_of_lt_succ t.isLt)
  q w := Pipeline.shareOf spec0 w
  owed _ := 0

theorem A_eq (c : Dev nD) (w : Fin cfg0.W) : (dat V c).A w = V c (Pipeline.arrRef spec0 w) := by
  dsimp only [dat]

theorem Phi_castSucc (c : Dev nD) (t : Fin cfg0.N) : (dat V c).Φ t.castSucc = PhiS V c t.val (Nat.le_of_lt t.isLt) := by
  dsimp only [dat]; exact Pipeline.Dat.Φ_castSucc (PhiS V c) t

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = vblk V c t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]
theorem after_5 (c : Dev nD) (t : Fin cfg0.N) : (dat V c).after 5 t = (outsAt V c t.val t.isLt).2.1 := by dsimp only [dat]

/-- Each input's buffer holds its block when the body runs. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dat V c).before 2 t d = vblk V c t :=
  ((dat V c).before_in_eq_fetched 2 rfl (fun _ => rfl)
      (fun t t' h => funext fun a => congrArg (fun n => Pipeline.Clip.of n ((cfg0.win 2).size a) (S2x4160x12800.size a)) (congrFun h a))
      (fun t => by rw [after_2]; unfold vblk; rw [Pipeline.Window.cut_fill]; unfold Dat.blockOf iblk; rw [A_eq]) t d).trans
    (by unfold Dat.fetched vblk; rw [vfill t d filler]; unfold Dat.blockOf iblk; rw [A_eq])
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-! ## The body obligation -/

/-- What the body is called with at point `t`, the windows one by one. -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d)))

/-- What it returns. -/
def bodyPost (c : Dev nD) (t : Fin cfg0.N) : sProp 𝕄 :=
  iprop((dat V c).Φ t.succ ∗ (dat V c).owesAt () t.succ
    ∗ owns (c : Thread nD τ) (win0_0.stage (cfg0.slots t 0)) fullShare ((dat V c).after 0 t)
    ∗ owns (c : Thread nD τ) (win0_1.stage (cfg0.slots t 1)) fullShare ((dat V c).after 1 t)
    ∗ owns (c : Thread nD τ) (win0_2.stage (cfg0.slots t 2)) fullShare ((dat V c).after 2 t)
    ∗ owns (c : Thread nD τ) (win0_3.stage (cfg0.slots t 3)) fullShare ((dat V c).after 3 t)
    ∗ owns (c : Thread nD τ) (win0_4.stage (cfg0.slots t 4)) fullShare ((dat V c).after 4 t)
    ∗ owns (c : Thread nD τ) (win0_5.stage (cfg0.slots t 5)) fullShare ((dat V c).after 5 t))

/-- Before any point the invariant gives the carried state at some contents over which the point's step is `outsAt`. -/
theorem Phi_open (c : Dev nD) (t : Fin cfg0.N) :
    (dat V c).Φ t.castSucc ⊢ iprop((∃ xs, ⌜outsAt V c t.val t.isLt = step c t (iblk V c 0 t) (iblk V c 1 t) (vblk V c t) (iblk V c 3 t) xs⌝
      ∗ owns (c : Thread nD τ) scM fullShare xs) ∗ others c ∗ (∃ r, prngReg c r)) := by
  rw [Phi_castSucc]
  by_cases hz : t.val = 0
  · rw [PhiS_zero V c _ _ hz, PhiA_eq]
    iintro ⟨⟨⟨%d, HS⟩, HO⟩, Hg⟩
    isplitl [HS]
    · iexists d; isplitr
      · ipureintro; exact outsAt_zero V c t hz d
      iexact HS
    isplitl [HO]; · iexact HO
    iexact Hg
  · rw [PhiS_pos V c _ _ hz]
    iintro ⟨⟨HS, HO⟩, Hg⟩
    isplitl [HS]
    · iexists _; isplitr
      · ipureintro; exact outsAt_pos V c t hz
      iexact HS
    isplitl [HO]; · iexact HO
    iexact Hg

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp only [before_0, before_1, before_2, before_3]
  rw [show (dat V c).owesAt () t.succ = (dat V c).owesAt () t.castSucc from rfl, after_0, after_1, after_2, after_3, after_4, after_5,
    show (dat V c).Φ t.succ = PhiS V c (t.val + 1) t.isLt from rfl, PhiS_succ]
  iintro ⟨HP, Ho, ⟨%d0, H0⟩, ⟨%d1, H1⟩, ⟨%d2, H2⟩, ⟨%d3, H3⟩, ⟨%d4, H4⟩, ⟨%d5, H5⟩⟩
  ihave HP := (Phi_open V c t) $$ HP
  icases HP with ⟨⟨%xs, %hxs, HS⟩, HO, Hg⟩
  rw [hxs]
  iapply (step_triple c t (iblk V c 0 t) (iblk V c 1 t) (vblk V c t) (iblk V c 3 t) xs _)
  unfold ins
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [HS]; · iexact HS
  iintro ⟨⟨H0, H1, H2, H3⟩, H4, H5, HS⟩
  isplitl [HS HO Hg]
  · isplitl [HS HO]
    · isplitl [HS]; · iexact HS
      iexact HO
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the launch hands over is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After any point but the first the invariant gives that back, the state's contents forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HO⟩, Hg⟩
  isplitl [HS HO]
  · isplitl [HS]; · iexists _; iexact HS
    iexact HO
  iexact Hg

/-- The same after the last point. -/
theorem hout (c : Dev nD) : (dat V c).Φ (Fin.last cfg0.N) ⊢ Pipeline.ΦA spec0 c :=
  Phi_out V c _ (by rw [Fin.val_last]; have : cfg0.N = 130 := N_0; omega)

end Cert.Fwd

end
-- ==== Proof.BwdRun.lean ====
/- The backward retention body at one grid point: the triple of its run, in each of the three cases of its conditionals: the
   very first point (the carried cotangent of the state cleared, the logit gradient set), the first chunk of another batch row
   (the cotangent cleared, the logit gradient added to), and every other chunk (both carried on). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body clears the carried cotangent: the chunk coordinate is zero. -/
abbrev start (i : grid1.Coords) : Prop :=
  (Scalar.cmpi .ne (Scalar.extui (Scalar.cmpi .eq (BitVec.ofNat 32 (i 1).val) 0#32)) 0#32) = 1#1

/-- The cotangent is cleared at the first of the 65 chunks of each batch row. -/
theorem start_iff (t : Fin cfg1.N) : start (grid1.coords t) ↔ t.val % 65 = 0 := by
  have ht : t.val < 130 := Nat.lt_of_lt_of_eq t.isLt N_1
  have e1 : (grid1.coords t 1).val = t.val / 1 % 65 := Pipeline.Grid.coords_val t 1 (by decide) rfl
  simp only [start, e1]
  word_cmp

/-- The condition under which the logit gradient is set: the first point of the grid. -/
abbrev first (i : grid1.Coords) : Prop := k1_cond2 i = 1#1

/-- The logit gradient is set at point zero only. -/
theorem first_iff : ∀ t : Fin cfg1.N, first (grid1.coords t) ↔ t.val = 0 :=
  (by decide +kernel : ∀ t : Fin grid1.N, first (grid1.coords t) ↔ t.val = 0)

/-- The condition under which the logit gradient is added to: any later point. -/
abbrev later (i : grid1.Coords) : Prop := k1_cond3 i = 1#1

/-- The logit gradient is added to at every point but zero. -/
theorem later_iff : ∀ t : Fin cfg1.N, later (grid1.coords t) ↔ t.val ≠ 0 :=
  (by decide +kernel : ∀ t : Fin grid1.N, later (grid1.coords t) ↔ t.val ≠ 0)

variable (c : Dev nD) (i : grid1.Coords)
  (q : Memref sig .tc .vmem S1x64x1024 .f32) (hq : q.IsWhole) (k : Memref sig .tc .vmem S1x64x1024 .f32) (hk : k.IsWhole)
  (v : Memref sig .tc .vmem S1x64x2048 .f32) (hv : v.IsWhole) (lg : Memref sig .tc .vmem S1x128 .f32) (hlg : lg.IsWhole)
  (st : Memref sig .tc .vmem S1x1x4x256x512 .bf16) (hst : st.IsWhole) (dO : Memref sig .tc .vmem S1x64x2048 .f32) (hdo : dO.IsWhole)
  (dqk : Memref sig .tc .vmem S1x64x2048 .f32) (hdqk : dqk.IsWhole) (dv : Memref sig .tc .vmem S1x64x2048 .f32) (hdv : dv.IsWhole)
  (dlg : Memref sig .tc .vmem S1x128 .f32) (hdlg : dlg.IsWhole) (r : Memref sig .tc .vmem S4x256x512 .f32) (hr : r.IsWhole)
  (x0 : Vec F S1x64x1024 .f32) (x1 : Vec F S1x64x1024 .f32) (x2 : Vec F S1x64x2048 .f32) (x3 : Vec F S1x128 .f32)
  (x4 : Vec F S1x1x4x256x512 .bf16) (x5 : Vec F S1x64x2048 .f32) (xg : Vec F S1x128 .f32) (xs : Vec F S4x256x512 .f32)

/-- The six input buffers, each held whole at its block. -/
def ins : sProp 𝕄 :=
  iprop(owns (c : Thread nD τ) q fullShare x0 ∗ owns (c : Thread nD τ) k fullShare x1 ∗ owns (c : Thread nD τ) v fullShare x2
    ∗ owns (c : Thread nD τ) lg fullShare x3 ∗ owns (c : Thread nD τ) st fullShare x4 ∗ owns (c : Thread nD τ) dO fullShare x5)

/-- The body started with the logit gradient's buffer satisfying `G` and the carried cotangent's `R`: from the inputs and any
    contents of the other two output buffers, it runs to the inputs unchanged and the listed stores made into the outputs and
    the cotangent. -/
def Runs (G R : sProp 𝕄) (L6 L7 : List (View.Piece (Elt F) S1x64x2048 .f32)) (L8 : List (View.Piece (Elt F) S1x128 .f32))
    (LS : List (View.Piece (Elt F) S4x256x512 .f32)) : Prop :=
  ∀ K : PUnit → sProp 𝕄,
    iprop(ins c q k v lg st dO x0 x1 x2 x3 x4 x5 ∗ (∃ d, owns (c : Thread nD τ) dqk fullShare d) ∗ (∃ d, owns (c : Thread nD τ) dv fullShare d) ∗ G ∗ R
      ∗ (iprop(ins c q k v lg st dO x0 x1 x2 x3 x4 x5
          ∗ (∃ f, dqk.view.loc (c : Thread nD τ) ↦[dqk.view.set]{fullShare} dqk.view.writes (Elt F) f L6)
          ∗ (∃ f, dv.view.loc (c : Thread nD τ) ↦[dv.view.set]{fullShare} dv.view.writes (Elt F) f L7)
          ∗ (∃ f, dlg.view.loc (c : Thread nD τ) ↦[dlg.view.set]{fullShare} dlg.view.writes (Elt F) f L8)
          ∗ (∃ f, r.view.loc (c : Thread nD τ) ↦[r.view.set]{fullShare} r.view.writes (Elt F) f LS)) -∗ K ⟨⟩))
    ⊢ wp frame (wpE (defs₀ (F := F)) Variants.none c none) Set.univ
        (cc1_ret_b1 i q hq k hk v hv lg hlg st hst dO hdo dqk hdqk dv hdv dlg hdlg r hr) K

set_option maxHeartbeats 4000000 in
/-- The run at the first point: the stores it makes, with its triple. -/
def runFirst (hc0 : start i) (hc1 : first i) (hc2 : ¬later i) :
    Σ' (L6 : List (View.Piece (Elt F) S1x64x2048 .f32)) (L7 : List (View.Piece (Elt F) S1x64x2048 .f32)) (L8 : List (View.Piece (Elt F) S1x128 .f32)),
      { LS : List (View.Piece (Elt F) S4x256x512 .f32) //
        Runs c i q hq k hk v hv lg hlg st hst dO hdo dqk hdqk dv hdv dlg hdlg r hr x0 x1 x2 x3 x4 x5
          iprop(∃ d, owns (c : Thread nD τ) dlg fullShare d) iprop(∃ d, owns (c : Thread nD τ) r fullShare d) L6 L7 L8 LS } := by
  refine ⟨?_, ?_, ?_, ?_, ?run⟩
  case run =>
    intro K
    unfold ins
    simp only [cc1_ret_b1_eq_skeleton]; unfold cc1_ret_b1_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%ds, %fs, -, HS⟩, Hk⟩
    obtain rfl := hq.eq_unread hf0; obtain rfl := hk.eq_unread hf1; obtain rfl := hv.eq_unread hf2; obtain rfl := hlg.eq_unread hf3
    obtain rfl := hst.eq_unread hf4; obtain rfl := hdo.eq_unread hf5
    sl_exec (disch := first | sl_exact hc0 | sl_exact hc1 | sl_exact hc2)
    sl_step
    iapply Hk
    isplitl [H0 H1 H2 H3 H4 H5]
    · isplitl [H0]
      · iexists _; isplitr; · ipureintro; exact hq.read_unread _
        iexact H0
      isplitl [H1]
      · iexists _; isplitr; · ipureintro; exact hk.read_unread _
        iexact H1
      isplitl [H2]
      · iexists _; isplitr; · ipureintro; exact hv.read_unread _
        iexact H2
      isplitl [H3]
      · iexists _; isplitr; · ipureintro; exact hlg.read_unread _
        iexact H3
      isplitl [H4]
      · iexists _; isplitr; · ipureintro; exact hst.read_unread _
        iexact H4
      iexists _; isplitr; · ipureintro; exact hdo.read_unread _
      iexact H5
    isplitl [H6]; · iexists _; iexact H6
    isplitl [H7]; · iexists _; iexact H7
    isplitl [H8]; · iexists _; iexact H8
    iexists _; iexact HS

set_option maxHeartbeats 4000000 in
/-- The run at the first chunk of a later batch row, over the logit gradient `xg` so far. -/
def runStart (hc0 : start i) (hc1 : ¬first i) (hc2 : later i) :
    Σ' (L6 : List (View.Piece (Elt F) S1x64x2048 .f32)) (L7 : List (View.Piece (Elt F) S1x64x2048 .f32)) (L8 : List (View.Piece (Elt F) S1x128 .f32)),
      { LS : List (View.Piece (Elt F) S4x256x512 .f32) //
        Runs c i q hq k hk v hv lg hlg st hst dO hdo dqk hdqk dv hdv dlg hdlg r hr x0 x1 x2 x3 x4 x5
          iprop(owns (c : Thread nD τ) dlg fullShare xg) iprop(∃ d, owns (c : Thread nD τ) r fullShare d) L6 L7 L8 LS } := by
  refine ⟨?_, ?_, ?_, ?_, ?run⟩
  case run =>
    intro K
    unfold ins
    simp only [cc1_ret_b1_eq_skeleton]; unfold cc1_ret_b1_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%f8, %hf8, H8⟩, ⟨%ds, %fs, -, HS⟩, Hk⟩
    obtain rfl := hq.eq_unread hf0; obtain rfl := hk.eq_unread hf1; obtain rfl := hv.eq_unread hf2; obtain rfl := hlg.eq_unread hf3
    obtain rfl := hst.eq_unread hf4; obtain rfl := hdo.eq_unread hf5
    obtain rfl := hdlg.eq_unread hf8
    sl_exec (disch := first | sl_exact hc0 | sl_exact hc1 | sl_exact hc2)
    sl_step
    iapply Hk
    isplitl [H0 H1 H2 H3 H4 H5]
    · isplitl [H0]
      · iexists _; isplitr; · ipureintro; exact hq.read_unread _
        iexact H0
      isplitl [H1]
      · iexists _; isplitr; · ipureintro; exact hk.read_unread _
        iexact H1
      isplitl [H2]
      · iexists _; isplitr; · ipureintro; exact hv.read_unread _
        iexact H2
      isplitl [H3]
      · iexists _; isplitr; · ipureintro; exact hlg.read_unread _
        iexact H3
      isplitl [H4]
      · iexists _; isplitr; · ipureintro; exact hst.read_unread _
        iexact H4
      iexists _; isplitr; · ipureintro; exact hdo.read_unread _
      iexact H5
    isplitl [H6]; · iexists _; iexact H6
    isplitl [H7]; · iexists _; iexact H7
    isplitl [H8]; · iexists _; iexact H8
    iexists _; iexact HS

set_option maxHeartbeats 4000000 in
/-- The run at any other chunk, over the logit gradient `xg` so far and the cotangent `xs` the chunk before left. -/
def runNext (hc0 : ¬start i) (hc1 : ¬first i) (hc2 : later i) :
    Σ' (L6 : List (View.Piece (Elt F) S1x64x2048 .f32)) (L7 : List (View.Piece (Elt F) S1x64x2048 .f32)) (L8 : List (View.Piece (Elt F) S1x128 .f32)),
      { LS : List (View.Piece (Elt F) S4x256x512 .f32) //
        Runs c i q hq k hk v hv lg hlg st hst dO hdo dqk hdqk dv hdv dlg hdlg r hr x0 x1 x2 x3 x4 x5
          iprop(owns (c : Thread nD τ) dlg fullShare xg) iprop(owns (c : Thread nD τ) r fullShare xs) L6 L7 L8 LS } := by
  refine ⟨?_, ?_, ?_, ?_, ?run⟩
  case run =>
    intro K
    unfold ins
    simp only [cc1_ret_b1_eq_skeleton]; unfold cc1_ret_b1_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%f8, %hf8, H8⟩, ⟨%fs, %hfs, HS⟩, Hk⟩
    obtain rfl := hq.eq_unread hf0; obtain rfl := hk.eq_unread hf1; obtain rfl := hv.eq_unread hf2; obtain rfl := hlg.eq_unread hf3
    obtain rfl := hst.eq_unread hf4; obtain rfl := hdo.eq_unread hf5
    obtain rfl := hdlg.eq_unread hf8; obtain rfl := hr.eq_unread hfs
    sl_exec (disch := first | sl_exact hc0 | sl_exact hc1 | sl_exact hc2)
    sl_step
    iapply Hk
    isplitl [H0 H1 H2 H3 H4 H5]
    · isplitl [H0]
      · iexists _; isplitr; · ipureintro; exact hq.read_unread _
        iexact H0
      isplitl [H1]
      · iexists _; isplitr; · ipureintro; exact hk.read_unread _
        iexact H1
      isplitl [H2]
      · iexists _; isplitr; · ipureintro; exact hv.read_unread _
        iexact H2
      isplitl [H3]
      · iexists _; isplitr; · ipureintro; exact hlg.read_unread _
        iexact H3
      isplitl [H4]
      · iexists _; isplitr; · ipureintro; exact hst.read_unread _
        iexact H4
      iexists _; isplitr; · ipureintro; exact hdo.read_unread _
      iexact H5
    isplitl [H6]; · iexists _; iexact H6
    isplitl [H7]; · iexists _; iexact H7
    isplitl [H8]; · iexists _; iexact H8
    iexists _; iexact HS

end Cert.Bwd

end
-- ==== Proof.Bwd.lean ====
/- The backward retention region: what its outputs and its carried cotangent hold after each grid point, the region's proof
   data over any contents the region may find, and the body obligation. -/
module

public import proofs.«01_k».proof.Proof.BwdRun
public import Idealize.ShloMosaic.Lib.Pipeline.TableIdle

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The carried cotangent as a whole memref, and the views the stored contents are stated through. -/
abbrev scM : Memref sig .tc .vmem S4x256x512 .f32 := Memref.whole cc1_scratch0
abbrev VQ : View sig .tc .vmem S1x64x2048 .f32 := (Memref.whole cc1_stg6_0 : Memref sig .tc .vmem S1x64x2048 .f32).view
abbrev VV : View sig .tc .vmem S1x64x2048 .f32 := (Memref.whole cc1_stg7_0 : Memref sig .tc .vmem S1x64x2048 .f32).view
abbrev VG : View sig .tc .vmem S1x128 .f32 := (Memref.whole cc1_stg8_0 : Memref sig .tc .vmem S1x128 .f32).view
abbrev VS : View sig .tc .vmem S4x256x512 .f32 := (scM : Memref sig .tc .vmem S4x256x512 .f32).view

/-- What one point leaves: the query-and-key gradient block, the value gradient block, the logit gradient so far, the carried
    cotangent. -/
abbrev Outs (F : FTy → Type) : Type :=
  Vec F S1x64x2048 .f32 × Vec F S1x64x2048 .f32 × Vec F S1x128 .f32 × Vec F S4x256x512 .f32

/-- The listed stores read back. -/
def readBack (L6 L7 : List (View.Piece (Elt F) S1x64x2048 .f32)) (L8 : List (View.Piece (Elt F) S1x128 .f32))
    (LS : List (View.Piece (Elt F) S4x256x512 .f32)) : Outs F :=
  (VQ.read (Elt F) (VQ.writes (Elt F) VQ.junk L6), VV.read (Elt F) (VV.writes (Elt F) VV.junk L7),
    VG.read (Elt F) (VG.writes (Elt F) VG.junk L8), VS.read (Elt F) (VS.writes (Elt F) VS.junk LS))

/-- The listed stores cover the four buffers. -/
def Covers (L6 L7 : List (View.Piece (Elt F) S1x64x2048 .f32)) (L8 : List (View.Piece (Elt F) S1x128 .f32))
    (LS : List (View.Piece (Elt F) S4x256x512 .f32)) : Prop :=
  (∀ y, ∃ pc ∈ L6, y ∈ pc.1.set) ∧ (∀ y, ∃ pc ∈ L7, y ∈ pc.1.set) ∧ (∀ y, ∃ pc ∈ L8, y ∈ pc.1.set) ∧ (∀ y, ∃ pc ∈ LS, y ∈ pc.1.set)

section Cover
variable (c : Dev nD) (i : grid1.Coords)
  (q : Memref sig .tc .vmem S1x64x1024 .f32) (hq : q.IsWhole) (k : Memref sig .tc .vmem S1x64x1024 .f32) (hk : k.IsWhole)
  (v : Memref sig .tc .vmem S1x64x2048 .f32) (hv : v.IsWhole) (lg : Memref sig .tc .vmem S1x128 .f32) (hlg : lg.IsWhole)
  (st : Memref sig .tc .vmem S1x1x4x256x512 .bf16) (hst : st.IsWhole) (dO : Memref sig .tc .vmem S1x64x2048 .f32) (hdo : dO.IsWhole)
  (dqk : Memref sig .tc .vmem S1x64x2048 .f32) (hdqk : dqk.IsWhole) (dv : Memref sig .tc .vmem S1x64x2048 .f32) (hdv : dv.IsWhole)
  (dlg : Memref sig .tc .vmem S1x128 .f32) (hdlg : dlg.IsWhole) (r : Memref sig .tc .vmem S4x256x512 .f32) (hr : r.IsWhole)
  (x0 : Vec F S1x64x1024 .f32) (x1 : Vec F S1x64x1024 .f32) (x2 : Vec F S1x64x2048 .f32) (x3 : Vec F S1x128 .f32)
  (x4 : Vec F S1x1x4x256x512 .bf16) (x5 : Vec F S1x64x2048 .f32) (xg : Vec F S1x128 .f32) (xs : Vec F S4x256x512 .f32)

/-- The first point's stores cover the four buffers. -/
theorem coversFirst (hc0 : start i) (hc1 : first i) (hc2 : ¬later i) :
    Covers (runFirst c i q hq k hk v hv lg hlg st hst dO hdo dqk hdqk dv hdv dlg hdlg r hr x0 x1 x2 x3 x4 x5 hc0 hc1 hc2).1 (runFirst c i q hq k hk v hv lg hlg st hst dO hdo dqk hdqk dv hdv dlg hdlg r hr x0 x1 x2 x3 x4 x5 hc0 hc1 hc2).2.1 (runFirst c i q hq k hk v hv lg hlg st hst dO hdo dqk hdqk dv hdv dlg hdlg r hr x0 x1 x2 x3 x4 x5 hc0 hc1 hc2).2.2.1 (runFirst c i q hq k hk v hv lg hlg st hst dO hdo dqk hdqk dv hdv dlg hdlg r hr x0 x1 x2 x3 x4 x5 hc0 hc1 hc2).2.2.2.1 :=
  ⟨View.cover_of_tiledL (runFirst c i q hq k hk v hv lg hlg st hst dO hdo dqk hdqk dv hdv dlg hdlg r hr x0 x1 x2 x3 x4 x5 hc0 hc1 hc2).1 S1x64x256.size (by sl_kernel_rfl), View.cover_of_tiledL (runFirst c i q hq k hk v hv lg hlg st hst dO hdo dqk hdqk dv hdv dlg hdlg r hr x0 x1 x2 x3 x4 x5 hc0 hc1 hc2).2.1 S1x64x512.size (by sl_kernel_rfl),
   View.cover_of_wholeMem (runFirst c i q hq k hk v hv lg hlg st hst dO hdo dqk hdqk dv hdv dlg hdlg r hr x0 x1 x2 x3 x4 x5 hc0 hc1 hc2).2.2.1 (by sl_whole_mem), View.cover_of_wholeMem (runFirst c i q hq k hk v hv lg hlg st hst dO hdo dqk hdqk dv hdv dlg hdlg r hr x0 x1 x2 x3 x4 x5 hc0 hc1 hc2).2.2.2.1 (by sl_whole_mem)⟩

/-- A later batch row's first stores cover them. -/
theorem coversStart (hc0 : start i) (hc1 : ¬first i) (hc2 : later i) :
    Covers (runStart c i q hq k hk v hv lg hlg st hst dO hdo dqk hdqk dv hdv dlg hdlg r hr x0 x1 x2 x3 x4 x5 xg hc0 hc1 hc2).1 (runStart c i q hq k hk v hv lg hlg st hst dO hdo dqk hdqk dv hdv dlg hdlg r hr x0 x1 x2 x3 x4 x5 xg hc0 hc1 hc2).2.1 (runStart c i q hq k hk v hv lg hlg st hst dO hdo dqk hdqk dv hdv dlg hdlg r hr x0 x1 x2 x3 x4 x5 xg hc0 hc1 hc2).2.2.1 (runStart c i q hq k hk v hv lg hlg st hst dO hdo dqk hdqk dv hdv dlg hdlg r hr x0 x1 x2 x3 x4 x5 xg hc0 hc1 hc2).2.2.2.1 :=
  ⟨View.cover_of_tiledL (runStart c i q hq k hk v hv lg hlg st hst dO hdo dqk hdqk dv hdv dlg hdlg r hr x0 x1 x2 x3 x4 x5 xg hc0 hc1 hc2).1 S1x64x256.size (by sl_kernel_rfl), View.cover_of_tiledL (runStart c i q hq k hk v hv lg hlg st hst dO hdo dqk hdqk dv hdv dlg hdlg r hr x0 x1 x2 x3 x4 x5 xg hc0 hc1 hc2).2.1 S1x64x512.size (by sl_kernel_rfl),
   View.cover_of_wholeMem (runStart c i q hq k hk v hv lg hlg st hst dO hdo dqk hdqk dv hdv dlg hdlg r hr x0 x1 x2 x3 x4 x5 xg hc0 hc1 hc2).2.2.1 (by sl_whole_mem), View.cover_of_wholeMem (runStart c i q hq k hk v hv lg hlg st hst dO hdo dqk hdqk dv hdv dlg hdlg r hr x0 x1 x2 x3 x4 x5 xg hc0 hc1 hc2).2.2.2.1 (by sl_whole_mem)⟩

/-- Any other chunk's stores cover them. -/
theorem coversNext (hc0 : ¬start i) (hc1 : ¬first i) (hc2 : later i) :
    Covers (runNext c i q hq k hk v hv lg hlg st hst dO hdo dqk hdqk dv hdv dlg hdlg r hr x0 x1 x2 x3 x4 x5 xg xs hc0 hc1 hc2).1 (runNext c i q hq k hk v hv lg hlg st hst dO hdo dqk hdqk dv hdv dlg hdlg r hr x0 x1 x2 x3 x4 x5 xg xs hc0 hc1 hc2).2.1 (runNext c i q hq k hk v hv lg hlg st hst dO hdo dqk hdqk dv hdv dlg hdlg r hr x0 x1 x2 x3 x4 x5 xg xs hc0 hc1 hc2).2.2.1 (runNext c i q hq k hk v hv lg hlg st hst dO hdo dqk hdqk dv hdv dlg hdlg r hr x0 x1 x2 x3 x4 x5 xg xs hc0 hc1 hc2).2.2.2.1 :=
  ⟨View.cover_of_tiledL (runNext c i q hq k hk v hv lg hlg st hst dO hdo dqk hdqk dv hdv dlg hdlg r hr x0 x1 x2 x3 x4 x5 xg xs hc0 hc1 hc2).1 S1x64x256.size (by sl_kernel_rfl), View.cover_of_tiledL (runNext c i q hq k hk v hv lg hlg st hst dO hdo dqk hdqk dv hdv dlg hdlg r hr x0 x1 x2 x3 x4 x5 xg xs hc0 hc1 hc2).2.1 S1x64x512.size (by sl_kernel_rfl),
   View.cover_of_wholeMem (runNext c i q hq k hk v hv lg hlg st hst dO hdo dqk hdqk dv hdv dlg hdlg r hr x0 x1 x2 x3 x4 x5 xg xs hc0 hc1 hc2).2.2.1 (by sl_whole_mem), View.cover_of_tiledL (runNext c i q hq k hk v hv lg hlg st hst dO hdo dqk hdqk dv hdv dlg hdlg r hr x0 x1 x2 x3 x4 x5 xg xs hc0 hc1 hc2).2.2.2.1 S1x256x512.size (by sl_kernel_rfl)⟩

/-- A run whose stores cover the buffers leaves them at those stores read back, whatever they held. -/
theorem runs_readBack {G R : sProp 𝕄} {L6 L7 L8 LS}
    (h : Runs c i q hq k hk v hv lg hlg st hst dO hdo dqk hdqk dv hdv dlg hdlg r hr x0 x1 x2 x3 x4 x5 G R L6 L7 L8 LS) (hcov : Covers L6 L7 L8 LS) (K : PUnit → sProp 𝕄) :
    iprop(ins c q k v lg st dO x0 x1 x2 x3 x4 x5 ∗ (∃ d, owns (c : Thread nD τ) dqk fullShare d) ∗ (∃ d, owns (c : Thread nD τ) dv fullShare d) ∗ G ∗ R
      ∗ (iprop(ins c q k v lg st dO x0 x1 x2 x3 x4 x5
          ∗ owns (c : Thread nD τ) dqk fullShare (readBack L6 L7 L8 LS).1
          ∗ owns (c : Thread nD τ) dv fullShare (readBack L6 L7 L8 LS).2.1
          ∗ owns (c : Thread nD τ) dlg fullShare (readBack L6 L7 L8 LS).2.2.1
          ∗ owns (c : Thread nD τ) r fullShare (readBack L6 L7 L8 LS).2.2.2) -∗ K ⟨⟩))
    ⊢ wp frame (wpE (defs₀ (F := F)) Variants.none c none) Set.univ (cc1_ret_b1 i q hq k hk v hv lg hlg st hst dO hdo dqk hdqk dv hdv dlg hdlg r hr) K := by
  unfold readBack; dsimp only
  iintro ⟨HI, HQ, HV, HG, HR, Hk⟩
  iapply (h K)
  isplitl [HI]; · iexact HI
  isplitl [HQ]; · iexact HQ
  isplitl [HV]; · iexact HV
  isplitl [HG]; · iexact HG
  isplitl [HR]; · iexact HR
  iintro ⟨HI, ⟨%e6, H6⟩, ⟨%e7, H7⟩, ⟨%e8, H8⟩, ⟨%es, HS⟩⟩
  iapply Hk
  isplitl [HI]; · iexact HI
  isplitl [H6]
  · unfold owns; iexists _; isplitr
    swap; · iexact H6
    ipureintro; exact View.read_writes_of_cover _ _ _ _ _ hcov.1
  isplitl [H7]
  · unfold owns; iexists _; isplitr
    swap; · iexact H7
    ipureintro; exact View.read_writes_of_cover _ _ _ _ _ hcov.2.1
  isplitl [H8]
  · unfold owns; iexists _; isplitr
    swap; · iexact H8
    ipureintro; exact View.read_writes_of_cover _ _ _ _ _ hcov.2.2.1
  unfold owns; iexists _; isplitr
  swap; · iexact HS
  ipureintro; exact View.read_writes_of_cover _ _ _ _ _ hcov.2.2.2
end Cover

/-- A batch row's first point other than the grid's first adds to the logit gradient. -/
theorem not_first (t : Fin cfg1.N) (h : t.val ≠ 0) : ¬first (grid1.coords t) := fun e => h ((first_iff t).mp e)
theorem is_later (t : Fin cfg1.N) (h : t.val ≠ 0) : later (grid1.coords t) := (later_iff t).mpr h

/-- What the body leaves at point `t`, from the point's blocks, the logit gradient `xg` and the cotangent `xs` it finds. -/
def step (c : Dev nD) (t : Fin cfg1.N) (x0 : Vec F S1x64x1024 .f32) (x1 : Vec F S1x64x1024 .f32) (x2 : Vec F S1x64x2048 .f32) (x3 : Vec F S1x128 .f32) (x4 : Vec F S1x1x4x256x512 .bf16) (x5 : Vec F S1x64x2048 .f32)
    (xg : Vec F S1x128 .f32) (xs : Vec F S4x256x512 .f32) : Outs F :=
  if h0 : t.val = 0 then
    let R := runFirst c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 ((start_iff t).mpr (by rw [h0])) ((first_iff t).mpr h0) (fun e => (later_iff t).mp e h0)
    readBack R.1 R.2.1 R.2.2.1 R.2.2.2.1
  else if h : t.val % 65 = 0 then
    let R := runStart c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 xg ((start_iff t).mpr h) (not_first t h0) (is_later t h0)
    readBack R.1 R.2.1 R.2.2.1 R.2.2.2.1
  else
    let R := runNext c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 xg xs (fun e => h ((start_iff t).mp e)) (not_first t h0) (is_later t h0)
    readBack R.1 R.2.1 R.2.2.1 R.2.2.2.1

/-- At the first point neither the logit gradient nor the cotangent found matters. -/
theorem step_first (c : Dev nD) (t : Fin cfg1.N) (h : t.val = 0) (x0 : Vec F S1x64x1024 .f32) (x1 : Vec F S1x64x1024 .f32) (x2 : Vec F S1x64x2048 .f32) (x3 : Vec F S1x128 .f32) (x4 : Vec F S1x1x4x256x512 .bf16) (x5 : Vec F S1x64x2048 .f32)
    (xg xg' : Vec F S1x128 .f32) (xs xs' : Vec F S4x256x512 .f32) :
    step c t x0 x1 x2 x3 x4 x5 xg xs = step c t x0 x1 x2 x3 x4 x5 xg' xs' := by
  unfold step; rw [dif_pos h, dif_pos h]

set_option maxHeartbeats 3200000 in
/-- The body at any point, from the point's blocks and any contents of the logit gradient and the cotangent, leaves `step`. -/
theorem step_triple (c : Dev nD) (t : Fin cfg1.N) (x0 : Vec F S1x64x1024 .f32) (x1 : Vec F S1x64x1024 .f32) (x2 : Vec F S1x64x2048 .f32) (x3 : Vec F S1x128 .f32) (x4 : Vec F S1x1x4x256x512 .bf16) (x5 : Vec F S1x64x2048 .f32)
    (xg : Vec F S1x128 .f32) (xs : Vec F S4x256x512 .f32) (K : PUnit → sProp 𝕄) :
    iprop(ins c (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) x0 x1 x2 x3 x4 x5
      ∗ (∃ d, owns (c : Thread nD τ) (win1_6.stage (cfg1.slots t 6)) fullShare d) ∗ (∃ d, owns (c : Thread nD τ) (win1_7.stage (cfg1.slots t 7)) fullShare d)
      ∗ owns (c : Thread nD τ) (win1_8.stage (cfg1.slots t 8)) fullShare xg ∗ owns (c : Thread nD τ) scM fullShare xs
      ∗ (iprop(ins c (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) x0 x1 x2 x3 x4 x5
          ∗ owns (c : Thread nD τ) (win1_6.stage (cfg1.slots t 6)) fullShare (step c t x0 x1 x2 x3 x4 x5 xg xs).1
          ∗ owns (c : Thread nD τ) (win1_7.stage (cfg1.slots t 7)) fullShare (step c t x0 x1 x2 x3 x4 x5 xg xs).2.1
          ∗ owns (c : Thread nD τ) (win1_8.stage (cfg1.slots t 8)) fullShare (step c t x0 x1 x2 x3 x4 x5 xg xs).2.2.1
          ∗ owns (c : Thread nD τ) scM fullShare (step c t x0 x1 x2 x3 x4 x5 xg xs).2.2.2) -∗ K ⟨⟩))
    ⊢ wp frame (wpE (defs₀ (F := F)) Variants.none c none) Set.univ (bodyAt1 t) K := by
  unfold step bodyAt1
  by_cases h0 : t.val = 0
  · rw [dif_pos h0]
    iintro ⟨HI, HQ, HV, HG, HR, Hk⟩
    iapply (runs_readBack c (grid1.coords t) _ _ _ _ _ _ _ _ _ _ _ _ _ _ _ _ _ _ scM (Memref.isWhole_whole _) x0 x1 x2 x3 x4 x5
      (runFirst c (grid1.coords t) _ _ _ _ _ _ _ _ _ _ _ _ _ _ _ _ _ _ scM (Memref.isWhole_whole _) x0 x1 x2 x3 x4 x5 ((start_iff t).mpr (by rw [h0])) ((first_iff t).mpr h0) (fun e => (later_iff t).mp e h0)).2.2.2.2 (coversFirst _ _ _ _ _ _ _ _ _ _ _ _ _ _ _ _ _ _ _ _ _ _ _ _ _ _ _ _ _ _ _) K)
    isplitl [HI]; · iexact HI
    isplitl [HQ]; · iexact HQ
    isplitl [HV]; · iexact HV
    isplitl [HG]; · iexists _; iexact HG
    isplitl [HR]; · iexists _; iexact HR
    iexact Hk
  · rw [dif_neg h0]
    by_cases h : t.val % 65 = 0
    · rw [dif_pos h]
      iintro ⟨HI, HQ, HV, HG, HR, Hk⟩
      iapply (runs_readBack c (grid1.coords t) _ _ _ _ _ _ _ _ _ _ _ _ _ _ _ _ _ _ scM (Memref.isWhole_whole _) x0 x1 x2 x3 x4 x5
        (runStart c (grid1.coords t) _ _ _ _ _ _ _ _ _ _ _ _ _ _ _ _ _ _ scM (Memref.isWhole_whole _) x0 x1 x2 x3 x4 x5 xg ((start_iff t).mpr h) (not_first t h0) (is_later t h0)).2.2.2.2 (coversStart _ _ _ _ _ _ _ _ _ _ _ _ _ _ _ _ _ _ _ _ _ _ _ _ _ _ _ _ _ _ _ _) K)
      isplitl [HI]; · iexact HI
      isplitl [HQ]; · iexact HQ
      isplitl [HV]; · iexact HV
      isplitl [HG]; · iexact HG
      isplitl [HR]; · iexists _; iexact HR
      iexact Hk
    · rw [dif_neg h]
      exact runs_readBack c (grid1.coords t) _ _ _ _ _ _ _ _ _ _ _ _ _ _ _ _ _ _ scM (Memref.isWhole_whole _) x0 x1 x2 x3 x4 x5
        (runNext c (grid1.coords t) _ _ _ _ _ _ _ _ _ _ _ _ _ _ _ _ _ _ scM (Memref.isWhole_whole _) x0 x1 x2 x3 x4 x5 xg xs (fun e => h ((start_iff t).mp e)) (not_first t h0) (is_later t h0)).2.2.2.2 (coversNext _ _ _ _ _ _ _ _ _ _ _ _ _ _ _ _ _ _ _ _ _ _ _ _ _ _ _ _ _ _ _ _ _) K

/-! ## The region over contents `V` of the core's buffers -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A filler for the part of a fetched block that lies outside its array; no block reached is cut, so nothing reads it. -/
def filler : (cfg1.win 2).block.Idx → Elt F (cfg1.win 2).elt := fun _ => Classical.choice inferInstance
/-- The value block at point `t` as its staging buffer holds it. -/
def vblk (c : Dev nD) (t : Fin cfg1.N) : (cfg1.win 2).block.Idx → Elt F (cfg1.win 2).elt :=
  (cfg1.win 2).fill (cfg1.grid.coords t) filler (iblk V c 2 t)
/-- No value block is cut. -/
theorem vsize : ∀ t : Fin cfg1.N, ∀ a, (cfg1.win 2).xsize (cfg1.grid.coords t) a = (cfg1.win 2).size a := by decide +kernel
/-- Every index of a value block is moved by its transfer. -/
theorem vmoved (t : Fin cfg1.N) (j : (cfg1.win 2).block.Idx) : (cfg1.win 2).moved (cfg1.grid.coords t) j = true :=
  ((cfg1.win 2).moved_iff _ j).mpr fun a => by rw [vsize t a]; exact (j a).isLt
/-- Filling a value block does not depend on what the buffer held. -/
theorem vfill (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (vmoved t j), dif_pos (vmoved t j)]

/-- What the outputs and the carried cotangent hold after point `n`: the point's step over what the point before left (what
    the first point finds is never read). -/
def outsAt (c : Dev nD) : (n : ℕ) → n < cfg1.N → Outs F
  | 0, hn => step c ⟨0, hn⟩ (iblk V c 0 ⟨0, hn⟩) (iblk V c 1 ⟨0, hn⟩) (vblk V c ⟨0, hn⟩) (iblk V c 3 ⟨0, hn⟩) (iblk V c 4 ⟨0, hn⟩) (iblk V c 5 ⟨0, hn⟩) (VG.read (Elt F) VG.junk) (VS.read (Elt F) VS.junk)
  | n + 1, hn => step c ⟨n + 1, hn⟩ (iblk V c 0 ⟨n + 1, hn⟩) (iblk V c 1 ⟨n + 1, hn⟩) (vblk V c ⟨n + 1, hn⟩) (iblk V c 3 ⟨n + 1, hn⟩) (iblk V c 4 ⟨n + 1, hn⟩) (iblk V c 5 ⟨n + 1, hn⟩)
      (outsAt c n (Nat.lt_of_succ_lt hn)).2.2.1 (outsAt c n (Nat.lt_of_succ_lt hn)).2.2.2

/-- At the first point the step may be taken from anything. -/
theorem outsAt_zero (c : Dev nD) (t : Fin cfg1.N) (h : t.val = 0) (xg : Vec F S1x128 .f32) (xs : Vec F S4x256x512 .f32) :
    outsAt V c t.val t.isLt = step c t (iblk V c 0 t) (iblk V c 1 t) (vblk V c t) (iblk V c 3 t) (iblk V c 4 t) (iblk V c 5 t) xg xs := by
  obtain ⟨n, hn⟩ := t
  cases n with
  | zero => exact step_first c ⟨0, hn⟩ rfl _ _ _ _ _ _ _ _ _ _
  | succ n => exact absurd h (Nat.succ_ne_zero n)

/-- At a later point it is taken from what the point before left. -/
theorem outsAt_pos (c : Dev nD) (t : Fin cfg1.N) (h : t.val ≠ 0) :
    outsAt V c t.val t.isLt = step c t (iblk V c 0 t) (iblk V c 1 t) (vblk V c t) (iblk V c 3 t) (iblk V c 4 t) (iblk V c 5 t)
      (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact absurd rfl h
  | succ n => rfl

/-- What the region holds beside its windows: the other region's buffers, which it leaves alone, the carried cotangent as `S`
    says, the generator. -/
def rest (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ S) ∗ (∃ r, prngReg c r))

/-- The same without the cotangent. -/
def others (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)) ∗ (∃ r, prngReg c r))

/-- The cotangent taken out, and put back. -/
theorem rest_open (c : Dev nD) (S : sProp 𝕄) : rest c S ⊢ iprop(S ∗ others (F := F) c) := by
  unfold rest others
  iintro ⟨⟨A0, A1, A2, A3, A4, A5, A6, A7, A8, A9, A10, A11, HS⟩, Hg⟩
  isplitl [HS]; · iexact HS
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11
theorem rest_close (c : Dev nD) (S : sProp 𝕄) : iprop(S ∗ others (F := F) c) ⊢ rest c S := by
  unfold rest others
  iintro ⟨HS, ⟨A0, A1, A2, A3, A4, A5, A6, A7, A8, A9, A10, A11⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iexact HS

/-- What a launch hands the region beside its windows: the cotangent at anything. -/
theorem PhiA_eq (c : Dev nD) :
    (Pipeline.ΦA spec1 c : sProp 𝕄) = rest c iprop(∃ d, owns (c : Thread nD τ) scM fullShare d) := by
  unfold Pipeline.ΦA rest; rw [scopedRest1_eq]; simp only [scM, owns_whole]; rfl

/-- The invariant before point `n`: at the start what the launch hands over; later the cotangent at what the point before left. -/
def PhiS (c : Dev nD) : (n : ℕ) → n ≤ cfg1.N → sProp 𝕄
  | 0, _ => Pipeline.ΦA spec1 c
  | n + 1, hn => rest c (owns (c : Thread nD τ) scM fullShare (outsAt V c n hn).2.2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = rest c (owns (c : Thread nD τ) scM fullShare (outsAt V c n hn).2.2.2) := rfl

theorem PhiS_pos (c : Dev nD) (n : ℕ) (h : n ≤ cfg1.N) (hz : n ≠ 0) :
    PhiS V c n h = rest c (owns (c : Thread nD τ) scM fullShare (outsAt V c (n - 1) (by omega)).2.2.2) := by
  cases n with
  | zero => exact absurd rfl hz
  | succ n => rfl

/-- The region's proof data: the arrays as found; after each point the inputs' buffers at their blocks and the outputs' at
    `outsAt`; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => vblk V c t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
  Φ t := PhiS V c t.val (Nat.le_of_lt_succ t.isLt)
  q w := Pipeline.shareOf spec1 w
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = PhiS V c t.val (Nat.le_of_lt t.isLt) := by
  dsimp only [dat]; exact Pipeline.Dat.Φ_castSucc (PhiS V c) t

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = vblk V c t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]
theorem after_7 (c : Dev nD) (t : Fin cfg1.N) : (dat V c).after 7 t = (outsAt V c t.val t.isLt).2.1 := by dsimp only [dat]
theorem after_8 (c : Dev nD) (t : Fin cfg1.N) : (dat V c).after 8 t = (outsAt V c t.val t.isLt).2.2.1 := by dsimp only [dat]

/-- Each input's buffer holds its block when the body runs. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg1.N) (d) : (dat V c).before 2 t d = vblk V c t :=
  ((dat V c).before_in_eq_fetched 2 rfl (fun _ => rfl)
      (fun t t' h => funext fun a => congrArg (fun n => Pipeline.Clip.of n ((cfg1.win 2).size a) (S2x4160x12800.size a)) (congrFun h a))
      (fun t => by rw [after_2]; unfold vblk; rw [Pipeline.Window.cut_fill]; unfold Dat.blockOf iblk; rw [A_eq]) t d).trans
    (by unfold Dat.fetched vblk; rw [vfill t d filler]; unfold Dat.blockOf iblk; rw [A_eq])
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [A_eq]) t d).trans
    (by unfold Dat.fetched Dat.blockOf iblk; rw [A_eq]; rfl)

/-- The logit gradient is stored at every point: its window is never idle. -/
theorem live_8 : ∀ t : Fin cfg1.N, cfg1.idle 8 (grid1.coords t) = false := by decide +kernel

/-- Where the logit gradient's buffer holds nothing of this region yet: before the first point and after the last. -/
def freshAt : ℕ → Bool
  | 0 => true
  | n + 1 => n == 129
theorem freshAt_step : ∀ t : Fin cfg1.N,
    freshAt (t.val + 1) = ((cfg1.win 8).flush t || (cfg1.idle 8 (cfg1.grid.coords t) && freshAt t.val)) := by decide +kernel
theorem fresh_eq (t : Fin cfg1.N) : cfg1.fresh 8 t.val = freshAt t.val :=
  Pipeline.Cfg.fresh_tab cfg1 8 freshAt rfl freshAt_step t.val (Nat.le_of_lt t.isLt)
theorem not_fresh : ∀ t : Fin cfg1.N, t.val ≠ 0 → cfg1.fresh 8 t.val = false := by
  intro t; rw [fresh_eq t]; revert t; decide +kernel

/-- At a later point the logit gradient's buffer holds what the point before left. -/
theorem before_8 (c : Dev nD) (t : Fin cfg1.N) (h : t.val ≠ 0) (d) :
    (dat V c).before 8 t d = (outsAt V c (t.val - 1) (Nat.lt_of_le_of_lt (Nat.sub_le _ _) t.isLt)).2.2.1 := by
  rw [Dat.before_out_traj _ 8 rfl (fun _ _ => rfl)
      (fun t _ hi _ => absurd ((live_8 t).symm.trans hi) Bool.false_ne_true) t.val t rfl d,
    if_neg (by rw [not_fresh t h]; exact Bool.false_ne_true)]
  dsimp only [dat]

/-! ## The body obligation -/

/-- What the body is called with at point `t`, the windows one by one. -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d))
    ∗ (∃ d, owns (c : Thread nD τ) (win1_7.stage (cfg1.slots t 7)) fullShare ((dat V c).before 7 t d))
    ∗ (∃ d, owns (c : Thread nD τ) (win1_8.stage (cfg1.slots t 8)) fullShare ((dat V c).before 8 t d)))

/-- What it returns. -/
def bodyPost (c : Dev nD) (t : Fin cfg1.N) : sProp 𝕄 :=
  iprop((dat V c).Φ t.succ ∗ (dat V c).owesAt () t.succ
    ∗ owns (c : Thread nD τ) (win1_0.stage (cfg1.slots t 0)) fullShare ((dat V c).after 0 t)
    ∗ owns (c : Thread nD τ) (win1_1.stage (cfg1.slots t 1)) fullShare ((dat V c).after 1 t)
    ∗ owns (c : Thread nD τ) (win1_2.stage (cfg1.slots t 2)) fullShare ((dat V c).after 2 t)
    ∗ owns (c : Thread nD τ) (win1_3.stage (cfg1.slots t 3)) fullShare ((dat V c).after 3 t)
    ∗ owns (c : Thread nD τ) (win1_4.stage (cfg1.slots t 4)) fullShare ((dat V c).after 4 t)
    ∗ owns (c : Thread nD τ) (win1_5.stage (cfg1.slots t 5)) fullShare ((dat V c).after 5 t)
    ∗ owns (c : Thread nD τ) (win1_6.stage (cfg1.slots t 6)) fullShare ((dat V c).after 6 t)
    ∗ owns (c : Thread nD τ) (win1_7.stage (cfg1.slots t 7)) fullShare ((dat V c).after 7 t)
    ∗ (dat V c).leavesExact 8 t)

/-- Before any point the cotangent and the logit gradient are at some contents over which the point's step is `outsAt`. -/
theorem Phi_open (c : Dev nD) (t : Fin cfg1.N) :
    iprop((dat V c).Φ t.castSucc ∗ (∃ d, owns (c : Thread nD τ) (win1_8.stage (cfg1.slots t 8)) fullShare ((dat V c).before 8 t d))) ⊢
      iprop((∃ xg xs, ⌜outsAt V c t.val t.isLt = step c t (iblk V c 0 t) (iblk V c 1 t) (vblk V c t) (iblk V c 3 t) (iblk V c 4 t) (iblk V c 5 t) xg xs⌝
        ∗ owns (c : Thread nD τ) (win1_8.stage (cfg1.slots t 8)) fullShare xg ∗ owns (c : Thread nD τ) scM fullShare xs) ∗ others c) := by
  rw [Phi_castSucc]
  by_cases hz : t.val = 0
  · rw [PhiS_zero V c _ _ hz, PhiA_eq]
    iintro ⟨HP, ⟨%g, HG⟩⟩
    ihave HP := (rest_open c _) $$ HP
    icases HP with ⟨⟨%d, HS⟩, HO⟩
    isplitr [HO]
    swap; · iexact HO
    iexists ((dat V c).before 8 t g); iexists d; isplitr
    · ipureintro; exact outsAt_zero V c t hz _ d
    isplitl [HG]; · iexact HG
    iexact HS
  · rw [PhiS_pos V c _ _ hz]; simp only [before_8 V c t hz]
    iintro ⟨HP, ⟨%g, HG⟩⟩
    ihave HP := (rest_open c _) $$ HP
    icases HP with ⟨HS, HO⟩
    isplitr [HO]
    swap; · iexact HO
    iexists _; iexists _; isplitr
    · ipureintro; exact outsAt_pos V c t hz
    isplitl [HG]; · iexact HG
    iexact HS

set_option maxHeartbeats 6400000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost Dat.leavesExact
  rw [live_8 t]
  simp only [before_0, before_1, before_2, before_3, before_4, before_5]
  rw [show (dat V c).owesAt () t.succ = (dat V c).owesAt () t.castSucc from rfl, after_0, after_1, after_2, after_3, after_4, after_5,
    after_6, after_7, after_8, show (dat V c).Φ t.succ = PhiS V c (t.val + 1) t.isLt from rfl, PhiS_succ]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, H8⟩
  ihave HP := (Phi_open V c t) $$ [HP H8]
  · isplitl [HP]; · iexact HP
    iexact H8
  icases HP with ⟨⟨%xg, %xs, %hx, HG, HS⟩, HO⟩
  rw [hx]
  iapply (step_triple c t (iblk V c 0 t) (iblk V c 1 t) (vblk V c t) (iblk V c 3 t) (iblk V c 4 t) (iblk V c 5 t) xg xs _)
  unfold ins
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  isplitl [HG]; · iexact HG
  isplitl [HS]; · iexact HS
  iintro ⟨⟨H0, H1, H2, H3, H4, H5⟩, H6, H7, H8, HS⟩
  isplitl [HS HO]
  · iapply (rest_close c _)
    isplitl [HS]; · iexact HS
    iexact HO
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`. -/
theorem defs₀_row (t : Fin cfg1.N) : defs₀ (F := F) .tc cfg1.body (cfg1.bodyArgs t (cfg1.slots t)) = bodyAt1 t := by
  unfold defs₀; rw [Defs.onTc_tc]

/-- The library's body obligation. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After any point but the first the invariant gives that back, the cotangent's contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro HP
  ihave HP := (rest_open c _) $$ HP
  icases HP with ⟨HS, HO⟩
  iapply (rest_close c _)
  isplitl [HS]; · iexists _; iexact HS
  iexact HO

/-- The same after the last point. -/
theorem hout (c : Dev nD) : (dat V c).Φ (Fin.last cfg1.N) ⊢ Pipeline.ΦA spec1 c :=
  Phi_out V c _ (by rw [Fin.val_last]; have : cfg1.N = 130 := N_1; omega)

end Cert.Bwd

end
-- ==== Proof.RetRun.lean ====
/- The launch of the two retention regions: @main's host stretch, the forward region, the backward region, each entered from the
   contents the item before left; every execution ends with every buffer at the last contents, named below. -/
module

public import proofs.«01_k».proof.Proof.Fwd
public import proofs.«01_k».proof.Proof.Bwd
public import proofs.«01_k».proof.Proof.Gen.KernelIdeal.Regions
public import Idealize.ShloMosaic.Lib.Claim
public import Idealize.ShloMosaic.Lib.Pipeline.FrameSuffix
public import Idealize.ShloMosaic.Lib.Pipeline.RegionsLoop

@[expose] public section

set_option maxRecDepth 16384

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- At launch, and after each of the three host stretches. -/
abbrev W0 : Dev nD → Valuation τ sig (Elt F) := fun c b => (s₀ m ρ).mem ((c : Dev nD), b)
def W1 (c : Dev nD) : Valuation τ sig (Elt F) := StableHlo.after hostOps0 (W0 m ρ c)
def W2 (c : Dev nD) : Valuation τ sig (Elt F) := StableHlo.after hostOps0_1 (W1 m ρ c)
def W3 (c : Dev nD) : Valuation τ sig (Elt F) := StableHlo.after hostOps0_2 (W2 m ρ c)
/-- The same read at the core's references: what the forward region finds. -/
abbrev VF : (c : Dev nD) → (b : Ref sig .tc) → Buf (Elt F) ((c : Thread nD τ).loc b) := fun c b => W3 m ρ c b
/-- After the forward region: its arrays at what it leaves, every other buffer as found. -/
def W4 (c : Dev nD) : Valuation τ sig (Elt F) :=
  Pipeline.withArrays spec0 c (W3 m ρ c) fun w => (Fwd.dat (VF m ρ) c).arrAt w cfg0.N
/-- What the backward region finds. -/
abbrev VB : (c : Dev nD) → (b : Ref sig .tc) → Buf (Elt F) ((c : Thread nD τ).loc b) := fun c b => W4 m ρ c b
/-- After the backward region. -/
def W5 (c : Dev nD) : Valuation τ sig (Elt F) :=
  Pipeline.withArrays spec1 c (W4 m ρ c) fun w => (Bwd.dat (VB m ρ) c).arrAt w cfg1.N
abbrev VE : (c : Dev nD) → (b : Ref sig .tc) → Buf (Elt F) ((c : Thread nD τ).loc b) := fun c b => W5 m ρ c b

/-- A buffer no host operation writes is as launched when the forward region starts. -/
theorem W3_of (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

theorem W4_arr (c : Dev nD) (w : Fin cfg0.W) :
    W4 m ρ c (Proc.devRef .tc (Pipeline.arrRef spec0 w)) = (Fwd.dat (VF m ρ) c).arrAt w cfg0.N := by
  unfold W4; exact (Fwd.dat (VF m ρ) c).withArrays_arrAt launch₀0.sharedIn _ (Fwd.A_eq (VF m ρ) c) w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A buffer that is none of the forward region's output arrays keeps its contents across it. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((Fwd.dat (VF m ρ) c).arrAt_in w (h w rfl) _).trans (Fwd.A_eq (VF m ρ) c w))
  · exact W4_of_ne m ρ c r fun w e => hw ⟨w, e⟩
theorem W4_rest (c : Dev nD) : ∀ b, b ∉ Finset.univ.image (Pipeline.arrRef spec0) → VB m ρ c b = VF m ρ c b :=
  fun b hb => W4_of_ne m ρ c b fun w e => hb (Finset.mem_image.mpr ⟨w, Finset.mem_univ _, e⟩)

theorem W5_arr (c : Dev nD) (w : Fin cfg1.W) :
    W5 m ρ c (Proc.devRef .tc (Pipeline.arrRef spec1 w)) = (Bwd.dat (VB m ρ) c).arrAt w cfg1.N := by
  unfold W5; exact (Bwd.dat (VB m ρ) c).withArrays_arrAt launch₀1.sharedIn _ (Bwd.A_eq (VB m ρ) c) w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A buffer that is none of the backward region's output arrays keeps its contents across it. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((Bwd.dat (VB m ρ) c).arrAt_in w (h w rfl) _).trans (Bwd.A_eq (VB m ρ) c w))
  · exact W5_of_ne m ρ c r fun w e => hw ⟨w, e⟩
theorem W5_rest (c : Dev nD) : ∀ b, b ∉ Finset.univ.image (Pipeline.arrRef spec1) → VE m ρ c b = VB m ρ c b :=
  fun b hb => W5_of_ne m ρ c b fun w e => hb (Finset.mem_image.mpr ⟨w, Finset.mem_univ _, e⟩)

/-! ## The thread state and the segments -/

/-- Both regions' proof data, each over what its region finds. -/
def pdats : (p : Fin 2) → (c : Dev nD) → Dat τ (Elt F) Unit ℕ (UR sig nD τ) ℕ (Pipeline.pin (pcfgs (F := F)) adm p) c
  | ⟨0, _⟩ => fun c => Fwd.dat (VF m ρ) c
  | ⟨1, _⟩ => fun c => Bwd.dat (VB m ρ) c
abbrev 𝒱₀ : Variants := Variants.none
abbrev L : GSem nD τ sig → Finset Unit := fun _ => ∅
abbrev lv : GSem nD τ sig → Unit → ℕ := fun _ _ => 0
/-- What rides beside the buffers: the generator register, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer at the last contents. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The forward region as a segment: its arrays split out of the buffers (the one several windows read dealt among them) and put
    back at what it leaves. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (Fwd.body_obligation (VF m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (VF m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (VF m ρ c) (Fwd.A_eq (VF m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := Fwd.hin (VF m ρ) c
    refine .trans ?_ h
    unfold Pipeline.ΦA
    iintro ⟨Hp, -, Hr⟩
    isplitl [Hr]; · iexact Hr
    iexact Hp
  hout c := by
    rw [Pipeline.ownSems0_none]
    have h : (pdats m ρ 0 c).Φ (Fin.last _) ⊢ Pipeline.ΦA spec0 c := Fwd.hout (VF m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (VF m ρ c) (VB m ρ c) ((pdats m ρ 0 c).arrAt · cfg0.N) (fun w => (W4_arr m ρ c w).symm) (W4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward region as a segment: its arrays split out of the buffers (the one several windows read dealt among them) and put
    back at what it leaves. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (Bwd.body_obligation (VB m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (VB m ρ c) (Bwd.A_eq (VB m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := Bwd.hin (VB m ρ) c
    refine .trans ?_ h
    unfold Pipeline.ΦA
    iintro ⟨Hp, -, Hr⟩
    isplitl [Hr]; · iexact Hr
    iexact Hp
  hout c := by
    rw [Pipeline.ownSems0_none]
    have h : (pdats m ρ 1 c).Φ (Fin.last _) ⊢ Pipeline.ΦA spec1 c := Bwd.hout (VB m ρ) c
    refine h.trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (VB m ρ c) (VE m ρ c) ((pdats m ρ 1 c).arrAt · cfg1.N) (fun w => (W5_arr m ρ c w).symm) (W5_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's items in order. -/
abbrev segs : List (Pipeline.Seg (pcfgs (F := F)) adm (pdats m ρ) () defs₀ 𝒱₀ L lv) :=
  [ .host (hseg hostOps0 hostOps0_sub hostOps0_fresh (W0 m ρ)), .host (hseg hostOps0_1 hostOps0_1_sub hostOps0_1_fresh (W1 m ρ)),
    .host (hseg hostOps0_2 hostOps0_2_sub hostOps0_2_fresh (W2 m ρ)), .region (reg0 m ρ), .region (reg1 m ρ) ]
/-- @main is the run of those items. -/
theorem main_run (c : Dev nD) : main (F := F) c = Pipeline.Seg.run (segs m ρ) := (main_chain c).trans (by chain_rfl)

/-- Every semaphore of the core is scoped. -/
theorem no_unscoped : ∀ sm : SemLoc sig, sm.isScoped .tc = true := by decide

set_option backward.isDefEq.respectTransparency.types false in
/-- From any memory with zero counters every weakly fair execution of @main ends, and every final state has every unscoped buffer
    at the last contents and every counter at zero. -/
theorem run_all : θ_run defs (onTc (τ := τ) (main (F := F))) ⟨m, fun _ => 0, ρ⟩ (fun r =>
      (∀ c : Dev nD, ∀ b ∈ Pipeline.ucRefs τ sig, r.2.mem (c, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- An argument is neither written by the host nor an output of a region. -/
theorem W5_arg (c : Dev nD) (r : Ref sig .tc) (h0 : r ∉ hostOps0_W) (h1 : r ∉ hostOps0_1_W) (h2 : r ∉ hostOps0_2_W)
    (h3 : ∀ w : Fin cfg0.W, Pipeline.arrRef spec0 w = r → (cfg0.win w).isOut = false)
    (h4 : ∀ w : Fin cfg1.W, Pipeline.arrRef spec1 w = r → (cfg1.win w).isOut = false) :
    W5 m ρ c (Proc.devRef .tc r) = m ((c : Thread nD τ).loc r) :=
  (W5_of m ρ c r h4).trans ((W4_of m ρ c r h3).trans (W3_of m ρ c r h0 h1 h2))

/-- The run with the four results named — the forward region's output, the backward region's three — and the arguments kept. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v2_0) = (Fwd.dat (VF m ρ) c).arrAt 4 cfg0.N
      ∧ r.2.mem ((c.tc : Thread nD τ).loc main_v3_0) = (Bwd.dat (VB m ρ) c).arrAt 6 cfg1.N
      ∧ r.2.mem ((c.tc : Thread nD τ).loc main_v3_1) = (Bwd.dat (VB m ρ) c).arrAt 7 cfg1.N
      ∧ r.2.mem ((c.tc : Thread nD τ).loc main_v3_2) = (Bwd.dat (VB m ρ) c).arrAt 8 cfg1.N)
      ∧ r.2.sem = fun _ => 0) :=
  (θ_run defs _ _).mono (fun r h => ⟨fun c =>
    ⟨(h.1 c _ (mem_uc main_arg0 (by decide))).trans (W5_arg m ρ c main_arg0 (by decide) (by decide) (by decide) (by decide +kernel) (by decide +kernel)),
     (h.1 c _ (mem_uc main_arg1 (by decide))).trans (W5_arg m ρ c main_arg1 (by decide) (by decide) (by decide) (by decide +kernel) (by decide +kernel)),
     (h.1 c _ (mem_uc main_arg2 (by decide))).trans (W5_arg m ρ c main_arg2 (by decide) (by decide) (by decide) (by decide +kernel) (by decide +kernel)),
     (h.1 c _ (mem_uc main_arg3 (by decide))).trans (W5_arg m ρ c main_arg3 (by decide) (by decide) (by decide) (by decide +kernel) (by decide +kernel)),
     (h.1 c _ (mem_uc main_v2_0 (by decide))).trans ((W5_of m ρ c main_v2_0 (by decide +kernel)).trans (W4_arr m ρ c 4)),
     (h.1 c _ (mem_uc main_v3_0 (by decide))).trans (W5_arr m ρ c 6),
     (h.1 c _ (mem_uc main_v3_1 (by decide))).trans (W5_arr m ρ c 7),
     (h.1 c _ (mem_uc main_v3_2 (by decide))).trans (W5_arr m ρ c 8)⟩, h.2⟩) (run_all m ρ)

end Cert.Ret

end
-- ==== Proof.RefOps.lean ====
/- The reference program's host operations as lists: @main's stretches before, between and after its two counted loops, and the
   stretches of the two loop bodies; @main and each body as the chain of its stretches; which buffer each operation writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

-- the lists' `::` spines and the equations between them recurse past the default depth
set_option maxRecDepth 4000

noncomputable section

namespace Cert.Ref

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-- 6 host operations of @main, window 0 (statements 1 … 60), in order. -/
abbrev main_part0_ops0 : List (HloOp τ sig (Elt F)) :=
  [ StableHlo.unary main_arg0 main_v0 ((extractStridedSlice S2x4160x1024 ![0, 0, 0] · slices_S2x4160x2048_S2x4160x1024_0_0_0) : (⟨S2x4160x2048, .f32⟩ : BufTy).Contents (Elt F) → (⟨S2x4160x1024, .f32⟩ : BufTy).Contents (Elt F)),
    StableHlo.unary main_arg0 main_v1 ((extractStridedSlice S2x4160x1024 ![0, 0, 1024] · slices_S2x4160x2048_S2x4160x1024_0_0_1024) : (⟨S2x4160x2048, .f32⟩ : BufTy).Contents (Elt F) → (⟨S2x4160x1024, .f32⟩ : BufTy).Contents (Elt F)),
    StableHlo.unary main_arg1 main_v2 ((extractStridedSlice S2x4160x2048 ![0, 0, 6144] · slices_S2x4160x12800_S2x4160x2048_0_0_6144) : (⟨S2x4160x12800, .f32⟩ : BufTy).Contents (Elt F) → (⟨S2x4160x2048, .f32⟩ : BufTy).Contents (Elt F)),
    StableHlo.reshape main_v0 main_v3 (rfl : (.f32 : EltTy) = .f32) shapeCasts_S2x4160x1024_S2x4160x4x256,
    StableHlo.reshape main_v1 main_v4 (rfl : (.f32 : EltTy) = .f32) shapeCasts_S2x4160x1024_S2x4160x4x256,
    StableHlo.reshape main_v2 main_v5 (rfl : (.f32 : EltTy) = .f32) shapeCasts_S2x4160x2048_S2x4160x4x512 ]

/-- Each touches TensorCore buffers only. -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.reshape_bufs_sub .., StableHlo.reshape_bufs_sub ..⟩

/-- 1 host operation of @_flip (main_call0), window 0 (statements 1 … 60), in order. -/
abbrev main_part0_ops1 : List (HloOp τ sig (Elt F)) :=
  [ StableHlo.TRef.unary (.of main_v3 : StableHlo.TRef sig ⟨S2x4160x4x256, .f32⟩) (.of main_v6 : StableHlo.TRef sig ⟨S2x4160x4x256, .f32⟩) (Host.reverse [1]) ]

/-- Each touches TensorCore buffers only. -/
theorem main_part0_ops1_sub : (main_part0_ops1 : List (HloOp τ sig (Elt F))).Forall fun op => op.bufs ⊆ StableHlo.tcRefs τ sig :=
  StableHlo.unary_bufs_sub ..

/-- 1 host operation of @_flip (main_call1), window 0 (statements 1 … 60), in order. -/
abbrev main_part0_ops2 : List (HloOp τ sig (Elt F)) :=
  [ StableHlo.TRef.unary (.of main_v4 : StableHlo.TRef sig ⟨S2x4160x4x256, .f32⟩) (.of main_v7 : StableHlo.TRef sig ⟨S2x4160x4x256, .f32⟩) (Host.reverse [1]) ]

/-- Each touches TensorCore buffers only. -/
theorem main_part0_ops2_sub : (main_part0_ops2 : List (HloOp τ sig (Elt F))).Forall fun op => op.bufs ⊆ StableHlo.tcRefs τ sig :=
  StableHlo.unary_bufs_sub ..

/-- 1 host operation of @_flip_0 (main_call2), window 0 (statements 1 … 60), in order. -/
abbrev main_part0_ops3 : List (HloOp τ sig (Elt F)) :=
  [ StableHlo.TRef.unary (.of main_v5 : StableHlo.TRef sig ⟨S2x4160x4x512, .f32⟩) (.of main_v8 : StableHlo.TRef sig ⟨S2x4160x4x512, .f32⟩) (Host.reverse [1]) ]

/-- Each touches TensorCore buffers only. -/
theorem main_part0_ops3_sub : (main_part0_ops3 : List (HloOp τ sig (Elt F))).Forall fun op => op.bufs ⊆ StableHlo.tcRefs τ sig :=
  StableHlo.unary_bufs_sub ..

/-- 48 host operations of @log_sigmoid (main_call3), window 0 (statements 1 … 60), in order. -/
abbrev main_part0_ops4 : List (HloOp τ sig (Elt F)) :=
  ( StableHlo.TRef.unary (.of main_arg2 : StableHlo.TRef sig ⟨S4, .f32⟩) (.of main_call3_v0 : StableHlo.TRef sig ⟨S4, .f32⟩) Host.negf
  :: StableHlo.TRef.nullary (.of main_call3_call0_cst : StableHlo.TRef sig ⟨S_, .f32⟩) (constant S_ .f32 0x00000000#32)
  :: StableHlo.TRef.unary (.of main_call3_call0_cst : StableHlo.TRef sig ⟨S_, .f32⟩) (.of main_call3_call0_v0 : StableHlo.TRef sig ⟨S4, .f32⟩) (broadcastInDim S4 ![] bcast_S_S4)
  :: StableHlo.TRef.binary (.of main_call3_v0 : StableHlo.TRef sig ⟨S4, .f32⟩) (.of main_call3_call0_v0 : StableHlo.TRef sig ⟨S4, .f32⟩) (.of main_call3_call0_v1 : StableHlo.TRef sig ⟨S4, .f32⟩) maximumf
  :: StableHlo.TRef.unary (.of main_call3_call0_cst : StableHlo.TRef sig ⟨S_, .f32⟩) (.of main_call3_call0_v2 : StableHlo.TRef sig ⟨S4, .f32⟩) (broadcastInDim S4 ![] bcast_S_S4)
  :: StableHlo.TRef.binary (.of main_call3_v0 : StableHlo.TRef sig ⟨S4, .f32⟩) (.of main_call3_call0_v2 : StableHlo.TRef sig ⟨S4, .f32⟩) (.of main_call3_call0_v3 : StableHlo.TRef sig ⟨S4, .f32⟩) subf
  :: StableHlo.TRef.binary (.of main_call3_call0_v3 : StableHlo.TRef sig ⟨S4, .f32⟩) (.of main_call3_call0_v3 : StableHlo.TRef sig ⟨S4, .f32⟩) (.of main_call3_call0_v4 : StableHlo.TRef sig ⟨S4, .i1⟩) (cmpf .une)
  :: StableHlo.TRef.unary (.of main_call3_call0_cst : StableHlo.TRef sig ⟨S_, .f32⟩) (.of main_call3_call0_v5 : StableHlo.TRef sig ⟨S4, .f32⟩) (broadcastInDim S4 ![] bcast_S_S4)
  :: StableHlo.TRef.binary (.of main_call3_v0 : StableHlo.TRef sig ⟨S4, .f32⟩) (.of main_call3_call0_v5 : StableHlo.TRef sig ⟨S4, .f32⟩) (.of main_call3_call0_v6 : StableHlo.TRef sig ⟨S4, .f32⟩) addf
  :: StableHlo.TRef.unary (.of main_call3_call0_v3 : StableHlo.TRef sig ⟨S4, .f32⟩) (.of main_call3_call0_v7 : StableHlo.TRef sig ⟨S4, .f32⟩) Host.absf
  :: StableHlo.TRef.unary (.of main_call3_call0_v7 : StableHlo.TRef sig ⟨S4, .f32⟩) (.of main_call3_call0_v8 : StableHlo.TRef sig ⟨S4, .f32⟩) Host.negf
  :: StableHlo.TRef.unary (.of main_call3_call0_v8 : StableHlo.TRef sig ⟨S4, .f32⟩) (.of main_call3_call0_v9 : StableHlo.TRef sig ⟨S4, .f32⟩) Host.exp
  :: StableHlo.TRef.unary (.of main_call3_call0_v9 : StableHlo.TRef sig ⟨S4, .f32⟩) (.of main_call3_call0_v10 : StableHlo.TRef sig ⟨S4, .f32⟩) Host.log1p
  :: StableHlo.TRef.binary (.of main_call3_call0_v1 : StableHlo.TRef sig ⟨S4, .f32⟩) (.of main_call3_call0_v10 : StableHlo.TRef sig ⟨S4, .f32⟩) (.of main_call3_call0_v11 : StableHlo.TRef sig ⟨S4, .f32⟩) addf
  :: StableHlo.TRef.ternary (.of main_call3_call0_v4 : StableHlo.TRef sig ⟨S4, .i1⟩) (.of main_call3_call0_v6 : StableHlo.TRef sig ⟨S4, .f32⟩) (.of main_call3_call0_v11 : StableHlo.TRef sig ⟨S4, .f32⟩) (.of main_call3_v1_0 : StableHlo.TRef sig ⟨S4, .f32⟩) select
  :: StableHlo.TRef.nullary (.of main_call3_call0_cst_0 : StableHlo.TRef sig ⟨S_, .f32⟩) (constant S_ .f32 0x7F800000#32)
  :: StableHlo.TRef.unary (.of main_call3_call0_cst_0 : StableHlo.TRef sig ⟨S_, .f32⟩) (.of main_call3_call0_v13 : StableHlo.TRef sig ⟨S4, .f32⟩) (broadcastInDim S4 ![] bcast_S_S4)
  :: StableHlo.TRef.binary (.of main_call3_v0 : StableHlo.TRef sig ⟨S4, .f32⟩) (.of main_call3_call0_v13 : StableHlo.TRef sig ⟨S4, .f32⟩) (.of main_call3_call0_v14 : StableHlo.TRef sig ⟨S4, .i1⟩) (cmpf .oeq)
  :: StableHlo.TRef.nullary (.of main_call3_call0_cst_1 : StableHlo.TRef sig ⟨S_, .f32⟩) (constant S_ .f32 0x00000000#32)
  :: StableHlo.TRef.unary (.of main_call3_call0_cst_1 : StableHlo.TRef sig ⟨S_, .f32⟩) (.of main_call3_call0_v15 : StableHlo.TRef sig ⟨S4, .f32⟩) (broadcastInDim S4 ![] bcast_S_S4)
  :: StableHlo.TRef.ternary (.of main_call3_call0_v14 : StableHlo.TRef sig ⟨S4, .i1⟩) (.of main_call3_call0_v15 : StableHlo.TRef sig ⟨S4, .f32⟩) (.of main_call3_v0 : StableHlo.TRef sig ⟨S4, .f32⟩) (.of main_call3_call0_v16 : StableHlo.TRef sig ⟨S4, .f32⟩) select
  :: StableHlo.TRef.nullary (.of main_call3_call0_cst_2 : StableHlo.TRef sig ⟨S_, .f32⟩) (constant S_ .f32 0x7F800000#32)
  :: StableHlo.TRef.unary (.of main_call3_call0_cst_2 : StableHlo.TRef sig ⟨S_, .f32⟩) (.of main_call3_call0_v17 : StableHlo.TRef sig ⟨S4, .f32⟩) (broadcastInDim S4 ![] bcast_S_S4)
  :: StableHlo.TRef.binary (.of main_call3_v1_0 : StableHlo.TRef sig ⟨S4, .f32⟩) (.of main_call3_call0_v17 : StableHlo.TRef sig ⟨S4, .f32⟩) (.of main_call3_call0_v18 : StableHlo.TRef sig ⟨S4, .i1⟩) (cmpf .oeq)
  :: StableHlo.TRef.nullary (.of main_call3_call0_cst_3 : StableHlo.TRef sig ⟨S_, .f32⟩) (constant S_ .f32 0x00000000#32)
  :: StableHlo.TRef.unary (.of main_call3_call0_cst_3 : StableHlo.TRef sig ⟨S_, .f32⟩) (.of main_call3_call0_v19 : StableHlo.TRef sig ⟨S4, .f32⟩) (broadcastInDim S4 ![] bcast_S_S4)
  :: StableHlo.TRef.ternary (.of main_call3_call0_v18 : StableHlo.TRef sig ⟨S4, .i1⟩) (.of main_call3_call0_v19 : StableHlo.TRef sig ⟨S4, .f32⟩) (.of main_call3_v1_0 : StableHlo.TRef sig ⟨S4, .f32⟩) (.of main_call3_call0_v20 : StableHlo.TRef sig ⟨S4, .f32⟩) select
  :: StableHlo.TRef.binary (.of main_call3_call0_v16 : StableHlo.TRef sig ⟨S4, .f32⟩) (.of main_call3_call0_v20 : StableHlo.TRef sig ⟨S4, .f32⟩) (.of main_call3_call0_v21 : StableHlo.TRef sig ⟨S4, .f32⟩) subf
  :: StableHlo.TRef.unary (.of main_call3_call0_v21 : StableHlo.TRef sig ⟨S4, .f32⟩) (.of main_v9_1 : StableHlo.TRef sig ⟨S4, .f32⟩) Host.exp
  :: StableHlo.TRef.nullary (.of main_call3_call0_cst_4 : StableHlo.TRef sig ⟨S_, .f32⟩) (constant S_ .f32 0x00000000#32)
  :: StableHlo.TRef.nullary (.of main_call3_call0_cst_5 : StableHlo.TRef sig ⟨S_, .f32⟩) (constant S_ .f32 0x7F800000#32)
  :: StableHlo.TRef.binary (.of main_call3_call0_cst_4 : StableHlo.TRef sig ⟨S_, .f32⟩) (.of main_call3_call0_cst_5 : StableHlo.TRef sig ⟨S_, .f32⟩) (.of main_call3_call0_v23 : StableHlo.TRef sig ⟨S_, .i1⟩) (cmpf .oeq)
  :: StableHlo.TRef.nullary (.of main_call3_call0_cst_6 : StableHlo.TRef sig ⟨S_, .f32⟩) (constant S_ .f32 0x00000000#32)
  :: StableHlo.TRef.nullary (.of main_call3_call0_cst_7 : StableHlo.TRef sig ⟨S_, .f32⟩) (constant S_ .f32 0x00000000#32)
  :: StableHlo.TRef.ternary (.of main_call3_call0_v23 : StableHlo.TRef sig ⟨S_, .i1⟩) (.of main_call3_call0_cst_7 : StableHlo.TRef sig ⟨S_, .f32⟩) (.of main_call3_call0_cst_6 : StableHlo.TRef sig ⟨S_, .f32⟩) (.of main_call3_call0_v24 : StableHlo.TRef sig ⟨S_, .f32⟩) select
  :: StableHlo.TRef.nullary (.of main_call3_call0_cst_8 : StableHlo.TRef sig ⟨S_, .f32⟩) (constant S_ .f32 0x7F800000#32)
  :: StableHlo.TRef.unary (.of main_call3_call0_cst_8 : StableHlo.TRef sig ⟨S_, .f32⟩) (.of main_call3_call0_v25 : StableHlo.TRef sig ⟨S4, .f32⟩) (broadcastInDim S4 ![] bcast_S_S4)
  :: StableHlo.TRef.binary (.of main_call3_v1_0 : StableHlo.TRef sig ⟨S4, .f32⟩) (.of main_call3_call0_v25 : StableHlo.TRef sig ⟨S4, .f32⟩) (.of main_call3_call0_v26 : StableHlo.TRef sig ⟨S4, .i1⟩) (cmpf .oeq)
  :: StableHlo.TRef.nullary (.of main_call3_call0_cst_9 : StableHlo.TRef sig ⟨S_, .f32⟩) (constant S_ .f32 0x00000000#32)
  :: StableHlo.TRef.unary (.of main_call3_call0_cst_9 : StableHlo.TRef sig ⟨S_, .f32⟩) (.of main_call3_call0_v27 : StableHlo.TRef sig ⟨S4, .f32⟩) (broadcastInDim S4 ![] bcast_S_S4)
  :: StableHlo.TRef.ternary (.of main_call3_call0_v26 : StableHlo.TRef sig ⟨S4, .i1⟩) (.of main_call3_call0_v27 : StableHlo.TRef sig ⟨S4, .f32⟩) (.of main_call3_v1_0 : StableHlo.TRef sig ⟨S4, .f32⟩) (.of main_call3_call0_v28 : StableHlo.TRef sig ⟨S4, .f32⟩) select
  :: StableHlo.TRef.unary (.of main_call3_call0_v24 : StableHlo.TRef sig ⟨S_, .f32⟩) (.of main_call3_call0_v29 : StableHlo.TRef sig ⟨S4, .f32⟩) (broadcastInDim S4 ![] bcast_S_S4)
  :: StableHlo.TRef.binary (.of main_call3_call0_v29 : StableHlo.TRef sig ⟨S4, .f32⟩) (.of main_call3_call0_v28 : StableHlo.TRef sig ⟨S4, .f32⟩) (.of main_call3_call0_v30 : StableHlo.TRef sig ⟨S4, .f32⟩) subf
  :: StableHlo.TRef.unary (.of main_call3_call0_v30 : StableHlo.TRef sig ⟨S4, .f32⟩) (.of main_call3_call0_v31 : StableHlo.TRef sig ⟨S4, .f32⟩) Host.exp
  :: StableHlo.TRef.nullary (.of main_call3_call0_cst_10 : StableHlo.TRef sig ⟨S_, .f32⟩) (constant S_ .f32 0x00000000#32)
  :: StableHlo.TRef.unary (.of main_call3_call0_cst_10 : StableHlo.TRef sig ⟨S_, .f32⟩) (.of main_call3_call0_v32 : StableHlo.TRef sig ⟨S4, .f32⟩) (broadcastInDim S4 ![] bcast_S_S4)
  :: StableHlo.TRef.binary (.of main_call3_call0_v32 : StableHlo.TRef sig ⟨S4, .f32⟩) (.of main_call3_call0_v31 : StableHlo.TRef sig ⟨S4, .f32⟩) (.of main_v9_2 : StableHlo.TRef sig ⟨S4, .f32⟩) mulf
  :: StableHlo.TRef.unary main_call3_call0.v12 (.of main_v9_0 : StableHlo.TRef sig ⟨S4, .f32⟩) Host.negf
  :: [] )

/-- Each touches TensorCore buffers only. -/
theorem main_part0_ops4_sub : (main_part0_ops4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub ..⟩

/-- 22 host operations of @main, window 0 (statements 1 … 60), in order. -/
abbrev main_part0_ops5 : List (HloOp τ sig (Elt F)) :=
  [ StableHlo.reshape main_v6 main_v10 (rfl : (.f32 : EltTy) = .f32) shapeCasts_S2x4160x4x256_S2x65x64x4x256,
    StableHlo.unary main_v10 main_v11 ((transpose S65x2x4x64x256 [1, 0, 3, 2, 4] · transposes_S2x65x64x4x256_S65x2x4x64x256_1_0_3_2_4) : (⟨S2x65x64x4x256, .f32⟩ : BufTy).Contents (Elt F) → (⟨S65x2x4x64x256, .f32⟩ : BufTy).Contents (Elt F)),
    StableHlo.nullary main_cst (constant S_ .f32 0x3D800000#32),
    StableHlo.unary main_cst main_v12 (broadcastInDim S2x4160x4x256 ![] bcast_S_S2x4160x4x256 : (⟨S_, .f32⟩ : BufTy).Contents (Elt F) → (⟨S2x4160x4x256, .f32⟩ : BufTy).Contents (Elt F)),
    StableHlo.binary main_v7 main_v12 main_v13 (mulf : (⟨S2x4160x4x256, .f32⟩ : BufTy).Contents (Elt F) → (⟨S2x4160x4x256, .f32⟩ : BufTy).Contents (Elt F) → (⟨S2x4160x4x256, .f32⟩ : BufTy).Contents (Elt F)),
    StableHlo.reshape main_v13 main_v14 (rfl : (.f32 : EltTy) = .f32) shapeCasts_S2x4160x4x256_S2x65x64x4x256,
    StableHlo.unary main_v14 main_v15 ((transpose S65x2x4x64x256 [1, 0, 3, 2, 4] · transposes_S2x65x64x4x256_S65x2x4x64x256_1_0_3_2_4) : (⟨S2x65x64x4x256, .f32⟩ : BufTy).Contents (Elt F) → (⟨S65x2x4x64x256, .f32⟩ : BufTy).Contents (Elt F)),
    StableHlo.reshape main_v8 main_v16 (rfl : (.f32 : EltTy) = .f32) shapeCasts_S2x4160x4x512_S2x65x64x4x512,
    StableHlo.unary main_v16 main_v17 ((transpose S65x2x4x64x512 [1, 0, 3, 2, 4] · transposes_S2x65x64x4x512_S65x2x4x64x512_1_0_3_2_4) : (⟨S2x65x64x4x512, .f32⟩ : BufTy).Contents (Elt F) → (⟨S65x2x4x64x512, .f32⟩ : BufTy).Contents (Elt F)),
    StableHlo.nullary main_v18 (sitofp .f32 (iotaInDim S64 32 0)),
    StableHlo.unary main_v9_0 main_v19 (broadcastInDim S4x1 ![0] bcast_S4_S4x1_0 : (⟨S4, .f32⟩ : BufTy).Contents (Elt F) → (⟨S4x1, .f32⟩ : BufTy).Contents (Elt F)),
    StableHlo.unary main_v18 main_v20 (broadcastInDim S64x1 ![0] bcast_S64_S64x1_0 : (⟨S64, .f32⟩ : BufTy).Contents (Elt F) → (⟨S64x1, .f32⟩ : BufTy).Contents (Elt F)),
    StableHlo.unary main_v18 main_v21 (broadcastInDim S1x64 ![1] bcast_S64_S1x64_1 : (⟨S64, .f32⟩ : BufTy).Contents (Elt F) → (⟨S1x64, .f32⟩ : BufTy).Contents (Elt F)),
    StableHlo.unary main_v20 main_v22 (broadcastInDim S64x64 ![0, 1] bcast_S64x1_S64x64_0_1 : (⟨S64x1, .f32⟩ : BufTy).Contents (Elt F) → (⟨S64x64, .f32⟩ : BufTy).Contents (Elt F)),
    StableHlo.unary main_v21 main_v23 (broadcastInDim S64x64 ![0, 1] bcast_S1x64_S64x64_0_1 : (⟨S1x64, .f32⟩ : BufTy).Contents (Elt F) → (⟨S64x64, .f32⟩ : BufTy).Contents (Elt F)),
    StableHlo.binary main_v22 main_v23 main_v24 (cmpf .oge : (⟨S64x64, .f32⟩ : BufTy).Contents (Elt F) → (⟨S64x64, .f32⟩ : BufTy).Contents (Elt F) → (⟨S64x64, .i1⟩ : BufTy).Contents (Elt F)),
    StableHlo.unary main_v18 main_v25 (broadcastInDim S64x1 ![0] bcast_S64_S64x1_0 : (⟨S64, .f32⟩ : BufTy).Contents (Elt F) → (⟨S64x1, .f32⟩ : BufTy).Contents (Elt F)),
    StableHlo.unary main_v18 main_v26 (broadcastInDim S1x64 ![1] bcast_S64_S1x64_1 : (⟨S64, .f32⟩ : BufTy).Contents (Elt F) → (⟨S1x64, .f32⟩ : BufTy).Contents (Elt F)),
    StableHlo.unary main_v25 main_v27 (broadcastInDim S64x64 ![0, 1] bcast_S64x1_S64x64_0_1 : (⟨S64x1, .f32⟩ : BufTy).Contents (Elt F) → (⟨S64x64, .f32⟩ : BufTy).Contents (Elt F)),
    StableHlo.unary main_v26 main_v28 (broadcastInDim S64x64 ![0, 1] bcast_S1x64_S64x64_0_1 : (⟨S1x64, .f32⟩ : BufTy).Contents (Elt F) → (⟨S64x64, .f32⟩ : BufTy).Contents (Elt F)),
    StableHlo.binary main_v27 main_v28 main_v29 (subf : (⟨S64x64, .f32⟩ : BufTy).Contents (Elt F) → (⟨S64x64, .f32⟩ : BufTy).Contents (Elt F) → (⟨S64x64, .f32⟩ : BufTy).Contents (Elt F)),
    StableHlo.nullary main_cst_0 (constant S_ .f32 0x00000000#32) ]

/-- Each touches TensorCore buffers only. -/
theorem main_part0_ops5_sub : (main_part0_ops5 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub ..⟩

/-- 3 host operations of @_where (main_call4), window 0 (statements 1 … 60), in order. -/
abbrev main_part0_ops6 : List (HloOp τ sig (Elt F)) :=
  [ StableHlo.TRef.unary (.of main_cst_0 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S64x64, .f32⟩) (broadcastInDim S64x64 ![] bcast_S_S64x64),
    StableHlo.TRef.ternary (.of main_v24 : StableHlo.TRef sig ⟨S64x64, .i1⟩) (.of main_v29 : StableHlo.TRef sig ⟨S64x64, .f32⟩) (.of main_call4_v1 : StableHlo.TRef sig ⟨S64x64, .f32⟩) (.of main_v30 : StableHlo.TRef sig ⟨S64x64, .f32⟩) select ]

/-- Each touches TensorCore buffers only. -/
theorem main_part0_ops6_sub : (main_part0_ops6 : List (HloOp τ sig (Elt F))).Forall fun op => op.bufs ⊆ StableHlo.tcRefs τ sig :=
  ⟨StableHlo.unary_bufs_sub .., StableHlo.unary_bufs_sub .., StableHlo.ternary_bufs_sub ..⟩

/-- 7 host operations of @main, window 0 (statements 1 … 60), in order. -/
abbrev main_part0_ops7 : List (HloOp τ sig (Elt F)) :=
  [ StableHlo.unary main_v30 main_v31 (broadcastInDim S1x64x64 ![1, 2] bcast_S64x64_S1x64x64_1_2 : (⟨S64x64, .f32⟩ : BufTy).Contents (Elt F) → (⟨S1x64x64, .f32⟩ : BufTy).Contents (Elt F)),
    StableHlo.unary main_v19 main_v32 (broadcastInDim S4x1x1 ![0, 1] bcast_S4x1_S4x1x1_0_1 : (⟨S4x1, .f32⟩ : BufTy).Contents (Elt F) → (⟨S4x1x1, .f32⟩ : BufTy).Contents (Elt F)),
    StableHlo.unary main_v31 main_v33 (broadcastInDim S4x64x64 ![0, 1, 2] bcast_S1x64x64_S4x64x64_0_1_2 : (⟨S1x64x64, .f32⟩ : BufTy).Contents (Elt F) → (⟨S4x64x64, .f32⟩ : BufTy).Contents (Elt F)),
    StableHlo.unary main_v32 main_v34 (broadcastInDim S4x64x64 ![0, 1, 2] bcast_S4x1x1_S4x64x64_0_1_2 : (⟨S4x1x1, .f32⟩ : BufTy).Contents (Elt F) → (⟨S4x64x64, .f32⟩ : BufTy).Contents (Elt F)),
    StableHlo.binary main_v33 main_v34 main_v35 (mulf : (⟨S4x64x64, .f32⟩ : BufTy).Contents (Elt F) → (⟨S4x64x64, .f32⟩ : BufTy).Contents (Elt F) → (⟨S4x64x64, .f32⟩ : BufTy).Contents (Elt F)),
    StableHlo.unary main_v35 main_v36 (Host.exp : (⟨S4x64x64, .f32⟩ : BufTy).Contents (Elt F) → (⟨S4x64x64, .f32⟩ : BufTy).Contents (Elt F)),
    StableHlo.nullary main_cst_1 (constant S_ .f32 0x00000000#32) ]

/-- Each touches TensorCore buffers only. -/
theorem main_part0_ops7_sub : (main_part0_ops7 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.nullary_bufs_sub ..⟩

/-- 6 host operations of @_where_1 (main_call5), window 0 (statements 1 … 60), in order. -/
abbrev main_part0_ops8 : List (HloOp τ sig (Elt F)) :=
  [ StableHlo.TRef.unary (.of main_cst_1 : StableHlo.TRef sig ⟨S_, .f32⟩) (.of main_call5_v0 : StableHlo.TRef sig ⟨S_, .f32⟩) id,
    StableHlo.TRef.unary (.of main_v24 : StableHlo.TRef sig ⟨S64x64, .i1⟩) (.of main_v37_1 : StableHlo.TRef sig ⟨S4x64x64, .i1⟩) (broadcastInDim S4x64x64 ![1, 2] bcast_S64x64_S4x64x64_1_2),
    StableHlo.TRef.unary (.of main_call5_v0 : StableHlo.TRef sig ⟨S_, .f32⟩) (.of main_call5_v2 : StableHlo.TRef sig ⟨S4x64x64, .f32⟩) (broadcastInDim S4x64x64 ![] bcast_S_S4x64x64),
    StableHlo.TRef.ternary (.of main_v37_1 : StableHlo.TRef sig ⟨S4x64x64, .i1⟩) (.of main_v36 : StableHlo.TRef sig ⟨S4x64x64, .f32⟩) (.of main_call5_v2 : StableHlo.TRef sig ⟨S4x64x64, .f32⟩) (.of main_v37_0 : StableHlo.TRef sig ⟨S4x64x64, .f32⟩) select,
    StableHlo.TRef.nullary (.of main_call5_cst : StableHlo.TRef sig ⟨S_, .f32⟩) (constant S_ .f32 0x00000000#32),
    StableHlo.TRef.unary (.of main_call5_cst : StableHlo.TRef sig ⟨S_, .f32⟩) (.of main_v37_2 : StableHlo.TRef sig ⟨S4x64x64, .f32⟩) (broadcastInDim S4x64x64 ![] bcast_S_S4x64x64) ]

/-- Each touches TensorCore buffers only. -/
theorem main_part0_ops8_sub : (main_part0_ops8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩

/-- 19 host operations of @main, window 0 (statements 1 … 60), in order. -/
abbrev main_part0_ops9 : List (HloOp τ sig (Elt F)) :=
  [ StableHlo.binary main_v11 main_v15 main_v38 ((fun l r => Host.dotGeneral dot_S65x2x4x64x256_S65x2x4x64x256_S65x2x4x64x64_4_4_3_3_012_012 none l r) : (⟨S65x2x4x64x256, .f32⟩ : BufTy).Contents (Elt F) → (⟨S65x2x4x64x256, .f32⟩ : BufTy).Contents (Elt F) → (⟨S65x2x4x64x64, .f32⟩ : BufTy).Contents (Elt F)),
    StableHlo.unary main_v37_0 main_v39 (broadcastInDim S1x1x4x64x64 ![2, 3, 4] bcast_S4x64x64_S1x1x4x64x64_2_3_4 : (⟨S4x64x64, .f32⟩ : BufTy).Contents (Elt F) → (⟨S1x1x4x64x64, .f32⟩ : BufTy).Contents (Elt F)),
    StableHlo.unary main_v39 main_v40 (broadcastInDim S65x2x4x64x64 ![0, 1, 2, 3, 4] bcast_S1x1x4x64x64_S65x2x4x64x64_0_1_2_3_4 : (⟨S1x1x4x64x64, .f32⟩ : BufTy).Contents (Elt F) → (⟨S65x2x4x64x64, .f32⟩ : BufTy).Contents (Elt F)),
    StableHlo.binary main_v38 main_v40 main_v41 (mulf : (⟨S65x2x4x64x64, .f32⟩ : BufTy).Contents (Elt F) → (⟨S65x2x4x64x64, .f32⟩ : BufTy).Contents (Elt F) → (⟨S65x2x4x64x64, .f32⟩ : BufTy).Contents (Elt F)),
    StableHlo.nullary main_cst_2 (constant S_ .f32 0x3F800000#32),
    StableHlo.unary main_cst_2 main_v42 (broadcastInDim S64 ![] bcast_S_S64 : (⟨S_, .f32⟩ : BufTy).Contents (Elt F) → (⟨S64, .f32⟩ : BufTy).Contents (Elt F)),
    StableHlo.binary main_v18 main_v42 main_v43 (addf : (⟨S64, .f32⟩ : BufTy).Contents (Elt F) → (⟨S64, .f32⟩ : BufTy).Contents (Elt F) → (⟨S64, .f32⟩ : BufTy).Contents (Elt F)),
    StableHlo.unary main_v43 main_v44 (broadcastInDim S1x64 ![1] bcast_S64_S1x64_1 : (⟨S64, .f32⟩ : BufTy).Contents (Elt F) → (⟨S1x64, .f32⟩ : BufTy).Contents (Elt F)),
    StableHlo.unary main_v19 main_v45 (broadcastInDim S4x64 ![0, 1] bcast_S4x1_S4x64_0_1 : (⟨S4x1, .f32⟩ : BufTy).Contents (Elt F) → (⟨S4x64, .f32⟩ : BufTy).Contents (Elt F)),
    StableHlo.unary main_v44 main_v46 (broadcastInDim S4x64 ![0, 1] bcast_S1x64_S4x64_0_1 : (⟨S1x64, .f32⟩ : BufTy).Contents (Elt F) → (⟨S4x64, .f32⟩ : BufTy).Contents (Elt F)),
    StableHlo.binary main_v45 main_v46 main_v47 (mulf : (⟨S4x64, .f32⟩ : BufTy).Contents (Elt F) → (⟨S4x64, .f32⟩ : BufTy).Contents (Elt F) → (⟨S4x64, .f32⟩ : BufTy).Contents (Elt F)),
    StableHlo.unary main_v47 main_v48 (Host.exp : (⟨S4x64, .f32⟩ : BufTy).Contents (Elt F) → (⟨S4x64, .f32⟩ : BufTy).Contents (Elt F)),
    StableHlo.unary main_v48 main_v49 (broadcastInDim S4x64x1 ![0, 1] bcast_S4x64_S4x64x1_0_1 : (⟨S4x64, .f32⟩ : BufTy).Contents (Elt F) → (⟨S4x64x1, .f32⟩ : BufTy).Contents (Elt F)),
    StableHlo.unary main_v49 main_v50 (broadcastInDim S1x1x4x64x1 ![2, 3, 4] bcast_S4x64x1_S1x1x4x64x1_2_3_4 : (⟨S4x64x1, .f32⟩ : BufTy).Contents (Elt F) → (⟨S1x1x4x64x1, .f32⟩ : BufTy).Contents (Elt F)),
    StableHlo.unary main_v50 main_v51 (broadcastInDim S65x2x4x64x256 ![0, 1, 2, 3, 4] bcast_S1x1x4x64x1_S65x2x4x64x256_0_1_2_3_4 : (⟨S1x1x4x64x1, .f32⟩ : BufTy).Contents (Elt F) → (⟨S65x2x4x64x256, .f32⟩ : BufTy).Contents (Elt F)),
    StableHlo.binary main_v11 main_v51 main_v52 (mulf : (⟨S65x2x4x64x256, .f32⟩ : BufTy).Contents (Elt F) → (⟨S65x2x4x64x256, .f32⟩ : BufTy).Contents (Elt F) → (⟨S65x2x4x64x256, .f32⟩ : BufTy).Contents (Elt F)),
    StableHlo.nullary main_cst_3 (constant S_ .f32 0x427C0000#32),
    StableHlo.unary main_cst_3 main_v53 (broadcastInDim S64 ![] bcast_S_S64 : (⟨S_, .f32⟩ : BufTy).Contents (Elt F) → (⟨S64, .f32⟩ : BufTy).Contents (Elt F)),
    StableHlo.binary main_v53 main_v18 main_v54 (subf : (⟨S64, .f32⟩ : BufTy).Contents (Elt F) → (⟨S64, .f32⟩ : BufTy).Contents (Elt F) → (⟨S64, .f32⟩ : BufTy).Contents (Elt F)) ]

/-- Each touches TensorCore buffers only. -/
theorem main_part0_ops9_sub : (main_part0_ops9 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub ..⟩

/-- The first window of @main is the chain of its stretches. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8 ]
  (StableHlo.seq main_part0_ops9) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, Pipeline.chainK_cons, Pipeline.chainK_cons, Pipeline.chainK_cons, StableHlo.chainK_seq_cons, Pipeline.chainK_cons, StableHlo.chainK_seq_cons, Pipeline.chainK_cons]
  chain_rfl

/-- 31 host operations of @main, window 1 (statements 61 … 120), in order. -/
abbrev main_part1_ops0 : List (HloOp τ sig (Elt F)) :=
  [ StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v19 main_v56 (broadcastInDim S4x64 ![0, 1] bcast_S4x1_S4x64_0_1 : (⟨S4x1, .f32⟩ : BufTy).Contents (Elt F) → (⟨S4x64, .f32⟩ : BufTy).Contents (Elt F)),
    StableHlo.unary main_v55 main_v57 (broadcastInDim S4x64 ![0, 1] bcast_S1x64_S4x64_0_1 : (⟨S1x64, .f32⟩ : BufTy).Contents (Elt F) → (⟨S4x64, .f32⟩ : BufTy).Contents (Elt F)),
    StableHlo.binary main_v56 main_v57 main_v58 (mulf : (⟨S4x64, .f32⟩ : BufTy).Contents (Elt F) → (⟨S4x64, .f32⟩ : BufTy).Contents (Elt F) → (⟨S4x64, .f32⟩ : BufTy).Contents (Elt F)),
    StableHlo.unary main_v58 main_v59 (Host.exp : (⟨S4x64, .f32⟩ : BufTy).Contents (Elt F) → (⟨S4x64, .f32⟩ : BufTy).Contents (Elt F)),
    StableHlo.unary main_v59 main_v60 (broadcastInDim S4x64x1 ![0, 1] bcast_S4x64_S4x64x1_0_1 : (⟨S4x64, .f32⟩ : BufTy).Contents (Elt F) → (⟨S4x64x1, .f32⟩ : BufTy).Contents (Elt F)),
    StableHlo.unary main_v60 main_v61 (broadcastInDim S1x1x4x64x1 ![2, 3, 4] bcast_S4x64x1_S1x1x4x64x1_2_3_4 : (⟨S4x64x1, .f32⟩ : BufTy).Contents (Elt F) → (⟨S1x1x4x64x1, .f32⟩ : BufTy).Contents (Elt F)),
    StableHlo.unary main_v61 main_v62 (broadcastInDim S65x2x4x64x256 ![0, 1, 2, 3, 4] bcast_S1x1x4x64x1_S65x2x4x64x256_0_1_2_3_4 : (⟨S1x1x4x64x1, .f32⟩ : BufTy).Contents (Elt F) → (⟨S65x2x4x64x256, .f32⟩ : BufTy).Contents (Elt F)),
    StableHlo.binary main_v15 main_v62 main_v63 (mulf : (⟨S65x2x4x64x256, .f32⟩ : BufTy).Contents (Elt F) → (⟨S65x2x4x64x256, .f32⟩ : BufTy).Contents (Elt F) → (⟨S65x2x4x64x256, .f32⟩ : BufTy).Contents (Elt F)),
    StableHlo.nullary main_cst_4 (constant S_ .f32 0x42800000#32),
    StableHlo.unary main_cst_4 main_v64 (broadcastInDim S4x1 ![] bcast_S_S4x1 : (⟨S_, .f32⟩ : BufTy).Contents (Elt F) → (⟨S4x1, .f32⟩ : BufTy).Contents (Elt F)),
    StableHlo.binary main_v19 main_v64 main_v65 (mulf : (⟨S4x1, .f32⟩ : BufTy).Contents (Elt F) → (⟨S4x1, .f32⟩ : BufTy).Contents (Elt F) → (⟨S4x1, .f32⟩ : BufTy).Contents (Elt F)),
    StableHlo.unary main_v65 main_v66 (Host.exp : (⟨S4x1, .f32⟩ : BufTy).Contents (Elt F) → (⟨S4x1, .f32⟩ : BufTy).Contents (Elt F)),
    StableHlo.unary main_v66 main_v67 (broadcastInDim S4x1x1 ![0, 1] bcast_S4x1_S4x1x1_0_1 : (⟨S4x1, .f32⟩ : BufTy).Contents (Elt F) → (⟨S4x1x1, .f32⟩ : BufTy).Contents (Elt F)),
    StableHlo.nullary main_cst_5 (constant S_ .f32 0x00000000#32),
    StableHlo.unary main_cst_5 main_v68 (broadcastInDim S2x4x256x512 ![] bcast_S_S2x4x256x512 : (⟨S_, .f32⟩ : BufTy).Contents (Elt F) → (⟨S2x4x256x512, .f32⟩ : BufTy).Contents (Elt F)),
    StableHlo.unary main_v67 main_v69 (broadcastInDim S1x4x1x1 ![1, 2, 3] bcast_S4x1x1_S1x4x1x1_1_2_3 : (⟨S4x1x1, .f32⟩ : BufTy).Contents (Elt F) → (⟨S1x4x1x1, .f32⟩ : BufTy).Contents (Elt F)),
    StableHlo.nullary main_cst_6 (constant S_ .f32 0x00000000#32),
    StableHlo.unary main_cst_6 main_v70 (broadcastInDim S65x2x4x64x512 ![] bcast_S_S65x2x4x64x512 : (⟨S_, .f32⟩ : BufTy).Contents (Elt F) → (⟨S65x2x4x64x512, .f32⟩ : BufTy).Contents (Elt F)),
    StableHlo.nullary main_cst_7 (constant S_ .f32 0x00000000#32),
    StableHlo.unary main_cst_7 main_v71 (broadcastInDim S65x2x4x256x512 ![] bcast_S_S65x2x4x256x512 : (⟨S_, .f32⟩ : BufTy).Contents (Elt F) → (⟨S65x2x4x256x512, .f32⟩ : BufTy).Contents (Elt F)),
    StableHlo.nullary main_c (constantI S_ 32 0#32),
    StableHlo.unary main_v52 main_v72_0 id,
    StableHlo.unary main_v63 main_v72_1 id,
    StableHlo.unary main_v41 main_v72_2 id,
    StableHlo.unary main_v17 main_v72_3 id,
    StableHlo.unary main_v69 main_v72_4 id,
    StableHlo.unary main_c main_v72_5 id,
    StableHlo.unary main_v68 main_v72_6 id,
    StableHlo.unary main_v70 main_v72_7 id,
    StableHlo.unary main_v71 main_v72_8 id ]

/-- Each touches TensorCore buffers only. -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- 2 host operations of @main, window 1 (statements 61 … 120), in order. -/
abbrev main_part1_ops1 : List (HloOp τ sig (Elt F)) :=
  [ StableHlo.unary main_v72_7 main_v73 ((transpose S2x65x64x4x512 [1, 0, 3, 2, 4] · transposes_S65x2x4x64x512_S2x65x64x4x512_1_0_3_2_4) : (⟨S65x2x4x64x512, .f32⟩ : BufTy).Contents (Elt F) → (⟨S2x65x64x4x512, .f32⟩ : BufTy).Contents (Elt F)),
    StableHlo.reshape main_v73 main_v74 (rfl : (.f32 : EltTy) = .f32) shapeCasts_S2x65x64x4x512_S2x4160x4x512 ]

/-- Each touches TensorCore buffers only. -/
theorem main_part1_ops1_sub : (main_part1_ops1 : List (HloOp τ sig (Elt F))).Forall fun op => op.bufs ⊆ StableHlo.tcRefs τ sig :=
  ⟨StableHlo.unary_bufs_sub .., StableHlo.reshape_bufs_sub ..⟩

/-- 1 host operation of @_flip_0 (main_call12), window 1 (statements 61 … 120), in order. -/
abbrev main_part1_ops2 : List (HloOp τ sig (Elt F)) :=
  [ StableHlo.TRef.unary (.of main_v74 : StableHlo.TRef sig ⟨S2x4160x4x512, .f32⟩) (.of main_v75 : StableHlo.TRef sig ⟨S2x4160x4x512, .f32⟩) (Host.reverse [1]) ]

/-- Each touches TensorCore buffers only. -/
theorem main_part1_ops2_sub : (main_part1_ops2 : List (HloOp τ sig (Elt F))).Forall fun op => op.bufs ⊆ StableHlo.tcRefs τ sig :=
  StableHlo.unary_bufs_sub ..

/-- 4 host operations of @main, window 1 (statements 61 … 120), in order. -/
abbrev main_part1_ops3 : List (HloOp τ sig (Elt F)) :=
  [ StableHlo.reshape main_v75 main_v76 (rfl : (.f32 : EltTy) = .f32) shapeCasts_S2x4160x4x512_S2x4160x2048,
    StableHlo.nullary main_cst_8 (constant S_ .f32 0x00000000#32),
    StableHlo.unary main_cst_8 main_v77 (broadcastInDim S2x4x256x512 ![] bcast_S_S2x4x256x512 : (⟨S_, .f32⟩ : BufTy).Contents (Elt F) → (⟨S2x4x256x512, .f32⟩ : BufTy).Contents (Elt F)),
    StableHlo.reshape main_arg3 main_v78 (rfl : (.f32 : EltTy) = .f32) shapeCasts_S2x4160x2048_S2x4160x4x512 ]

/-- Each touches TensorCore buffers only. -/
theorem main_part1_ops3_sub : (main_part1_ops3 : List (HloOp τ sig (Elt F))).Forall fun op => op.bufs ⊆ StableHlo.tcRefs τ sig :=
  ⟨StableHlo.reshape_bufs_sub .., StableHlo.nullary_bufs_sub .., StableHlo.unary_bufs_sub .., StableHlo.reshape_bufs_sub ..⟩

/-- 1 host operation of @_flip_5 (main_call13), window 1 (statements 61 … 120), in order. -/
abbrev main_part1_ops4 : List (HloOp τ sig (Elt F)) :=
  [ StableHlo.TRef.unary (.of main_v78 : StableHlo.TRef sig ⟨S2x4160x4x512, .f32⟩) (.of main_v79 : StableHlo.TRef sig ⟨S2x4160x4x512, .f32⟩) (Host.reverse [1]) ]

/-- Each touches TensorCore buffers only. -/
theorem main_part1_ops4_sub : (main_part1_ops4 : List (HloOp τ sig (Elt F))).Forall fun op => op.bufs ⊆ StableHlo.tcRefs τ sig :=
  StableHlo.unary_bufs_sub ..

/-- 20 host operations of @main, window 1 (statements 61 … 120), in order. -/
abbrev main_part1_ops5 : List (HloOp τ sig (Elt F)) :=
  [ StableHlo.reshape main_v79 main_v80 (rfl : (.f32 : EltTy) = .f32) shapeCasts_S2x4160x4x512_S2x65x64x4x512,
    StableHlo.unary main_v80 main_v81 ((transpose S65x2x4x64x512 [1, 0, 3, 2, 4] · transposes_S2x65x64x4x512_S65x2x4x64x512_1_0_3_2_4) : (⟨S2x65x64x4x512, .f32⟩ : BufTy).Contents (Elt F) → (⟨S65x2x4x64x512, .f32⟩ : BufTy).Contents (Elt F)),
    StableHlo.nullary main_cst_9 (constant S_ .f32 0x00000000#32),
    StableHlo.unary main_cst_9 main_v82 (broadcastInDim S2x4x256x512 ![] bcast_S_S2x4x256x512 : (⟨S_, .f32⟩ : BufTy).Contents (Elt F) → (⟨S2x4x256x512, .f32⟩ : BufTy).Contents (Elt F)),
    StableHlo.nullary main_cst_10 (constant S_ .f32 0x00000000#32),
    StableHlo.unary main_cst_10 main_v83 (broadcastInDim S4x1x1 ![] bcast_S_S4x1x1 : (⟨S_, .f32⟩ : BufTy).Contents (Elt F) → (⟨S4x1x1, .f32⟩ : BufTy).Contents (Elt F)),
    StableHlo.nullary main_cst_11 (constant S_ .f32 0x00000000#32),
    StableHlo.unary main_cst_11 main_v84 (broadcastInDim S65x2x4x64x256 ![] bcast_S_S65x2x4x64x256 : (⟨S_, .f32⟩ : BufTy).Contents (Elt F) → (⟨S65x2x4x64x256, .f32⟩ : BufTy).Contents (Elt F)),
    StableHlo.nullary main_cst_12 (constant S_ .f32 0x00000000#32),
    StableHlo.unary main_cst_12 main_v85 (broadcastInDim S65x2x4x64x256 ![] bcast_S_S65x2x4x64x256 : (⟨S_, .f32⟩ : BufTy).Contents (Elt F) → (⟨S65x2x4x64x256, .f32⟩ : BufTy).Contents (Elt F)),
    StableHlo.nullary main_cst_13 (constant S_ .f32 0x00000000#32),
    StableHlo.unary main_cst_13 main_v86 (broadcastInDim S65x2x4x64x64 ![] bcast_S_S65x2x4x64x64 : (⟨S_, .f32⟩ : BufTy).Contents (Elt F) → (⟨S65x2x4x64x64, .f32⟩ : BufTy).Contents (Elt F)),
    StableHlo.nullary main_cst_14 (constant S_ .f32 0x00000000#32),
    StableHlo.unary main_cst_14 main_v87 (broadcastInDim S65x2x4x64x512 ![] bcast_S_S65x2x4x64x512 : (⟨S_, .f32⟩ : BufTy).Contents (Elt F) → (⟨S65x2x4x64x512, .f32⟩ : BufTy).Contents (Elt F)),
    StableHlo.nullary main_c_15 (constantI S_ 32 0#32),
    StableHlo.unary main_v81 main_v88_0 id,
    StableHlo.unary main_v72_8 main_v88_1 id,
    StableHlo.unary main_v52 main_v88_2 id,
    StableHlo.unary main_v17 main_v88_3 id,
    StableHlo.unary main_v41 main_v88_4 id ]

/-- Each touches TensorCore buffers only. -/
theorem main_part1_ops5_sub : (main_part1_ops5 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

/-- The second window of @main is the chain of its stretches and the first loop. -/
theorem main_part1_chain (c : Dev nD) : main_part1 (F := F) c = (Pipeline.chainK
  [ StableHlo.seq main_part1_ops0,
    HostLoop.enter 0,
    StableHlo.seq main_part1_ops1,
    StableHlo.seq main_part1_ops2,
    StableHlo.seq main_part1_ops3,
    StableHlo.seq main_part1_ops4 ]
  (StableHlo.seq main_part1_ops5) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- 9 host operations of @main, window 2 (statements 121 … 180), in order. -/
abbrev main_part2_ops0 : List (HloOp τ sig (Elt F)) :=
  [ StableHlo.unary main_v63 main_v88_5 id,
    StableHlo.unary main_v69 main_v88_6 id,
    StableHlo.unary main_c_15 main_v88_7 id,
    StableHlo.unary main_v83 main_v88_8 id,
    StableHlo.unary main_v82 main_v88_9 id,
    StableHlo.unary main_v84 main_v88_10 id,
    StableHlo.unary main_v85 main_v88_11 id,
    StableHlo.unary main_v86 main_v88_12 id,
    StableHlo.unary main_v87 main_v88_13 id ]

/-- Each touches TensorCore buffers only. -/
theorem main_part2_ops0_sub : (main_part2_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- 50 host operations of @main, window 2 (statements 121 … 180), in order. -/
abbrev main_part2_ops1 : List (HloOp τ sig (Elt F)) :=
  ( StableHlo.nullary main_cst_16 (constant S_ .f32 0x00000000#32)
  :: StableHlo.binary main_v88_8 main_cst_16 main_v89 ((fun x v => Host.reduceAdd x v reducesTo_S4x1x1_S4_d1_2 h_S_) : (⟨S4x1x1, .f32⟩ : BufTy).Contents (Elt F) → (⟨S_, .f32⟩ : BufTy).Contents (Elt F) → (⟨S4, .f32⟩ : BufTy).Contents (Elt F))
  :: StableHlo.unary main_v89 main_v90 (broadcastInDim S4x1 ![0] bcast_S4_S4x1_0 : (⟨S4, .f32⟩ : BufTy).Contents (Elt F) → (⟨S4x1, .f32⟩ : BufTy).Contents (Elt F))
  :: StableHlo.binary main_v90 main_v66 main_v91 (mulf : (⟨S4x1, .f32⟩ : BufTy).Contents (Elt F) → (⟨S4x1, .f32⟩ : BufTy).Contents (Elt F) → (⟨S4x1, .f32⟩ : BufTy).Contents (Elt F))
  :: StableHlo.nullary main_cst_17 (constant S_ .f32 0x42800000#32)
  :: StableHlo.unary main_cst_17 main_v92 (broadcastInDim S4x1 ![] bcast_S_S4x1 : (⟨S_, .f32⟩ : BufTy).Contents (Elt F) → (⟨S4x1, .f32⟩ : BufTy).Contents (Elt F))
  :: StableHlo.binary main_v91 main_v92 main_v93 (mulf : (⟨S4x1, .f32⟩ : BufTy).Contents (Elt F) → (⟨S4x1, .f32⟩ : BufTy).Contents (Elt F) → (⟨S4x1, .f32⟩ : BufTy).Contents (Elt F))
  :: StableHlo.binary main_v15 main_v88_11 main_v94 (mulf : (⟨S65x2x4x64x256, .f32⟩ : BufTy).Contents (Elt F) → (⟨S65x2x4x64x256, .f32⟩ : BufTy).Contents (Elt F) → (⟨S65x2x4x64x256, .f32⟩ : BufTy).Contents (Elt F))
  :: StableHlo.nullary main_cst_18 (constant S_ .f32 0x00000000#32)
  :: StableHlo.binary main_v94 main_cst_18 main_v95 ((fun x v => Host.reduceAdd x v reducesTo_S65x2x4x64x256_S4x64_d0_1_4 h_S_) : (⟨S65x2x4x64x256, .f32⟩ : BufTy).Contents (Elt F) → (⟨S_, .f32⟩ : BufTy).Contents (Elt F) → (⟨S4x64, .f32⟩ : BufTy).Contents (Elt F))
  :: StableHlo.reshape main_v95 main_v96 (rfl : (.f32 : EltTy) = .f32) shapeCasts_S4x64_S1x1x4x64x1
  :: StableHlo.unary main_v61 main_v97 (broadcastInDim S65x2x4x64x256 ![0, 1, 2, 3, 4] bcast_S1x1x4x64x1_S65x2x4x64x256_0_1_2_3_4 : (⟨S1x1x4x64x1, .f32⟩ : BufTy).Contents (Elt F) → (⟨S65x2x4x64x256, .f32⟩ : BufTy).Contents (Elt F))
  :: StableHlo.binary main_v88_11 main_v97 main_v98 (mulf : (⟨S65x2x4x64x256, .f32⟩ : BufTy).Contents (Elt F) → (⟨S65x2x4x64x256, .f32⟩ : BufTy).Contents (Elt F) → (⟨S65x2x4x64x256, .f32⟩ : BufTy).Contents (Elt F))
  :: StableHlo.nullary main_cst_19 (constant S_ .f32 0x00000000#32)
  :: StableHlo.binary main_v96 main_cst_19 main_v99 ((fun x v => Host.reduceAdd x v reducesTo_S1x1x4x64x1_S4x64_d0_1_4 h_S_) : (⟨S1x1x4x64x1, .f32⟩ : BufTy).Contents (Elt F) → (⟨S_, .f32⟩ : BufTy).Contents (Elt F) → (⟨S4x64, .f32⟩ : BufTy).Contents (Elt F))
  :: StableHlo.unary main_v99 main_v100 (broadcastInDim S4x64x1 ![0, 1] bcast_S4x64_S4x64x1_0_1 : (⟨S4x64, .f32⟩ : BufTy).Contents (Elt F) → (⟨S4x64x1, .f32⟩ : BufTy).Contents (Elt F))
  :: StableHlo.nullary main_cst_20 (constant S_ .f32 0x00000000#32)
  :: StableHlo.binary main_v100 main_cst_20 main_v101 ((fun x v => Host.reduceAdd x v reducesTo_S4x64x1_S4x64_d2 h_S_) : (⟨S4x64x1, .f32⟩ : BufTy).Contents (Elt F) → (⟨S_, .f32⟩ : BufTy).Contents (Elt F) → (⟨S4x64, .f32⟩ : BufTy).Contents (Elt F))
  :: StableHlo.binary main_v101 main_v59 main_v102 (mulf : (⟨S4x64, .f32⟩ : BufTy).Contents (Elt F) → (⟨S4x64, .f32⟩ : BufTy).Contents (Elt F) → (⟨S4x64, .f32⟩ : BufTy).Contents (Elt F))
  :: StableHlo.unary main_v55 main_v103 (broadcastInDim S4x64 ![0, 1] bcast_S1x64_S4x64_0_1 : (⟨S1x64, .f32⟩ : BufTy).Contents (Elt F) → (⟨S4x64, .f32⟩ : BufTy).Contents (Elt F))
  :: StableHlo.binary main_v102 main_v103 main_v104 (mulf : (⟨S4x64, .f32⟩ : BufTy).Contents (Elt F) → (⟨S4x64, .f32⟩ : BufTy).Contents (Elt F) → (⟨S4x64, .f32⟩ : BufTy).Contents (Elt F))
  :: StableHlo.nullary main_cst_21 (constant S_ .f32 0x00000000#32)
  :: StableHlo.binary main_v104 main_cst_21 main_v105 ((fun x v => Host.reduceAdd x v reducesTo_S4x64_S4_d1 h_S_) : (⟨S4x64, .f32⟩ : BufTy).Contents (Elt F) → (⟨S_, .f32⟩ : BufTy).Contents (Elt F) → (⟨S4, .f32⟩ : BufTy).Contents (Elt F))
  :: StableHlo.reshape main_v105 main_v106 (rfl : (.f32 : EltTy) = .f32) shapeCasts_S4_S4x1
  :: StableHlo.binary main_v93 main_v106 main_v107 (addf : (⟨S4x1, .f32⟩ : BufTy).Contents (Elt F) → (⟨S4x1, .f32⟩ : BufTy).Contents (Elt F) → (⟨S4x1, .f32⟩ : BufTy).Contents (Elt F))
  :: StableHlo.binary main_v11 main_v88_10 main_v108 (mulf : (⟨S65x2x4x64x256, .f32⟩ : BufTy).Contents (Elt F) → (⟨S65x2x4x64x256, .f32⟩ : BufTy).Contents (Elt F) → (⟨S65x2x4x64x256, .f32⟩ : BufTy).Contents (Elt F))
  :: StableHlo.nullary main_cst_22 (constant S_ .f32 0x00000000#32)
  :: StableHlo.binary main_v108 main_cst_22 main_v109 ((fun x v => Host.reduceAdd x v reducesTo_S65x2x4x64x256_S4x64_d0_1_4 h_S_) : (⟨S65x2x4x64x256, .f32⟩ : BufTy).Contents (Elt F) → (⟨S_, .f32⟩ : BufTy).Contents (Elt F) → (⟨S4x64, .f32⟩ : BufTy).Contents (Elt F))
  :: StableHlo.reshape main_v109 main_v110 (rfl : (.f32 : EltTy) = .f32) shapeCasts_S4x64_S1x1x4x64x1
  :: StableHlo.unary main_v50 main_v111 (broadcastInDim S65x2x4x64x256 ![0, 1, 2, 3, 4] bcast_S1x1x4x64x1_S65x2x4x64x256_0_1_2_3_4 : (⟨S1x1x4x64x1, .f32⟩ : BufTy).Contents (Elt F) → (⟨S65x2x4x64x256, .f32⟩ : BufTy).Contents (Elt F))
  :: StableHlo.binary main_v88_10 main_v111 main_v112 (mulf : (⟨S65x2x4x64x256, .f32⟩ : BufTy).Contents (Elt F) → (⟨S65x2x4x64x256, .f32⟩ : BufTy).Contents (Elt F) → (⟨S65x2x4x64x256, .f32⟩ : BufTy).Contents (Elt F))
  :: StableHlo.nullary main_cst_23 (constant S_ .f32 0x00000000#32)
  :: StableHlo.binary main_v110 main_cst_23 main_v113 ((fun x v => Host.reduceAdd x v reducesTo_S1x1x4x64x1_S4x64_d0_1_4 h_S_) : (⟨S1x1x4x64x1, .f32⟩ : BufTy).Contents (Elt F) → (⟨S_, .f32⟩ : BufTy).Contents (Elt F) → (⟨S4x64, .f32⟩ : BufTy).Contents (Elt F))
  :: StableHlo.unary main_v113 main_v114 (broadcastInDim S4x64x1 ![0, 1] bcast_S4x64_S4x64x1_0_1 : (⟨S4x64, .f32⟩ : BufTy).Contents (Elt F) → (⟨S4x64x1, .f32⟩ : BufTy).Contents (Elt F))
  :: StableHlo.nullary main_cst_24 (constant S_ .f32 0x00000000#32)
  :: StableHlo.binary main_v114 main_cst_24 main_v115 ((fun x v => Host.reduceAdd x v reducesTo_S4x64x1_S4x64_d2 h_S_) : (⟨S4x64x1, .f32⟩ : BufTy).Contents (Elt F) → (⟨S_, .f32⟩ : BufTy).Contents (Elt F) → (⟨S4x64, .f32⟩ : BufTy).Contents (Elt F))
  :: StableHlo.binary main_v115 main_v48 main_v116 (mulf : (⟨S4x64, .f32⟩ : BufTy).Contents (Elt F) → (⟨S4x64, .f32⟩ : BufTy).Contents (Elt F) → (⟨S4x64, .f32⟩ : BufTy).Contents (Elt F))
  :: StableHlo.unary main_v44 main_v117 (broadcastInDim S4x64 ![0, 1] bcast_S1x64_S4x64_0_1 : (⟨S1x64, .f32⟩ : BufTy).Contents (Elt F) → (⟨S4x64, .f32⟩ : BufTy).Contents (Elt F))
  :: StableHlo.binary main_v116 main_v117 main_v118 (mulf : (⟨S4x64, .f32⟩ : BufTy).Contents (Elt F) → (⟨S4x64, .f32⟩ : BufTy).Contents (Elt F) → (⟨S4x64, .f32⟩ : BufTy).Contents (Elt F))
  :: StableHlo.nullary main_cst_25 (constant S_ .f32 0x00000000#32)
  :: StableHlo.binary main_v118 main_cst_25 main_v119 ((fun x v => Host.reduceAdd x v reducesTo_S4x64_S4_d1 h_S_) : (⟨S4x64, .f32⟩ : BufTy).Contents (Elt F) → (⟨S_, .f32⟩ : BufTy).Contents (Elt F) → (⟨S4, .f32⟩ : BufTy).Contents (Elt F))
  :: StableHlo.reshape main_v119 main_v120 (rfl : (.f32 : EltTy) = .f32) shapeCasts_S4_S4x1
  :: StableHlo.binary main_v107 main_v120 main_v121 (addf : (⟨S4x1, .f32⟩ : BufTy).Contents (Elt F) → (⟨S4x1, .f32⟩ : BufTy).Contents (Elt F) → (⟨S4x1, .f32⟩ : BufTy).Contents (Elt F))
  :: StableHlo.binary main_v38 main_v88_12 main_v122 (mulf : (⟨S65x2x4x64x64, .f32⟩ : BufTy).Contents (Elt F) → (⟨S65x2x4x64x64, .f32⟩ : BufTy).Contents (Elt F) → (⟨S65x2x4x64x64, .f32⟩ : BufTy).Contents (Elt F))
  :: StableHlo.nullary main_cst_26 (constant S_ .f32 0x00000000#32)
  :: StableHlo.binary main_v122 main_cst_26 main_v123 ((fun x v => Host.reduceAdd x v reducesTo_S65x2x4x64x64_S4x64x64_d0_1 h_S_) : (⟨S65x2x4x64x64, .f32⟩ : BufTy).Contents (Elt F) → (⟨S_, .f32⟩ : BufTy).Contents (Elt F) → (⟨S4x64x64, .f32⟩ : BufTy).Contents (Elt F))
  :: StableHlo.reshape main_v123 main_v124 (rfl : (.f32 : EltTy) = .f32) shapeCasts_S4x64x64_S1x1x4x64x64
  :: StableHlo.unary main_v39 main_v125 (broadcastInDim S65x2x4x64x64 ![0, 1, 2, 3, 4] bcast_S1x1x4x64x64_S65x2x4x64x64_0_1_2_3_4 : (⟨S1x1x4x64x64, .f32⟩ : BufTy).Contents (Elt F) → (⟨S65x2x4x64x64, .f32⟩ : BufTy).Contents (Elt F))
  :: StableHlo.binary main_v88_12 main_v125 main_v126 (mulf : (⟨S65x2x4x64x64, .f32⟩ : BufTy).Contents (Elt F) → (⟨S65x2x4x64x64, .f32⟩ : BufTy).Contents (Elt F) → (⟨S65x2x4x64x64, .f32⟩ : BufTy).Contents (Elt F))
  :: StableHlo.nullary main_cst_27 (constant S_ .f32 0x00000000#32)
  :: [] )

/-- Each touches TensorCore buffers only. -/
theorem main_part2_ops1_sub : (main_part2_ops1 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.nullary_bufs_sub .., StableHlo.binary_bufs_sub .., StableHlo.reshape_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.binary_bufs_sub .., StableHlo.unary_bufs_sub .., StableHlo.binary_bufs_sub .., StableHlo.nullary_bufs_sub .., StableHlo.binary_bufs_sub .., StableHlo.reshape_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub ..⟩

/-- The third window of @main is the chain of its stretches and the second loop. -/
theorem main_part2_chain (c : Dev nD) : main_part2 (F := F) c = (Pipeline.chainK
  [ StableHlo.seq main_part2_ops0,
    HostLoop.enter 1 ]
  (StableHlo.seq main_part2_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 5 host operations of @main, window 3 (statements 181 … 219), in order. -/
abbrev main_part3_ops0 : List (HloOp τ sig (Elt F)) :=
  [ StableHlo.binary main_v124 main_cst_27 main_v127 ((fun x v => Host.reduceAdd x v reducesTo_S1x1x4x64x64_S4x64x64_d0_1 h_S_) : (⟨S1x1x4x64x64, .f32⟩ : BufTy).Contents (Elt F) → (⟨S_, .f32⟩ : BufTy).Contents (Elt F) → (⟨S4x64x64, .f32⟩ : BufTy).Contents (Elt F)),
    StableHlo.binary main_v126 main_v11 main_v128 ((fun l r => Host.dotGeneral dot_S65x2x4x64x64_S65x2x4x64x256_S65x2x4x64x256_3_3_4_4_012_012 none l r) : (⟨S65x2x4x64x64, .f32⟩ : BufTy).Contents (Elt F) → (⟨S65x2x4x64x256, .f32⟩ : BufTy).Contents (Elt F) → (⟨S65x2x4x64x256, .f32⟩ : BufTy).Contents (Elt F)),
    StableHlo.binary main_v98 main_v128 main_v129 (addf : (⟨S65x2x4x64x256, .f32⟩ : BufTy).Contents (Elt F) → (⟨S65x2x4x64x256, .f32⟩ : BufTy).Contents (Elt F) → (⟨S65x2x4x64x256, .f32⟩ : BufTy).Contents (Elt F)),
    StableHlo.binary main_v126 main_v15 main_v130 ((fun l r => Host.dotGeneral dot_S65x2x4x64x64_S65x2x4x64x256_S65x2x4x64x256_4_3_3_4_012_012 none l r) : (⟨S65x2x4x64x64, .f32⟩ : BufTy).Contents (Elt F) → (⟨S65x2x4x64x256, .f32⟩ : BufTy).Contents (Elt F) → (⟨S65x2x4x64x256, .f32⟩ : BufTy).Contents (Elt F)),
    StableHlo.binary main_v112 main_v130 main_v131 (addf : (⟨S65x2x4x64x256, .f32⟩ : BufTy).Contents (Elt F) → (⟨S65x2x4x64x256, .f32⟩ : BufTy).Contents (Elt F) → (⟨S65x2x4x64x256, .f32⟩ : BufTy).Contents (Elt F)) ]

/-- Each touches TensorCore buffers only. -/
theorem main_part3_ops0_sub : (main_part3_ops0 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub ..⟩

/-- 3 host operations of @_where_9 (main_call24), window 3 (statements 181 … 219), in order. -/
abbrev main_part3_ops1 : List (HloOp τ sig (Elt F)) :=
  [ StableHlo.TRef.nullary (.of main_call24_cst : StableHlo.TRef sig ⟨S_, .f32⟩) (constant S_ .f32 0x00000000#32),
    StableHlo.TRef.unary (.of main_call24_cst : StableHlo.TRef sig ⟨S_, .f32⟩) (.of main_call24_v0 : StableHlo.TRef sig ⟨S4x64x64, .f32⟩) (broadcastInDim S4x64x64 ![] bcast_S_S4x64x64),
    StableHlo.TRef.ternary (.of main_v37_1 : StableHlo.TRef sig ⟨S4x64x64, .i1⟩) (.of main_v127 : StableHlo.TRef sig ⟨S4x64x64, .f32⟩) (.of main_call24_v0 : StableHlo.TRef sig ⟨S4x64x64, .f32⟩) (.of main_v132 : StableHlo.TRef sig ⟨S4x64x64, .f32⟩) select ]

/-- Each touches TensorCore buffers only. -/
theorem main_part3_ops1_sub : (main_part3_ops1 : List (HloOp τ sig (Elt F))).Forall fun op => op.bufs ⊆ StableHlo.tcRefs τ sig :=
  ⟨StableHlo.nullary_bufs_sub .., StableHlo.unary_bufs_sub .., StableHlo.ternary_bufs_sub ..⟩

/-- 21 host operations of @main, window 3 (statements 181 … 219), in order. -/
abbrev main_part3_ops2 : List (HloOp τ sig (Elt F)) :=
  [ StableHlo.binary main_v132 main_v36 main_v133 (mulf : (⟨S4x64x64, .f32⟩ : BufTy).Contents (Elt F) → (⟨S4x64x64, .f32⟩ : BufTy).Contents (Elt F) → (⟨S4x64x64, .f32⟩ : BufTy).Contents (Elt F)),
    StableHlo.unary main_v31 main_v134 (broadcastInDim S4x64x64 ![0, 1, 2] bcast_S1x64x64_S4x64x64_0_1_2 : (⟨S1x64x64, .f32⟩ : BufTy).Contents (Elt F) → (⟨S4x64x64, .f32⟩ : BufTy).Contents (Elt F)),
    StableHlo.binary main_v134 main_v133 main_v135 (mulf : (⟨S4x64x64, .f32⟩ : BufTy).Contents (Elt F) → (⟨S4x64x64, .f32⟩ : BufTy).Contents (Elt F) → (⟨S4x64x64, .f32⟩ : BufTy).Contents (Elt F)),
    StableHlo.nullary main_cst_28 (constant S_ .f32 0x00000000#32),
    StableHlo.binary main_v135 main_cst_28 main_v136 ((fun x v => Host.reduceAdd x v reducesTo_S4x64x64_S4_d1_2 h_S_) : (⟨S4x64x64, .f32⟩ : BufTy).Contents (Elt F) → (⟨S_, .f32⟩ : BufTy).Contents (Elt F) → (⟨S4, .f32⟩ : BufTy).Contents (Elt F)),
    StableHlo.reshape main_v136 main_v137 (rfl : (.f32 : EltTy) = .f32) shapeCasts_S4_S4x1x1,
    StableHlo.nullary main_cst_29 (constant S_ .f32 0x00000000#32),
    StableHlo.binary main_v137 main_cst_29 main_v138 ((fun x v => Host.reduceAdd x v reducesTo_S4x1x1_S4_d1_2 h_S_) : (⟨S4x1x1, .f32⟩ : BufTy).Contents (Elt F) → (⟨S_, .f32⟩ : BufTy).Contents (Elt F) → (⟨S4, .f32⟩ : BufTy).Contents (Elt F)),
    StableHlo.unary main_v138 main_v139 (broadcastInDim S4x1 ![0] bcast_S4_S4x1_0 : (⟨S4, .f32⟩ : BufTy).Contents (Elt F) → (⟨S4x1, .f32⟩ : BufTy).Contents (Elt F)),
    StableHlo.binary main_v121 main_v139 main_v140 (addf : (⟨S4x1, .f32⟩ : BufTy).Contents (Elt F) → (⟨S4x1, .f32⟩ : BufTy).Contents (Elt F) → (⟨S4x1, .f32⟩ : BufTy).Contents (Elt F)),
    StableHlo.nullary main_cst_30 (constant S_ .f32 0x00000000#32),
    StableHlo.binary main_v140 main_cst_30 main_v141 ((fun x v => Host.reduceAdd x v reducesTo_S4x1_S4_d1 h_S_) : (⟨S4x1, .f32⟩ : BufTy).Contents (Elt F) → (⟨S_, .f32⟩ : BufTy).Contents (Elt F) → (⟨S4, .f32⟩ : BufTy).Contents (Elt F)),
    StableHlo.unary main_v88_13 main_v142 ((transpose S2x65x64x4x512 [1, 0, 3, 2, 4] · transposes_S65x2x4x64x512_S2x65x64x4x512_1_0_3_2_4) : (⟨S65x2x4x64x512, .f32⟩ : BufTy).Contents (Elt F) → (⟨S2x65x64x4x512, .f32⟩ : BufTy).Contents (Elt F)),
    StableHlo.reshape main_v142 main_v143 (rfl : (.f32 : EltTy) = .f32) shapeCasts_S2x65x64x4x512_S2x4160x4x512,
    StableHlo.unary main_v129 main_v144 ((transpose S2x65x64x4x256 [1, 0, 3, 2, 4] · transposes_S65x2x4x64x256_S2x65x64x4x256_1_0_3_2_4) : (⟨S65x2x4x64x256, .f32⟩ : BufTy).Contents (Elt F) → (⟨S2x65x64x4x256, .f32⟩ : BufTy).Contents (Elt F)),
    StableHlo.reshape main_v144 main_v145 (rfl : (.f32 : EltTy) = .f32) shapeCasts_S2x65x64x4x256_S2x4160x4x256,
    StableHlo.nullary main_cst_31 (constant S_ .f32 0x3D800000#32),
    StableHlo.unary main_cst_31 main_v146 (broadcastInDim S2x4160x4x256 ![] bcast_S_S2x4160x4x256 : (⟨S_, .f32⟩ : BufTy).Contents (Elt F) → (⟨S2x4160x4x256, .f32⟩ : BufTy).Contents (Elt F)),
    StableHlo.binary main_v145 main_v146 main_v147 (mulf : (⟨S2x4160x4x256, .f32⟩ : BufTy).Contents (Elt F) → (⟨S2x4160x4x256, .f32⟩ : BufTy).Contents (Elt F) → (⟨S2x4160x4x256, .f32⟩ : BufTy).Contents (Elt F)),
    StableHlo.unary main_v131 main_v148 ((transpose S2x65x64x4x256 [1, 0, 3, 2, 4] · transposes_S65x2x4x64x256_S2x65x64x4x256_1_0_3_2_4) : (⟨S65x2x4x64x256, .f32⟩ : BufTy).Contents (Elt F) → (⟨S2x65x64x4x256, .f32⟩ : BufTy).Contents (Elt F)),
    StableHlo.reshape main_v148 main_v149 (rfl : (.f32 : EltTy) = .f32) shapeCasts_S2x65x64x4x256_S2x4160x4x256 ]

/-- Each touches TensorCore buffers only. -/
theorem main_part3_ops2_sub : (main_part3_ops2 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub ..⟩

/-- 3 host operations of @log_sigmoid_10 (main_call25), window 3 (statements 181 … 219), in order. -/
abbrev main_part3_ops3 : List (HloOp τ sig (Elt F)) :=
  [ StableHlo.TRef.unary (.of main_v141 : StableHlo.TRef sig ⟨S4, .f32⟩) (.of main_call25_v0 : StableHlo.TRef sig ⟨S4, .f32⟩) Host.negf,
    StableHlo.TRef.binary (.of main_call25_v0 : StableHlo.TRef sig ⟨S4, .f32⟩) (.of main_v9_1 : StableHlo.TRef sig ⟨S4, .f32⟩) (.of main_call25_v1 : StableHlo.TRef sig ⟨S4, .f32⟩) mulf,
    StableHlo.TRef.unary main_call25_call0.v0 (.of main_v150 : StableHlo.TRef sig ⟨S4, .f32⟩) Host.negf ]

/-- Each touches TensorCore buffers only. -/
theorem main_part3_ops3_sub : (main_part3_ops3 : List (HloOp τ sig (Elt F))).Forall fun op => op.bufs ⊆ StableHlo.tcRefs τ sig :=
  ⟨StableHlo.unary_bufs_sub .., StableHlo.binary_bufs_sub .., StableHlo.unary_bufs_sub ..⟩

/-- 1 host operation of @_flip_5 (main_call26), window 3 (statements 181 … 219), in order. -/
abbrev main_part3_ops4 : List (HloOp τ sig (Elt F)) :=
  [ StableHlo.TRef.unary (.of main_v143 : StableHlo.TRef sig ⟨S2x4160x4x512, .f32⟩) (.of main_v151 : StableHlo.TRef sig ⟨S2x4160x4x512, .f32⟩) (Host.reverse [1]) ]

/-- Each touches TensorCore buffers only. -/
theorem main_part3_ops4_sub : (main_part3_ops4 : List (HloOp τ sig (Elt F))).Forall fun op => op.bufs ⊆ StableHlo.tcRefs τ sig :=
  StableHlo.unary_bufs_sub ..

/-- 1 host operation of @_flip_12 (main_call27), window 3 (statements 181 … 219), in order. -/
abbrev main_part3_ops5 : List (HloOp τ sig (Elt F)) :=
  [ StableHlo.TRef.unary (.of main_v147 : StableHlo.TRef sig ⟨S2x4160x4x256, .f32⟩) (.of main_v152 : StableHlo.TRef sig ⟨S2x4160x4x256, .f32⟩) (Host.reverse [1]) ]

/-- Each touches TensorCore buffers only. -/
theorem main_part3_ops5_sub : (main_part3_ops5 : List (HloOp τ sig (Elt F))).Forall fun op => op.bufs ⊆ StableHlo.tcRefs τ sig :=
  StableHlo.unary_bufs_sub ..

/-- 1 host operation of @_flip_12 (main_call28), window 3 (statements 181 … 219), in order. -/
abbrev main_part3_ops6 : List (HloOp τ sig (Elt F)) :=
  [ StableHlo.TRef.unary (.of main_v149 : StableHlo.TRef sig ⟨S2x4160x4x256, .f32⟩) (.of main_v153 : StableHlo.TRef sig ⟨S2x4160x4x256, .f32⟩) (Host.reverse [1]) ]

/-- Each touches TensorCore buffers only. -/
theorem main_part3_ops6_sub : (main_part3_ops6 : List (HloOp τ sig (Elt F))).Forall fun op => op.bufs ⊆ StableHlo.tcRefs τ sig :=
  StableHlo.unary_bufs_sub ..

/-- 5 host operations of @main, window 3 (statements 181 … 219), in order. -/
abbrev main_part3_ops7 : List (HloOp τ sig (Elt F)) :=
  [ StableHlo.reshape main_v151 main_v154 (rfl : (.f32 : EltTy) = .f32) shapeCasts_S2x4160x4x512_S2x4160x2048,
    StableHlo.reshape main_v152 main_v155 (rfl : (.f32 : EltTy) = .f32) shapeCasts_S2x4160x4x256_S2x4160x1024,
    StableHlo.reshape main_v153 main_v156 (rfl : (.f32 : EltTy) = .f32) shapeCasts_S2x4160x4x256_S2x4160x1024,
    StableHlo.binary main_v156 main_v155 main_v157 ((fun a b => concatenate S2x4160x2048 2 [⟨S2x4160x1024, a⟩, ⟨S2x4160x1024, b⟩] concatenates_S2x4160x1024_S2x4160x1024_S2x4160x2048_d2) : (⟨S2x4160x1024, .f32⟩ : BufTy).Contents (Elt F) → (⟨S2x4160x1024, .f32⟩ : BufTy).Contents (Elt F) → (⟨S2x4160x2048, .f32⟩ : BufTy).Contents (Elt F)),
    StableHlo.nullary main_c_32 (constantI S_ 32 0#32) ]

/-- Each touches TensorCore buffers only. -/
theorem main_part3_ops7_sub : (main_part3_ops7 : List (HloOp τ sig (Elt F))).Forall fun op => op.bufs ⊆ StableHlo.tcRefs τ sig :=
  ⟨StableHlo.reshape_bufs_sub .., StableHlo.reshape_bufs_sub .., StableHlo.reshape_bufs_sub .., StableHlo.binary_bufs_sub .., StableHlo.nullary_bufs_sub ..⟩

/-- 2 host operations of @_pad (main_call29), window 3 (statements 181 … 219), in order. -/
abbrev main_part3_ops8 : List (HloOp τ sig (Elt F)) :=
  [ StableHlo.TRef.unary (.of main_c_32 : StableHlo.TRef sig ⟨S_, .i32⟩) (.of main_call29_v0 : StableHlo.TRef sig ⟨S_, .f32⟩) (sitofp .f32),
    StableHlo.TRef.binary (.of main_v150 : StableHlo.TRef sig ⟨S4, .f32⟩) (.of main_call29_v0 : StableHlo.TRef sig ⟨S_, .f32⟩) (.of main_v158 : StableHlo.TRef sig ⟨S128, .f32⟩) (fun x v => pad S128 ![0] ![124] ![0] x v pads_S4_S128_01240 h_S_) ]

/-- Each touches TensorCore buffers only. -/
theorem main_part3_ops8_sub : (main_part3_ops8 : List (HloOp τ sig (Elt F))).Forall fun op => op.bufs ⊆ StableHlo.tcRefs τ sig :=
  ⟨StableHlo.unary_bufs_sub .., StableHlo.binary_bufs_sub ..⟩

/-- 1 host operation of @main, window 3 (statements 181 … 219), in order. -/
abbrev main_part3_ops9 : List (HloOp τ sig (Elt F)) :=
  [ StableHlo.reshape main_v158 main_v159 (rfl : (.f32 : EltTy) = .f32) shapeCasts_S128_S1x128 ]

/-- Each touches TensorCore buffers only. -/
theorem main_part3_ops9_sub : (main_part3_ops9 : List (HloOp τ sig (Elt F))).Forall fun op => op.bufs ⊆ StableHlo.tcRefs τ sig :=
  StableHlo.reshape_bufs_sub ..

/-- The last window of @main is the chain of its stretches. -/
theorem main_part3_chain (c : Dev nD) : main_part3 (F := F) c = (Pipeline.chain
  [ StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part3_ops7,
    StableHlo.seq main_part3_ops8,
    StableHlo.seq main_part3_ops9 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, Pipeline.chain_cons, Pipeline.chain_cons, Pipeline.chain_cons, StableHlo.chain_seq_cons, Pipeline.chain_cons, StableHlo.chain_seq_cons]
  chain_rfl

/-- @main is the chain of its windows' stretches and its two loops. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part1_ops0,
    HostLoop.enter 0,
    StableHlo.seq main_part1_ops1,
    StableHlo.seq main_part1_ops2,
    StableHlo.seq main_part1_ops3,
    StableHlo.seq main_part1_ops4,
    StableHlo.seq main_part1_ops5,
    StableHlo.seq main_part2_ops0,
    HostLoop.enter 1,
    StableHlo.seq main_part2_ops1,
    StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part3_ops7,
    StableHlo.seq main_part3_ops8,
    StableHlo.seq main_part3_ops9 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

/-- 6 host operations of @dynamic_index_in_dim (main_while0b_call6), in order. -/
abbrev while0Ops0 : List (HloOp τ sig (Elt F)) :=
  [ StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.nullary (.of main_while0b_call6_c_2 : StableHlo.TRef sig ⟨S_, .i32⟩) (constantI S_ 32 0#32),
    StableHlo.TRef.unaryIndexed (.of main_v72_0 : StableHlo.TRef sig ⟨S65x2x4x64x256, .f32⟩) ![(.of main_v72_5 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩), (.of main_while0b_call6_c_2 : StableHlo.TRef sig ⟨S_, .i32⟩)] (.of main_while0b_call6_v0 : StableHlo.TRef sig ⟨S1x2x4x64x256, .f32⟩) (fun x i => Host.dynamicSlice S1x2x4x64x256 x (fun k => (i k (Shape.Idx.first h_S_)).toInt) sliceFits_S65x2x4x64x256_S1x2x4x64x256),
    StableHlo.TRef.reshape (.of main_while0b_call6_v0 : StableHlo.TRef sig ⟨S1x2x4x64x256, .f32⟩) (.of main_while0b_v160 : StableHlo.TRef sig ⟨S2x4x64x256, .f32⟩) (rfl : (.f32 : EltTy) = .f32) shapeCasts_S1x2x4x64x256_S2x4x64x256 ]

/-- Each touches TensorCore buffers only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim (main_while0b_call7), in order. -/
abbrev while0Ops0_1 : List (HloOp τ sig (Elt F)) :=
  [ StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.nullary (.of main_while0b_call7_c_2 : StableHlo.TRef sig ⟨S_, .i32⟩) (constantI S_ 32 0#32),
    StableHlo.TRef.unaryIndexed (.of main_v72_1 : StableHlo.TRef sig ⟨S65x2x4x64x256, .f32⟩) ![(.of main_v72_5 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩), (.of main_while0b_call7_c_2 : StableHlo.TRef sig ⟨S_, .i32⟩)] (.of main_while0b_call7_v0 : StableHlo.TRef sig ⟨S1x2x4x64x256, .f32⟩) (fun x i => Host.dynamicSlice S1x2x4x64x256 x (fun k => (i k (Shape.Idx.first h_S_)).toInt) sliceFits_S65x2x4x64x256_S1x2x4x64x256),
    StableHlo.TRef.reshape (.of main_while0b_call7_v0 : StableHlo.TRef sig ⟨S1x2x4x64x256, .f32⟩) (.of main_while0b_v161 : StableHlo.TRef sig ⟨S2x4x64x256, .f32⟩) (rfl : (.f32 : EltTy) = .f32) shapeCasts_S1x2x4x64x256_S2x4x64x256 ]

/-- Each touches TensorCore buffers only. -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim_2 (main_while0b_call8), in order. -/
abbrev while0Ops0_2 : List (HloOp τ sig (Elt F)) :=
  [ StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.nullary (.of main_while0b_call8_c_2 : StableHlo.TRef sig ⟨S_, .i32⟩) (constantI S_ 32 0#32),
    StableHlo.TRef.unaryIndexed (.of main_v72_2 : StableHlo.TRef sig ⟨S65x2x4x64x64, .f32⟩) ![(.of main_v72_5 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩), (.of main_while0b_call8_c_2 : StableHlo.TRef sig ⟨S_, .i32⟩)] (.of main_while0b_call8_v0 : StableHlo.TRef sig ⟨S1x2x4x64x64, .f32⟩) (fun x i => Host.dynamicSlice S1x2x4x64x64 x (fun k => (i k (Shape.Idx.first h_S_)).toInt) sliceFits_S65x2x4x64x64_S1x2x4x64x64),
    StableHlo.TRef.reshape (.of main_while0b_call8_v0 : StableHlo.TRef sig ⟨S1x2x4x64x64, .f32⟩) (.of main_while0b_v162 : StableHlo.TRef sig ⟨S2x4x64x64, .f32⟩) (rfl : (.f32 : EltTy) = .f32) shapeCasts_S1x2x4x64x64_S2x4x64x64 ]

/-- Each touches TensorCore buffers only. -/
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim_3 (main_while0b_call9), in order. -/
abbrev while0Ops0_3 : List (HloOp τ sig (Elt F)) :=
  [ StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.nullary (.of main_while0b_call9_c_2 : StableHlo.TRef sig ⟨S_, .i32⟩) (constantI S_ 32 0#32),
    StableHlo.TRef.unaryIndexed (.of main_v72_3 : StableHlo.TRef sig ⟨S65x2x4x64x512, .f32⟩) ![(.of main_v72_5 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩), (.of main_while0b_call9_c_2 : StableHlo.TRef sig ⟨S_, .i32⟩)] (.of main_while0b_call9_v0 : StableHlo.TRef sig ⟨S1x2x4x64x512, .f32⟩) (fun x i => Host.dynamicSlice S1x2x4x64x512 x (fun k => (i k (Shape.Idx.first h_S_)).toInt) sliceFits_S65x2x4x64x512_S1x2x4x64x512),
    StableHlo.TRef.reshape (.of main_while0b_call9_v0 : StableHlo.TRef sig ⟨S1x2x4x64x512, .f32⟩) (.of main_while0b_v163 : StableHlo.TRef sig ⟨S2x4x64x512, .f32⟩) (rfl : (.f32 : EltTy) = .f32) shapeCasts_S1x2x4x64x512_S2x4x64x512 ]

/-- Each touches TensorCore buffers only. -/
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 7 host operations of host loop 0's body region, in order. -/
abbrev while0Ops0_4 : List (HloOp τ sig (Elt F)) :=
  [ StableHlo.binary main_while0b_v160 main_v72_6 main_while0b_v164 ((fun l r => Host.dotGeneral dot_S2x4x64x256_S2x4x256x512_S2x4x64x512_3_2_2_3_01_01 none l r) : (⟨S2x4x64x256, .f32⟩ : BufTy).Contents (Elt F) → (⟨S2x4x256x512, .f32⟩ : BufTy).Contents (Elt F) → (⟨S2x4x64x512, .f32⟩ : BufTy).Contents (Elt F)),
    StableHlo.binary main_while0b_v162 main_while0b_v163 main_while0b_v165 ((fun l r => Host.dotGeneral dot_S2x4x64x64_S2x4x64x512_S2x4x64x512_3_2_2_3_01_01 none l r) : (⟨S2x4x64x64, .f32⟩ : BufTy).Contents (Elt F) → (⟨S2x4x64x512, .f32⟩ : BufTy).Contents (Elt F) → (⟨S2x4x64x512, .f32⟩ : BufTy).Contents (Elt F)),
    StableHlo.binary main_while0b_v164 main_while0b_v165 main_while0b_v166 (addf : (⟨S2x4x64x512, .f32⟩ : BufTy).Contents (Elt F) → (⟨S2x4x64x512, .f32⟩ : BufTy).Contents (Elt F) → (⟨S2x4x64x512, .f32⟩ : BufTy).Contents (Elt F)),
    StableHlo.unary main_v72_4 main_while0b_v167 (broadcastInDim S2x4x256x512 ![0, 1, 2, 3] bcast_S1x4x1x1_S2x4x256x512_0_1_2_3 : (⟨S1x4x1x1, .f32⟩ : BufTy).Contents (Elt F) → (⟨S2x4x256x512, .f32⟩ : BufTy).Contents (Elt F)),
    StableHlo.binary main_v72_6 main_while0b_v167 main_while0b_v168 (mulf : (⟨S2x4x256x512, .f32⟩ : BufTy).Contents (Elt F) → (⟨S2x4x256x512, .f32⟩ : BufTy).Contents (Elt F) → (⟨S2x4x256x512, .f32⟩ : BufTy).Contents (Elt F)),
    StableHlo.binary main_while0b_v161 main_while0b_v163 main_while0b_v169 ((fun l r => Host.dotGeneral dot_S2x4x64x256_S2x4x64x512_S2x4x256x512_2_2_3_3_01_01 none l r) : (⟨S2x4x64x256, .f32⟩ : BufTy).Contents (Elt F) → (⟨S2x4x64x512, .f32⟩ : BufTy).Contents (Elt F) → (⟨S2x4x256x512, .f32⟩ : BufTy).Contents (Elt F)),
    StableHlo.binary main_while0b_v168 main_while0b_v169 main_while0b_v170 (addf : (⟨S2x4x256x512, .f32⟩ : BufTy).Contents (Elt F) → (⟨S2x4x256x512, .f32⟩ : BufTy).Contents (Elt F) → (⟨S2x4x256x512, .f32⟩ : BufTy).Contents (Elt F)) ]

/-- Each touches TensorCore buffers only. -/
theorem while0Ops0_4_sub : (while0Ops0_4 : List (HloOp τ sig (Elt F))).Forall fun op => op.bufs ⊆ StableHlo.tcRefs τ sig :=
  ⟨StableHlo.binary_bufs_sub .., StableHlo.binary_bufs_sub .., StableHlo.binary_bufs_sub .., StableHlo.unary_bufs_sub .., StableHlo.binary_bufs_sub .., StableHlo.binary_bufs_sub .., StableHlo.binary_bufs_sub ..⟩

/-- 6 host operations of @dynamic_update_index_in_dim (main_while0b_call10), in order. -/
abbrev while0Ops0_5 : List (HloOp τ sig (Elt F)) :=
  [ StableHlo.TRef.unary (.of main_while0b_v166 : StableHlo.TRef sig ⟨S2x4x64x512, .f32⟩) (.of main_while0b_call10_v0 : StableHlo.TRef sig ⟨S1x2x4x64x512, .f32⟩) (broadcastInDim S1x2x4x64x512 ![1, 2, 3, 4] bcast_S2x4x64x512_S1x2x4x64x512_1_2_3_4),
    StableHlo.TRef.nullary (.of main_while0b_call10_c : StableHlo.TRef sig ⟨S_, .i32⟩) (constantI S_ 32 0#32),
    StableHlo.TRef.nullary (.of main_while0b_call10_c_0 : StableHlo.TRef sig ⟨S_, .i32⟩) (constantI S_ 32 0#32),
    StableHlo.TRef.nullary (.of main_while0b_call10_c_1 : StableHlo.TRef sig ⟨S_, .i32⟩) (constantI S_ 32 0#32),
    StableHlo.TRef.nullary (.of main_while0b_call10_c_2 : StableHlo.TRef sig ⟨S_, .i32⟩) (constantI S_ 32 0#32),
    StableHlo.TRef.binaryIndexed (.of main_v72_7 : StableHlo.TRef sig ⟨S65x2x4x64x512, .f32⟩) (.of main_while0b_call10_v0 : StableHlo.TRef sig ⟨S1x2x4x64x512, .f32⟩) ![(.of main_v72_5 : StableHlo.TRef sig ⟨S_, .i32⟩), (.of main_while0b_call10_c : StableHlo.TRef sig ⟨S_, .i32⟩), (.of main_while0b_call10_c_0 : StableHlo.TRef sig ⟨S_, .i32⟩), (.of main_while0b_call10_c_1 : StableHlo.TRef sig ⟨S_, .i32⟩), (.of main_while0b_call10_c_2 : StableHlo.TRef sig ⟨S_, .i32⟩)] (.of main_while0b_v171 : StableHlo.TRef sig ⟨S65x2x4x64x512, .f32⟩) (fun x u i => Host.dynamicUpdateSlice x u (fun k => (i k (Shape.Idx.first h_S_)).toInt) updateFits_S65x2x4x64x512_S1x2x4x64x512) ]

/-- Each touches TensorCore buffers only. -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 6 host operations of @dynamic_update_index_in_dim_4 (main_while0b_call11), in order. -/
abbrev while0Ops0_6 : List (HloOp τ sig (Elt F)) :=
  [ StableHlo.TRef.unary (.of main_v72_6 : StableHlo.TRef sig ⟨S2x4x256x512, .f32⟩) (.of main_while0b_call11_v0 : StableHlo.TRef sig ⟨S1x2x4x256x512, .f32⟩) (broadcastInDim S1x2x4x256x512 ![1, 2, 3, 4] bcast_S2x4x256x512_S1x2x4x256x512_1_2_3_4),
    StableHlo.TRef.nullary (.of main_while0b_call11_c : StableHlo.TRef sig ⟨S_, .i32⟩) (constantI S_ 32 0#32),
    StableHlo.TRef.nullary (.of main_while0b_call11_c_0 : StableHlo.TRef sig ⟨S_, .i32⟩) (constantI S_ 32 0#32),
    StableHlo.TRef.nullary (.of main_while0b_call11_c_1 : StableHlo.TRef sig ⟨S_, .i32⟩) (constantI S_ 32 0#32),
    StableHlo.TRef.nullary (.of main_while0b_call11_c_2 : StableHlo.TRef sig ⟨S_, .i32⟩) (constantI S_ 32 0#32),
    StableHlo.TRef.binaryIndexed (.of main_v72_8 : StableHlo.TRef sig ⟨S65x2x4x256x512, .f32⟩) (.of main_while0b_call11_v0 : StableHlo.TRef sig ⟨S1x2x4x256x512, .f32⟩) ![(.of main_v72_5 : StableHlo.TRef sig ⟨S_, .i32⟩), (.of main_while0b_call11_c : StableHlo.TRef sig ⟨S_, .i32⟩), (.of main_while0b_call11_c_0 : StableHlo.TRef sig ⟨S_, .i32⟩), (.of main_while0b_call11_c_1 : StableHlo.TRef sig ⟨S_, .i32⟩), (.of main_while0b_call11_c_2 : StableHlo.TRef sig ⟨S_, .i32⟩)] (.of main_while0b_v172 : StableHlo.TRef sig ⟨S65x2x4x256x512, .f32⟩) (fun x u i => Host.dynamicUpdateSlice x u (fun k => (i k (Shape.Idx.first h_S_)).toInt) updateFits_S65x2x4x256x512_S1x2x4x256x512) ]

/-- Each touches TensorCore buffers only. -/
theorem while0Ops0_6_sub : (while0Ops0_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 6 host operations of host loop 0's body region, in order. -/
abbrev while0Ops0_7 : List (HloOp τ sig (Elt F)) :=
  [ StableHlo.nullary main_while0b_c_41 (constantI S_ 32 1#32),
    StableHlo.binary main_v72_5 main_while0b_c_41 main_while0b_v173 (addi : (⟨S_, .i32⟩ : BufTy).Contents (Elt F) → (⟨S_, .i32⟩ : BufTy).Contents (Elt F) → (⟨S_, .i32⟩ : BufTy).Contents (Elt F)),
    StableHlo.unary main_while0b_v173 main_v72_5 id,
    StableHlo.unary main_while0b_v170 main_v72_6 id,
    StableHlo.unary main_while0b_v171 main_v72_7 id,
    StableHlo.unary main_while0b_v172 main_v72_8 id ]

/-- Each touches TensorCore buffers only. -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- The first loop's body is the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, StableHlo.chain_seq_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_46 (constantI S_ 32 65#32),
    StableHlo.binary main_while1b_c_46 main_v88_7 main_while1b_v160 (subi : (⟨S_, .i32⟩ : BufTy).Contents (Elt F) → (⟨S_, .i32⟩ : BufTy).Contents (Elt F) → (⟨S_, .i32⟩ : BufTy).Contents (Elt F)),
    StableHlo.nullary main_while1b_c_47 (constantI S_ 32 1#32),
    StableHlo.binary main_while1b_v160 main_while1b_c_47 main_while1b_v161 (subi : (⟨S_, .i32⟩ : BufTy).Contents (Elt F) → (⟨S_, .i32⟩ : BufTy).Contents (Elt F) → (⟨S_, .i32⟩ : BufTy).Contents (Elt F)) ]

/-- Each touches TensorCore buffers only. -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- 6 host operations of @dynamic_index_in_dim_3 (main_while1b_call14), in order. -/
abbrev while1Ops0_1 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.nullary (.of main_while1b_call14_c_2 : StableHlo.TRef sig ⟨S_, .i32⟩) (constantI S_ 32 0#32),
    StableHlo.TRef.unaryIndexed (.of main_v88_0 : StableHlo.TRef sig ⟨S65x2x4x64x512, .f32⟩) ![(.of main_while1b_v161 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩), (.of main_while1b_call14_c_2 : StableHlo.TRef sig ⟨S_, .i32⟩)] (.of main_while1b_call14_v0 : StableHlo.TRef sig ⟨S1x2x4x64x512, .f32⟩) (fun x i => Host.dynamicSlice S1x2x4x64x512 x (fun k => (i k (Shape.Idx.first h_S_)).toInt) sliceFits_S65x2x4x64x512_S1x2x4x64x512),
    StableHlo.TRef.reshape (.of main_while1b_call14_v0 : StableHlo.TRef sig ⟨S1x2x4x64x512, .f32⟩) (.of main_while1b_v162 : StableHlo.TRef sig ⟨S2x4x64x512, .f32⟩) (rfl : (.f32 : EltTy) = .f32) shapeCasts_S1x2x4x64x512_S2x4x64x512 ]

/-- Each touches TensorCore buffers only. -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim_6 (main_while1b_call15), in order. -/
abbrev while1Ops0_2 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.nullary (.of main_while1b_call15_c_2 : StableHlo.TRef sig ⟨S_, .i32⟩) (constantI S_ 32 0#32),
    StableHlo.TRef.unaryIndexed (.of main_v88_1 : StableHlo.TRef sig ⟨S65x2x4x256x512, .f32⟩) ![(.of main_while1b_v161 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩), (.of main_while1b_call15_c_2 : StableHlo.TRef sig ⟨S_, .i32⟩)] (.of main_while1b_call15_v0 : StableHlo.TRef sig ⟨S1x2x4x256x512, .f32⟩) (fun x i => Host.dynamicSlice S1x2x4x256x512 x (fun k => (i k (Shape.Idx.first h_S_)).toInt) sliceFits_S65x2x4x256x512_S1x2x4x256x512),
    StableHlo.TRef.reshape (.of main_while1b_call15_v0 : StableHlo.TRef sig ⟨S1x2x4x256x512, .f32⟩) (.of main_while1b_v163 : StableHlo.TRef sig ⟨S2x4x256x512, .f32⟩) (rfl : (.f32 : EltTy) = .f32) shapeCasts_S1x2x4x256x512_S2x4x256x512 ]

/-- Each touches TensorCore buffers only. -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim (main_while1b_call16), in order. -/
abbrev while1Ops0_3 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.nullary (.of main_while1b_call16_c_2 : StableHlo.TRef sig ⟨S_, .i32⟩) (constantI S_ 32 0#32),
    StableHlo.TRef.unaryIndexed (.of main_v88_2 : StableHlo.TRef sig ⟨S65x2x4x64x256, .f32⟩) ![(.of main_while1b_v161 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩), (.of main_while1b_call16_c_2 : StableHlo.TRef sig ⟨S_, .i32⟩)] (.of main_while1b_call16_v0 : StableHlo.TRef sig ⟨S1x2x4x64x256, .f32⟩) (fun x i => Host.dynamicSlice S1x2x4x64x256 x (fun k => (i k (Shape.Idx.first h_S_)).toInt) sliceFits_S65x2x4x64x256_S1x2x4x64x256),
    StableHlo.TRef.reshape (.of main_while1b_call16_v0 : StableHlo.TRef sig ⟨S1x2x4x64x256, .f32⟩) (.of main_while1b_v164 : StableHlo.TRef sig ⟨S2x4x64x256, .f32⟩) (rfl : (.f32 : EltTy) = .f32) shapeCasts_S1x2x4x64x256_S2x4x64x256 ]

/-- Each touches TensorCore buffers only. -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim_3 (main_while1b_call17), in order. -/
abbrev while1Ops0_4 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.nullary (.of main_while1b_call17_c_2 : StableHlo.TRef sig ⟨S_, .i32⟩) (constantI S_ 32 0#32),
    StableHlo.TRef.unaryIndexed (.of main_v88_3 : StableHlo.TRef sig ⟨S65x2x4x64x512, .f32⟩) ![(.of main_while1b_v161 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩), (.of main_while1b_call17_c_2 : StableHlo.TRef sig ⟨S_, .i32⟩)] (.of main_while1b_call17_v0 : StableHlo.TRef sig ⟨S1x2x4x64x512, .f32⟩) (fun x i => Host.dynamicSlice S1x2x4x64x512 x (fun k => (i k (Shape.Idx.first h_S_)).toInt) sliceFits_S65x2x4x64x512_S1x2x4x64x512),
    StableHlo.TRef.reshape (.of main_while1b_call17_v0 : StableHlo.TRef sig ⟨S1x2x4x64x512, .f32⟩) (.of main_while1b_v165 : StableHlo.TRef sig ⟨S2x4x64x512, .f32⟩) (rfl : (.f32 : EltTy) = .f32) shapeCasts_S1x2x4x64x512_S2x4x64x512 ]

/-- Each touches TensorCore buffers only. -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim_2 (main_while1b_call18), in order. -/
abbrev while1Ops0_5 : List (HloOp τ sig (Elt F)) :=
  [ StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.nullary (.of main_while1b_call18_c_2 : StableHlo.TRef sig ⟨S_, .i32⟩) (constantI S_ 32 0#32),
    StableHlo.TRef.unaryIndexed (.of main_v88_4 : StableHlo.TRef sig ⟨S65x2x4x64x64, .f32⟩) ![(.of main_while1b_v161 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩), (.of main_while1b_call18_c_2 : StableHlo.TRef sig ⟨S_, .i32⟩)] (.of main_while1b_call18_v0 : StableHlo.TRef sig ⟨S1x2x4x64x64, .f32⟩) (fun x i => Host.dynamicSlice S1x2x4x64x64 x (fun k => (i k (Shape.Idx.first h_S_)).toInt) sliceFits_S65x2x4x64x64_S1x2x4x64x64),
    StableHlo.TRef.reshape (.of main_while1b_call18_v0 : StableHlo.TRef sig ⟨S1x2x4x64x64, .f32⟩) (.of main_while1b_v166 : StableHlo.TRef sig ⟨S2x4x64x64, .f32⟩) (rfl : (.f32 : EltTy) = .f32) shapeCasts_S1x2x4x64x64_S2x4x64x64 ]

/-- Each touches TensorCore buffers only. -/
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 6 host operations of @dynamic_index_in_dim (main_while1b_call19), in order. -/
abbrev while1Ops0_6 : List (HloOp τ sig (Elt F)) :=
  [ StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.nullary (.of main_while1b_call19_c_2 : StableHlo.TRef sig ⟨S_, .i32⟩) (constantI S_ 32 0#32),
    StableHlo.TRef.unaryIndexed (.of main_v88_5 : StableHlo.TRef sig ⟨S65x2x4x64x256, .f32⟩) ![(.of main_while1b_v161 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩), (.of main_while1b_call19_c_2 : StableHlo.TRef sig ⟨S_, .i32⟩)] (.of main_while1b_call19_v0 : StableHlo.TRef sig ⟨S1x2x4x64x256, .f32⟩) (fun x i => Host.dynamicSlice S1x2x4x64x256 x (fun k => (i k (Shape.Idx.first h_S_)).toInt) sliceFits_S65x2x4x64x256_S1x2x4x64x256),
    StableHlo.TRef.reshape (.of main_while1b_call19_v0 : StableHlo.TRef sig ⟨S1x2x4x64x256, .f32⟩) (.of main_while1b_v167 : StableHlo.TRef sig ⟨S2x4x64x256, .f32⟩) (rfl : (.f32 : EltTy) = .f32) shapeCasts_S1x2x4x64x256_S2x4x64x256 ]

/-- Each touches TensorCore buffers only. -/
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩

/-- 22 host operations of host loop 1's body region, in order. -/
abbrev while1Ops0_7 : List (HloOp τ sig (Elt F)) :=
  [ StableHlo.binary main_v88_9 main_while1b_v167 main_while1b_v168 ((fun l r => Host.dotGeneral dot_S2x4x256x512_S2x4x64x256_S2x4x512x64_2_3_3_2_01_01 none l r) : (⟨S2x4x256x512, .f32⟩ : BufTy).Contents (Elt F) → (⟨S2x4x64x256, .f32⟩ : BufTy).Contents (Elt F) → (⟨S2x4x512x64, .f32⟩ : BufTy).Contents (Elt F)),
    StableHlo.unary main_while1b_v168 main_while1b_v169 ((transpose S2x4x64x512 [0, 1, 3, 2] · transposes_S2x4x512x64_S2x4x64x512_0_1_3_2) : (⟨S2x4x512x64, .f32⟩ : BufTy).Contents (Elt F) → (⟨S2x4x64x512, .f32⟩ : BufTy).Contents (Elt F)),
    StableHlo.binary main_v88_9 main_while1b_v165 main_while1b_v170 ((fun l r => Host.dotGeneral dot_S2x4x256x512_S2x4x64x512_S2x4x256x64_3_3_2_2_01_01 none l r) : (⟨S2x4x256x512, .f32⟩ : BufTy).Contents (Elt F) → (⟨S2x4x64x512, .f32⟩ : BufTy).Contents (Elt F) → (⟨S2x4x256x64, .f32⟩ : BufTy).Contents (Elt F)),
    StableHlo.unary main_while1b_v170 main_while1b_v171 ((transpose S2x4x64x256 [0, 1, 3, 2] · transposes_S2x4x256x64_S2x4x64x256_0_1_3_2) : (⟨S2x4x256x64, .f32⟩ : BufTy).Contents (Elt F) → (⟨S2x4x64x256, .f32⟩ : BufTy).Contents (Elt F)),
    StableHlo.binary main_while1b_v163 main_v88_9 main_while1b_v172 (mulf : (⟨S2x4x256x512, .f32⟩ : BufTy).Contents (Elt F) → (⟨S2x4x256x512, .f32⟩ : BufTy).Contents (Elt F) → (⟨S2x4x256x512, .f32⟩ : BufTy).Contents (Elt F)),
    StableHlo.nullary main_while1b_cst_48 (constant S_ .f32 0x00000000#32),
    StableHlo.binary main_while1b_v172 main_while1b_cst_48 main_while1b_v173 ((fun x v => Host.reduceAdd x v reducesTo_S2x4x256x512_S4_d0_2_3 h_S_) : (⟨S2x4x256x512, .f32⟩ : BufTy).Contents (Elt F) → (⟨S_, .f32⟩ : BufTy).Contents (Elt F) → (⟨S4, .f32⟩ : BufTy).Contents (Elt F)),
    StableHlo.reshape main_while1b_v173 main_while1b_v174 (rfl : (.f32 : EltTy) = .f32) shapeCasts_S4_S1x4x1x1,
    StableHlo.unary main_v88_6 main_while1b_v175 (broadcastInDim S2x4x256x512 ![0, 1, 2, 3] bcast_S1x4x1x1_S2x4x256x512_0_1_2_3 : (⟨S1x4x1x1, .f32⟩ : BufTy).Contents (Elt F) → (⟨S2x4x256x512, .f32⟩ : BufTy).Contents (Elt F)),
    StableHlo.binary main_v88_9 main_while1b_v175 main_while1b_v176 (mulf : (⟨S2x4x256x512, .f32⟩ : BufTy).Contents (Elt F) → (⟨S2x4x256x512, .f32⟩ : BufTy).Contents (Elt F) → (⟨S2x4x256x512, .f32⟩ : BufTy).Contents (Elt F)),
    StableHlo.nullary main_while1b_cst_49 (constant S_ .f32 0x00000000#32),
    StableHlo.binary main_while1b_v174 main_while1b_cst_49 main_while1b_v177 ((fun x v => Host.reduceAdd x v reducesTo_S1x4x1x1_S4_d0_2_3 h_S_) : (⟨S1x4x1x1, .f32⟩ : BufTy).Contents (Elt F) → (⟨S_, .f32⟩ : BufTy).Contents (Elt F) → (⟨S4, .f32⟩ : BufTy).Contents (Elt F)),
    StableHlo.unary main_while1b_v177 main_while1b_v178 (broadcastInDim S4x1x1 ![0] bcast_S4_S4x1x1_0 : (⟨S4, .f32⟩ : BufTy).Contents (Elt F) → (⟨S4x1x1, .f32⟩ : BufTy).Contents (Elt F)),
    StableHlo.binary main_v88_8 main_while1b_v178 main_while1b_v179 (addf : (⟨S4x1x1, .f32⟩ : BufTy).Contents (Elt F) → (⟨S4x1x1, .f32⟩ : BufTy).Contents (Elt F) → (⟨S4x1x1, .f32⟩ : BufTy).Contents (Elt F)),
    StableHlo.binary main_while1b_v162 main_while1b_v166 main_while1b_v180 ((fun l r => Host.dotGeneral dot_S2x4x64x512_S2x4x64x64_S2x4x512x64_2_2_3_3_01_01 none l r) : (⟨S2x4x64x512, .f32⟩ : BufTy).Contents (Elt F) → (⟨S2x4x64x64, .f32⟩ : BufTy).Contents (Elt F) → (⟨S2x4x512x64, .f32⟩ : BufTy).Contents (Elt F)),
    StableHlo.unary main_while1b_v180 main_while1b_v181 ((transpose S2x4x64x512 [0, 1, 3, 2] · transposes_S2x4x512x64_S2x4x64x512_0_1_3_2) : (⟨S2x4x512x64, .f32⟩ : BufTy).Contents (Elt F) → (⟨S2x4x64x512, .f32⟩ : BufTy).Contents (Elt F)),
    StableHlo.binary main_while1b_v169 main_while1b_v181 main_while1b_v182 (addf : (⟨S2x4x64x512, .f32⟩ : BufTy).Contents (Elt F) → (⟨S2x4x64x512, .f32⟩ : BufTy).Contents (Elt F) → (⟨S2x4x64x512, .f32⟩ : BufTy).Contents (Elt F)),
    StableHlo.binary main_while1b_v162 main_while1b_v165 main_while1b_v183 ((fun l r => Host.dotGeneral dot_S2x4x64x512_S2x4x64x512_S2x4x64x64_3_3_2_2_01_01 none l r) : (⟨S2x4x64x512, .f32⟩ : BufTy).Contents (Elt F) → (⟨S2x4x64x512, .f32⟩ : BufTy).Contents (Elt F) → (⟨S2x4x64x64, .f32⟩ : BufTy).Contents (Elt F)),
    StableHlo.binary main_while1b_v162 main_while1b_v164 main_while1b_v184 ((fun l r => Host.dotGeneral dot_S2x4x64x512_S2x4x64x256_S2x4x512x256_2_2_3_3_01_01 none l r) : (⟨S2x4x64x512, .f32⟩ : BufTy).Contents (Elt F) → (⟨S2x4x64x256, .f32⟩ : BufTy).Contents (Elt F) → (⟨S2x4x512x256, .f32⟩ : BufTy).Contents (Elt F)),
    StableHlo.unary main_while1b_v184 main_while1b_v185 ((transpose S2x4x256x512 [0, 1, 3, 2] · transposes_S2x4x512x256_S2x4x256x512_0_1_3_2) : (⟨S2x4x512x256, .f32⟩ : BufTy).Contents (Elt F) → (⟨S2x4x256x512, .f32⟩ : BufTy).Contents (Elt F)),
    StableHlo.binary main_while1b_v176 main_while1b_v185 main_while1b_v186 (addf : (⟨S2x4x256x512, .f32⟩ : BufTy).Contents (Elt F) → (⟨S2x4x256x512, .f32⟩ : BufTy).Contents (Elt F) → (⟨S2x4x256x512, .f32⟩ : BufTy).Contents (Elt F)),
    StableHlo.binary main_while1b_v162 main_while1b_v163 main_while1b_v187 ((fun l r => Host.dotGeneral dot_S2x4x64x512_S2x4x256x512_S2x4x64x256_3_3_2_2_01_01 none l r) : (⟨S2x4x64x512, .f32⟩ : BufTy).Contents (Elt F) → (⟨S2x4x256x512, .f32⟩ : BufTy).Contents (Elt F) → (⟨S2x4x64x256, .f32⟩ : BufTy).Contents (Elt F)) ]

/-- Each touches TensorCore buffers only. -/
theorem while1Ops0_7_sub : (while1Ops0_7 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub ..⟩

/-- 6 host operations of @dynamic_update_index_in_dim_7 (main_while1b_call20), in order. -/
abbrev while1Ops0_8 : List (HloOp τ sig (Elt F)) :=
  [ StableHlo.TRef.unary (.of main_while1b_v187 : StableHlo.TRef sig ⟨S2x4x64x256, .f32⟩) (.of main_while1b_call20_v0 : StableHlo.TRef sig ⟨S1x2x4x64x256, .f32⟩) (broadcastInDim S1x2x4x64x256 ![1, 2, 3, 4] bcast_S2x4x64x256_S1x2x4x64x256_1_2_3_4),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.nullary (.of main_while1b_call20_c_2 : StableHlo.TRef sig ⟨S_, .i32⟩) (constantI S_ 32 0#32),
    StableHlo.TRef.binaryIndexed (.of main_v88_10 : StableHlo.TRef sig ⟨S65x2x4x64x256, .f32⟩) (.of main_while1b_call20_v0 : StableHlo.TRef sig ⟨S1x2x4x64x256, .f32⟩) ![(.of main_while1b_v161 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩), (.of main_while1b_call20_c_2 : StableHlo.TRef sig ⟨S_, .i32⟩)] (.of main_while1b_v188 : StableHlo.TRef sig ⟨S65x2x4x64x256, .f32⟩) (fun x u i => Host.dynamicUpdateSlice x u (fun k => (i k (Shape.Idx.first h_S_)).toInt) updateFits_S65x2x4x64x256_S1x2x4x64x256) ]

/-- Each touches TensorCore buffers only. -/
theorem while1Ops0_8_sub : (while1Ops0_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 6 host operations of @dynamic_update_index_in_dim_7 (main_while1b_call21), in order. -/
abbrev while1Ops0_9 : List (HloOp τ sig (Elt F)) :=
  [ StableHlo.TRef.unary (.of main_while1b_v171 : StableHlo.TRef sig ⟨S2x4x64x256, .f32⟩) (.of main_while1b_call21_v0 : StableHlo.TRef sig ⟨S1x2x4x64x256, .f32⟩) (broadcastInDim S1x2x4x64x256 ![1, 2, 3, 4] bcast_S2x4x64x256_S1x2x4x64x256_1_2_3_4),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.nullary (.of main_while1b_call21_c_2 : StableHlo.TRef sig ⟨S_, .i32⟩) (constantI S_ 32 0#32),
    StableHlo.TRef.binaryIndexed (.of main_v88_11 : StableHlo.TRef sig ⟨S65x2x4x64x256, .f32⟩) (.of main_while1b_call21_v0 : StableHlo.TRef sig ⟨S1x2x4x64x256, .f32⟩) ![(.of main_while1b_v161 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩), (.of main_while1b_call21_c_2 : StableHlo.TRef sig ⟨S_, .i32⟩)] (.of main_while1b_v189 : StableHlo.TRef sig ⟨S65x2x4x64x256, .f32⟩) (fun x u i => Host.dynamicUpdateSlice x u (fun k => (i k (Shape.Idx.first h_S_)).toInt) updateFits_S65x2x4x64x256_S1x2x4x64x256) ]

/-- Each touches TensorCore buffers only. -/
theorem while1Ops0_9_sub : (while1Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 6 host operations of @dynamic_update_index_in_dim_8 (main_while1b_call22), in order. -/
abbrev while1Ops0_10 : List (HloOp τ sig (Elt F)) :=
  [ StableHlo.TRef.unary (.of main_while1b_v183 : StableHlo.TRef sig ⟨S2x4x64x64, .f32⟩) (.of main_while1b_call22_v0 : StableHlo.TRef sig ⟨S1x2x4x64x64, .f32⟩) (broadcastInDim S1x2x4x64x64 ![1, 2, 3, 4] bcast_S2x4x64x64_S1x2x4x64x64_1_2_3_4),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.nullary (.of main_while1b_call22_c_2 : StableHlo.TRef sig ⟨S_, .i32⟩) (constantI S_ 32 0#32),
    StableHlo.TRef.binaryIndexed (.of main_v88_12 : StableHlo.TRef sig ⟨S65x2x4x64x64, .f32⟩) (.of main_while1b_call22_v0 : StableHlo.TRef sig ⟨S1x2x4x64x64, .f32⟩) ![(.of main_while1b_v161 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩), (.of main_while1b_call22_c_2 : StableHlo.TRef sig ⟨S_, .i32⟩)] (.of main_while1b_v190 : StableHlo.TRef sig ⟨S65x2x4x64x64, .f32⟩) (fun x u i => Host.dynamicUpdateSlice x u (fun k => (i k (Shape.Idx.first h_S_)).toInt) updateFits_S65x2x4x64x64_S1x2x4x64x64) ]

/-- Each touches TensorCore buffers only. -/
theorem while1Ops0_10_sub : (while1Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 6 host operations of @dynamic_update_index_in_dim (main_while1b_call23), in order. -/
abbrev while1Ops0_11 : List (HloOp τ sig (Elt F)) :=
  [ StableHlo.TRef.unary (.of main_while1b_v182 : StableHlo.TRef sig ⟨S2x4x64x512, .f32⟩) (.of main_while1b_call23_v0 : StableHlo.TRef sig ⟨S1x2x4x64x512, .f32⟩) (broadcastInDim S1x2x4x64x512 ![1, 2, 3, 4] bcast_S2x4x64x512_S1x2x4x64x512_1_2_3_4),
    StableHlo.TRef.nullary (.of main_while1b_call23_c : StableHlo.TRef sig ⟨S_, .i32⟩) (constantI S_ 32 0#32),
    StableHlo.TRef.nullary (.of main_while1b_call23_c_0 : StableHlo.TRef sig ⟨S_, .i32⟩) (constantI S_ 32 0#32),
    StableHlo.TRef.nullary (.of main_while1b_call23_c_1 : StableHlo.TRef sig ⟨S_, .i32⟩) (constantI S_ 32 0#32),
    StableHlo.TRef.nullary (.of main_while1b_call23_c_2 : StableHlo.TRef sig ⟨S_, .i32⟩) (constantI S_ 32 0#32),
    StableHlo.TRef.binaryIndexed (.of main_v88_13 : StableHlo.TRef sig ⟨S65x2x4x64x512, .f32⟩) (.of main_while1b_call23_v0 : StableHlo.TRef sig ⟨S1x2x4x64x512, .f32⟩) ![(.of main_while1b_v161 : StableHlo.TRef sig ⟨S_, .i32⟩), (.of main_while1b_call23_c : StableHlo.TRef sig ⟨S_, .i32⟩), (.of main_while1b_call23_c_0 : StableHlo.TRef sig ⟨S_, .i32⟩), (.of main_while1b_call23_c_1 : StableHlo.TRef sig ⟨S_, .i32⟩), (.of main_while1b_call23_c_2 : StableHlo.TRef sig ⟨S_, .i32⟩)] (.of main_while1b_v191 : StableHlo.TRef sig ⟨S65x2x4x64x512, .f32⟩) (fun x u i => Host.dynamicUpdateSlice x u (fun k => (i k (Shape.Idx.first h_S_)).toInt) updateFits_S65x2x4x64x512_S1x2x4x64x512) ]

/-- Each touches TensorCore buffers only. -/
theorem while1Ops0_11_sub : (while1Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩

/-- 9 host operations of host loop 1's body region, in order. -/
abbrev while1Ops0_12 : List (HloOp τ sig (Elt F)) :=
  [ StableHlo.nullary main_while1b_c_50 (constantI S_ 32 1#32),
    StableHlo.binary main_v88_7 main_while1b_c_50 main_while1b_v192 (addi : (⟨S_, .i32⟩ : BufTy).Contents (Elt F) → (⟨S_, .i32⟩ : BufTy).Contents (Elt F) → (⟨S_, .i32⟩ : BufTy).Contents (Elt F)),
    StableHlo.unary main_while1b_v192 main_v88_7 id,
    StableHlo.unary main_while1b_v179 main_v88_8 id,
    StableHlo.unary main_while1b_v186 main_v88_9 id,
    StableHlo.unary main_while1b_v188 main_v88_10 id,
    StableHlo.unary main_while1b_v189 main_v88_11 id,
    StableHlo.unary main_while1b_v190 main_v88_12 id,
    StableHlo.unary main_while1b_v191 main_v88_13 id ]

/-- Each touches TensorCore buffers only. -/
theorem while1Ops0_12_sub : (while1Ops0_12 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The second loop's body is the chain of its stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- The stretches before the first loop, in order. -/
abbrev preI : List (List (HloOp τ sig (Elt F))) := [main_part0_ops0, main_part0_ops1, main_part0_ops2, main_part0_ops3, main_part0_ops4, main_part0_ops5, main_part0_ops6, main_part0_ops7, main_part0_ops8, main_part0_ops9, main_part1_ops0]

/-- They are plain: TensorCore buffers only, nothing allocated. -/
theorem pre_plain : Plain (preI (F := F)) :=
  .cons main_part0_ops0_sub (hf := List.forall_iff_forall_mem.mp (forall_fresh_of_map rfl)) (.cons main_part0_ops1_sub (hf := List.forall_iff_forall_mem.mp (forall_fresh_of_map rfl)) (.cons main_part0_ops2_sub (hf := List.forall_iff_forall_mem.mp (forall_fresh_of_map rfl)) (.cons main_part0_ops3_sub (hf := List.forall_iff_forall_mem.mp (forall_fresh_of_map rfl)) (.cons main_part0_ops4_sub (hf := List.forall_iff_forall_mem.mp (forall_fresh_of_map rfl)) (.cons main_part0_ops5_sub (hf := List.forall_iff_forall_mem.mp (forall_fresh_of_map rfl)) (.cons main_part0_ops6_sub (hf := List.forall_iff_forall_mem.mp (forall_fresh_of_map rfl)) (.cons main_part0_ops7_sub (hf := List.forall_iff_forall_mem.mp (forall_fresh_of_map rfl)) (.cons main_part0_ops8_sub (hf := List.forall_iff_forall_mem.mp (forall_fresh_of_map rfl)) (.cons main_part0_ops9_sub (hf := List.forall_iff_forall_mem.mp (forall_fresh_of_map rfl)) (.cons main_part1_ops0_sub (hf := List.forall_iff_forall_mem.mp (forall_fresh_of_map rfl)) (.nil)))))))))))

/-- The operations before the first loop, as one list. -/
abbrev preOps : List (HloOp τ sig (Elt F)) := preI.flatten

/-- The buffer each of them writes, in order. -/
abbrev preW : List (Ref sig .tc) :=
  [main_v0, main_v1, main_v2, main_v3, main_v4, main_v5, main_v6, main_v7, main_v8, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1_0, main_call3_call0_cst_0, main_call3_call0_v13, main_call3_call0_v14, main_call3_call0_cst_1, main_call3_call0_v15, main_call3_call0_v16, main_call3_call0_cst_2, main_call3_call0_v17, main_call3_call0_v18, main_call3_call0_cst_3, main_call3_call0_v19, main_call3_call0_v20, main_call3_call0_v21, main_v9_1, main_call3_call0_cst_4, main_call3_call0_cst_5, main_call3_call0_v23, main_call3_call0_cst_6, main_call3_call0_cst_7, main_call3_call0_v24, main_call3_call0_cst_8, main_call3_call0_v25, main_call3_call0_v26, main_call3_call0_cst_9, main_call3_call0_v27, main_call3_call0_v28, main_call3_call0_v29, main_call3_call0_v30, main_call3_call0_v31, main_call3_call0_cst_10, main_call3_call0_v32, main_v9_2, main_v9_0, main_v10, main_v11, main_cst, main_v12, main_v13, main_v14, main_v15, main_v16, main_v17, main_v18, main_v19, main_v20, main_v21, main_v22, main_v23, main_v24, main_v25, main_v26, main_v27, main_v28, main_v29, main_cst_0, main_call4_v0, main_call4_v1, main_v30, main_v31, main_v32, main_v33, main_v34, main_v35, main_v36, main_cst_1, main_call5_v0, main_v37_1, main_call5_v2, main_v37_0, main_call5_cst, main_v37_2, main_v38, main_v39, main_v40, main_v41, main_cst_2, main_v42, main_v43, main_v44, main_v45, main_v46, main_v47, main_v48, main_v49, main_v50, main_v51, main_v52, main_cst_3, main_v53, main_v54, main_v55, main_v56, main_v57, main_v58, main_v59, main_v60, main_v61, main_v62, main_v63, main_cst_4, main_v64, main_v65, main_v66, main_v67, main_cst_5, main_v68, main_v69, main_cst_6, main_v70, main_cst_7, main_v71, main_c, main_v72_0, main_v72_1, main_v72_2, main_v72_3, main_v72_4, main_v72_5, main_v72_6, main_v72_7, main_v72_8]

theorem pre_writes : (preOps (F := F)).map HloOp.writes = preW.map fun r => {Proc.devRef (τ := τ) .tc r} := rfl

/-- The stretches of the first loop's body, in order. -/
abbrev body0I : List (List (HloOp τ sig (Elt F))) := [while0Ops0, while0Ops0_1, while0Ops0_2, while0Ops0_3, while0Ops0_4, while0Ops0_5, while0Ops0_6, while0Ops0_7]

/-- They are plain: TensorCore buffers only, nothing allocated. -/
theorem body0_plain : Plain (body0I (F := F)) :=
  .cons while0Ops0_sub (hf := List.forall_iff_forall_mem.mp (forall_fresh_of_map rfl)) (.cons while0Ops0_1_sub (hf := List.forall_iff_forall_mem.mp (forall_fresh_of_map rfl)) (.cons while0Ops0_2_sub (hf := List.forall_iff_forall_mem.mp (forall_fresh_of_map rfl)) (.cons while0Ops0_3_sub (hf := List.forall_iff_forall_mem.mp (forall_fresh_of_map rfl)) (.cons while0Ops0_4_sub (hf := List.forall_iff_forall_mem.mp (forall_fresh_of_map rfl)) (.cons while0Ops0_5_sub (hf := List.forall_iff_forall_mem.mp (forall_fresh_of_map rfl)) (.cons while0Ops0_6_sub (hf := List.forall_iff_forall_mem.mp (forall_fresh_of_map rfl)) (.cons while0Ops0_7_sub (hf := List.forall_iff_forall_mem.mp (forall_fresh_of_map rfl)) (.nil))))))))

/-- The operations of the first loop's body, as one list. -/
abbrev body0Ops : List (HloOp τ sig (Elt F)) := body0I.flatten

/-- The buffer each of them writes, in order. -/
abbrev body0W : List (Ref sig .tc) :=
  [main_while0b_call6_c, main_while0b_call6_c_0, main_while0b_call6_c_1, main_while0b_call6_c_2, main_while0b_call6_v0, main_while0b_v160, main_while0b_call7_c, main_while0b_call7_c_0, main_while0b_call7_c_1, main_while0b_call7_c_2, main_while0b_call7_v0, main_while0b_v161, main_while0b_call8_c, main_while0b_call8_c_0, main_while0b_call8_c_1, main_while0b_call8_c_2, main_while0b_call8_v0, main_while0b_v162, main_while0b_call9_c, main_while0b_call9_c_0, main_while0b_call9_c_1, main_while0b_call9_c_2, main_while0b_call9_v0, main_while0b_v163, main_while0b_v164, main_while0b_v165, main_while0b_v166, main_while0b_v167, main_while0b_v168, main_while0b_v169, main_while0b_v170, main_while0b_call10_v0, main_while0b_call10_c, main_while0b_call10_c_0, main_while0b_call10_c_1, main_while0b_call10_c_2, main_while0b_v171, main_while0b_call11_v0, main_while0b_call11_c, main_while0b_call11_c_0, main_while0b_call11_c_1, main_while0b_call11_c_2, main_while0b_v172, main_while0b_c_41, main_while0b_v173, main_v72_5, main_v72_6, main_v72_7, main_v72_8]

theorem body0_writes : (body0Ops (F := F)).map HloOp.writes = body0W.map fun r => {Proc.devRef (τ := τ) .tc r} := rfl

/-- The stretches between the loops, in order. -/
abbrev midI : List (List (HloOp τ sig (Elt F))) := [main_part1_ops1, main_part1_ops2, main_part1_ops3, main_part1_ops4, main_part1_ops5, main_part2_ops0]

/-- They are plain: TensorCore buffers only, nothing allocated. -/
theorem mid_plain : Plain (midI (F := F)) :=
  .cons main_part1_ops1_sub (hf := List.forall_iff_forall_mem.mp (forall_fresh_of_map rfl)) (.cons main_part1_ops2_sub (hf := List.forall_iff_forall_mem.mp (forall_fresh_of_map rfl)) (.cons main_part1_ops3_sub (hf := List.forall_iff_forall_mem.mp (forall_fresh_of_map rfl)) (.cons main_part1_ops4_sub (hf := List.forall_iff_forall_mem.mp (forall_fresh_of_map rfl)) (.cons main_part1_ops5_sub (hf := List.forall_iff_forall_mem.mp (forall_fresh_of_map rfl)) (.cons main_part2_ops0_sub (hf := List.forall_iff_forall_mem.mp (forall_fresh_of_map rfl)) (.nil))))))

/-- The operations between the loops, as one list. -/
abbrev midOps : List (HloOp τ sig (Elt F)) := midI.flatten

/-- The buffer each of them writes, in order. -/
abbrev midW : List (Ref sig .tc) :=
  [main_v73, main_v74, main_v75, main_v76, main_cst_8, main_v77, main_v78, main_v79, main_v80, main_v81, main_cst_9, main_v82, main_cst_10, main_v83, main_cst_11, main_v84, main_cst_12, main_v85, main_cst_13, main_v86, main_cst_14, main_v87, main_c_15, main_v88_0, main_v88_1, main_v88_2, main_v88_3, main_v88_4, main_v88_5, main_v88_6, main_v88_7, main_v88_8, main_v88_9, main_v88_10, main_v88_11, main_v88_12, main_v88_13]

theorem mid_writes : (midOps (F := F)).map HloOp.writes = midW.map fun r => {Proc.devRef (τ := τ) .tc r} := rfl

/-- The stretches of the second loop's body, in order. -/
abbrev body1I : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12]

/-- They are plain: TensorCore buffers only, nothing allocated. -/
theorem body1_plain : Plain (body1I (F := F)) :=
  .cons while1Ops0_sub (hf := List.forall_iff_forall_mem.mp (forall_fresh_of_map rfl)) (.cons while1Ops0_1_sub (hf := List.forall_iff_forall_mem.mp (forall_fresh_of_map rfl)) (.cons while1Ops0_2_sub (hf := List.forall_iff_forall_mem.mp (forall_fresh_of_map rfl)) (.cons while1Ops0_3_sub (hf := List.forall_iff_forall_mem.mp (forall_fresh_of_map rfl)) (.cons while1Ops0_4_sub (hf := List.forall_iff_forall_mem.mp (forall_fresh_of_map rfl)) (.cons while1Ops0_5_sub (hf := List.forall_iff_forall_mem.mp (forall_fresh_of_map rfl)) (.cons while1Ops0_6_sub (hf := List.forall_iff_forall_mem.mp (forall_fresh_of_map rfl)) (.cons while1Ops0_7_sub (hf := List.forall_iff_forall_mem.mp (forall_fresh_of_map rfl)) (.cons while1Ops0_8_sub (hf := List.forall_iff_forall_mem.mp (forall_fresh_of_map rfl)) (.cons while1Ops0_9_sub (hf := List.forall_iff_forall_mem.mp (forall_fresh_of_map rfl)) (.cons while1Ops0_10_sub (hf := List.forall_iff_forall_mem.mp (forall_fresh_of_map rfl)) (.cons while1Ops0_11_sub (hf := List.forall_iff_forall_mem.mp (forall_fresh_of_map rfl)) (.cons while1Ops0_12_sub (hf := List.forall_iff_forall_mem.mp (forall_fresh_of_map rfl)) (.nil)))))))))))))

/-- The operations of the second loop's body, as one list. -/
abbrev body1Ops : List (HloOp τ sig (Elt F)) := body1I.flatten

/-- The buffer each of them writes, in order. -/
abbrev body1W : List (Ref sig .tc) :=
  [main_while1b_c_46, main_while1b_v160, main_while1b_c_47, main_while1b_v161, main_while1b_call14_c, main_while1b_call14_c_0, main_while1b_call14_c_1, main_while1b_call14_c_2, main_while1b_call14_v0, main_while1b_v162, main_while1b_call15_c, main_while1b_call15_c_0, main_while1b_call15_c_1, main_while1b_call15_c_2, main_while1b_call15_v0, main_while1b_v163, main_while1b_call16_c, main_while1b_call16_c_0, main_while1b_call16_c_1, main_while1b_call16_c_2, main_while1b_call16_v0, main_while1b_v164, main_while1b_call17_c, main_while1b_call17_c_0, main_while1b_call17_c_1, main_while1b_call17_c_2, main_while1b_call17_v0, main_while1b_v165, main_while1b_call18_c, main_while1b_call18_c_0, main_while1b_call18_c_1, main_while1b_call18_c_2, main_while1b_call18_v0, main_while1b_v166, main_while1b_call19_c, main_while1b_call19_c_0, main_while1b_call19_c_1, main_while1b_call19_c_2, main_while1b_call19_v0, main_while1b_v167, main_while1b_v168, main_while1b_v169, main_while1b_v170, main_while1b_v171, main_while1b_v172, main_while1b_cst_48, main_while1b_v173, main_while1b_v174, main_while1b_v175, main_while1b_v176, main_while1b_cst_49, main_while1b_v177, main_while1b_v178, main_while1b_v179, main_while1b_v180, main_while1b_v181, main_while1b_v182, main_while1b_v183, main_while1b_v184, main_while1b_v185, main_while1b_v186, main_while1b_v187, main_while1b_call20_v0, main_while1b_call20_c, main_while1b_call20_c_0, main_while1b_call20_c_1, main_while1b_call20_c_2, main_while1b_v188, main_while1b_call21_v0, main_while1b_call21_c, main_while1b_call21_c_0, main_while1b_call21_c_1, main_while1b_call21_c_2, main_while1b_v189, main_while1b_call22_v0, main_while1b_call22_c, main_while1b_call22_c_0, main_while1b_call22_c_1, main_while1b_call22_c_2, main_while1b_v190, main_while1b_call23_v0, main_while1b_call23_c, main_while1b_call23_c_0, main_while1b_call23_c_1, main_while1b_call23_c_2, main_while1b_v191, main_while1b_c_50, main_while1b_v192, main_v88_7, main_v88_8, main_v88_9, main_v88_10, main_v88_11, main_v88_12, main_v88_13]

theorem body1_writes : (body1Ops (F := F)).map HloOp.writes = body1W.map fun r => {Proc.devRef (τ := τ) .tc r} := rfl

/-- The stretches after the second loop, in order. -/
abbrev postI : List (List (HloOp τ sig (Elt F))) := [main_part2_ops1, main_part3_ops0, main_part3_ops1, main_part3_ops2, main_part3_ops3, main_part3_ops4, main_part3_ops5, main_part3_ops6, main_part3_ops7, main_part3_ops8, main_part3_ops9]

/-- They are plain: TensorCore buffers only, nothing allocated. -/
theorem post_plain : Plain (postI (F := F)) :=
  .cons main_part2_ops1_sub (hf := List.forall_iff_forall_mem.mp (forall_fresh_of_map rfl)) (.cons main_part3_ops0_sub (hf := List.forall_iff_forall_mem.mp (forall_fresh_of_map rfl)) (.cons main_part3_ops1_sub (hf := List.forall_iff_forall_mem.mp (forall_fresh_of_map rfl)) (.cons main_part3_ops2_sub (hf := List.forall_iff_forall_mem.mp (forall_fresh_of_map rfl)) (.cons main_part3_ops3_sub (hf := List.forall_iff_forall_mem.mp (forall_fresh_of_map rfl)) (.cons main_part3_ops4_sub (hf := List.forall_iff_forall_mem.mp (forall_fresh_of_map rfl)) (.cons main_part3_ops5_sub (hf := List.forall_iff_forall_mem.mp (forall_fresh_of_map rfl)) (.cons main_part3_ops6_sub (hf := List.forall_iff_forall_mem.mp (forall_fresh_of_map rfl)) (.cons main_part3_ops7_sub (hf := List.forall_iff_forall_mem.mp (forall_fresh_of_map rfl)) (.cons main_part3_ops8_sub (hf := List.forall_iff_forall_mem.mp (forall_fresh_of_map rfl)) (.cons main_part3_ops9_sub (hf := List.forall_iff_forall_mem.mp (forall_fresh_of_map rfl)) (.nil)))))))))))

/-- The operations after the second loop, as one list. -/
abbrev postOps : List (HloOp τ sig (Elt F)) := postI.flatten

/-- The buffer each of them writes, in order. -/
abbrev postW : List (Ref sig .tc) :=
  [main_cst_16, main_v89, main_v90, main_v91, main_cst_17, main_v92, main_v93, main_v94, main_cst_18, main_v95, main_v96, main_v97, main_v98, main_cst_19, main_v99, main_v100, main_cst_20, main_v101, main_v102, main_v103, main_v104, main_cst_21, main_v105, main_v106, main_v107, main_v108, main_cst_22, main_v109, main_v110, main_v111, main_v112, main_cst_23, main_v113, main_v114, main_cst_24, main_v115, main_v116, main_v117, main_v118, main_cst_25, main_v119, main_v120, main_v121, main_v122, main_cst_26, main_v123, main_v124, main_v125, main_v126, main_cst_27, main_v127, main_v128, main_v129, main_v130, main_v131, main_call24_cst, main_call24_v0, main_v132, main_v133, main_v134, main_v135, main_cst_28, main_v136, main_v137, main_cst_29, main_v138, main_v139, main_v140, main_cst_30, main_v141, main_v142, main_v143, main_v144, main_v145, main_cst_31, main_v146, main_v147, main_v148, main_v149, main_call25_v0, main_call25_v1, main_v150, main_v151, main_v152, main_v153, main_v154, main_v155, main_v156, main_v157, main_c_32, main_call29_v0, main_v158, main_v159]

theorem post_writes : (postOps (F := F)).map HloOp.writes = postW.map fun r => {Proc.devRef (τ := τ) .tc r} := rfl

end Cert.Ref

end
-- ==== Proof.RefRead.lean ====
/- Reading a line of host operations in which each buffer is written once: at the line's end a buffer holds its operation's
   function of what the operation's operands hold at the line's end. -/
module

public import Idealize.ShloMosaic.Lib.StableHlo.RunLoop
public import Idealize.ShloMosaic.Lib.StableHlo.RunRead

@[expose] public section

noncomputable section

namespace Cert.Read

open Idealize.ShloMosaic Idealize.ShloMosaic.TcCoe Idealize.ShloMosaic.StableHlo

variable {τ : Topo} {sig : RefSig} {Val : EltTy → Type}
variable {ops : List (HloOp τ sig Val)} {W : List (Ref sig .tc)}

/-- No operation of a line whose writes are listed by `W` writes a reference outside `W`. -/
theorem not_written (hW : ops.map HloOp.writes = W.map fun r => {Proc.devRef (τ := τ) .tc r}) {r : Ref sig .tc} (hr : r ∉ W) :
    ∀ op ∈ ops, Proc.devRef (τ := τ) .tc r ∉ op.writes := fun op hop hb => by
  have hm : op.writes ∈ W.map fun r => ({Proc.devRef (τ := τ) .tc r} : Finset (DevRef τ sig)) := hW ▸ List.mem_map_of_mem hop
  obtain ⟨y, hy, he⟩ := List.mem_map.mp hm
  rw [← he, Finset.mem_singleton] at hb
  exact hr (Proc.devRef_injective _ hb ▸ hy)

/-- A reference the line does not write keeps its contents. -/
theorem kept (hW : ops.map HloOp.writes = W.map fun r => {Proc.devRef (τ := τ) .tc r}) (V : Valuation τ sig Val)
    {r : Ref sig .tc} (hr : r ∉ W) : after ops V (Proc.devRef .tc r) = V (Proc.devRef .tc r) :=
  after_of_forall_not_mem ops V (not_written hW hr)

/-- A line is its first `i` operations, then the rest. -/
theorem after_split (ops : List (HloOp τ sig Val)) (i : ℕ) (V : Valuation τ sig Val) :
    after ops V = after (ops.drop i) (after (ops.take i) V) := by
  conv_lhs => rw [← List.take_append_drop i ops]
  exact after_append _ _ _

/-- A reference not written from operation `i` on holds at the end what it holds before operation `i`. -/
theorem late (hW : ops.map HloOp.writes = W.map fun r => {Proc.devRef (τ := τ) .tc r}) (V : Valuation τ sig Val) (i : ℕ)
    {r : Ref sig .tc} (hr : r ∉ W.drop i) :
    after (ops.take i) V (Proc.devRef .tc r) = after ops V (Proc.devRef .tc r) := by
  rw [after_split ops i V]
  exact (kept (by rw [List.map_drop, hW, List.map_drop]) _ hr).symm

/-- A reference written by operation `i` and not afterwards holds at the end what that operation left there. -/
theorem at_write (hW : ops.map HloOp.writes = W.map fun r => {Proc.devRef (τ := τ) .tc r}) (V : Valuation τ sig Val) (i : ℕ)
    {op : HloOp τ sig Val} (h : ops[i]? = some op) {r : Ref sig .tc} (hr : r ∉ W.drop (i + 1)) :
    after ops V (Proc.devRef .tc r) = op.result (after (ops.take i) V) (Proc.devRef .tc r) := by
  rw [← late hW V (i + 1) hr]
  rw [List.take_add_one, h, after_append]
  rfl

section Ops

variable (hW : ops.map HloOp.writes = W.map fun r => {Proc.devRef (τ := τ) .tc r}) (V : Valuation τ sig Val) (i : ℕ)
variable {x y a b c : Ref sig .tc}

include hW

/-- The result of a constant. -/
theorem nullary_at {v : y.ty.Contents Val} {hy} (h : ops[i]? = some (nullary y v hy)) (hr : y ∉ W.drop (i + 1) := by decide +kernel) :
    after ops V (Proc.devRef .tc y) = v := by
  rw [at_write hW V i h hr, nullary_result]

/-- The result of a one-operand operation. -/
theorem unary_at {f : x.ty.Contents Val → y.ty.Contents Val} {hx hy} (h : ops[i]? = some (unary x y f hx hy))
    (hr : y ∉ W.drop (i + 1) := by decide +kernel) (hx' : x ∉ W.drop i := by decide +kernel) :
    after ops V (Proc.devRef .tc y) = f (after ops V (Proc.devRef .tc x)) := by
  rw [at_write hW V i h hr, unary_result, late hW V i hx']

/-- The result of a two-operand operation. -/
theorem binary_at {f : a.ty.Contents Val → b.ty.Contents Val → y.ty.Contents Val} {ha hb hy}
    (h : ops[i]? = some (binary a b y f ha hb hy)) (hr : y ∉ W.drop (i + 1) := by decide +kernel) (ha' : a ∉ W.drop i := by decide +kernel) (hb' : b ∉ W.drop i := by decide +kernel) :
    after ops V (Proc.devRef .tc y) = f (after ops V (Proc.devRef .tc a)) (after ops V (Proc.devRef .tc b)) := by
  rw [at_write hW V i h hr, binary_result, late hW V i ha', late hW V i hb']

/-- The result of a three-operand operation. -/
theorem ternary_at {f : c.ty.Contents Val → a.ty.Contents Val → b.ty.Contents Val → y.ty.Contents Val} {hc ha hb hy}
    (h : ops[i]? = some (ternary c a b y f hc ha hb hy)) (hr : y ∉ W.drop (i + 1) := by decide +kernel) (hc' : c ∉ W.drop i := by decide +kernel) (ha' : a ∉ W.drop i := by decide +kernel)
    (hb' : b ∉ W.drop i := by decide +kernel) :
    after ops V (Proc.devRef .tc y)
      = f (after ops V (Proc.devRef .tc c)) (after ops V (Proc.devRef .tc a)) (after ops V (Proc.devRef .tc b)) := by
  rw [at_write hW V i h hr, ternary_result, late hW V i hc', late hW V i ha', late hW V i hb']

/-- The result of a reshape. -/
theorem reshape_at {he : x.ty.elt = y.ty.elt} {hn hx hy} (h : ops[i]? = some (reshape x y he hn hx hy))
    (hr : y ∉ W.drop (i + 1) := by decide +kernel) (hx' : x ∉ W.drop i := by decide +kernel) :
    after ops V (Proc.devRef .tc y) = fun j => he ▸ shapeCast y.ty.shape (after ops V (Proc.devRef .tc x)) hn j := by
  rw [at_write hW V i h hr, reshape_result, late hW V i hx']

/-- The result of a one-operand operation at computed indices. -/
theorem unaryIndexed_at {n : ℕ} {ix : Fin n → Ref sig .tc} {T : BufTy} {f : a.ty.Contents Val → (Fin n → T.Contents Val) → y.ty.Contents Val}
    {hT ha hix hy} (h : ops[i]? = some (unaryIndexed a ix T y f hT ha hix hy)) (hr : y ∉ W.drop (i + 1) := by decide +kernel) (ha' : a ∉ W.drop i := by decide +kernel)
    (hix' : ∀ k, ix k ∉ W.drop i := by decide +kernel) :
    after ops V (Proc.devRef .tc y)
      = f (after ops V (Proc.devRef .tc a))
          (fun k => cast (congrArg (fun U : BufTy => U.Contents Val) (hT k)) (after ops V (Proc.devRef .tc (ix k)))) := by
  rw [at_write hW V i h hr, unaryIndexed_result, late hW V i ha']
  congr 1
  funext k
  rw [late hW V i (hix' k)]

/-- The result of a two-operand operation at computed indices. -/
theorem binaryIndexed_at {n : ℕ} {ix : Fin n → Ref sig .tc} {T : BufTy}
    {f : a.ty.Contents Val → b.ty.Contents Val → (Fin n → T.Contents Val) → y.ty.Contents Val}
    {hT ha hb hix hy} (h : ops[i]? = some (binaryIndexed a b ix T y f hT ha hb hix hy)) (hr : y ∉ W.drop (i + 1) := by decide +kernel) (ha' : a ∉ W.drop i := by decide +kernel)
    (hb' : b ∉ W.drop i := by decide +kernel) (hix' : ∀ k, ix k ∉ W.drop i := by decide +kernel) :
    after ops V (Proc.devRef .tc y)
      = f (after ops V (Proc.devRef .tc a)) (after ops V (Proc.devRef .tc b))
          (fun k => cast (congrArg (fun U : BufTy => U.Contents Val) (hT k)) (after ops V (Proc.devRef .tc (ix k)))) := by
  rw [at_write hW V i h hr, binaryIndexed_result, late hW V i ha', late hW V i hb']
  congr 1
  funext k
  rw [late hW V i (hix' k)]

end Ops

end Cert.Read

end
-- ==== Proof.RefRun.lean ====
/- The reference's run: @main is host operations, a counted loop of 65 trips, host operations, a second counted loop of 65 trips
   and host operations. Every weakly fair execution terminates and leaves every unscoped buffer at the fold of the operations. -/
module

public import proofs.«01_k».proof.Proof.RefOps
public import proofs.«01_k».proof.Proof.RefRead
public import Idealize.ShloMosaic.Lib.Scf.ExitTest
public import Idealize.ShloMosaic.Lib.Scf.Counter

@[expose] public section

set_option maxRecDepth 4000

noncomputable section

namespace Cert.Ref

open Cert.ReferenceIdeal Cert.ReferenceIdeal.Gen Cert.Read
open Idealize.ShloMosaic Idealize.ShloMosaic.TcCoe Idealize.ShloMosaic.StableHlo
open Idealize.ShloMosaic.Pipeline (CSeg Ticket PCfg ucRefs sub_ucRefs)
open Idealize.SL Idealize.SL.RA Idealize.SL.BI
open scoped Idealize.SL.BI
open Idealize.SL.BI.BIBase Idealize.SL.Sem

variable {F : FTy → Type} [FloatOps F]

/-- The first loop's condition: the bound, and the counter compared with it. -/
abbrev cond0Ops : List (HloOp τ sig (Elt F)) :=
  [ StableHlo.nullary main_while0c_c_41 (constantI S_ 32 65#32),
    StableHlo.binary main_v72_5 main_while0c_c_41 main_while0c_v160 (cmpi .slt) ]

/-- The second loop's condition. -/
abbrev cond1Ops : List (HloOp τ sig (Elt F)) :=
  [ StableHlo.nullary main_while1c_c_46 (constantI S_ 32 65#32),
    StableHlo.binary main_v88_7 main_while1c_c_46 main_while1c_v160 (cmpi .slt) ]

theorem cond0_writes : (cond0Ops (F := F)).map HloOp.writes
    = [main_while0c_c_41, main_while0c_v160].map fun r => {Proc.devRef (τ := τ) .tc r} := rfl
theorem cond1_writes : (cond1Ops (F := F)).map HloOp.writes
    = [main_while1c_c_46, main_while1c_v160].map fun r => {Proc.devRef (τ := τ) .tc r} := rfl

section Counters

variable (U : Dev nD → Valuation τ sig (Elt F))

/-- A trip of the first loop adds one to its counter. -/
theorem ctr0_trip (X : Valuation τ sig (Elt F)) :
    afterL body0I X (Proc.devRef .tc main_v72_5) = addi (X (Proc.devRef .tc main_v72_5)) (constantI S_ 32 1#32) := by
  rw [afterL_eq_after_flatten, after_split body0Ops 43]
  have h : ∀ Y : Valuation τ sig (Elt F), after (body0Ops.drop 43) Y (Proc.devRef .tc main_v72_5)
      = addi (Y (Proc.devRef .tc main_v72_5)) (constantI S_ 32 1#32) := fun Y => by
    show after while0Ops0_7 Y _ = _
    after_results
    rfl
  rw [h, kept (W := body0W.take 43) (by rw [List.map_take, body0_writes, List.map_take]) X (by decide +kernel)]

/-- A trip of the second loop adds one to its counter. -/
theorem ctr1_trip (X : Valuation τ sig (Elt F)) :
    afterL body1I X (Proc.devRef .tc main_v88_7) = addi (X (Proc.devRef .tc main_v88_7)) (constantI S_ 32 1#32) := by
  rw [afterL_eq_after_flatten, after_split body1Ops 86]
  have h : ∀ Y : Valuation τ sig (Elt F), after (body1Ops.drop 86) Y (Proc.devRef .tc main_v88_7)
      = addi (Y (Proc.devRef .tc main_v88_7)) (constantI S_ 32 1#32) := fun Y => by
    show after while1Ops0_12 Y _ = _
    after_results
    rfl
  rw [h, kept (W := body1W.take 86) (by rw [List.map_take, body1_writes, List.map_take]) X (by decide +kernel)]

/-- Before the `k`-th test of the first loop its counter is `k`. -/
theorem ctr0_at (hU : ∀ c, U c (Proc.devRef .tc main_v72_5) = fun _ => (0#32 : BitVec 32)) (c : Dev nD) :
    ∀ k, atTrip cond0Ops body0I U k c (Proc.devRef .tc main_v72_5) = fun _ => Scf.iv 0#32 1#32 k
  | 0 => by rw [show atTrip cond0Ops body0I U 0 c = U c from rfl, hU, Scf.iv_zero]
  | k + 1 => by
    rw [show atTrip cond0Ops body0I U (k + 1) c = afterL body0I (after cond0Ops (atTrip cond0Ops body0I U k c)) from rfl,
      ctr0_trip, kept cond0_writes _ (by decide +kernel), ctr0_at hU c k, Scf.iv_succ]
    rfl

/-- Before the `k`-th test of the second loop its counter is `k`. -/
theorem ctr1_at (hU : ∀ c, U c (Proc.devRef .tc main_v88_7) = fun _ => (0#32 : BitVec 32)) (c : Dev nD) :
    ∀ k, atTrip cond1Ops body1I U k c (Proc.devRef .tc main_v88_7) = fun _ => Scf.iv 0#32 1#32 k
  | 0 => by rw [show atTrip cond1Ops body1I U 0 c = U c from rfl, hU, Scf.iv_zero]
  | k + 1 => by
    rw [show atTrip cond1Ops body1I U (k + 1) c = afterL body1I (after cond1Ops (atTrip cond1Ops body1I U k c)) from rfl,
      ctr1_trip, kept cond1_writes _ (by decide +kernel), ctr1_at hU c k, Scf.iv_succ]
    rfl

end Counters

section Conditions

variable (U : Dev nD → Valuation τ sig (Elt F))

-- `iapply` of a rule stated for any thread at the TensorCore thread unifies only when unification may unfold
-- plain definitions in a metavariable's type
set_option backward.isDefEq.respectTransparency.types false in
/-- The first loop's test: it succeeds exactly before the 65th trip's end. -/
theorem cond0_spec (hU : ∀ c, U c (Proc.devRef .tc main_v72_5) = fun _ => (0#32 : BitVec 32)) :
    CondSpec (pcfgs (F := F)) defs₀ loops (main_while0_cond (F := F)) cond0Ops body0I U 65 := by
  intro k hk c bd
  have hctr := ctr0_at U hU c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops body0I U k c) main_v72_5 HostLoop.idx0)
        (HloOp.result _ (atTrip cond0Ops body0I U k c) main_while0c_c_41 HostLoop.idx0) = 1#1) (k < 65)
    rw [nullary_result_ne _ _ _ _ (by decide), nullary_result, hctr]
    exact Scf.cmpi_slt_iv_ub_iff (lb := 0#32) (ub := 65#32) (st := 1#32) (by decide) (show k ≤ Scf.trips 0#32 65#32 1#32 from hk)
  isplitl [Hb]; · iexact Hb
  rw [after_cons, after_cons, after_nil]; iexact Hh

set_option backward.isDefEq.respectTransparency.types false in
/-- The second loop's test. -/
theorem cond1_spec (hU : ∀ c, U c (Proc.devRef .tc main_v88_7) = fun _ => (0#32 : BitVec 32)) :
    CondSpec (pcfgs (F := F)) defs₀ loops (main_while1_cond (F := F)) cond1Ops body1I U 65 := by
  intro k hk c bd
  have hctr := ctr1_at U hU c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops body1I U k c) main_v88_7 HostLoop.idx0)
        (HloOp.result _ (atTrip cond1Ops body1I U k c) main_while1c_c_46 HostLoop.idx0) = 1#1) (k < 65)
    rw [nullary_result_ne _ _ _ _ (by decide), nullary_result, hctr]
    exact Scf.cmpi_slt_iv_ub_iff (lb := 0#32) (ub := 65#32) (st := 1#32) (by decide) (show k ≤ Scf.trips 0#32 65#32 1#32 from hk)
  isplitl [Hb]; · iexact Hb
  rw [after_cons, after_cons, after_nil]; iexact Hh

end Conditions

variable (m : (ℓ : Loc nD τ sig) → Buf (Elt F) ℓ) (ρ : Dev nD → PrngReg)

/-- The buffers where the first loop starts. -/
def U0 (c : Dev nD) : Valuation τ sig (Elt F) := afterL preI (launchContents m c)
/-- The buffers before the first loop's `k`-th test. -/
def X0 (k : ℕ) (c : Dev nD) : Valuation τ sig (Elt F) := atTrip cond0Ops body0I (U0 m) k c
/-- The buffers after the first loop. -/
def E0 (c : Dev nD) : Valuation τ sig (Elt F) := after cond0Ops (X0 m 65 c)
/-- The buffers where the second loop starts. -/
def U1 (c : Dev nD) : Valuation τ sig (Elt F) := afterL midI (E0 m c)
/-- The buffers before the second loop's `k`-th test. -/
def X1 (k : ℕ) (c : Dev nD) : Valuation τ sig (Elt F) := atTrip cond1Ops body1I (U1 m) k c
/-- The buffers after the second loop. -/
def E1 (c : Dev nD) : Valuation τ sig (Elt F) := after cond1Ops (X1 m 65 c)
/-- The buffers at @main's end. -/
def Last (c : Dev nD) : Valuation τ sig (Elt F) := afterL postI (E1 m c)

/-- The first loop's counter starts at zero. -/
theorem U0_ctr (c : Dev nD) : U0 m c (Proc.devRef .tc main_v72_5) = fun _ => (0#32 : BitVec 32) := by
  unfold U0
  rw [afterL_eq_after_flatten]
  rw [unary_at pre_writes (launchContents m c) 141 (y := main_v72_5) (x := main_c) (f := id) rfl (by decide +kernel) (by decide +kernel),
    nullary_at pre_writes (launchContents m c) 135 (y := main_c) (v := constantI S_ 32 0#32) rfl (by decide +kernel)]
  rfl

/-- The second loop's counter starts at zero. -/
theorem U1_ctr (c : Dev nD) : U1 m c (Proc.devRef .tc main_v88_7) = fun _ => (0#32 : BitVec 32) := by
  unfold U1
  rw [afterL_eq_after_flatten]
  rw [unary_at mid_writes (E0 m c) 30 (y := main_v88_7) (x := main_c_15) (f := id) rfl (by decide +kernel) (by decide +kernel),
    nullary_at mid_writes (E0 m c) 22 (y := main_c_15) (v := constantI S_ 32 0#32) rfl (by decide +kernel)]
  rfl

/-! ## The run -/

-- no kernel region: the ghost state is not used
local notation "𝕄" => MT nD τ sig Unit (Elt F) ℕ (Option PUnit) ℕ

/-- No pipeline is admitted, so the choice of admissions is empty. -/
abbrev adm : (p : Fin 0) → (pcfgs (F := F) p).Adm := fun p => p.elim0
/-- No ticket. -/
abbrev tk : Fin 0 → Ticket (Ix := Unit) (Name := ℕ) (U := Option PUnit) (Lvl := ℕ) (nD := nD) (τ := τ) (pcfgs (F := F)) adm := fun j => j.elim0
abbrev noIx : GSem nD τ sig → Finset Unit := fun _ => ∅
abbrev noLv : GSem nD τ sig → Unit → ℕ := fun _ _ => 0

theorem cells_injective : Function.Injective (Pipeline.cellOf (nD := nD) (τ := τ) (Pipeline.pin (pcfgs (F := F)) adm)) :=
  fun k => k.1.elim0

/-- Carried beside the buffers: what the core owes. -/
abbrev Owes (c : Dev nD) : sProp 𝕄 := iprop(∃ W, owes (c : Thread nD τ) (0 : CellTallies nD τ sig Unit) W)

/-- A test's specification over the buffers alone holds with what the core owes carried beside them. -/
theorem loopCond {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (Ix := Unit) (Name := ℕ) (U := Option PUnit) (Lvl := ℕ) (pcfgs (F := F)) defs₀ Variants.none loops Owes cond condOps bodyI W₀ n :=
  fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Owes (F := F) c)
        ⊢ iprop(⌜v = 1#1 ↔ k < n⌝ ∗ boundary (c : Thread nD τ) ∗ held (c : Thread nD τ) (ucRefs τ sig) (after condOps (atTrip condOps bodyI W₀ k c)) ∗ Owes (F := F) c) := fun v => by
    iintro ⟨⟨%hv, Hb, Hh⟩, HR⟩
    isplitr; · ipureintro; exact hv
    isplitl [Hb]; · iexact Hb
    isplitl [Hh] <;> iassumption
  refine BIBase.Entails.trans ?_ (((Laws.sep_mono_left (hcond k hk c bd)).trans (wp_frame_r _ _ _)).trans (wp_mono _ _ _ hpost))
  iintro ⟨Hb, Hh, HR⟩
  isplitl [Hb Hh]; · isplitl [Hb] <;> iassumption
  iexact HR

/-- @main's segments: stretches, the first loop, stretches, the second loop, stretches. -/
def segs : List (CSeg (pcfgs (F := F)) adm defs₀ Variants.none noIx noLv loops tk) :=
  segsOf _ _ _ _ _ _ _ _ Owes preI pre_plain (launchContents m)
    ++ loopSeg _ _ _ _ _ _ _ _ 0 main_while0_cond main_while0_body rfl cond0Ops body0I body0_plain while0_body_chain 65 (U0 m) Owes
        (loopCond (cond0_spec (U0 m) (U0_ctr m)))
      :: (segsOf _ _ _ _ _ _ _ _ Owes midI mid_plain (E0 m)
        ++ loopSeg _ _ _ _ _ _ _ _ 1 main_while1_cond main_while1_body rfl cond1Ops body1I body1_plain while1_body_chain 65 (U1 m) Owes
            (loopCond (cond1_spec (U1 m) (U1_ctr m)))
          :: segsOf _ _ _ _ _ _ _ _ Owes postI post_plain (E1 m))

/-- Their fragments, in order, are @main's. -/
theorem segs_prog (c : Dev nD) : Pipeline.chain ((segs m).map CSeg.prog) = main (F := F) c := by
  rw [main_chain_windows]
  unfold segs
  rw [List.map_append, List.map_cons, List.map_append, List.map_cons, segsOf_prog, segsOf_prog, segsOf_prog]
  rfl

/-- Each starts where the one before it ends. -/
theorem segs_chains :
    CSeg.Chains (fun c => iprop(held (c : Thread nD τ) (ucRefs τ sig) (launchContents m c) ∗ Owes c)) (segs m)
      (fun c => iprop(iprop(held (c : Thread nD τ) (ucRefs τ sig) (Last m c)) ∗ ∃ W, owes (c : Thread nD τ) (0 : CellTallies nD τ sig Unit) W)) := by
  unfold segs
  exact CSeg.Chains.append (segsOf_chains _ _ _ _ _ _ _ _ Owes preI pre_plain _)
    ⟨fun _ => .rfl, CSeg.Chains.append (segsOf_chains _ _ _ _ _ _ _ _ Owes midI mid_plain _)
      ⟨fun _ => .rfl, segsOf_chains _ _ _ _ _ _ _ _ Owes postI post_plain _⟩⟩

/-- The run: from any memory with zero counters every weakly fair execution of @main terminates with every unscoped buffer at the
    fold of the operations. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Last m c (Proc.devRef .tc b)) :=
  Pipeline.θ_run_regions_loop_kit (Ix := Unit) (Name := ℕ) (U := Option PUnit) (Lvl := ℕ) (J := Fin 0) (P := Fin 0) (Val := Elt F)
    (pcfgs (F := F)) adm cells_injective defs₀ Variants.none noIx noLv loops tk m ρ main (segs m)
    (fun c Q => by rw [← segs_prog m c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owes c))
    (Tₙ := fun c => iprop(held (c : Thread nD τ) (ucRefs τ sig) (Last m c)))
    (hch := segs_chains m)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Last m c b)
    (hfin := fun c s' => by
      unfold held
      iintro ⟨Hh, HSI⟩
      ihave Hr := (pointsTo_read_all (ucRefs τ sig) (fun b => ((c : Dev nD), b)) (fun b => Last m c b) s') $$ [Hh HSI]
      · isplitl [Hh] <;> iassumption
      icases Hr with ⟨%h, HSI⟩
      imodintro
      isplitr; · ipureintro; exact h
      iexact HSI)
    (hQ := fun _ h c b hb => h c _ (StableHlo.devRef_mem_ucRefs b hb))

/-! ## What nothing writes -/

/-- A buffer that no operation of the first loop writes holds before every test what it held where the loop starts. -/
theorem X0_kept {r : Ref sig .tc} (h0 : r ∉ body0W) (h1 : r ∉ [main_while0c_c_41, main_while0c_v160]) (c : Dev nD) :
    ∀ k, X0 m k c (Proc.devRef .tc r) = U0 m c (Proc.devRef .tc r)
  | 0 => rfl
  | k + 1 => by
    rw [show X0 m (k + 1) c = afterL body0I (after cond0Ops (X0 m k c)) from rfl, afterL_eq_after_flatten,
      kept body0_writes _ h0, kept cond0_writes _ h1, X0_kept h0 h1 c k]

/-- The same for the second loop. -/
theorem X1_kept {r : Ref sig .tc} (h0 : r ∉ body1W) (h1 : r ∉ [main_while1c_c_46, main_while1c_v160]) (c : Dev nD) :
    ∀ k, X1 m k c (Proc.devRef .tc r) = U1 m c (Proc.devRef .tc r)
  | 0 => rfl
  | k + 1 => by
    rw [show X1 m (k + 1) c = afterL body1I (after cond1Ops (X1 m k c)) from rfl, afterL_eq_after_flatten,
      kept body1_writes _ h0, kept cond1_writes _ h1, X1_kept h0 h1 c k]

/-- A buffer the first loop and the operations after it up to the second loop do not write. -/
theorem U1_kept {r : Ref sig .tc} (h0 : r ∉ midW) (h1 : r ∉ [main_while0c_c_41, main_while0c_v160]) (h2 : r ∉ body0W) (c : Dev nD) :
    U1 m c (Proc.devRef .tc r) = U0 m c (Proc.devRef .tc r) := by
  unfold U1 E0
  rw [afterL_eq_after_flatten, kept mid_writes _ h0, kept cond0_writes _ h1, X0_kept m h2 h1]

/-- A buffer the second loop and the operations after it do not write. -/
theorem Last_kept {r : Ref sig .tc} (h0 : r ∉ postW) (h1 : r ∉ [main_while1c_c_46, main_while1c_v160]) (h2 : r ∉ body1W) (c : Dev nD) :
    Last m c (Proc.devRef .tc r) = U1 m c (Proc.devRef .tc r) := by
  unfold Last E1
  rw [afterL_eq_after_flatten, kept post_writes _ h0, kept cond1_writes _ h1, X1_kept m h2 h1]

/-- A buffer nothing writes holds at the end what it held at the launch. -/
theorem Last_arg {r : Ref sig .tc}
    (h : r ∉ preW ++ [main_while0c_c_41, main_while0c_v160] ++ body0W ++ midW ++ [main_while1c_c_46, main_while1c_v160] ++ body1W ++ postW)
    (c : Dev nD) : Last m c (Proc.devRef .tc r) = m ((c.tc : Thread nD τ).loc r) := by
  simp only [List.mem_append, not_or] at h
  obtain ⟨⟨⟨⟨⟨⟨h0, h1⟩, h2⟩, h3⟩, h4⟩, h5⟩, h6⟩ := h
  rw [Last_kept m h6 h4 h5, U1_kept m h3 h1 h2]
  unfold U0
  rw [afterL_eq_after_flatten, kept pre_writes _ h0]

/-- The run with the results named, the arguments unchanged and every counter at zero. -/
theorem run_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v76) = Last m c (Proc.devRef .tc main_v76)
      ∧ r.2.mem ((c.tc : Thread nD τ).loc main_v157) = Last m c (Proc.devRef .tc main_v157)
      ∧ r.2.mem ((c.tc : Thread nD τ).loc main_v154) = Last m c (Proc.devRef .tc main_v154)
      ∧ r.2.mem ((c.tc : Thread nD τ).loc main_v159) = Last m c (Proc.devRef .tc main_v159))
      ∧ r.2.sem = fun _ => 0) :=
  (θ_run (defs (F := F)) _ _).mono (fun r h => ⟨fun c =>
      ⟨(h c main_arg0 rfl).trans (Last_arg m (by decide +kernel) c), (h c main_arg1 rfl).trans (Last_arg m (by decide +kernel) c),
       (h c main_arg2 rfl).trans (Last_arg m (by decide +kernel) c), (h c main_arg3 rfl).trans (Last_arg m (by decide +kernel) c),
       h c main_v76 rfl, h c main_v157 rfl, h c main_v154 rfl, h c main_v159 rfl⟩,
      sem_eq_zero_of_no_sems rfl r.2⟩) (run m ρ)

end Cert.Ref

end
-- ==== Proof.RetMath.lean ====
/- The mathematics of one chunk of the decayed linear attention ("retention"), over the extended reals: for one head, from the
   chunk's queries, keys and values, the state before the chunk and the head's log-decay, the chunk's output and the state
   after it; and the gradients of both. Positions count in the direction the state runs. -/
module

public import Idealize.ShloMosaic.PureOps.Ideal
public import Idealize.ShloMosaic.Lib.Pointwise

@[expose] public section

noncomputable section

namespace Cert.Math

open Idealize.ShloMosaic

/-- `max (y, 0) + log (1 + exp (-|y|))`. -/
def softplus (y : EReal) : EReal := max y 0 + Ideal.log1p (Ideal.exp (-(max y (-y))))
/-- The logarithm of the logistic function. -/
def lsig (z : EReal) : EReal := -softplus (-z)

/-- Infinity, as its binary32 pattern. -/
def infty : EReal := Ideal.ofBits .f32 0x7F800000#32
/-- The derivative of the logarithm of the logistic function, an infinite exponent read as zero. -/
def sgrad (z : EReal) : EReal :=
  Ideal.exp ((if -z = infty then 0 else -z) - if softplus (-z) = infty then 0 else softplus (-z))

/-- A position as an extended real. -/
def pos (i : Fin 64) : EReal := ((((i.val : ℕ) : ℤ) : ℝ) : EReal)
/-- How far position `j` lies before position `i`. -/
def rel (i j : Fin 64) : EReal := (((i.val : ℤ) - (j.val : ℤ) : ℤ) : ℝ)

/-- The constants 1/16, 63 and 64, as their binary32 patterns. -/
def c16 : EReal := Ideal.ofBits .f32 0x3D800000#32
def c63 : EReal := Ideal.ofBits .f32 0x427C0000#32
def c64 : EReal := Ideal.ofBits .f32 0x42800000#32

/-- The decay a query sees: from the chunk's start to just after the position. -/
def wq (lg : EReal) (i : Fin 64) : EReal := Ideal.exp (lg * (pos i + 1))
/-- The decay a key suffers: from its position to the chunk's end. -/
def wk (lg : EReal) (j : Fin 64) : EReal := Ideal.exp (lg * (c63 - pos j))
/-- The decay of the state over a chunk. -/
def wr (lg : EReal) : EReal := Ideal.exp (lg * c64)
/-- The decay between two positions of the chunk, zero from a later to an earlier one. -/
def intra (lg : EReal) (i j : Fin 64) : EReal := if j.val ≤ i.val then Ideal.exp (rel i j * lg) else 0

/-- What one head's chunk is computed from. -/
structure Chunk where
  /-- the queries -/
  q : Fin 64 → Fin 256 → EReal
  /-- the keys -/
  k : Fin 64 → Fin 256 → EReal
  /-- the values -/
  v : Fin 64 → Fin 512 → EReal
  /-- the log-decay -/
  lg : EReal

variable (C : Chunk) (r : Fin 256 → Fin 512 → EReal)

def Chunk.ks (j : Fin 64) (d : Fin 256) : EReal := C.k j d * c16
def Chunk.qk (i j : Fin 64) : EReal := (∑ d, C.q i d * C.ks j d) * intra C.lg i j
def Chunk.qd (i : Fin 64) (d : Fin 256) : EReal := C.q i d * wq C.lg i
def Chunk.kd (j : Fin 64) (d : Fin 256) : EReal := C.ks j d * wk C.lg j
/-- The chunk's output. -/
def Chunk.out (i : Fin 64) (e : Fin 512) : EReal := (∑ d, C.qd i d * r d e) + ∑ j, C.qk i j * C.v j e
/-- The state after the chunk. -/
def Chunk.next (d : Fin 256) (e : Fin 512) : EReal := r d e * wr C.lg + ∑ j, C.kd j d * C.v j e

variable (go : Fin 64 → Fin 512 → EReal) (g : Fin 256 → Fin 512 → EReal)

/-- The gradients, from the output's `go` and the following state's `g`: of the masked product, of the values, of the decayed
    keys, of the decayed queries, of the state, of the queries, of the keys and of the log-decay. -/
def Chunk.gqk (i j : Fin 64) : EReal := ∑ e, go i e * C.v j e
def Chunk.gv (j : Fin 64) (e : Fin 512) : EReal := (∑ d, g d e * C.kd j d) + ∑ i, go i e * C.qk i j
def Chunk.gkd (j : Fin 64) (d : Fin 256) : EReal := ∑ e, g d e * C.v j e
def gqd (i : Fin 64) (d : Fin 256) : EReal := ∑ e, go i e * r d e
def Chunk.gr (d : Fin 256) (e : Fin 512) : EReal := g d e * wr C.lg + ∑ i, go i e * C.qd i d
def Chunk.gq (i : Fin 64) (d : Fin 256) : EReal := gqd r go i d * wq C.lg i + ∑ j, C.gqk go i j * intra C.lg i j * C.ks j d
def Chunk.gk (j : Fin 64) (d : Fin 256) : EReal :=
  (C.gkd g j d * wk C.lg j + ∑ i, C.gqk go i j * intra C.lg i j * C.q i d) * c16

def Chunk.glg : EReal :=
  (∑ d, ∑ e, r d e * g d e) * wr C.lg * c64
    + (∑ j, (∑ d, C.ks j d * C.gkd g j d) * wk C.lg j * (c63 - pos j))
    + (∑ i, (∑ d, C.q i d * gqd r go i d) * wq C.lg i * (pos i + 1))
    + ∑ i, ∑ j, rel i j * ((∑ d, C.q i d * C.ks j d) * C.gqk go i j * intra C.lg i j)

/-! ## The same with the positions of the chunk counted from its end -/

/-- The comparison a masked decay is computed under, and its distance, both from reversed positions. -/
theorem intra_rev (lg : EReal) (i j : Fin 64) :
    Scalar.select (IntOp.cmpi CmpIPredicate.sle (BitVec.ofNat 32 i.val) (BitVec.ofNat 32 j.val))
      (Ideal.exp (FloatOps.sitofp (F := Ideal) FTy.f32
          (Scalar.select (IntOp.cmpi CmpIPredicate.sle (BitVec.ofNat 32 i.val) (BitVec.ofNat 32 j.val))
            (IntOp.subi (BitVec.ofNat 32 j.val) (BitVec.ofNat 32 i.val)) 0#32) * lg)) (0 : EReal)
      = intra lg i.rev j.rev := by
  have h : ∀ i j : Fin 64, (IntOp.cmpi CmpIPredicate.sle (BitVec.ofNat 32 i.val) (BitVec.ofNat 32 j.val) = 1#1 ↔ j.rev.val ≤ i.rev.val)
      ∧ (IntOp.subi (BitVec.ofNat 32 j.val) (BitVec.ofNat 32 i.val)).toInt = (i.rev.val : ℤ) - (j.rev.val : ℤ) := by decide +kernel
  obtain ⟨h1, h2⟩ := h i j
  unfold intra rel
  by_cases hc : j.rev.val ≤ i.rev.val
  · rw [if_pos hc, h1.mpr hc, ← h2]; rfl
  · rw [if_neg hc]
    have : IntOp.cmpi CmpIPredicate.sle (BitVec.ofNat 32 i.val) (BitVec.ofNat 32 j.val) ≠ 1#1 := fun e => hc (h1.mp e)
    exact if_neg this

/-- The same where the mask is left around a product. -/
theorem intra_rev_mul (lg A B : EReal) (i j : Fin 64) :
    Scalar.select (IntOp.cmpi CmpIPredicate.sle (BitVec.ofNat 32 i.val) (BitVec.ofNat 32 j.val))
      (A * Ideal.exp (FloatOps.sitofp (F := Ideal) FTy.f32
          (Scalar.select (IntOp.cmpi CmpIPredicate.sle (BitVec.ofNat 32 i.val) (BitVec.ofNat 32 j.val))
            (IntOp.subi (BitVec.ofNat 32 j.val) (BitVec.ofNat 32 i.val)) 0#32) * lg) * B) (0 : EReal)
      = A * intra lg i.rev j.rev * B := by
  rw [← intra_rev]
  unfold Scalar.select
  split
  · rfl
  · rw [mul_zero, zero_mul]

/-- The distance beside a masked decay, both from reversed positions. -/
theorem rel_rev_mul (lg A : EReal) (i j : Fin 64) :
    Scalar.select (IntOp.cmpi CmpIPredicate.sle (BitVec.ofNat 32 i.val) (BitVec.ofNat 32 j.val))
      (FloatOps.sitofp (F := Ideal) FTy.f32
          (Scalar.select (IntOp.cmpi CmpIPredicate.sle (BitVec.ofNat 32 i.val) (BitVec.ofNat 32 j.val))
            (IntOp.subi (BitVec.ofNat 32 j.val) (BitVec.ofNat 32 i.val)) 0#32)
        * (A * Ideal.exp (FloatOps.sitofp (F := Ideal) FTy.f32
          (Scalar.select (IntOp.cmpi CmpIPredicate.sle (BitVec.ofNat 32 i.val) (BitVec.ofNat 32 j.val))
            (IntOp.subi (BitVec.ofNat 32 j.val) (BitVec.ofNat 32 i.val)) 0#32) * lg))) (0 : EReal)
      = rel i.rev j.rev * (A * intra lg i.rev j.rev) := by
  have h : ∀ i j : Fin 64, (IntOp.cmpi CmpIPredicate.sle (BitVec.ofNat 32 i.val) (BitVec.ofNat 32 j.val) = 1#1 ↔ j.rev.val ≤ i.rev.val)
      ∧ (IntOp.subi (BitVec.ofNat 32 j.val) (BitVec.ofNat 32 i.val)).toInt = (i.rev.val : ℤ) - (j.rev.val : ℤ) := by decide +kernel
  obtain ⟨h1, h2⟩ := h i j
  unfold intra rel
  by_cases hc : j.rev.val ≤ i.rev.val
  · rw [if_pos hc, h1.mpr hc, ← h2]; rfl
  · rw [if_neg hc, mul_zero, mul_zero]
    have : IntOp.cmpi CmpIPredicate.sle (BitVec.ofNat 32 i.val) (BitVec.ofNat 32 j.val) ≠ 1#1 := fun e => hc (h1.mp e)
    exact if_neg this

/-- A position counted from the end. -/
theorem pos_rev (i : Fin 64) : FloatOps.sitofp (F := Ideal) FTy.f32 (IntOp.subi 63#32 (BitVec.ofNat 32 i.val)) = pos i.rev := by
  have h : ∀ i : Fin 64, (IntOp.subi 63#32 (BitVec.ofNat 32 i.val)).toInt = ((i.rev.val : ℕ) : ℤ) := by decide +kernel
  unfold pos
  rw [← h i]; rfl

/-- A sum over a chunk's positions in the other order. -/
theorem sum_rev {M : Type} [AddCommMonoid M] (f : Fin 64 → M) : ∑ j, f j = ∑ j : Fin 64, f j.rev :=
  (Equiv.sum_comp Fin.revPerm f).symm

/-- A chunk whose rows are read in the other order. -/
def Chunk.flip (C : Chunk) : Chunk where
  q i := C.q i.rev
  k i := C.k i.rev
  v i := C.v i.rev
  lg := C.lg

/-- The output of a flipped chunk, in the chunk's own rows. -/
theorem out_flip (i : Fin 64) (e : Fin 512) :
    C.flip.out r i.rev e = (∑ d, C.q i d * Ideal.exp (C.lg * (pos i.rev + 1)) * r d e)
      + ∑ j : Fin 64, (∑ d, C.q i d * (C.k j d * c16)) * intra C.lg i.rev j.rev * C.v j e := by
  unfold Chunk.out Chunk.qd Chunk.qk Chunk.ks Chunk.flip wq
  rw [sum_rev (fun j => _)]
  simp only [Fin.rev_rev]

/-- The next state of a flipped chunk, in the chunk's own rows. -/
theorem next_flip (d : Fin 256) (e : Fin 512) :
    C.flip.next r d e = r d e * Ideal.exp (C.lg * c64)
      + ∑ j : Fin 64, C.k j d * c16 * Ideal.exp (C.lg * (c63 - pos j.rev)) * C.v j e := by
  unfold Chunk.next Chunk.kd Chunk.ks Chunk.flip wk wr
  rw [sum_rev (fun j => _)]
  simp only [Fin.rev_rev]

/-- The values' gradient of a flipped chunk, in the chunk's own rows. -/
theorem gv_flip (j : Fin 64) (e : Fin 512) :
    C.flip.gv (fun i => go i.rev) g j.rev e = (∑ d, C.k j d * c16 * Ideal.exp (C.lg * (c63 - pos j.rev)) * g d e)
      + ∑ i : Fin 64, (∑ d, C.q i d * (C.k j d * c16)) * intra C.lg i.rev j.rev * go i e := by
  unfold Chunk.gv Chunk.kd Chunk.qk Chunk.ks Chunk.flip wk
  rw [sum_rev (fun i => _)]
  simp only [Fin.rev_rev, mul_comm (go _ e), mul_comm (g _ e)]

/-- The state's gradient of a flipped chunk, in the chunk's own rows. -/
theorem gr_flip (d : Fin 256) (e : Fin 512) :
    C.flip.gr (fun i => go i.rev) g d e = g d e * Ideal.exp (C.lg * c64)
      + ∑ i : Fin 64, C.q i d * Ideal.exp (C.lg * (pos i.rev + 1)) * go i e := by
  unfold Chunk.gr Chunk.qd Chunk.flip wq wr
  rw [sum_rev (fun i => _)]
  simp only [Fin.rev_rev, mul_comm (go _ e)]

/-- The queries' gradient of a flipped chunk, in the chunk's own rows. -/
theorem gq_flip (i : Fin 64) (d : Fin 256) :
    C.flip.gq r (fun i => go i.rev) i.rev d = (∑ e, go i e * r d e) * Ideal.exp (C.lg * (pos i.rev + 1))
      + ∑ j : Fin 64, (∑ e, go i e * C.v j e) * intra C.lg i.rev j.rev * (C.k j d * c16) := by
  unfold Chunk.gq gqd Chunk.gqk Chunk.ks Chunk.flip wq
  rw [sum_rev (fun j => _)]
  simp only [Fin.rev_rev]

/-- The keys' gradient of a flipped chunk, in the chunk's own rows. -/
theorem gk_flip (j : Fin 64) (d : Fin 256) :
    C.flip.gk (fun i => go i.rev) g j.rev d = ((∑ e, C.v j e * g d e) * Ideal.exp (C.lg * (c63 - pos j.rev))
      + ∑ i : Fin 64, (∑ e, go i e * C.v j e) * intra C.lg i.rev j.rev * C.q i d) * c16 := by
  unfold Chunk.gk Chunk.gkd Chunk.gqk Chunk.flip wk
  rw [sum_rev (fun i => _)]
  simp only [Fin.rev_rev, mul_comm (C.v j _)]

/-- The log-decay's gradient of a flipped chunk, in the chunk's own rows. -/
theorem glg_flip :
    C.flip.glg r (fun i => go i.rev) g = (∑ d, ∑ e, r d e * g d e) * Ideal.exp (C.lg * c64) * c64
      + (∑ j : Fin 64, (∑ d, C.k j d * c16 * ∑ e, C.v j e * g d e) * Ideal.exp (C.lg * (c63 - pos j.rev)) * (c63 - pos j.rev))
      + (∑ i : Fin 64, (∑ d, C.q i d * ∑ e, go i e * r d e) * Ideal.exp (C.lg * (pos i.rev + 1)) * (pos i.rev + 1))
      + ∑ i : Fin 64, ∑ j : Fin 64, rel i.rev j.rev
          * ((∑ d, C.q i d * (C.k j d * c16)) * (∑ e, go i e * C.v j e) * intra C.lg i.rev j.rev) := by
  have h : ∀ j d, (∑ e, C.v j e * g d e) = ∑ e, g d e * C.v j e := fun j d => Finset.sum_congr rfl fun e _ => mul_comm _ _
  simp only [h]
  unfold Chunk.glg Chunk.ks Chunk.gkd gqd Chunk.gqk Chunk.flip wk wq wr
  rw [sum_rev (fun j => (∑ d, _ * _ * _) * _ * _), sum_rev (fun i => (∑ d, _ * ∑ e, _ * r _ _) * _ * _),
    sum_rev (fun i => ∑ j, _)]
  simp only [sum_rev (fun j => rel _ j * _), Fin.rev_rev]

/-- One lane of a row picked out by a masked sum. -/
theorem lane_sum (f : Fin 128 → EReal) (n : ℕ) (hn : n < 128) :
    (∑ x : Fin 128, Scalar.select (IntOp.cmpi CmpIPredicate.eq (BitVec.ofNat 32 x.val) (BitVec.ofNat 32 n)) (f x) 0) = f ⟨n, hn⟩ := by
  rw [Finset.sum_eq_single (⟨n, hn⟩ : Fin 128)]
  · simp [Scalar.select, IntOp.cmpi]
  · intro b _ hb
    have : BitVec.ofNat 32 b.val ≠ BitVec.ofNat 32 n := fun e => hb (Fin.ext (by
      have := congrArg BitVec.toNat e
      simp only [BitVec.toNat_ofNat] at this
      have := b.isLt; simp only; omega))
    have hb : (BitVec.ofNat 32 b.val == BitVec.ofNat 32 n) = false := beq_false_of_ne this
    simp [Scalar.select, IntOp.cmpi, hb]
  · intro h; exact absurd (Finset.mem_univ _) h

/-- The logarithm of the logistic function as a kernel computes it, from differences with zero. -/
theorem lsig_sub (z : EReal) :
    (0 - if 0 - z ≠ 0 - z then 0 - z else max (0 - z) 0 + Ideal.log1p (Ideal.exp (0 - FloatOps.absf (F := Ideal) (φ := .f32) (0 - z)))) = lsig z := by
  rw [if_neg (fun h => h rfl)]
  simp only [sub_eq_add_neg, zero_add]
  rfl

/-- The logistic function's slope factor as a kernel computes it, from differences with zero. -/
theorem sgrad_sub (z : EReal) :
    Ideal.exp ((if 0 - z = Ideal.ofBits .f32 0x7F800000#32 then 0 else 0 - z)
        - if (if 0 - z ≠ 0 - z then 0 - z else max (0 - z) 0 + Ideal.log1p (Ideal.exp (0 - FloatOps.absf (F := Ideal) (φ := .f32) (0 - z)))) = Ideal.ofBits .f32 0x7F800000#32
          then 0 else if 0 - z ≠ 0 - z then 0 - z else max (0 - z) 0 + Ideal.log1p (Ideal.exp (0 - FloatOps.absf (F := Ideal) (φ := .f32) (0 - z))))
      = sgrad z := by
  simp only [if_neg (fun h : (0 - z ≠ 0 - z) => h rfl)]
  simp only [sub_eq_add_neg, zero_add]
  rfl

/-- Two differences with zero about a product. -/
theorem zero_sub_mul (x y : EReal) : 0 - (0 - x) * y = x * y := by
  simp only [sub_eq_add_neg, zero_add, EReal.neg_mul, neg_neg]

/-- A sum of one. -/
theorem sum_one (f : Fin 1 → EReal) : ∑ i, f i = f 0 := Fin.sum_univ_one f

/-- Four heads' numbers laid out on the first four lanes. -/
theorem four_lanes (l : Fin 128) (A : Fin 4 → EReal) :
    Scalar.select (IntOp.cmpi CmpIPredicate.eq (BitVec.ofNat 32 l.val) 3#32) (A 3) 0
        + Scalar.select (IntOp.cmpi CmpIPredicate.eq (BitVec.ofNat 32 l.val) 2#32) (A 2) 0
        + Scalar.select (IntOp.cmpi CmpIPredicate.eq (BitVec.ofNat 32 l.val) 1#32) (A 1) 0
        + Scalar.select (IntOp.cmpi CmpIPredicate.eq (BitVec.ofNat 32 l.val) 0#32) (A 0) 0
      = if h : l.val < 4 then A ⟨l.val, h⟩ else 0 := by
  have key : ∀ l : Fin 128, ∀ n : Fin 4, IntOp.cmpi CmpIPredicate.eq (BitVec.ofNat 32 l.val) (BitVec.ofNat 32 n.val) = 1#1 ↔ l.val = n.val := by
    decide +kernel
  have on : ∀ n : Fin 4, Scalar.select (IntOp.cmpi CmpIPredicate.eq (BitVec.ofNat 32 l.val) (BitVec.ofNat 32 n.val)) (A n) 0
      = if l.val = n.val then A n else 0 := fun n => by
    unfold Scalar.select
    exact if_congr (key l n) rfl rfl
  refine (congrArg₂ (· + ·) (congrArg₂ (· + ·) (congrArg₂ (· + ·) (on 3) (on 2)) (on 1)) (on 0)).trans ?_
  obtain ⟨n, hn⟩ := l
  by_cases h : n < 4
  · rw [dif_pos h]
    have : ∀ n (h : n < 4), ((if n = 3 then A 3 else 0) + (if n = 2 then A 2 else 0) + (if n = 1 then A 1 else 0) + (if n = 0 then A 0 else 0))
        = A ⟨n, h⟩ := fun n h => by
      interval_cases n <;> simp
    exact this n h
  · rw [dif_neg h]
    simp only [Fin.val_zero, Fin.val_one, Fin.val_two]
    rw [if_neg (by show n ≠ 3; omega), if_neg (by omega), if_neg (by omega), if_neg (by omega)]
    simp only [add_zero]

end Cert.Math

end
-- ==== Proof.FwdVal.lean ====
/- The forward retention region's block: over the extended reals, what the body leaves at one grid point is each head's chunk
   output and next state, of the point's blocks read with the chunk's rows in reverse. -/
module

public import proofs.«01_k».proof.Proof.Fwd
public import proofs.«01_k».proof.Proof.RetMath
public import Idealize.ShloMosaic.Lib.Pipeline.ValueKit.Acc

@[expose] public section

set_option maxRecDepth 16384

noncomputable section

namespace Cert.Fwd

open Cert.KernelIdeal Cert.KernelIdeal.Gen
open Idealize.ShloMosaic Idealize.ShloMosaic.TcCoe Idealize.ShloMosaic.Tactic
open Cert.Math

/-- Column `d` of head `h` among `4 * n` columns. -/
def col {N : ℕ} (n : ℕ) (hN : N = 4 * n) (h : Fin 4) (d : Fin n) : Fin N := ⟨n * h.val + d.val, by
  subst hN
  have := d.isLt; have := h.isLt
  calc n * h.val + d.val < n * h.val + n := by omega
    _ = n * (h.val + 1) := by ring
    _ ≤ n * 4 := Nat.mul_le_mul_left _ (by omega)
    _ = 4 * n := by ring⟩

theorem col_zero {N : ℕ} (n : ℕ) (hN : N = 4 * n) (d : Fin n) : col n hN 0 d = ⟨d.val, by have := d.isLt; omega⟩ :=
  Fin.ext (by simp only [col, Fin.val_zero, Nat.mul_zero, Nat.zero_add])

/-- One head's chunk, of a point's blocks, in the blocks' rows. -/
def chunk (x0 x1 : Vec Ideal S1x64x1024 .f32) (x2 : Vec Ideal S1x64x2048 .f32) (x3 : Vec Ideal S1x128 .f32) (h : Fin 4) : Chunk where
  q i d := x0 (ix3 0 i (col 256 rfl h d))
  k i d := x1 (ix3 0 i (col 256 rfl h d))
  v i e := x2 (ix3 0 i (col 512 rfl h e))
  lg := lsig (x3 (ix2 0 ⟨h.val, by have := h.isLt; omega⟩))

/-- A state buffer's head. -/
def state (xs : Vec Ideal S4x256x512 .f32) (h : Fin 4) (d : Fin 256) (e : Fin 512) : EReal := xs (ix3 h d e)

/-- The output block the point leaves. -/
def outBlk (x0 x1 : Vec Ideal S1x64x1024 .f32) (x2 : Vec Ideal S1x64x2048 .f32) (x3 : Vec Ideal S1x128 .f32) (xs : Vec Ideal S4x256x512 .f32) :
    Vec Ideal S1x64x2048 .f32 := fun y =>
  (chunk x0 x1 x2 x3 ⟨(y 2).val / 512, by have : (y 2).val < 2048 := (y 2).isLt; omega⟩).flip.out
    (state xs ⟨(y 2).val / 512, by have : (y 2).val < 2048 := (y 2).isLt; omega⟩) (Fin.rev (y 1 : Fin 64))
    ⟨(y 2).val % 512, Nat.mod_lt _ (by decide)⟩

/-- The state the point leaves. -/
def nextBlk (x0 x1 : Vec Ideal S1x64x1024 .f32) (x2 : Vec Ideal S1x64x2048 .f32) (x3 : Vec Ideal S1x128 .f32) (xs : Vec Ideal S4x256x512 .f32) :
    Vec Ideal S4x256x512 .f32 := fun y =>
  (chunk x0 x1 x2 x3 (y 0)).flip.next (state xs (y 0)) (y 1) (y 2)

theorem outBlk_at (x0 x1 : Vec Ideal S1x64x1024 .f32) (x2 : Vec Ideal S1x64x2048 .f32) (x3 : Vec Ideal S1x128 .f32) (xs : Vec Ideal S4x256x512 .f32)
    (h : Fin 4) (i : Fin 64) (e : Fin 512) (y : S1x64x2048.Idx) (h1 : (y 1).val = i.val) (h2 : (y 2).val = 512 * h.val + e.val) :
    outBlk x0 x1 x2 x3 xs y = (chunk x0 x1 x2 x3 h).flip.out (state xs h) i.rev e := by
  have he := e.isLt
  have a : (⟨(y 2).val / 512, by have : (y 2).val < 2048 := (y 2).isLt; omega⟩ : Fin 4) = h := Fin.ext (by simp only [h2]; omega)
  have b : (⟨(y 2).val % 512, Nat.mod_lt _ (by decide)⟩ : Fin 512) = e := Fin.ext (by simp only [h2]; omega)
  have c : (y 1 : Fin 64) = i := Fin.ext h1
  unfold outBlk
  rw [a, b, c]

theorem nextBlk_at (x0 x1 : Vec Ideal S1x64x1024 .f32) (x2 : Vec Ideal S1x64x2048 .f32) (x3 : Vec Ideal S1x128 .f32) (xs : Vec Ideal S4x256x512 .f32)
    (h : Fin 4) (d : Fin 256) (e : Fin 512) (y : S4x256x512.Idx) (h0 : (y 0).val = h.val) (h1 : (y 1).val = d.val) (h2 : (y 2).val = e.val) :
    nextBlk x0 x1 x2 x3 xs y = (chunk x0 x1 x2 x3 h).flip.next (state xs h) d e := by
  have a : (y 0 : Fin 4) = h := Fin.ext h0
  have b : (y 1 : Fin 256) = d := Fin.ext h1
  have c : (y 2 : Fin 512) = e := Fin.ext h2
  unfold nextBlk
  rw [a, b, c]

/-- The saved copy of the state the point finds. -/
def savedBlk (xs : Vec Ideal S4x256x512 .f32) : Vec Ideal S1x1x4x256x512 .bf16 := fun y =>
  (xs (ix3 (y 2 : Fin 4) (y 3 : Fin 256) (y 4 : Fin 512)) : EReal)

theorem savedBlk_at (xs : Vec Ideal S4x256x512 .f32) (h : Fin 4) (d : Fin 256) (e : Fin 512) (y : S1x1x4x256x512.Idx)
    (h0 : (y 2).val = h.val) (h1 : (y 3).val = d.val) (h2 : (y 4).val = e.val) :
    savedBlk xs y = (xs (ix3 h d e) : EReal) := by
  have a : (y 2 : Fin 4) = h := Fin.ext h0
  have b : (y 3 : Fin 256) = d := Fin.ext h1
  have c : (y 4 : Fin 512) = e := Fin.ext h2
  unfold savedBlk
  rw [a, b, c]

variable (c : Dev nD) (i : grid0.Coords)
  (q : Memref sig .tc .vmem S1x64x1024 .f32) (hq : q.IsWhole) (k : Memref sig .tc .vmem S1x64x1024 .f32) (hk : k.IsWhole)
  (v : Memref sig .tc .vmem S1x64x2048 .f32) (hv : v.IsWhole) (lg : Memref sig .tc .vmem S1x128 .f32) (hlg : lg.IsWhole)
  (o : Memref sig .tc .vmem S1x64x2048 .f32) (ho : o.IsWhole) (st : Memref sig .tc .vmem S1x1x4x256x512 .bf16) (hst : st.IsWhole)
  (r : Memref sig .tc .vmem S4x256x512 .f32) (hr : r.IsWhole)
  (x0 x1 : Vec Ideal S1x64x1024 .f32) (x2 : Vec Ideal S1x64x2048 .f32) (x3 : Vec Ideal S1x128 .f32)
  (xs : Vec Ideal S4x256x512 .f32)

set_option maxHeartbeats 4000000 in
/-- Each head's output as the body computes it. -/
theorem out_pieces (hc : ¬start i) :
    ∀ p ∈ (runNext c i q hq k hk v hv lg hlg o ho st hst r hr x0 x1 x2 x3 xs hc).1, ∀ x, p.2 x = outBlk x0 x1 x2 x3 xs (p.1.emb x) := by
  unfold runNext; dsimp only; sl_unfold_words
  simp only [View.readAt_eq_ld, Memref.IsWhole.read_unread]
  simp only [List.forall_mem_cons, List.not_mem_nil, false_imp_iff, implies_true, and_true]
  refine ⟨fun x => ?_, fun x => ?_, fun x => ?_, fun x => ?_⟩ <;>
    obtain ⟨a, i', e, rfl⟩ : ∃ (a : Fin 1) (i' : Fin 64) (e : Fin 512), x = ix3 a i' e := ⟨x 0, x 1, x 2, eq_ix3 x⟩
  · rw [outBlk_at x0 x1 x2 x3 xs 3 i' e _ (Nat.zero_add _ |>.trans (Nat.one_mul _)) (congrArg (1536 + ·) (Nat.one_mul _))]
    unfold_payloads
    pointwise [lane_sum, lsig_sub, intra_rev_mul, pos_rev]
    exact (out_flip (chunk x0 x1 x2 x3 3) (state xs 3) i' e).symm
  · rw [outBlk_at x0 x1 x2 x3 xs 2 i' e _ (Nat.zero_add _ |>.trans (Nat.one_mul _)) (congrArg (1024 + ·) (Nat.one_mul _))]
    unfold_payloads
    pointwise [lane_sum, lsig_sub, intra_rev_mul, pos_rev]
    exact (out_flip (chunk x0 x1 x2 x3 2) (state xs 2) i' e).symm
  · rw [outBlk_at x0 x1 x2 x3 xs 1 i' e _ (Nat.zero_add _ |>.trans (Nat.one_mul _)) (congrArg (512 + ·) (Nat.one_mul _))]
    unfold_payloads
    pointwise [lane_sum, lsig_sub, intra_rev_mul, pos_rev]
    exact (out_flip (chunk x0 x1 x2 x3 1) (state xs 1) i' e).symm
  · rw [outBlk_at x0 x1 x2 x3 xs 0 i' e _ (Nat.zero_add _ |>.trans (Nat.one_mul _)) (congrArg (0 + ·) (Nat.one_mul _))]
    unfold_payloads
    pointwise [lane_sum, lsig_sub, intra_rev_mul, pos_rev]
    refine Eq.trans ?_ (out_flip (chunk x0 x1 x2 x3 0) (state xs 0) i' e).symm
    simp only [chunk, col_zero]
    rfl

set_option maxHeartbeats 4000000 in
/-- Each head's next state as the body computes it. -/
theorem next_pieces (hc : ¬start i) :
    ∀ p ∈ (runNext c i q hq k hk v hv lg hlg o ho st hst r hr x0 x1 x2 x3 xs hc).2.2.1, ∀ x, p.2 x = nextBlk x0 x1 x2 x3 xs (p.1.emb x) := by
  unfold runNext; dsimp only; sl_unfold_words
  simp only [View.readAt_eq_ld, Memref.IsWhole.read_unread]
  simp only [List.forall_mem_cons, List.not_mem_nil, false_imp_iff, implies_true, and_true]
  refine ⟨fun x => ?_, fun x => ?_, fun x => ?_, fun x => ?_⟩ <;>
    obtain ⟨a, d, e, rfl⟩ : ∃ (a : Fin 1) (d : Fin 256) (e : Fin 512), x = ix3 a d e := ⟨x 0, x 1, x 2, eq_ix3 x⟩ <;>
    obtain rfl : a = 0 := Subsingleton.elim _ _
  · rw [nextBlk_at x0 x1 x2 x3 xs 3 d e _ rfl (Nat.zero_add _ |>.trans (Nat.one_mul _)) (Nat.zero_add _ |>.trans (Nat.one_mul _))]
    unfold_payloads
    pointwise [lane_sum, lsig_sub, intra_rev_mul, pos_rev]
    exact (next_flip (chunk x0 x1 x2 x3 3) (state xs 3) d e).symm
  · rw [nextBlk_at x0 x1 x2 x3 xs 2 d e _ rfl (Nat.zero_add _ |>.trans (Nat.one_mul _)) (Nat.zero_add _ |>.trans (Nat.one_mul _))]
    unfold_payloads
    pointwise [lane_sum, lsig_sub, intra_rev_mul, pos_rev]
    exact (next_flip (chunk x0 x1 x2 x3 2) (state xs 2) d e).symm
  · rw [nextBlk_at x0 x1 x2 x3 xs 1 d e _ rfl (Nat.zero_add _ |>.trans (Nat.one_mul _)) (Nat.zero_add _ |>.trans (Nat.one_mul _))]
    unfold_payloads
    pointwise [lane_sum, lsig_sub, intra_rev_mul, pos_rev]
    exact (next_flip (chunk x0 x1 x2 x3 1) (state xs 1) d e).symm
  · rw [nextBlk_at x0 x1 x2 x3 xs 0 d e _ rfl (Nat.zero_add _ |>.trans (Nat.one_mul _)) (Nat.zero_add _ |>.trans (Nat.one_mul _))]
    unfold_payloads
    pointwise [lane_sum, lsig_sub, intra_rev_mul, pos_rev]
    refine Eq.trans ?_ (next_flip (chunk x0 x1 x2 x3 0) (state xs 0) d e).symm
    simp only [chunk, col_zero]
    rfl

set_option maxHeartbeats 4000000 in
/-- Each head's saved state. -/
theorem saved_pieces (hc : ¬start i) :
    ∀ p ∈ (runNext c i q hq k hk v hv lg hlg o ho st hst r hr x0 x1 x2 x3 xs hc).2.1, ∀ x, p.2 x = savedBlk xs (p.1.emb x) := by
  unfold runNext; dsimp only; sl_unfold_words
  simp only [View.readAt_eq_ld, Memref.IsWhole.read_unread]
  simp only [List.forall_mem_cons, List.not_mem_nil, false_imp_iff, implies_true, and_true]
  refine ⟨fun x => ?_, fun x => ?_, fun x => ?_, fun x => ?_⟩ <;>
    obtain ⟨a, b, h, d, e, rfl⟩ : ∃ (a b h : Fin 1) (d : Fin 256) (e : Fin 512), x = ix5 a b h d e := ⟨x 0, x 1, x 2, x 3, x 4, eq_ix5 x⟩ <;>
    obtain rfl : h = 0 := Subsingleton.elim _ _
  · rw [savedBlk_at xs 3 d e _ rfl (Nat.zero_add _ |>.trans (Nat.one_mul _)) (Nat.zero_add _ |>.trans (Nat.one_mul _))]
    unfold_payloads
    pointwise
  · rw [savedBlk_at xs 2 d e _ rfl (Nat.zero_add _ |>.trans (Nat.one_mul _)) (Nat.zero_add _ |>.trans (Nat.one_mul _))]
    unfold_payloads
    pointwise
  · rw [savedBlk_at xs 1 d e _ rfl (Nat.zero_add _ |>.trans (Nat.one_mul _)) (Nat.zero_add _ |>.trans (Nat.one_mul _))]
    unfold_payloads
    pointwise
  · rw [savedBlk_at xs 0 d e _ rfl (Nat.zero_add _ |>.trans (Nat.one_mul _)) (Nat.zero_add _ |>.trans (Nat.one_mul _))]
    unfold_payloads
    pointwise

/-- The cleared state. -/
def zeros : Vec Ideal S4x256x512 .f32 := k0_pay8 (F := Ideal)

/-- A load of the state right after it is cleared whole is a load of zeros. -/
theorem readCov_zero {off sz : Fin 3 → ℕ} (inb : ∀ a, off a + sz a ≤ S4x256x512.size a) :
    r.view.readCov (Val := Elt Ideal) [⟨Rect.unit ![0, 0, 0] ![4, 256, 512] inb_S4x256x512_S4x256x512_0_0_0, k0_pay8 (F := Ideal)⟩] (Rect.unit off sz inb).toLoadRect
      = View.ld zeros (Rect.unit off sz inb) := by
  rw [View.readCov_eq_canon']
  funext y
  exact congrFun (View.canon_cons_unit_lit' (S := S4x256x512) inb_S4x256x512_S4x256x512_0_0_0 zeros [] (by decide)) _

set_option maxHeartbeats 4000000 in
/-- A first chunk stores the outputs another chunk would store over a cleared state; -/
theorem start_out (hc : start i) (j : grid0.Coords) (hj : ¬start j) :
    (runStart c i q hq k hk v hv lg hlg o ho st hst r hr x0 x1 x2 x3 hc).1
      = (runNext c j q hq k hk v hv lg hlg o ho st hst r hr x0 x1 x2 x3 zeros hj).1 := by
  unfold runStart runNext; dsimp only; sl_unfold_words
  simp only [View.readAt_eq_ld, Memref.IsWhole.read_unread, readCov_zero]

set_option maxHeartbeats 4000000 in
/-- so it does the saved states, -/
theorem start_saved (hc : start i) (j : grid0.Coords) (hj : ¬start j) :
    (runStart c i q hq k hk v hv lg hlg o ho st hst r hr x0 x1 x2 x3 hc).2.1
      = (runNext c j q hq k hk v hv lg hlg o ho st hst r hr x0 x1 x2 x3 zeros hj).2.1 := by
  unfold runStart runNext; dsimp only; sl_unfold_words
  simp only [View.readAt_eq_ld, Memref.IsWhole.read_unread, readCov_zero]

set_option maxHeartbeats 4000000 in
/-- and the next states, the clearing store beneath them. -/
theorem start_next (hc : start i) (j : grid0.Coords) (hj : ¬start j) :
    (runStart c i q hq k hk v hv lg hlg o ho st hst r hr x0 x1 x2 x3 hc).2.2.1
      = (runNext c j q hq k hk v hv lg hlg o ho st hst r hr x0 x1 x2 x3 zeros hj).2.2.1
        ++ [⟨Rect.unit ![0, 0, 0] ![4, 256, 512] inb_S4x256x512_S4x256x512_0_0_0, k0_pay8 (F := Ideal)⟩] := by
  unfold runStart runNext; dsimp only; sl_unfold_words
  simp only [View.readAt_eq_ld, Memref.IsWhole.read_unread, readCov_zero, List.cons_append, List.nil_append]
/-- A point that is not a first chunk. -/
def point1 : Fin cfg0.N := ⟨1, Nat.lt_of_lt_of_eq (by decide : 1 < 130) N_0.symm⟩
theorem second : ¬start (grid0.coords point1) := by
  rw [start_iff]; decide

/-- The state a point works on: cleared at a first chunk. -/
def found (t : Fin cfg0.N) (xs : Vec Ideal S4x256x512 .f32) : Vec Ideal S4x256x512 .f32 := if t.val % 65 = 0 then zeros else xs

/-- What the body leaves at a point, in closed form. -/
theorem step_eq (c : Dev nD) (t : Fin cfg0.N) (x0 x1 : Vec Ideal S1x64x1024 .f32) (x2 : Vec Ideal S1x64x2048 .f32) (x3 : Vec Ideal S1x128 .f32)
    (xs : Vec Ideal S4x256x512 .f32) :
    step c t x0 x1 x2 x3 xs
      = (outBlk x0 x1 x2 x3 (found t xs), savedBlk (found t xs), nextBlk x0 x1 x2 x3 (found t xs)) := by
  unfold step found
  by_cases h : t.val % 65 = 0
  · rw [dif_pos h, if_pos h]
    dsimp only
    unfold readBack
    obtain ⟨C4, C5, CS⟩ := coversNext c (grid0.coords point1) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM (Memref.isWhole_whole _) x0 x1 x2 x3 zeros second
    refine Prod.ext ?_ (Prod.ext ?_ ?_) <;> dsimp only
    · rw [start_out (j := grid0.coords point1) (hj := second)]
      funext y; exact View.read_writes_apply_of_pieces _ _ _ _ (out_pieces _ _ _ _ _ _ _ _ _ _ _ _ _ _ _ _ _ _ _ _ _ _) y (C4 y)
    · rw [start_saved (j := grid0.coords point1) (hj := second)]
      funext y; exact View.read_writes_apply_of_pieces _ _ _ _ (saved_pieces _ _ _ _ _ _ _ _ _ _ _ _ _ _ _ _ _ _ _ _ _ _) y (C5 y)
    · rw [start_next (j := grid0.coords point1) (hj := second), View.writes_append]
      funext y; exact View.read_writes_apply_of_pieces _ _ _ _ (next_pieces _ _ _ _ _ _ _ _ _ _ _ _ _ _ _ _ _ _ _ _ _ _) y (CS y)
  · rw [dif_neg h, if_neg h]
    dsimp only
    unfold readBack
    obtain ⟨C4, C5, CS⟩ := coversNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scM (Memref.isWhole_whole _) x0 x1 x2 x3 xs (fun e => h ((start_iff t).mp e))
    refine Prod.ext ?_ (Prod.ext ?_ ?_) <;> dsimp only
    · funext y; exact View.read_writes_apply_of_pieces _ _ _ _ (out_pieces _ _ _ _ _ _ _ _ _ _ _ _ _ _ _ _ _ _ _ _ _ _) y (C4 y)
    · funext y; exact View.read_writes_apply_of_pieces _ _ _ _ (saved_pieces _ _ _ _ _ _ _ _ _ _ _ _ _ _ _ _ _ _ _ _ _ _) y (C5 y)
    · funext y; exact View.read_writes_apply_of_pieces _ _ _ _ (next_pieces _ _ _ _ _ _ _ _ _ _ _ _ _ _ _ _ _ _ _ _ _ _) y (CS y)

theorem zeros_at (y : S4x256x512.Idx) : zeros y = (0 : EReal) := by
  unfold zeros
  unfold_payloads
  pointwise

end Cert.Fwd

end
-- ==== Proof.RetSpec.lean ====
/- The retention direction over one batch row, chunk by chunk: the carried state after each chunk in order, the carried
   cotangent after each chunk in reverse, and from them the output and the gradients. -/
module

public import proofs.«01_k».proof.Proof.RetMath

@[expose] public section

noncomputable section

namespace Cert.Math

open Idealize.ShloMosaic

/-- One batch row's queries, keys and values by head, over the rows in order of position, and each head's decay logarithm. -/
structure Data where
  q : Fin 4160 → Fin 4 → Fin 256 → EReal
  k : Fin 4160 → Fin 4 → Fin 256 → EReal
  v : Fin 4160 → Fin 4 → Fin 512 → EReal
  lg : Fin 4 → EReal

/-- The row that is the `i`-th of chunk `n`, counted from the last row: the direction runs from the last row to the first. -/
def row (n : ℕ) (i : Fin 64) : Fin 4160 := ⟨4159 - (64 * n + i.val), by omega⟩

variable (D : Data) (G : Fin 4160 → Fin 4 → Fin 512 → EReal)

/-- Head `h`'s chunk `n`. -/
def Data.chunk (n : ℕ) (h : Fin 4) : Chunk where
  q i := D.q (row n i) h
  k i := D.k (row n i) h
  v i := D.v (row n i) h
  lg := D.lg h

/-- The cotangent of the output over chunk `n`. -/
def cot (n : ℕ) (h : Fin 4) (i : Fin 64) (e : Fin 512) : EReal := G (row n i) h e

/-- The state before chunk `n`. -/
def Data.R (h : Fin 4) : ℕ → Fin 256 → Fin 512 → EReal
  | 0 => fun _ _ => 0
  | n + 1 => (D.chunk n h).next (Data.R h n)

/-- The cotangent of the state after chunk `64 - n`. -/
def Data.GR (h : Fin 4) : ℕ → Fin 256 → Fin 512 → EReal
  | 0 => fun _ _ => 0
  | n + 1 => (D.chunk (64 - n) h).gr (cot G (64 - n) h) (Data.GR h n)

/-- The chunk a row lies in, and its place there. -/
def chunkOf (r : Fin 4160) : ℕ := 64 - r.val / 64
def placeOf (r : Fin 4160) : Fin 64 := Fin.rev ⟨r.val % 64, Nat.mod_lt _ (by decide)⟩

theorem row_chunkOf (r : Fin 4160) : row (chunkOf r) (placeOf r) = r := by
  have h1 := r.isLt
  have h2 := Nat.div_add_mod r.val 64
  have h3 := Nat.mod_lt r.val (show 0 < 64 by decide)
  refine Fin.ext ?_
  simp only [row, chunkOf, placeOf, Fin.val_rev]
  omega

/-- The output, -/
def Data.o (r : Fin 4160) (h : Fin 4) (e : Fin 512) : EReal :=
  (D.chunk (chunkOf r) h).out (D.R h (chunkOf r)) (placeOf r) e
/-- the gradients of the queries, -/
def Data.dq (r : Fin 4160) (h : Fin 4) (d : Fin 256) : EReal :=
  (D.chunk (chunkOf r) h).gq (D.R h (chunkOf r)) (cot G (chunkOf r) h) (placeOf r) d
/-- the keys, -/
def Data.dk (r : Fin 4160) (h : Fin 4) (d : Fin 256) : EReal :=
  (D.chunk (chunkOf r) h).gk (cot G (chunkOf r) h) (D.GR G h (64 - chunkOf r)) (placeOf r) d
/-- and the values. -/
def Data.dv (r : Fin 4160) (h : Fin 4) (e : Fin 512) : EReal :=
  (D.chunk (chunkOf r) h).gv (cot G (chunkOf r) h) (D.GR G h (64 - chunkOf r)) (placeOf r) e
/-- The log-decay's gradient from chunk `64 - n`. -/
def Data.glg (h : Fin 4) (n : ℕ) : EReal :=
  (D.chunk (64 - n) h).glg (D.R h (64 - n)) (cot G (64 - n) h) (D.GR G h n)

/-- Column `d` of head `h`, from column `o` on, among columns of `n` a head. -/
def colAt {N : ℕ} (o n : ℕ) (hN : o + 4 * n ≤ N) (h : Fin 4) (d : Fin n) : Fin N := ⟨o + (n * h.val + d.val), by
  have := d.isLt; have := h.isLt
  calc o + (n * h.val + d.val) < o + (n * h.val + n) := by omega
    _ = o + n * (h.val + 1) := by ring
    _ ≤ o + n * 4 := Nat.add_le_add_left (Nat.mul_le_mul_left _ (by omega)) _
    _ = o + 4 * n := by ring
    _ ≤ N := hN⟩

/-- A batch row's data out of the array of queries and keys, that of values, and the decay logits. -/
def dataOf (qk : (⟨3, ![2, 4160, 2048]⟩ : Shape).Idx → EReal) (v : (⟨3, ![2, 4160, 12800]⟩ : Shape).Idx → EReal) (z : Fin 4 → EReal) (b : Fin 2) : Data where
  q r h d := qk (ix3 b r (colAt 0 256 (by decide) h d))
  k r h d := qk (ix3 b r (colAt 1024 256 (by decide) h d))
  v r h e := v (ix3 b r (colAt 6144 512 (by decide) h e))
  lg h := lsig (z h)

/-- A batch row's output cotangents out of their array. -/
def cotOf (g : (⟨3, ![2, 4160, 2048]⟩ : Shape).Idx → EReal) (b : Fin 2) (r : Fin 4160) (h : Fin 4) (e : Fin 512) : EReal :=
  g (ix3 b r (colAt 0 512 (by decide) h e))

end Cert.Math

end
-- ==== Proof.FwdArr.lean ====
/- The forward retention region's arrays: each block of the output and of the saved states, by the direction's recursion over the
   arrays the region finds. -/
module

public import proofs.«01_k».proof.Proof.FwdVal
public import proofs.«01_k».proof.Proof.RetSpec
public import Idealize.ShloMosaic.Lib.Pipeline.Value
public import Idealize.ShloMosaic.Lib.Pipeline.ValueKit.Point

@[expose] public section

set_option maxRecDepth 16384

noncomputable section

namespace Cert.Fwd

open Cert.KernelIdeal Cert.KernelIdeal.Gen
open Idealize.ShloMosaic Idealize.ShloMosaic.TcCoe Idealize.ShloMosaic.Tactic
open Idealize.ShloMosaic.Pipeline (Dat)
open Cert.Math

variable (V : (c : Dev nD) → (b : Ref sig .tc) → Buf (Elt Ideal) ((c : Thread nD τ).loc b)) (c : Dev nD)

/-- Where each window's block lies at each point. -/
theorem at0 : ∀ t : Fin cfg0.N, win0_0.index t 0 = t.val / 65 ∧ win0_0.index t 1 = 64 - t.val % 65 ∧ win0_0.index t 2 = 0 :=
  (by decide +kernel : ∀ t : Fin grid0.N, win0_0.index t 0 = t.val / 65 ∧ win0_0.index t 1 = 64 - t.val % 65 ∧ win0_0.index t 2 = 0)
theorem at1 : ∀ t : Fin cfg0.N, win0_1.index t 0 = t.val / 65 ∧ win0_1.index t 1 = 64 - t.val % 65 ∧ win0_1.index t 2 = 1 :=
  (by decide +kernel : ∀ t : Fin grid0.N, win0_1.index t 0 = t.val / 65 ∧ win0_1.index t 1 = 64 - t.val % 65 ∧ win0_1.index t 2 = 1)
theorem at2 : ∀ t : Fin cfg0.N, win0_2.index t 0 = t.val / 65 ∧ win0_2.index t 1 = 64 - t.val % 65 ∧ win0_2.index t 2 = 3 :=
  (by decide +kernel : ∀ t : Fin grid0.N, win0_2.index t 0 = t.val / 65 ∧ win0_2.index t 1 = 64 - t.val % 65 ∧ win0_2.index t 2 = 3)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val / 65 ∧ win0_4.index t 1 = 64 - t.val % 65 ∧ win0_4.index t 2 = 0 :=
  (by decide +kernel : ∀ t : Fin grid0.N, win0_4.index t 0 = t.val / 65 ∧ win0_4.index t 1 = 64 - t.val % 65 ∧ win0_4.index t 2 = 0)
theorem at5 : ∀ t : Fin cfg0.N, win0_5.index t 0 = t.val / 65 ∧ win0_5.index t 1 = 64 - t.val % 65 ∧ win0_5.index t 2 = 0
    ∧ win0_5.index t 3 = 0 ∧ win0_5.index t 4 = 0 :=
  (by decide +kernel : ∀ t : Fin grid0.N, win0_5.index t 0 = t.val / 65 ∧ win0_5.index t 1 = 64 - t.val % 65 ∧ win0_5.index t 2 = 0
    ∧ win0_5.index t 3 = 0 ∧ win0_5.index t 4 = 0)

/-- The batch row a point works on. -/
def batch (t : Fin cfg0.N) : Fin 2 := ⟨t.val / 65, by have : t.val < 130 := Nat.lt_of_lt_of_eq t.isLt N_0; omega⟩

theorem iblk0_at (t : Fin cfg0.N) (i : Fin 64) (h : Fin 4) (d : Fin 256) :
    iblk V c 0 t (ix3 0 i (col 256 rfl h d)) = V c main_arg0 (ix3 (batch t) (row (t.val % 65) i.rev) (colAt 0 256 (by decide) h d)) := by
  obtain ⟨e0, e1, e2⟩ := at0 t
  have := i.isLt; have := d.isLt; have := h.isLt
  blk_ext! [iblk, e0, e1, e2, batch, row, colAt, col, Fin.val_rev]

theorem iblk1_at (t : Fin cfg0.N) (i : Fin 64) (h : Fin 4) (d : Fin 256) :
    iblk V c 1 t (ix3 0 i (col 256 rfl h d)) = V c main_arg0 (ix3 (batch t) (row (t.val % 65) i.rev) (colAt 1024 256 (by decide) h d)) := by
  obtain ⟨e0, e1, e2⟩ := at1 t
  have := i.isLt; have := d.isLt; have := h.isLt
  blk_ext! [iblk, e0, e1, e2, batch, row, colAt, col, Fin.val_rev]

theorem vblk_at (t : Fin cfg0.N) (i : Fin 64) (h : Fin 4) (e : Fin 512) :
    vblk V c t (ix3 0 i (col 512 rfl h e)) = V c main_arg1 (ix3 (batch t) (row (t.val % 65) i.rev) (colAt 6144 512 (by decide) h e)) := by
  obtain ⟨e0, e1, e2⟩ := at2 t
  have := i.isLt; have := e.isLt; have := h.isLt
  unfold vblk Pipeline.Window.fill
  rw [dif_pos (vmoved t _)]
  blk_ext! [iblk, e0, e1, e2, batch, row, colAt, col, Fin.val_rev]

theorem iblk3_at (t : Fin cfg0.N) (h : Fin 128) : iblk V c 3 t (ix2 0 h) = V c main_v1 (ix2 0 h) := by
  obtain ⟨e0, e1⟩ := at3 t
  have := h.isLt
  blk_ext! [iblk, e0, e1]

/-- A batch row's data in the arrays the region finds. -/
def data (b : Fin 2) : Data :=
  dataOf (V c main_arg0) (V c main_arg1) (fun h => V c main_v1 (ix2 0 ⟨h.val, Nat.lt_of_lt_of_le h.isLt (by decide)⟩)) b

/-- The blocks of a point hold its chunk. -/
theorem chunk_eq (t : Fin cfg0.N) (h : Fin 4) :
    (chunk (iblk V c 0 t) (iblk V c 1 t) (vblk V c t) (iblk V c 3 t) h).flip = (data V c (batch t)).chunk (t.val % 65) h := by
  unfold chunk Chunk.flip Data.chunk data dataOf
  simp only [iblk0_at, iblk1_at, vblk_at, iblk3_at, Fin.rev_rev]

/-- The state before a point's chunk. -/
def stateAt (t : Fin cfg0.N) : Vec Ideal S4x256x512 .f32 := fun y => (data V c (batch t)).R (y 0) (t.val % 65) (y 1) (y 2)

theorem state_stateAt (t : Fin cfg0.N) (h : Fin 4) : state (stateAt V c t) h = (data V c (batch t)).R h (t.val % 65) := rfl

/-- A point's next state. -/
theorem nextBlk_stateAt (t : Fin cfg0.N) :
    nextBlk (iblk V c 0 t) (iblk V c 1 t) (vblk V c t) (iblk V c 3 t) (stateAt V c t)
      = fun y => (data V c (batch t)).R (y 0) (t.val % 65 + 1) (y 1) (y 2) := by
  funext y
  obtain ⟨h, d, e, rfl⟩ : ∃ (h : Fin 4) (d : Fin 256) (e : Fin 512), y = ix3 h d e := ⟨y 0, y 1, y 2, eq_ix3 y⟩
  rw [nextBlk_at _ _ _ _ _ h d e _ rfl rfl rfl, chunk_eq, state_stateAt]
  rfl

/-- The state found at the point after one that leaves what its chunk leaves. -/
theorem found_succ (n : ℕ) (hn : n + 1 < cfg0.N) :
    found ⟨n + 1, hn⟩ (fun y => (data V c (batch ⟨n, Nat.lt_of_succ_lt hn⟩)).R (y 0) (n % 65 + 1) (y 1) (y 2)) = stateAt V c ⟨n + 1, hn⟩ := by
  unfold found
  by_cases h : (n + 1) % 65 = 0
  · rw [if_pos h]
    funext y
    rw [zeros_at]
    unfold stateAt
    rw [show ((⟨n + 1, hn⟩ : Fin cfg0.N).val % 65) = 0 from h]
    rfl
  · rw [if_neg h]
    unfold stateAt
    have e : batch ⟨n + 1, hn⟩ = batch ⟨n, Nat.lt_of_succ_lt hn⟩ := Fin.ext (by
      show (n + 1) / 65 = n / 65
      omega)
    have e' : (⟨n + 1, hn⟩ : Fin cfg0.N).val % 65 = n % 65 + 1 := by
      show (n + 1) % 65 = n % 65 + 1
      omega
    rw [e, e']

/-- What the region's buffers hold after each point. -/
theorem outsAt_eq : ∀ (n : ℕ) (hn : n < cfg0.N), outsAt V c n hn
    = (outBlk (iblk V c 0 ⟨n, hn⟩) (iblk V c 1 ⟨n, hn⟩) (vblk V c ⟨n, hn⟩) (iblk V c 3 ⟨n, hn⟩) (stateAt V c ⟨n, hn⟩),
       savedBlk (stateAt V c ⟨n, hn⟩), fun y => (data V c (batch ⟨n, hn⟩)).R (y 0) (n % 65 + 1) (y 1) (y 2))
  | 0, hn => by
    have e : found ⟨0, hn⟩ (VS.read (Elt Ideal) VS.junk) = stateAt V c ⟨0, hn⟩ := by
      funext y
      unfold found
      exact (congrFun (if_pos rfl) y).trans (zeros_at y)
    unfold outsAt
    rw [step_eq, e, nextBlk_stateAt]
  | n + 1, hn => by
    unfold outsAt
    rw [step_eq, outsAt_eq n (Nat.lt_of_succ_lt hn), found_succ, nextBlk_stateAt]

/-! ## The arrays -/

theorem idx_inj4 : ∀ t t' : Fin cfg0.N, win0_4.index t = win0_4.index t' → t = t' :=
  (by decide +kernel : ∀ t t' : Fin grid0.N, win0_4.index t = win0_4.index t' → t = t')
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)
theorem flush4 : ∀ t : Fin cfg0.N, (cfg0.win 4).flush t = true := (by decide +kernel : ∀ t : Fin grid0.N, (cfg0.win 4).flush t = true)

theorem idx_inj5 : ∀ t t' : Fin cfg0.N, win0_5.index t = win0_5.index t' → t = t' :=
  (by decide +kernel : ∀ t t' : Fin grid0.N, win0_5.index t = win0_5.index t' → t = t')
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)
theorem flush5 : ∀ t : Fin cfg0.N, (cfg0.win 5).flush t = true := (by decide +kernel : ∀ t : Fin grid0.N, (cfg0.win 5).flush t = true)

/-- The point that writes a row's block of a batch row. -/
def pointOf (b : Fin 2) (r : Fin 4160) : Fin cfg0.N := ⟨65 * b.val + chunkOf r, Nat.lt_of_lt_of_eq (by
  have := b.isLt; unfold chunkOf; omega : 65 * b.val + chunkOf r < 130) N_0.symm⟩

theorem pointOf_batch (b : Fin 2) (r : Fin 4160) : batch (pointOf b r) = b := Fin.ext (by
  have := b.isLt; have := r.isLt
  show (65 * b.val + chunkOf r) / 65 = b.val
  unfold chunkOf; omega)
theorem pointOf_chunk (b : Fin 2) (r : Fin 4160) : (pointOf b r).val % 65 = chunkOf r := by
  have := b.isLt; have := r.isLt
  show (65 * b.val + chunkOf r) % 65 = chunkOf r
  unfold chunkOf; omega

/-- The output array the region leaves. -/
theorem out_at (b : Fin 2) (r : Fin 4160) (h : Fin 4) (e : Fin 512) :
    (dat V c).arrAt 4 cfg0.N (ix3 b r (colAt 0 512 (by decide) h e)) = (data V c b).o r h e := by
  have key := (dat V c).arrAt_emb_eq_flushed 4 disjoint4 (pointOf b r) (flush4 _) (ix3 0 ⟨r.val % 64, Nat.mod_lt _ (by decide)⟩ (col 512 rfl h e))
  rw [Dat.flushed_apply, after_4, outsAt_eq] at key
  obtain ⟨e0, e1, e2⟩ := at4 (pointOf b r)
  have := b.isLt; have := r.isLt; have := h.isLt; have := e.isLt
  rw [show (pointOf b r).val / 65 = b.val from congrArg Fin.val (pointOf_batch b r)] at e0
  rw [pointOf_chunk] at e1
  have place : ((cfg0.win 4).blk (pointOf b r)).view.emb (ix3 0 ⟨r.val % 64, Nat.mod_lt _ (by decide)⟩ (col 512 rfl h e))
      = ix3 b r (colAt 0 512 (by decide) h e) := by
    generalize pointOf b r = p at e0 e1 e2 ⊢
    blk_ext! [e0, e1, e2, chunkOf, colAt, col]
  rw [place] at key
  refine key.trans ?_
  refine (outBlk_at _ _ _ _ _ h ⟨r.val % 64, Nat.mod_lt _ (by decide)⟩ e _ rfl rfl).trans ?_
  rw [chunk_eq V c (pointOf b r) h, state_stateAt, pointOf_batch, pointOf_chunk]
  rfl

/-- The saved states the region leaves. -/
theorem saved_at (b : Fin 2) (n : Fin 65) (h : Fin 4) (d : Fin 256) (e : Fin 512) :
    (dat V c).arrAt 5 cfg0.N (ix5 b n h d e) = (data V c b).R h (64 - n.val) d e := by
  have hn := n.isLt
  have := b.isLt; have := h.isLt; have := d.isLt; have := e.isLt
  let r : Fin 4160 := ⟨64 * n.val, by omega⟩
  have hr : chunkOf r = 64 - n.val := by simp only [chunkOf, r]; omega
  have key := (dat V c).arrAt_emb_eq_flushed 5 disjoint5 (pointOf b r) (flush5 _) (ix5 0 0 h d e)
  rw [Dat.flushed_apply, after_5, outsAt_eq] at key
  obtain ⟨e0, e1, e2, e3, e4⟩ := at5 (pointOf b r)
  rw [show (pointOf b r).val / 65 = b.val from congrArg Fin.val (pointOf_batch b r)] at e0
  rw [pointOf_chunk, hr] at e1
  have place : ((cfg0.win 5).blk (pointOf b r)).view.emb (ix5 0 0 h d e) = ix5 b n h d e := by
    generalize pointOf b r = p at e0 e1 e2 e3 e4 ⊢
    blk_ext! [e0, e1, e2, e3, e4]
  rw [place] at key
  refine key.trans ?_
  refine (savedBlk_at (stateAt V c (pointOf b r)) h d e (ix5 0 0 h d e) rfl rfl rfl).trans ?_
  show (data V c (batch (pointOf b r))).R h ((pointOf b r).val % 65) d e = _
  rw [pointOf_batch, pointOf_chunk, hr]

end Cert.Fwd

end
-- ==== Proof.BwdVal.lean ====
/- The backward retention region's block: over the extended reals, what the body leaves at one grid point is each head's chunk
   gradients, of the point's blocks read with the chunk's rows in reverse. -/
module

public import proofs.«01_k».proof.Proof.Bwd
public import proofs.«01_k».proof.Proof.FwdVal

@[expose] public section

set_option maxRecDepth 16384

noncomputable section

namespace Cert.Bwd

open Cert.KernelIdeal Cert.KernelIdeal.Gen
open Idealize.ShloMosaic Idealize.ShloMosaic.TcCoe Idealize.ShloMosaic.Tactic
open Cert.Math
open Cert.Fwd (chunk state col col_zero zeros zeros_at readCov_zero)

/-- A head's rows of the output's cotangent. -/
def rows (x5 : Vec Ideal S1x64x2048 .f32) (h : Fin 4) (i : Fin 64) (e : Fin 512) : EReal := x5 (ix3 0 i (col 512 rfl h e))
/-- A head's saved state. -/
def saved (x4 : Vec Ideal S1x1x4x256x512 .bf16) (h : Fin 4) (d : Fin 256) (e : Fin 512) : EReal := x4 (ix5 0 0 h d e)

section Blocks
variable (x0 x1 : Vec Ideal S1x64x1024 .f32) (x2 : Vec Ideal S1x64x2048 .f32) (x3 : Vec Ideal S1x128 .f32)
  (x4 : Vec Ideal S1x1x4x256x512 .bf16) (x5 : Vec Ideal S1x64x2048 .f32) (xs : Vec Ideal S4x256x512 .f32)

/-- The value gradient block the point leaves. -/
def dvBlk : Vec Ideal S1x64x2048 .f32 := fun y =>
  (chunk x0 x1 x2 x3 ⟨(y 2).val / 512, by have : (y 2).val < 2048 := (y 2).isLt; omega⟩).flip.gv
    (fun i => rows x5 ⟨(y 2).val / 512, by have : (y 2).val < 2048 := (y 2).isLt; omega⟩ i.rev)
    (state xs ⟨(y 2).val / 512, by have : (y 2).val < 2048 := (y 2).isLt; omega⟩) (Fin.rev (y 1 : Fin 64))
    ⟨(y 2).val % 512, Nat.mod_lt _ (by decide)⟩

/-- The query and key gradient block the point leaves: the queries' columns before the keys'. -/
def dqkBlk : Vec Ideal S1x64x2048 .f32 := fun y =>
  if (y 2).val < 1024 then
    (chunk x0 x1 x2 x3 ⟨(y 2).val % 1024 / 256, by have : (y 2).val < 2048 := (y 2).isLt; omega⟩).flip.gq
      (saved x4 ⟨(y 2).val % 1024 / 256, by have : (y 2).val < 2048 := (y 2).isLt; omega⟩)
      (fun i => rows x5 ⟨(y 2).val % 1024 / 256, by have : (y 2).val < 2048 := (y 2).isLt; omega⟩ i.rev) (Fin.rev (y 1 : Fin 64))
      ⟨(y 2).val % 256, Nat.mod_lt _ (by decide)⟩
  else
    (chunk x0 x1 x2 x3 ⟨(y 2).val % 1024 / 256, by have : (y 2).val < 2048 := (y 2).isLt; omega⟩).flip.gk
      (fun i => rows x5 ⟨(y 2).val % 1024 / 256, by have : (y 2).val < 2048 := (y 2).isLt; omega⟩ i.rev)
      (state xs ⟨(y 2).val % 1024 / 256, by have : (y 2).val < 2048 := (y 2).isLt; omega⟩) (Fin.rev (y 1 : Fin 64))
      ⟨(y 2).val % 256, Nat.mod_lt _ (by decide)⟩

/-- The cotangent of the state the point leaves. -/
def gradBlk : Vec Ideal S4x256x512 .f32 := fun y =>
  (chunk x0 x1 x2 x3 (y 0)).flip.gr (fun i => rows x5 (y 0) i.rev) (state xs (y 0)) (y 1) (y 2)

/-- A head's part of the logit gradient at the point. -/
def lgPart (h : Fin 4) : EReal :=
  (chunk x0 x1 x2 x3 h).flip.glg (saved x4 h) (fun i => rows x5 h i.rev) (state xs h)
    * sgrad (x3 (ix2 0 ⟨h.val, by have := h.isLt; omega⟩))
/-- The heads' parts on their lanes. -/
def lgBlk : Vec Ideal S1x128 .f32 := fun y =>
  if h : (y 1).val < 4 then lgPart x0 x1 x2 x3 x4 x5 xs ⟨(y 1).val, h⟩ else 0

theorem dvBlk_at (h : Fin 4) (i : Fin 64) (e : Fin 512) (y : S1x64x2048.Idx) (h1 : (y 1).val = i.val) (h2 : (y 2).val = 512 * h.val + e.val) :
    dvBlk x0 x1 x2 x3 x5 xs y = (chunk x0 x1 x2 x3 h).flip.gv (fun i => rows x5 h i.rev) (state xs h) i.rev e := by
  have he := e.isLt
  have a : (⟨(y 2).val / 512, by have : (y 2).val < 2048 := (y 2).isLt; omega⟩ : Fin 4) = h := Fin.ext (by simp only [h2]; omega)
  have b : (⟨(y 2).val % 512, Nat.mod_lt _ (by decide)⟩ : Fin 512) = e := Fin.ext (by simp only [h2]; omega)
  have c : (y 1 : Fin 64) = i := Fin.ext h1
  unfold dvBlk
  rw [a, b, c]

theorem dqBlk_at (h : Fin 4) (i : Fin 64) (d : Fin 256) (y : S1x64x2048.Idx) (h1 : (y 1).val = i.val) (h2 : (y 2).val = 256 * h.val + d.val) :
    dqkBlk x0 x1 x2 x3 x4 x5 xs y = (chunk x0 x1 x2 x3 h).flip.gq (saved x4 h) (fun i => rows x5 h i.rev) i.rev d := by
  have hd := d.isLt
  have hh := h.isLt
  have a : (⟨(y 2).val % 1024 / 256, by have : (y 2).val < 2048 := (y 2).isLt; omega⟩ : Fin 4) = h := Fin.ext (by simp only [h2]; omega)
  have b : (⟨(y 2).val % 256, Nat.mod_lt _ (by decide)⟩ : Fin 256) = d := Fin.ext (by simp only [h2]; omega)
  have c : (y 1 : Fin 64) = i := Fin.ext h1
  unfold dqkBlk
  rw [if_pos (by omega), a, b, c]

theorem dkBlk_at (h : Fin 4) (i : Fin 64) (d : Fin 256) (y : S1x64x2048.Idx) (h1 : (y 1).val = i.val)
    (h2 : (y 2).val = 1024 + (256 * h.val + d.val)) :
    dqkBlk x0 x1 x2 x3 x4 x5 xs y = (chunk x0 x1 x2 x3 h).flip.gk (fun i => rows x5 h i.rev) (state xs h) i.rev d := by
  have hd := d.isLt
  have hh := h.isLt
  have a : (⟨(y 2).val % 1024 / 256, by have : (y 2).val < 2048 := (y 2).isLt; omega⟩ : Fin 4) = h := Fin.ext (by simp only [h2]; omega)
  have b : (⟨(y 2).val % 256, Nat.mod_lt _ (by decide)⟩ : Fin 256) = d := Fin.ext (by simp only [h2]; omega)
  have c : (y 1 : Fin 64) = i := Fin.ext h1
  unfold dqkBlk
  rw [if_neg (by omega), a, b, c]

theorem gradBlk_at (h : Fin 4) (d : Fin 256) (e : Fin 512) (y : S4x256x512.Idx) (h0 : (y 0).val = h.val) (h1 : (y 1).val = d.val) (h2 : (y 2).val = e.val) :
    gradBlk x0 x1 x2 x3 x5 xs y = (chunk x0 x1 x2 x3 h).flip.gr (fun i => rows x5 h i.rev) (state xs h) d e := by
  have a : (y 0 : Fin 4) = h := Fin.ext h0
  have b : (y 1 : Fin 256) = d := Fin.ext h1
  have c : (y 2 : Fin 512) = e := Fin.ext h2
  unfold gradBlk
  rw [a, b, c]

theorem lgBlk_at (l : Fin 128) (y : S1x128.Idx) (h1 : (y 1).val = l.val) :
    lgBlk x0 x1 x2 x3 x4 x5 xs y = if h : l.val < 4 then lgPart x0 x1 x2 x3 x4 x5 xs ⟨l.val, h⟩ else 0 := by
  have c : (y 1 : Fin 128) = l := Fin.ext h1
  unfold lgBlk
  rw [c]

end Blocks

variable (c : Dev nD) (i : grid1.Coords)
  (q : Memref sig .tc .vmem S1x64x1024 .f32) (hq : q.IsWhole) (k : Memref sig .tc .vmem S1x64x1024 .f32) (hk : k.IsWhole)
  (v : Memref sig .tc .vmem S1x64x2048 .f32) (hv : v.IsWhole) (lg : Memref sig .tc .vmem S1x128 .f32) (hlg : lg.IsWhole)
  (st : Memref sig .tc .vmem S1x1x4x256x512 .bf16) (hst : st.IsWhole) (dO : Memref sig .tc .vmem S1x64x2048 .f32) (hdo : dO.IsWhole)
  (dqk : Memref sig .tc .vmem S1x64x2048 .f32) (hdqk : dqk.IsWhole) (dv : Memref sig .tc .vmem S1x64x2048 .f32) (hdv : dv.IsWhole)
  (dlg : Memref sig .tc .vmem S1x128 .f32) (hdlg : dlg.IsWhole) (r : Memref sig .tc .vmem S4x256x512 .f32) (hr : r.IsWhole)
  (x0 : Vec Ideal S1x64x1024 .f32) (x1 : Vec Ideal S1x64x1024 .f32) (x2 : Vec Ideal S1x64x2048 .f32) (x3 : Vec Ideal S1x128 .f32)
  (x4 : Vec Ideal S1x1x4x256x512 .bf16) (x5 : Vec Ideal S1x64x2048 .f32) (xg : Vec Ideal S1x128 .f32) (xs : Vec Ideal S4x256x512 .f32)

set_option maxHeartbeats 4000000 in
/-- Each head's value gradient as the body computes it. -/
theorem dv_pieces (hc0 : ¬start i) (hc1 : ¬first i) (hc2 : later i) :
    ∀ p ∈ (runNext c i q hq k hk v hv lg hlg st hst dO hdo dqk hdqk dv hdv dlg hdlg r hr x0 x1 x2 x3 x4 x5 xg xs hc0 hc1 hc2).2.1,
      ∀ x, p.2 x = dvBlk x0 x1 x2 x3 x5 xs (p.1.emb x) := by
  unfold runNext; dsimp only; sl_unfold_words
  simp only [View.readAt_eq_ld, Memref.IsWhole.read_unread]
  simp only [List.forall_mem_cons, List.not_mem_nil, false_imp_iff, implies_true, and_true]
  refine ⟨fun x => ?_, fun x => ?_, fun x => ?_, fun x => ?_⟩ <;>
    obtain ⟨a, i', e, rfl⟩ : ∃ (a : Fin 1) (i' : Fin 64) (e : Fin 512), x = ix3 a i' e := ⟨x 0, x 1, x 2, eq_ix3 x⟩
  · rw [dvBlk_at x0 x1 x2 x3 x5 xs 3 i' e _ (Nat.zero_add _ |>.trans (Nat.one_mul _)) (congrArg (1536 + ·) (Nat.one_mul _))]
    unfold_payloads
    pointwise [lane_sum, lsig_sub, intra_rev_mul, pos_rev]
    exact (gv_flip (chunk x0 x1 x2 x3 3) (rows x5 3) (state xs 3) i' e).symm
  · rw [dvBlk_at x0 x1 x2 x3 x5 xs 2 i' e _ (Nat.zero_add _ |>.trans (Nat.one_mul _)) (congrArg (1024 + ·) (Nat.one_mul _))]
    unfold_payloads
    pointwise [lane_sum, lsig_sub, intra_rev_mul, pos_rev]
    exact (gv_flip (chunk x0 x1 x2 x3 2) (rows x5 2) (state xs 2) i' e).symm
  · rw [dvBlk_at x0 x1 x2 x3 x5 xs 1 i' e _ (Nat.zero_add _ |>.trans (Nat.one_mul _)) (congrArg (512 + ·) (Nat.one_mul _))]
    unfold_payloads
    pointwise [lane_sum, lsig_sub, intra_rev_mul, pos_rev]
    exact (gv_flip (chunk x0 x1 x2 x3 1) (rows x5 1) (state xs 1) i' e).symm
  · rw [dvBlk_at x0 x1 x2 x3 x5 xs 0 i' e _ (Nat.zero_add _ |>.trans (Nat.one_mul _)) (congrArg (0 + ·) (Nat.one_mul _))]
    unfold_payloads
    pointwise [lane_sum, lsig_sub, intra_rev_mul, pos_rev]
    refine Eq.trans ?_ (gv_flip (chunk x0 x1 x2 x3 0) (rows x5 0) (state xs 0) i' e).symm
    simp only [chunk, rows, col_zero]
    rfl

set_option maxHeartbeats 4000000 in
/-- Each head's state cotangent as the body computes it. -/
theorem grad_pieces (hc0 : ¬start i) (hc1 : ¬first i) (hc2 : later i) :
    ∀ p ∈ (runNext c i q hq k hk v hv lg hlg st hst dO hdo dqk hdqk dv hdv dlg hdlg r hr x0 x1 x2 x3 x4 x5 xg xs hc0 hc1 hc2).2.2.2.1,
      ∀ x, p.2 x = gradBlk x0 x1 x2 x3 x5 xs (p.1.emb x) := by
  unfold runNext; dsimp only; sl_unfold_words
  simp only [View.readAt_eq_ld, Memref.IsWhole.read_unread]
  simp only [List.forall_mem_cons, List.not_mem_nil, false_imp_iff, implies_true, and_true]
  refine ⟨fun x => ?_, fun x => ?_, fun x => ?_, fun x => ?_⟩ <;>
    obtain ⟨a, d, e, rfl⟩ : ∃ (a : Fin 1) (d : Fin 256) (e : Fin 512), x = ix3 a d e := ⟨x 0, x 1, x 2, eq_ix3 x⟩ <;>
    obtain rfl : a = 0 := Subsingleton.elim _ _
  · rw [gradBlk_at x0 x1 x2 x3 x5 xs 3 d e _ rfl (Nat.zero_add _ |>.trans (Nat.one_mul _)) (Nat.zero_add _ |>.trans (Nat.one_mul _))]
    unfold_payloads
    pointwise [lane_sum, lsig_sub, intra_rev_mul, pos_rev]
    exact (gr_flip (chunk x0 x1 x2 x3 3) (rows x5 3) (state xs 3) d e).symm
  · rw [gradBlk_at x0 x1 x2 x3 x5 xs 2 d e _ rfl (Nat.zero_add _ |>.trans (Nat.one_mul _)) (Nat.zero_add _ |>.trans (Nat.one_mul _))]
    unfold_payloads
    pointwise [lane_sum, lsig_sub, intra_rev_mul, pos_rev]
    exact (gr_flip (chunk x0 x1 x2 x3 2) (rows x5 2) (state xs 2) d e).symm
  · rw [gradBlk_at x0 x1 x2 x3 x5 xs 1 d e _ rfl (Nat.zero_add _ |>.trans (Nat.one_mul _)) (Nat.zero_add _ |>.trans (Nat.one_mul _))]
    unfold_payloads
    pointwise [lane_sum, lsig_sub, intra_rev_mul, pos_rev]
    exact (gr_flip (chunk x0 x1 x2 x3 1) (rows x5 1) (state xs 1) d e).symm
  · rw [gradBlk_at x0 x1 x2 x3 x5 xs 0 d e _ rfl (Nat.zero_add _ |>.trans (Nat.one_mul _)) (Nat.zero_add _ |>.trans (Nat.one_mul _))]
    unfold_payloads
    pointwise [lane_sum, lsig_sub, intra_rev_mul, pos_rev]
    refine Eq.trans ?_ (gr_flip (chunk x0 x1 x2 x3 0) (rows x5 0) (state xs 0) d e).symm
    simp only [chunk, rows, col_zero]
    rfl

set_option maxHeartbeats 8000000 in
/-- Each head's query and key gradients as the body computes them. -/
theorem dqk_pieces (hc0 : ¬start i) (hc1 : ¬first i) (hc2 : later i) :
    ∀ p ∈ (runNext c i q hq k hk v hv lg hlg st hst dO hdo dqk hdqk dv hdv dlg hdlg r hr x0 x1 x2 x3 x4 x5 xg xs hc0 hc1 hc2).1,
      ∀ x, p.2 x = dqkBlk x0 x1 x2 x3 x4 x5 xs (p.1.emb x) := by
  unfold runNext; dsimp only; sl_unfold_words
  simp only [View.readAt_eq_ld, Memref.IsWhole.read_unread]
  simp only [List.forall_mem_cons, List.not_mem_nil, false_imp_iff, implies_true, and_true]
  refine ⟨fun x => ?_, fun x => ?_, fun x => ?_, fun x => ?_, fun x => ?_, fun x => ?_, fun x => ?_, fun x => ?_⟩ <;>
    obtain ⟨a, i', d, rfl⟩ : ∃ (a : Fin 1) (i' : Fin 64) (d : Fin 256), x = ix3 a i' d := ⟨x 0, x 1, x 2, eq_ix3 x⟩
  · rw [dkBlk_at x0 x1 x2 x3 x4 x5 xs 3 i' d _ (Nat.zero_add _ |>.trans (Nat.one_mul _)) ((congrArg (1792 + ·) (Nat.one_mul _)).trans (Nat.add_assoc 1024 768 d.val))]
    unfold_payloads
    pointwise [lane_sum, lsig_sub, intra_rev_mul, pos_rev]
    exact (gk_flip (chunk x0 x1 x2 x3 3) (rows x5 3) (state xs 3) i' d).symm
  · rw [dqBlk_at x0 x1 x2 x3 x4 x5 xs 3 i' d _ (Nat.zero_add _ |>.trans (Nat.one_mul _)) (congrArg (768 + ·) (Nat.one_mul _))]
    unfold_payloads
    pointwise [lane_sum, lsig_sub, intra_rev_mul, pos_rev]
    exact (gq_flip (chunk x0 x1 x2 x3 3) (saved x4 3) (rows x5 3) i' d).symm
  · rw [dkBlk_at x0 x1 x2 x3 x4 x5 xs 2 i' d _ (Nat.zero_add _ |>.trans (Nat.one_mul _)) ((congrArg (1536 + ·) (Nat.one_mul _)).trans (Nat.add_assoc 1024 512 d.val))]
    unfold_payloads
    pointwise [lane_sum, lsig_sub, intra_rev_mul, pos_rev]
    exact (gk_flip (chunk x0 x1 x2 x3 2) (rows x5 2) (state xs 2) i' d).symm
  · rw [dqBlk_at x0 x1 x2 x3 x4 x5 xs 2 i' d _ (Nat.zero_add _ |>.trans (Nat.one_mul _)) (congrArg (512 + ·) (Nat.one_mul _))]
    unfold_payloads
    pointwise [lane_sum, lsig_sub, intra_rev_mul, pos_rev]
    exact (gq_flip (chunk x0 x1 x2 x3 2) (saved x4 2) (rows x5 2) i' d).symm
  · rw [dkBlk_at x0 x1 x2 x3 x4 x5 xs 1 i' d _ (Nat.zero_add _ |>.trans (Nat.one_mul _)) ((congrArg (1280 + ·) (Nat.one_mul _)).trans (Nat.add_assoc 1024 256 d.val))]
    unfold_payloads
    pointwise [lane_sum, lsig_sub, intra_rev_mul, pos_rev]
    exact (gk_flip (chunk x0 x1 x2 x3 1) (rows x5 1) (state xs 1) i' d).symm
  · rw [dqBlk_at x0 x1 x2 x3 x4 x5 xs 1 i' d _ (Nat.zero_add _ |>.trans (Nat.one_mul _)) (congrArg (256 + ·) (Nat.one_mul _))]
    unfold_payloads
    pointwise [lane_sum, lsig_sub, intra_rev_mul, pos_rev]
    exact (gq_flip (chunk x0 x1 x2 x3 1) (saved x4 1) (rows x5 1) i' d).symm
  · rw [dkBlk_at x0 x1 x2 x3 x4 x5 xs 0 i' d _ (Nat.zero_add _ |>.trans (Nat.one_mul _)) ((congrArg (1024 + ·) (Nat.one_mul _)).trans (Nat.add_assoc 1024 0 d.val))]
    unfold_payloads
    pointwise [lane_sum, lsig_sub, intra_rev_mul, pos_rev]
    refine Eq.trans ?_ (gk_flip (chunk x0 x1 x2 x3 0) (rows x5 0) (state xs 0) i' d).symm
    simp only [chunk, rows, col_zero]
    rfl
  · rw [dqBlk_at x0 x1 x2 x3 x4 x5 xs 0 i' d _ (Nat.zero_add _ |>.trans (Nat.one_mul _)) (congrArg (0 + ·) (Nat.one_mul _))]
    unfold_payloads
    pointwise [lane_sum, lsig_sub, intra_rev_mul, pos_rev]
    refine Eq.trans ?_ (gq_flip (chunk x0 x1 x2 x3 0) (saved x4 0) (rows x5 0) i' d).symm
    simp only [chunk, rows, col_zero]
    rfl

set_option maxHeartbeats 8000000 in
/-- The logit gradient as the body adds to it. -/
theorem lg_pieces (hc0 : ¬start i) (hc1 : ¬first i) (hc2 : later i) :
    ∀ p ∈ (runNext c i q hq k hk v hv lg hlg st hst dO hdo dqk hdqk dv hdv dlg hdlg r hr x0 x1 x2 x3 x4 x5 xg xs hc0 hc1 hc2).2.2.1,
      ∀ x, p.2 x = (xg (p.1.emb x) + lgBlk x0 x1 x2 x3 x4 x5 xs (p.1.emb x) : EReal) := by
  unfold runNext; dsimp only; sl_unfold_words
  simp only [View.readAt_eq_ld, Memref.IsWhole.read_unread]
  simp only [List.forall_mem_cons, List.not_mem_nil, false_imp_iff, implies_true, and_true]
  intro x
  obtain ⟨a, l, rfl⟩ : ∃ (a : Fin 1) (l : Fin 128), x = ix2 a l := ⟨x 0, x 1, eq_ix2 x⟩
  obtain rfl : a = 0 := Subsingleton.elim _ _
  rw [lgBlk_at x0 x1 x2 x3 x4 x5 xs l _ (Nat.zero_add _ |>.trans (Nat.one_mul _))]
  unfold_payloads
  pointwise [lane_sum, lsig_sub, intra_rev_mul, pos_rev, rel_rev_mul, sgrad_sub, zero_sub_mul, sum_one]
  refine congrArg₂ (fun (a b : EReal) => a + b) (congrArg xg ?_) ?_
  · exact (congrArg₂ ix2 (Fin.ext (Nat.zero_add _ |>.trans (Nat.one_mul _))) (Fin.ext (Nat.zero_add _ |>.trans (Nat.one_mul _)))).symm.trans (eq_ix2 _).symm
  rw [← four_lanes l (lgPart x0 x1 x2 x3 x4 x5 xs)]
  refine congrArg₂ (fun (a b : EReal) => a + b) (congrArg₂ (fun (a b : EReal) => a + b) (congrArg₂ (fun (a b : EReal) => a + b) ?_ ?_) ?_) ?_
  · unfold lgPart
    rw [glg_flip (chunk x0 x1 x2 x3 3) (saved x4 3) (rows x5 3) (state xs 3)]
    rfl
  · unfold lgPart
    rw [glg_flip (chunk x0 x1 x2 x3 2) (saved x4 2) (rows x5 2) (state xs 2)]
    rfl
  · unfold lgPart
    rw [glg_flip (chunk x0 x1 x2 x3 1) (saved x4 1) (rows x5 1) (state xs 1)]
    rfl
  · unfold lgPart
    rw [glg_flip (chunk x0 x1 x2 x3 0) (saved x4 0) (rows x5 0) (state xs 0)]
    simp only [chunk, rows, col_zero]
    rfl

/-- The cleared cotangent. -/
theorem clear_eq : (k1_pay5 (F := Ideal) : Vec Ideal S4x256x512 .f32) = zeros := rfl

/-- A load of the cotangent right after it is cleared whole is a load of zeros. -/
theorem cleared {off sz : Fin 3 → ℕ} (inb : ∀ a, off a + sz a ≤ S4x256x512.size a) :
    r.view.readCov (Val := Elt Ideal) [⟨Rect.unit ![0, 0, 0] ![4, 256, 512] inb_S4x256x512_S4x256x512_0_0_0, k1_pay5 (F := Ideal)⟩] (Rect.unit off sz inb).toLoadRect
      = View.ld zeros (Rect.unit off sz inb) := by
  rw [clear_eq]
  exact readCov_zero r inb

set_option maxHeartbeats 4000000 in
/-- The grid's first point stores the query and key gradients another point would store over a cleared cotangent. -/
theorem first_dqk (hc0 : start i) (hc1 : first i) (hc2 : ¬later i) (j : grid1.Coords) (h0 : ¬start j) (h1 : ¬first j) (h2 : later j) :
    (runFirst c i q hq k hk v hv lg hlg st hst dO hdo dqk hdqk dv hdv dlg hdlg r hr x0 x1 x2 x3 x4 x5 hc0 hc1 hc2).1
      = (runNext c j q hq k hk v hv lg hlg st hst dO hdo dqk hdqk dv hdv dlg hdlg r hr x0 x1 x2 x3 x4 x5 xg zeros h0 h1 h2).1 := by
  unfold runFirst runNext; dsimp only; sl_unfold_words
  simp only [View.readAt_eq_ld, Memref.IsWhole.read_unread, cleared]

set_option maxHeartbeats 4000000 in
/-- The grid's first point stores the value gradients another point would store over a cleared cotangent. -/
theorem first_dv (hc0 : start i) (hc1 : first i) (hc2 : ¬later i) (j : grid1.Coords) (h0 : ¬start j) (h1 : ¬first j) (h2 : later j) :
    (runFirst c i q hq k hk v hv lg hlg st hst dO hdo dqk hdqk dv hdv dlg hdlg r hr x0 x1 x2 x3 x4 x5 hc0 hc1 hc2).2.1
      = (runNext c j q hq k hk v hv lg hlg st hst dO hdo dqk hdqk dv hdv dlg hdlg r hr x0 x1 x2 x3 x4 x5 xg zeros h0 h1 h2).2.1 := by
  unfold runFirst runNext; dsimp only; sl_unfold_words
  simp only [View.readAt_eq_ld, Memref.IsWhole.read_unread, cleared]

set_option maxHeartbeats 4000000 in
/-- The cotangents likewise, the clearing store beneath them. -/
theorem first_grad (hc0 : start i) (hc1 : first i) (hc2 : ¬later i) (j : grid1.Coords) (h0 : ¬start j) (h1 : ¬first j) (h2 : later j) :
    (runFirst c i q hq k hk v hv lg hlg st hst dO hdo dqk hdqk dv hdv dlg hdlg r hr x0 x1 x2 x3 x4 x5 hc0 hc1 hc2).2.2.2.1
      = (runNext c j q hq k hk v hv lg hlg st hst dO hdo dqk hdqk dv hdv dlg hdlg r hr x0 x1 x2 x3 x4 x5 xg zeros h0 h1 h2).2.2.2.1
        ++ [⟨Rect.unit ![0, 0, 0] ![4, 256, 512] inb_S4x256x512_S4x256x512_0_0_0, k1_pay5 (F := Ideal)⟩] := by
  unfold runFirst runNext; dsimp only; sl_unfold_words
  simp only [View.readAt_eq_ld, Memref.IsWhole.read_unread, cleared, List.cons_append, List.nil_append]

set_option maxHeartbeats 4000000 in
/-- The row's first point stores the query and key gradients another point would store over a cleared cotangent. -/
theorem start_dqk (hc0 : start i) (hc1 : ¬first i) (hc2 : later i) (j : grid1.Coords) (h0 : ¬start j) (h1 : ¬first j) (h2 : later j) :
    (runStart c i q hq k hk v hv lg hlg st hst dO hdo dqk hdqk dv hdv dlg hdlg r hr x0 x1 x2 x3 x4 x5 xg hc0 hc1 hc2).1
      = (runNext c j q hq k hk v hv lg hlg st hst dO hdo dqk hdqk dv hdv dlg hdlg r hr x0 x1 x2 x3 x4 x5 xg zeros h0 h1 h2).1 := by
  unfold runStart runNext; dsimp only; sl_unfold_words
  simp only [View.readAt_eq_ld, Memref.IsWhole.read_unread, cleared]

set_option maxHeartbeats 4000000 in
/-- The row's first point stores the value gradients another point would store over a cleared cotangent. -/
theorem start_dv (hc0 : start i) (hc1 : ¬first i) (hc2 : later i) (j : grid1.Coords) (h0 : ¬start j) (h1 : ¬first j) (h2 : later j) :
    (runStart c i q hq k hk v hv lg hlg st hst dO hdo dqk hdqk dv hdv dlg hdlg r hr x0 x1 x2 x3 x4 x5 xg hc0 hc1 hc2).2.1
      = (runNext c j q hq k hk v hv lg hlg st hst dO hdo dqk hdqk dv hdv dlg hdlg r hr x0 x1 x2 x3 x4 x5 xg zeros h0 h1 h2).2.1 := by
  unfold runStart runNext; dsimp only; sl_unfold_words
  simp only [View.readAt_eq_ld, Memref.IsWhole.read_unread, cleared]

set_option maxHeartbeats 4000000 in
/-- The row's first point stores the logit gradient another point would store over a cleared cotangent. -/
theorem start_lg (hc0 : start i) (hc1 : ¬first i) (hc2 : later i) (j : grid1.Coords) (h0 : ¬start j) (h1 : ¬first j) (h2 : later j) :
    (runStart c i q hq k hk v hv lg hlg st hst dO hdo dqk hdqk dv hdv dlg hdlg r hr x0 x1 x2 x3 x4 x5 xg hc0 hc1 hc2).2.2.1
      = (runNext c j q hq k hk v hv lg hlg st hst dO hdo dqk hdqk dv hdv dlg hdlg r hr x0 x1 x2 x3 x4 x5 xg zeros h0 h1 h2).2.2.1 := by
  unfold runStart runNext; dsimp only; sl_unfold_words
  simp only [View.readAt_eq_ld, Memref.IsWhole.read_unread, cleared]

set_option maxHeartbeats 4000000 in
/-- The cotangents likewise, the clearing store beneath them. -/
theorem start_grad (hc0 : start i) (hc1 : ¬first i) (hc2 : later i) (j : grid1.Coords) (h0 : ¬start j) (h1 : ¬first j) (h2 : later j) :
    (runStart c i q hq k hk v hv lg hlg st hst dO hdo dqk hdqk dv hdv dlg hdlg r hr x0 x1 x2 x3 x4 x5 xg hc0 hc1 hc2).2.2.2.1
      = (runNext c j q hq k hk v hv lg hlg st hst dO hdo dqk hdqk dv hdv dlg hdlg r hr x0 x1 x2 x3 x4 x5 xg zeros h0 h1 h2).2.2.2.1
        ++ [⟨Rect.unit ![0, 0, 0] ![4, 256, 512] inb_S4x256x512_S4x256x512_0_0_0, k1_pay5 (F := Ideal)⟩] := by
  unfold runStart runNext; dsimp only; sl_unfold_words
  simp only [View.readAt_eq_ld, Memref.IsWhole.read_unread, cleared, List.cons_append, List.nil_append]

set_option maxHeartbeats 8000000 in
/-- The logit gradient as the grid's first point sets it. -/
theorem first_lg (hc0 : start i) (hc1 : first i) (hc2 : ¬later i) :
    ∀ p ∈ (runFirst c i q hq k hk v hv lg hlg st hst dO hdo dqk hdqk dv hdv dlg hdlg r hr x0 x1 x2 x3 x4 x5 hc0 hc1 hc2).2.2.1,
      ∀ x, p.2 x = (lgBlk x0 x1 x2 x3 x4 x5 zeros (p.1.emb x) : EReal) := by
  unfold runFirst; dsimp only; sl_unfold_words
  simp only [View.readAt_eq_ld, Memref.IsWhole.read_unread, cleared]
  simp only [List.forall_mem_cons, List.not_mem_nil, false_imp_iff, implies_true, and_true]
  intro x
  obtain ⟨a, l, rfl⟩ : ∃ (a : Fin 1) (l : Fin 128), x = ix2 a l := ⟨x 0, x 1, eq_ix2 x⟩
  obtain rfl : a = 0 := Subsingleton.elim _ _
  rw [lgBlk_at x0 x1 x2 x3 x4 x5 zeros l _ (Nat.zero_add _ |>.trans (Nat.one_mul _))]
  unfold_payloads
  pointwise [lane_sum, lsig_sub, intra_rev_mul, pos_rev, rel_rev_mul, sgrad_sub, zero_sub_mul, sum_one]
  rw [← four_lanes l (lgPart x0 x1 x2 x3 x4 x5 zeros)]
  refine congrArg₂ (fun (a b : EReal) => a + b) (congrArg₂ (fun (a b : EReal) => a + b) (congrArg₂ (fun (a b : EReal) => a + b) ?_ ?_) ?_) ?_
  · unfold lgPart
    rw [glg_flip (chunk x0 x1 x2 x3 3) (saved x4 3) (rows x5 3) (state zeros 3)]
    rfl
  · unfold lgPart
    rw [glg_flip (chunk x0 x1 x2 x3 2) (saved x4 2) (rows x5 2) (state zeros 2)]
    rfl
  · unfold lgPart
    rw [glg_flip (chunk x0 x1 x2 x3 1) (saved x4 1) (rows x5 1) (state zeros 1)]
    rfl
  · unfold lgPart
    rw [glg_flip (chunk x0 x1 x2 x3 0) (saved x4 0) (rows x5 0) (state zeros 0)]
    simp only [chunk, rows, col_zero]
    rfl

/-- A point that is not a row's first. -/
def point1 : Fin cfg1.N := ⟨1, Nat.lt_of_lt_of_eq (by decide : 1 < 130) N_1.symm⟩
theorem second : ¬start (grid1.coords point1) := by
  rw [start_iff]; decide
theorem second_first : ¬first (grid1.coords point1) := not_first point1 Nat.one_ne_zero
theorem second_later : later (grid1.coords point1) := is_later point1 Nat.one_ne_zero

/-- The cotangent a point works on: cleared at a row's first. -/
def found (t : Fin cfg1.N) (xs : Vec Ideal S4x256x512 .f32) : Vec Ideal S4x256x512 .f32 := if t.val % 65 = 0 then zeros else xs

/-- The logit gradient after a point: set at the grid's first, added to at the others. -/
def lgNew (t : Fin cfg1.N) (xg b : Vec Ideal S1x128 .f32) : Vec Ideal S1x128 .f32 := fun y => if t.val = 0 then b y else (xg y + b y : EReal)

set_option maxHeartbeats 1000000 in
/-- What the body leaves at a point, in closed form. -/
theorem step_eq (c : Dev nD) (t : Fin cfg1.N) (x0 : Vec Ideal S1x64x1024 .f32) (x1 : Vec Ideal S1x64x1024 .f32) (x2 : Vec Ideal S1x64x2048 .f32)
    (x3 : Vec Ideal S1x128 .f32) (x4 : Vec Ideal S1x1x4x256x512 .bf16) (x5 : Vec Ideal S1x64x2048 .f32) (xg : Vec Ideal S1x128 .f32)
    (xs : Vec Ideal S4x256x512 .f32) :
    step c t x0 x1 x2 x3 x4 x5 xg xs
      = (dqkBlk x0 x1 x2 x3 x4 x5 (found t xs), dvBlk x0 x1 x2 x3 x5 (found t xs), lgNew t xg (lgBlk x0 x1 x2 x3 x4 x5 (found t xs)),
          gradBlk x0 x1 x2 x3 x5 (found t xs)) := by
  unfold step found lgNew
  by_cases h0 : t.val = 0
  · have h : t.val % 65 = 0 := by rw [h0]
    rw [dif_pos h0, if_pos h]
    simp only [if_pos h0]
    unfold readBack
    obtain ⟨C6, C7, -, CS⟩ := coversNext c (grid1.coords point1) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 xg zeros second second_first second_later
    obtain ⟨-, -, C8, -⟩ := coversFirst c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 ((start_iff t).mpr h) ((first_iff t).mpr h0) (fun e => (later_iff t).mp e h0)
    refine Prod.ext ?_ (Prod.ext ?_ (Prod.ext ?_ ?_)) <;> dsimp only
    · rw [first_dqk (xg := xg) (j := grid1.coords point1) (h0 := second) (h1 := second_first) (h2 := second_later)]
      funext y; exact View.read_writes_apply_of_pieces _ _ _ _ (by apply dqk_pieces) y (C6 y)
    · rw [first_dv (xg := xg) (j := grid1.coords point1) (h0 := second) (h1 := second_first) (h2 := second_later)]
      funext y; exact View.read_writes_apply_of_pieces _ _ _ _ (by apply dv_pieces) y (C7 y)
    · funext y; exact View.read_writes_apply_of_pieces _ _ _ _ (by apply first_lg) y (C8 y)
    · rw [first_grad (xg := xg) (j := grid1.coords point1) (h0 := second) (h1 := second_first) (h2 := second_later), View.writes_append]
      funext y; exact View.read_writes_apply_of_pieces _ _ _ _ (by apply grad_pieces) y (CS y)
  by_cases h : t.val % 65 = 0
  · rw [dif_neg h0, dif_pos h, if_pos h]
    simp only [if_neg h0]
    unfold readBack
    obtain ⟨C6, C7, C8, CS⟩ := coversNext c (grid1.coords point1) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 xg zeros second second_first second_later
    refine Prod.ext ?_ (Prod.ext ?_ (Prod.ext ?_ ?_)) <;> dsimp only
    · rw [start_dqk (j := grid1.coords point1) (h0 := second) (h1 := second_first) (h2 := second_later)]
      funext y; exact View.read_writes_apply_of_pieces _ _ _ _ (by apply dqk_pieces) y (C6 y)
    · rw [start_dv (j := grid1.coords point1) (h0 := second) (h1 := second_first) (h2 := second_later)]
      funext y; exact View.read_writes_apply_of_pieces _ _ _ _ (by apply dv_pieces) y (C7 y)
    · rw [start_lg (j := grid1.coords point1) (h0 := second) (h1 := second_first) (h2 := second_later)]
      funext y; exact View.read_writes_apply_of_pieces _ _ (fun y => (xg y + lgBlk x0 x1 x2 x3 x4 x5 zeros y : EReal)) _ (by apply lg_pieces) y (C8 y)
    · rw [start_grad (j := grid1.coords point1) (h0 := second) (h1 := second_first) (h2 := second_later), View.writes_append]
      funext y; exact View.read_writes_apply_of_pieces _ _ _ _ (by apply grad_pieces) y (CS y)
  · rw [dif_neg h0, dif_neg h, if_neg h]
    simp only [if_neg h0]
    unfold readBack
    obtain ⟨C6, C7, C8, CS⟩ := coversNext c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) scM (Memref.isWhole_whole _) x0 x1 x2 x3 x4 x5 xg xs (fun e => h ((start_iff t).mp e)) (not_first t h0) (is_later t h0)
    refine Prod.ext ?_ (Prod.ext ?_ (Prod.ext ?_ ?_)) <;> dsimp only
    · funext y; exact View.read_writes_apply_of_pieces _ _ _ _ (by apply dqk_pieces) y (C6 y)
    · funext y; exact View.read_writes_apply_of_pieces _ _ _ _ (by apply dv_pieces) y (C7 y)
    · funext y; exact View.read_writes_apply_of_pieces _ _ (fun y => (xg y + lgBlk x0 x1 x2 x3 x4 x5 xs y : EReal)) _ (by apply lg_pieces) y (C8 y)
    · funext y; exact View.read_writes_apply_of_pieces _ _ _ _ (by apply grad_pieces) y (CS y)

end Cert.Bwd

end
-- ==== Proof.BwdArr.lean ====
/- The backward retention region's arrays: each block of the gradients, by the direction's recursion in reverse over the arrays the
   region finds, where the saved states are the forward recursion's. -/
module

public import proofs.«01_k».proof.Proof.BwdVal
public import proofs.«01_k».proof.Proof.RetSpec
public import Idealize.ShloMosaic.Lib.Pipeline.Value
public import Idealize.ShloMosaic.Lib.Pipeline.ValueKit.Point

@[expose] public section

set_option maxRecDepth 16384

noncomputable section

namespace Cert.Bwd

open Cert.KernelIdeal Cert.KernelIdeal.Gen
open Idealize.ShloMosaic Idealize.ShloMosaic.TcCoe Idealize.ShloMosaic.Tactic
open Idealize.ShloMosaic.Pipeline (Dat)
open Cert.Math
open Cert.Fwd (chunk state col zeros zeros_at)

variable (V : (c : Dev nD) → (b : Ref sig .tc) → Buf (Elt Ideal) ((c : Thread nD τ).loc b)) (c : Dev nD)

/-- Where each window's block lies at each point. -/
theorem at0 : ∀ t : Fin cfg1.N, win1_0.index t 0 = t.val / 65 ∧ win1_0.index t 1 = t.val % 65 ∧ win1_0.index t 2 = 0 :=
  (by decide +kernel : ∀ t : Fin grid1.N, win1_0.index t 0 = t.val / 65 ∧ win1_0.index t 1 = t.val % 65 ∧ win1_0.index t 2 = 0)
theorem at1 : ∀ t : Fin cfg1.N, win1_1.index t 0 = t.val / 65 ∧ win1_1.index t 1 = t.val % 65 ∧ win1_1.index t 2 = 1 :=
  (by decide +kernel : ∀ t : Fin grid1.N, win1_1.index t 0 = t.val / 65 ∧ win1_1.index t 1 = t.val % 65 ∧ win1_1.index t 2 = 1)
theorem at2 : ∀ t : Fin cfg1.N, win1_2.index t 0 = t.val / 65 ∧ win1_2.index t 1 = t.val % 65 ∧ win1_2.index t 2 = 3 :=
  (by decide +kernel : ∀ t : Fin grid1.N, win1_2.index t 0 = t.val / 65 ∧ win1_2.index t 1 = t.val % 65 ∧ win1_2.index t 2 = 3)
theorem at3 : ∀ t : Fin cfg1.N, win1_3.index t 0 = 0 ∧ win1_3.index t 1 = 0 :=
  (by decide +kernel : ∀ t : Fin grid1.N, win1_3.index t 0 = 0 ∧ win1_3.index t 1 = 0)
theorem at4 : ∀ t : Fin cfg1.N, win1_4.index t 0 = t.val / 65 ∧ win1_4.index t 1 = t.val % 65 ∧ win1_4.index t 2 = 0 ∧ win1_4.index t 3 = 0 ∧ win1_4.index t 4 = 0 :=
  (by decide +kernel : ∀ t : Fin grid1.N, win1_4.index t 0 = t.val / 65 ∧ win1_4.index t 1 = t.val % 65 ∧ win1_4.index t 2 = 0 ∧ win1_4.index t 3 = 0 ∧ win1_4.index t 4 = 0)
theorem at5 : ∀ t : Fin cfg1.N, win1_5.index t 0 = t.val / 65 ∧ win1_5.index t 1 = t.val % 65 ∧ win1_5.index t 2 = 0 :=
  (by decide +kernel : ∀ t : Fin grid1.N, win1_5.index t 0 = t.val / 65 ∧ win1_5.index t 1 = t.val % 65 ∧ win1_5.index t 2 = 0)
theorem at6 : ∀ t : Fin cfg1.N, win1_6.index t 0 = t.val / 65 ∧ win1_6.index t 1 = t.val % 65 ∧ win1_6.index t 2 = 0 :=
  (by decide +kernel : ∀ t : Fin grid1.N, win1_6.index t 0 = t.val / 65 ∧ win1_6.index t 1 = t.val % 65 ∧ win1_6.index t 2 = 0)
theorem at7 : ∀ t : Fin cfg1.N, win1_7.index t 0 = t.val / 65 ∧ win1_7.index t 1 = t.val % 65 ∧ win1_7.index t 2 = 0 :=
  (by decide +kernel : ∀ t : Fin grid1.N, win1_7.index t 0 = t.val / 65 ∧ win1_7.index t 1 = t.val % 65 ∧ win1_7.index t 2 = 0)
theorem at8 : ∀ t : Fin cfg1.N, win1_8.index t 0 = 0 ∧ win1_8.index t 1 = 0 :=
  (by decide +kernel : ∀ t : Fin grid1.N, win1_8.index t 0 = 0 ∧ win1_8.index t 1 = 0)

/-- The batch row a point works on, and the block of its rows. -/
def batch (t : Fin cfg1.N) : Fin 2 := ⟨t.val / 65, by have : t.val < 130 := Nat.lt_of_lt_of_eq t.isLt N_1; omega⟩
def block (t : Fin cfg1.N) : Fin 65 := ⟨t.val % 65, Nat.mod_lt _ (by decide)⟩

theorem iblk0_at (t : Fin cfg1.N) (i : Fin 64) (h : Fin 4) (d : Fin 256) :
    iblk V c 0 t (ix3 0 i (col 256 rfl h d)) = V c main_arg0 (ix3 (batch t) (row (64 - t.val % 65) i.rev) (colAt 0 256 (by decide) h d)) := by
  obtain ⟨e0, e1, e2⟩ := at0 t
  have := i.isLt; have := d.isLt; have := h.isLt
  blk_ext! [iblk, e0, e1, e2, batch, row, colAt, col, Fin.val_rev]

theorem iblk1_at (t : Fin cfg1.N) (i : Fin 64) (h : Fin 4) (d : Fin 256) :
    iblk V c 1 t (ix3 0 i (col 256 rfl h d)) = V c main_arg0 (ix3 (batch t) (row (64 - t.val % 65) i.rev) (colAt 1024 256 (by decide) h d)) := by
  obtain ⟨e0, e1, e2⟩ := at1 t
  have := i.isLt; have := d.isLt; have := h.isLt
  blk_ext! [iblk, e0, e1, e2, batch, row, colAt, col, Fin.val_rev]

theorem vblk_at (t : Fin cfg1.N) (i : Fin 64) (h : Fin 4) (e : Fin 512) :
    vblk V c t (ix3 0 i (col 512 rfl h e)) = V c main_arg1 (ix3 (batch t) (row (64 - t.val % 65) i.rev) (colAt 6144 512 (by decide) h e)) := by
  obtain ⟨e0, e1, e2⟩ := at2 t
  have := i.isLt; have := e.isLt; have := h.isLt
  unfold vblk Pipeline.Window.fill
  rw [dif_pos (vmoved t _)]
  blk_ext! [iblk, e0, e1, e2, batch, row, colAt, col, Fin.val_rev]

theorem iblk3_at (t : Fin cfg1.N) (h : Fin 128) : iblk V c 3 t (ix2 0 h) = V c main_v1 (ix2 0 h) := by
  obtain ⟨e0, e1⟩ := at3 t
  have := h.isLt
  blk_ext! [iblk, e0, e1]

theorem iblk4_at (t : Fin cfg1.N) (h : Fin 4) (d : Fin 256) (e : Fin 512) :
    iblk V c 4 t (ix5 0 0 h d e) = V c main_v2_1 (ix5 (batch t) (block t) h d e) := by
  obtain ⟨e0, e1, e2, e3, e4⟩ := at4 t
  have := d.isLt; have := e.isLt; have := h.isLt
  blk_ext! [iblk, e0, e1, e2, e3, e4, batch, block]

theorem iblk5_at (t : Fin cfg1.N) (i : Fin 64) (h : Fin 4) (e : Fin 512) :
    iblk V c 5 t (ix3 0 i (col 512 rfl h e)) = V c main_arg3 (ix3 (batch t) (row (64 - t.val % 65) i.rev) (colAt 0 512 (by decide) h e)) := by
  obtain ⟨e0, e1, e2⟩ := at5 t
  have := i.isLt; have := e.isLt; have := h.isLt
  blk_ext! [iblk, e0, e1, e2, batch, row, colAt, col, Fin.val_rev]

/-- The heads' decay logits, a batch row's data and its output cotangents, in the arrays the region finds. -/
def logit (h : Fin 4) : EReal := V c main_v1 (ix2 0 ⟨h.val, Nat.lt_of_lt_of_le h.isLt (by decide)⟩)
def data (b : Fin 2) : Data := dataOf (V c main_arg0) (V c main_arg1) (logit V c) b
def grads (b : Fin 2) : Fin 4160 → Fin 4 → Fin 512 → EReal := cotOf (V c main_arg3) b

/-- The blocks of a point hold its chunk, -/
theorem chunk_eq (t : Fin cfg1.N) (h : Fin 4) :
    (chunk (iblk V c 0 t) (iblk V c 1 t) (vblk V c t) (iblk V c 3 t) h).flip = (data V c (batch t)).chunk (64 - t.val % 65) h := by
  unfold chunk Chunk.flip Data.chunk data dataOf logit
  simp only [iblk0_at, iblk1_at, vblk_at, iblk3_at, Fin.rev_rev]

/-- its output cotangents, -/
theorem rows_eq (t : Fin cfg1.N) (h : Fin 4) :
    (fun i : Fin 64 => rows (iblk V c 5 t) h i.rev) = cot (grads V c (batch t)) (64 - t.val % 65) h := by
  funext i e
  unfold rows cot grads cotOf
  rw [iblk5_at, Fin.rev_rev]

/-- and the state before it. -/
def SavedStates : Prop := ∀ b n h d e, V c main_v2_1 (ix5 b n h d e) = (data V c b).R h (64 - n.val) d e

variable (hS : SavedStates V c)

theorem saved_eq (hS : SavedStates V c) (t : Fin cfg1.N) (h : Fin 4) :
    saved (iblk V c 4 t) h = (data V c (batch t)).R h (64 - t.val % 65) := by
  funext d e
  unfold saved
  rw [iblk4_at]
  exact hS _ _ _ _ _

/-- The cotangent of the state after a point's chunk. -/
def gradAt (t : Fin cfg1.N) : Vec Ideal S4x256x512 .f32 := fun y =>
  (data V c (batch t)).GR (grads V c (batch t)) (y 0) (t.val % 65) (y 1) (y 2)

theorem state_gradAt (t : Fin cfg1.N) (h : Fin 4) :
    state (gradAt V c t) h = (data V c (batch t)).GR (grads V c (batch t)) h (t.val % 65) := rfl

/-- The cotangent a point leaves. -/
theorem gradBlk_gradAt (t : Fin cfg1.N) :
    gradBlk (iblk V c 0 t) (iblk V c 1 t) (vblk V c t) (iblk V c 3 t) (iblk V c 5 t) (gradAt V c t)
      = fun y => (data V c (batch t)).GR (grads V c (batch t)) (y 0) (t.val % 65 + 1) (y 1) (y 2) := by
  funext y
  obtain ⟨h, d, e, rfl⟩ : ∃ (h : Fin 4) (d : Fin 256) (e : Fin 512), y = ix3 h d e := ⟨y 0, y 1, y 2, eq_ix3 y⟩
  rw [gradBlk_at _ _ _ _ _ _ h d e _ rfl rfl rfl, chunk_eq, state_gradAt, rows_eq]
  rfl

/-- The cotangent found at the point after one that leaves its chunk's. -/
theorem found_succ (n : ℕ) (hn : n + 1 < cfg1.N) :
    found ⟨n + 1, hn⟩ (fun y => (data V c (batch ⟨n, Nat.lt_of_succ_lt hn⟩)).GR (grads V c (batch ⟨n, Nat.lt_of_succ_lt hn⟩)) (y 0) (n % 65 + 1) (y 1) (y 2))
      = gradAt V c ⟨n + 1, hn⟩ := by
  unfold found
  by_cases h : (n + 1) % 65 = 0
  · rw [if_pos h]
    funext y
    rw [zeros_at]
    unfold gradAt
    rw [show ((⟨n + 1, hn⟩ : Fin cfg1.N).val % 65) = 0 from h]
    rfl
  · rw [if_neg h]
    unfold gradAt
    have e : batch ⟨n + 1, hn⟩ = batch ⟨n, Nat.lt_of_succ_lt hn⟩ := Fin.ext (by
      show (n + 1) / 65 = n / 65
      omega)
    have e' : (⟨n + 1, hn⟩ : Fin cfg1.N).val % 65 = n % 65 + 1 := by
      show (n + 1) % 65 = n % 65 + 1
      omega
    rw [e, e']

/-- A head's part of the logit gradient at a point. -/
theorem lgPart_eq (hS : SavedStates V c) (t : Fin cfg1.N) (h : Fin 4) :
    lgPart (iblk V c 0 t) (iblk V c 1 t) (vblk V c t) (iblk V c 3 t) (iblk V c 4 t) (iblk V c 5 t) (gradAt V c t) h
      = (data V c (batch t)).glg (grads V c (batch t)) h (t.val % 65) * sgrad (logit V c h) := by
  unfold lgPart
  rw [chunk_eq, state_gradAt, rows_eq, saved_eq V c hS, iblk3_at]
  rfl

/-- The heads' parts at point `n`, on their lanes. -/
def lgAt (n : ℕ) : Vec Ideal S1x128 .f32 := fun y =>
  if hn : n < cfg1.N then
    lgBlk (iblk V c 0 ⟨n, hn⟩) (iblk V c 1 ⟨n, hn⟩) (vblk V c ⟨n, hn⟩) (iblk V c 3 ⟨n, hn⟩) (iblk V c 4 ⟨n, hn⟩) (iblk V c 5 ⟨n, hn⟩)
      (gradAt V c ⟨n, hn⟩) y
  else (0 : EReal)

/-- The logit gradient after point `n`. -/
def lgSum (n : ℕ) : Vec Ideal S1x128 .f32 := fun y => (∑ s ∈ Finset.range (n + 1), lgAt V c s y : EReal)

theorem lgNew_zero (hn : 0 < cfg1.N) (xg : Vec Ideal S1x128 .f32) :
    lgNew ⟨0, hn⟩ xg (lgBlk (iblk V c 0 ⟨0, hn⟩) (iblk V c 1 ⟨0, hn⟩) (vblk V c ⟨0, hn⟩) (iblk V c 3 ⟨0, hn⟩) (iblk V c 4 ⟨0, hn⟩) (iblk V c 5 ⟨0, hn⟩)
      (gradAt V c ⟨0, hn⟩)) = lgSum V c 0 := by
  funext y
  unfold lgNew lgSum
  refine (if_pos rfl).trans ?_
  refine Eq.trans ?_ (Finset.sum_range_one _).symm
  unfold lgAt
  rw [dif_pos hn]
theorem lgNew_succ (n : ℕ) (hn : n + 1 < cfg1.N) :
    lgNew ⟨n + 1, hn⟩ (lgSum V c n) (lgBlk (iblk V c 0 ⟨n + 1, hn⟩) (iblk V c 1 ⟨n + 1, hn⟩) (vblk V c ⟨n + 1, hn⟩) (iblk V c 3 ⟨n + 1, hn⟩) (iblk V c 4 ⟨n + 1, hn⟩) (iblk V c 5 ⟨n + 1, hn⟩)
      (gradAt V c ⟨n + 1, hn⟩)) = lgSum V c (n + 1) := by
  funext y
  unfold lgNew
  refine (if_neg (Nat.succ_ne_zero n)).trans ?_
  refine Eq.trans ?_ (Finset.sum_range_succ _ _).symm
  refine congrArg₂ (fun (a b : EReal) => a + b) rfl ?_
  unfold lgAt
  rw [dif_pos hn]

/-- What the region's buffers hold after each point. -/
theorem outsAt_eq : ∀ (n : ℕ) (hn : n < cfg1.N), outsAt V c n hn
    = (dqkBlk (iblk V c 0 ⟨n, hn⟩) (iblk V c 1 ⟨n, hn⟩) (vblk V c ⟨n, hn⟩) (iblk V c 3 ⟨n, hn⟩) (iblk V c 4 ⟨n, hn⟩) (iblk V c 5 ⟨n, hn⟩) (gradAt V c ⟨n, hn⟩),
       dvBlk (iblk V c 0 ⟨n, hn⟩) (iblk V c 1 ⟨n, hn⟩) (vblk V c ⟨n, hn⟩) (iblk V c 3 ⟨n, hn⟩) (iblk V c 5 ⟨n, hn⟩) (gradAt V c ⟨n, hn⟩),
       lgSum V c n,
       fun y => (data V c (batch ⟨n, hn⟩)).GR (grads V c (batch ⟨n, hn⟩)) (y 0) (n % 65 + 1) (y 1) (y 2))
  | 0, hn => by
    have e : found ⟨0, hn⟩ (VS.read (Elt Ideal) VS.junk) = gradAt V c ⟨0, hn⟩ := by
      funext y
      unfold found
      exact (congrFun (if_pos rfl) y).trans (zeros_at y)
    unfold outsAt
    rw [step_eq, e, gradBlk_gradAt]
    rw [lgNew_zero]
  | n + 1, hn => by
    unfold outsAt
    rw [step_eq, outsAt_eq n (Nat.lt_of_succ_lt hn), found_succ, gradBlk_gradAt]
    dsimp only
    rw [lgNew_succ]

/-! ## The arrays -/

theorem idx_inj6 : ∀ t t' : Fin cfg1.N, win1_6.index t = win1_6.index t' → t = t' :=
  (by decide +kernel : ∀ t t' : Fin grid1.N, win1_6.index t = win1_6.index t' → t = t')
theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)
theorem flush6 : ∀ t : Fin cfg1.N, (cfg1.win 6).flush t = true := (by decide +kernel : ∀ t : Fin grid1.N, (cfg1.win 6).flush t = true)

theorem idx_inj7 : ∀ t t' : Fin cfg1.N, win1_7.index t = win1_7.index t' → t = t' :=
  (by decide +kernel : ∀ t t' : Fin grid1.N, win1_7.index t = win1_7.index t' → t = t')
theorem disjoint7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx_inj7 t t' h)
theorem flush7 : ∀ t : Fin cfg1.N, (cfg1.win 7).flush t = true := (by decide +kernel : ∀ t : Fin grid1.N, (cfg1.win 7).flush t = true)

/-- The logit gradient is flushed at the last point alone. -/
theorem flush8 : ∀ t : Fin cfg1.N, (cfg1.win 8).flush t = true ↔ t.val = 129 :=
  (by decide +kernel : ∀ t : Fin grid1.N, (cfg1.win 8).flush t = true ↔ t.val = 129)
theorem disjoint8 : ∀ t t' : Fin cfg1.N, (cfg1.win 8).flush t = true → (cfg1.win 8).flush t' = true → t ≠ t' →
    Disjoint ((cfg1.win 8).blk t).view.set ((cfg1.win 8).blk t').view.set :=
  fun t t' h h' hne => absurd (Fin.ext (((flush8 t).mp h).trans ((flush8 t').mp h').symm)) hne

/-- The point that writes a row's block of a batch row. -/
def pointOf (b : Fin 2) (r : Fin 4160) : Fin cfg1.N := ⟨65 * b.val + r.val / 64, Nat.lt_of_lt_of_eq (by
  have := b.isLt; have := r.isLt; omega : 65 * b.val + r.val / 64 < 130) N_1.symm⟩

theorem pointOf_batch (b : Fin 2) (r : Fin 4160) : batch (pointOf b r) = b := Fin.ext (by
  have := b.isLt; have := r.isLt
  show (65 * b.val + r.val / 64) / 65 = b.val
  omega)
theorem pointOf_block (b : Fin 2) (r : Fin 4160) : (pointOf b r).val % 65 = r.val / 64 := by
  have := b.isLt; have := r.isLt
  show (65 * b.val + r.val / 64) % 65 = r.val / 64
  omega
theorem sub_chunkOf (r : Fin 4160) : 64 - chunkOf r = r.val / 64 := by
  have := r.isLt
  unfold chunkOf; omega

/-- The queries' gradient the region leaves. -/
theorem dq_at (hS : SavedStates V c) (b : Fin 2) (r : Fin 4160) (h : Fin 4) (d : Fin 256) :
    (dat V c).arrAt 6 cfg1.N (ix3 b r (colAt 0 256 (by decide) h d)) = (data V c b).dq (grads V c b) r h d := by
  have := b.isLt; have := r.isLt; have := h.isLt; have := d.isLt
  have key := (dat V c).arrAt_emb_eq_flushed 6 disjoint6 (pointOf b r) (flush6 _)
    (ix3 0 ⟨r.val % 64, Nat.mod_lt _ (by decide)⟩ ⟨0 + (256 * h.val + d.val), by omega⟩)
  rw [Dat.flushed_apply, after_6, outsAt_eq] at key
  obtain ⟨e0, e1, e2⟩ := at6 (pointOf b r)
  rw [show (pointOf b r).val / 65 = b.val from congrArg Fin.val (pointOf_batch b r)] at e0
  rw [pointOf_block] at e1
  have place : ((cfg1.win 6).blk (pointOf b r)).view.emb (ix3 0 ⟨r.val % 64, Nat.mod_lt _ (by decide)⟩ ⟨0 + (256 * h.val + d.val), by omega⟩)
      = ix3 b r (colAt 0 256 (by decide) h d) := by
    generalize pointOf b r = p at e0 e1 e2 ⊢
    blk_ext! [e0, e1, e2, colAt]
  rw [place] at key
  refine key.trans ?_
  refine (dqBlk_at _ _ _ _ _ _ _ h ⟨r.val % 64, Nat.mod_lt _ (by decide)⟩ d _ rfl (Nat.zero_add _)).trans ?_
  rw [chunk_eq V c (pointOf b r) h, saved_eq V c hS, rows_eq, pointOf_batch, pointOf_block]
  unfold Data.dq
  rfl

/-- The keys' gradient the region leaves. -/
theorem dk_at (b : Fin 2) (r : Fin 4160) (h : Fin 4) (d : Fin 256) :
    (dat V c).arrAt 6 cfg1.N (ix3 b r (colAt 1024 256 (by decide) h d)) = (data V c b).dk (grads V c b) r h d := by
  have := b.isLt; have := r.isLt; have := h.isLt; have := d.isLt
  have key := (dat V c).arrAt_emb_eq_flushed 6 disjoint6 (pointOf b r) (flush6 _)
    (ix3 0 ⟨r.val % 64, Nat.mod_lt _ (by decide)⟩ ⟨1024 + (256 * h.val + d.val), by omega⟩)
  rw [Dat.flushed_apply, after_6, outsAt_eq] at key
  obtain ⟨e0, e1, e2⟩ := at6 (pointOf b r)
  rw [show (pointOf b r).val / 65 = b.val from congrArg Fin.val (pointOf_batch b r)] at e0
  rw [pointOf_block] at e1
  have place : ((cfg1.win 6).blk (pointOf b r)).view.emb (ix3 0 ⟨r.val % 64, Nat.mod_lt _ (by decide)⟩ ⟨1024 + (256 * h.val + d.val), by omega⟩)
      = ix3 b r (colAt 1024 256 (by decide) h d) := by
    generalize pointOf b r = p at e0 e1 e2 ⊢
    blk_ext! [e0, e1, e2, colAt]
  rw [place] at key
  refine key.trans ?_
  refine (dkBlk_at _ _ _ _ _ _ _ h ⟨r.val % 64, Nat.mod_lt _ (by decide)⟩ d _ rfl rfl).trans ?_
  rw [chunk_eq V c (pointOf b r) h, state_gradAt, rows_eq, pointOf_batch, pointOf_block]
  unfold Data.dk
  rw [sub_chunkOf]
  rfl

/-- The values' gradient the region leaves. -/
theorem dv_at (b : Fin 2) (r : Fin 4160) (h : Fin 4) (e : Fin 512) :
    (dat V c).arrAt 7 cfg1.N (ix3 b r (colAt 0 512 (by decide) h e)) = (data V c b).dv (grads V c b) r h e := by
  have := b.isLt; have := r.isLt; have := h.isLt; have := e.isLt
  have key := (dat V c).arrAt_emb_eq_flushed 7 disjoint7 (pointOf b r) (flush7 _)
    (ix3 0 ⟨r.val % 64, Nat.mod_lt _ (by decide)⟩ ⟨0 + (512 * h.val + e.val), by omega⟩)
  rw [Dat.flushed_apply, after_7, outsAt_eq] at key
  obtain ⟨e0, e1, e2⟩ := at7 (pointOf b r)
  rw [show (pointOf b r).val / 65 = b.val from congrArg Fin.val (pointOf_batch b r)] at e0
  rw [pointOf_block] at e1
  have place : ((cfg1.win 7).blk (pointOf b r)).view.emb (ix3 0 ⟨r.val % 64, Nat.mod_lt _ (by decide)⟩ ⟨0 + (512 * h.val + e.val), by omega⟩)
      = ix3 b r (colAt 0 512 (by decide) h e) := by
    generalize pointOf b r = p at e0 e1 e2 ⊢
    blk_ext! [e0, e1, e2, colAt]
  rw [place] at key
  refine key.trans ?_
  refine (dvBlk_at _ _ _ _ _ _ h ⟨r.val % 64, Nat.mod_lt _ (by decide)⟩ e _ rfl (Nat.zero_add _)).trans ?_
  rw [chunk_eq V c (pointOf b r) h, state_gradAt, rows_eq, pointOf_batch, pointOf_block]
  unfold Data.dv
  rw [sub_chunkOf]
  rfl

/-- The last point. -/
def lastPoint : Fin cfg1.N := ⟨129, Nat.lt_of_lt_of_eq (by decide : 129 < 130) N_1.symm⟩

/-- A point's parts by batch row and block. -/
theorem lgAt_at (hS : SavedStates V c) (b : Fin 2) (n : Fin 65) (l : Fin 128) :
    lgAt V c (n.val + 65 * b.val) (ix2 0 l)
      = if h : l.val < 4 then (data V c b).glg (grads V c b) ⟨l.val, h⟩ n.val * sgrad (logit V c ⟨l.val, h⟩) else 0 := by
  have hb := b.isLt
  have hn := n.isLt
  have lt : n.val + 65 * b.val < cfg1.N := Nat.lt_of_lt_of_eq (by omega : n.val + 65 * b.val < 130) N_1.symm
  have eb : batch ⟨n.val + 65 * b.val, lt⟩ = b := Fin.ext (by show (n.val + 65 * b.val) / 65 = b.val; omega)
  have en : (n.val + 65 * b.val) % 65 = n.val := by omega
  unfold lgAt
  rw [dif_pos lt, lgBlk_at _ _ _ _ _ _ _ l _ rfl]
  by_cases h : l.val < 4
  · rw [dif_pos h, dif_pos h, lgPart_eq V c hS, eb]
    show (data V c b).glg (grads V c b) ⟨l.val, h⟩ ((n.val + 65 * b.val) % 65) * _ = _
    rw [en]
  · rw [dif_neg h, dif_neg h]

/-- The logit gradient the region leaves: over all chunks of all batch rows, each head's on its lane. -/
theorem lg_at (hS : SavedStates V c) (l : Fin 128) :
    (dat V c).arrAt 8 cfg1.N (ix2 0 l)
      = if h : l.val < 4 then ∑ b : Fin 2, ∑ n : Fin 65, (data V c b).glg (grads V c b) ⟨l.val, h⟩ n.val * sgrad (logit V c ⟨l.val, h⟩) else 0 := by
  have := l.isLt
  have key := (dat V c).arrAt_emb_eq_flushed 8 disjoint8 lastPoint ((flush8 _).mpr rfl) (ix2 0 l)
  rw [Dat.flushed_apply, after_8, outsAt_eq] at key
  obtain ⟨e0, e1⟩ := at8 lastPoint
  have place : ((cfg1.win 8).blk lastPoint).view.emb (ix2 0 l) = ix2 0 l := by
    generalize lastPoint = p at e0 e1 ⊢
    blk_ext! [e0, e1]
  rw [place] at key
  refine key.trans ?_
  have sum : lgSum V c 129 (ix2 0 l) = ∑ b : Fin 2, ∑ n : Fin 65, lgAt V c (n.val + 65 * b.val) (ix2 0 l) := by
    unfold lgSum
    refine (Fin.sum_univ_eq_sum_range (fun s => lgAt V c s (ix2 0 l)) 130).symm.trans ?_
    refine (Equiv.sum_comp finProdFinEquiv (fun s : Fin (2 * 65) => lgAt V c s.val (ix2 0 l))).symm.trans ?_
    exact Fintype.sum_prod_type _
  refine sum.trans ?_
  simp only [lgAt_at V c hS]
  by_cases h : l.val < 4
  · simp only [dif_pos h]
  · simp only [dif_neg h, Finset.sum_const_zero]

end Cert.Bwd

end
-- ==== Proof.RetEq.lean ====
/- What the kernel's two regions find over the extended reals, in terms of the program's arguments. -/
module

public import proofs.«01_k».proof.Proof.RetRun
public import proofs.«01_k».proof.Proof.FwdArr
public import proofs.«01_k».proof.Proof.BwdArr

@[expose] public section

set_option maxRecDepth 16384

noncomputable section

namespace Cert.Ret

open Cert.KernelIdeal Cert.KernelIdeal.Gen Cert.Math
open Idealize.ShloMosaic Idealize.ShloMosaic.TcCoe Idealize.ShloMosaic.StableHlo Idealize.ShloMosaic.Tactic

/-! ## Arrays equal at every head and place -/

theorem col_512 (n : ℕ) (hn : n < 2048) : (⟨n, hn⟩ : Fin 2048) = colAt 0 512 (by decide) ⟨n / 512, by omega⟩ ⟨n % 512, Nat.mod_lt _ (by decide)⟩ :=
  Fin.ext (by show n = 0 + (512 * (n / 512) + n % 512); omega)

/-- Two arrays with four heads of 512 columns, equal head by head. -/
theorem ext_heads {f g : (⟨3, ![2, 4160, 2048]⟩ : Shape).Idx → EReal}
    (h : ∀ b r h e, f (ix3 b r (colAt 0 512 (by decide) h e)) = g (ix3 b r (colAt 0 512 (by decide) h e))) : f = g := by
  funext x
  rw [show x = ix3 (x 0) (x 1) (x 2) from eq_ix3 x, show (x 2 : Fin 2048) = _ from col_512 (x 2).val (x 2).isLt]
  exact h _ _ _ _

/-- Two arrays with four heads of 256 columns, twice over, equal head by head. -/
theorem ext_halves {f g : (⟨3, ![2, 4160, 2048]⟩ : Shape).Idx → EReal}
    (h0 : ∀ b r h d, f (ix3 b r (colAt 0 256 (by decide) h d)) = g (ix3 b r (colAt 0 256 (by decide) h d)))
    (h1 : ∀ b r h d, f (ix3 b r (colAt 1024 256 (by decide) h d)) = g (ix3 b r (colAt 1024 256 (by decide) h d))) : f = g := by
  funext x
  have hx : (x 2).val < 2048 := (x 2).isLt
  rw [show x = ix3 (x 0) (x 1) (x 2) from eq_ix3 x]
  by_cases hc : (x 2).val < 1024
  · rw [show (x 2 : Fin 2048) = colAt 0 256 (by decide) ⟨(x 2).val / 256, by omega⟩ ⟨(x 2).val % 256, Nat.mod_lt _ (by decide)⟩ from
      Fin.ext (by show (x 2).val = 0 + (256 * ((x 2).val / 256) + (x 2).val % 256); omega)]
    exact h0 _ _ _ _
  · rw [show (x 2 : Fin 2048) = colAt 1024 256 (by decide) ⟨((x 2).val - 1024) / 256, by omega⟩ ⟨((x 2).val - 1024) % 256, Nat.mod_lt _ (by decide)⟩ from
      Fin.ext (by show (x 2).val = 1024 + (256 * (((x 2).val - 1024) / 256) + ((x 2).val - 1024) % 256); omega)]
    exact h1 _ _ _ _

/-- Two rows of 128 lanes, equal lane by lane. -/
theorem ext_lanes {f g : (⟨2, ![1, 128]⟩ : Shape).Idx → EReal} (h : ∀ l, f (ix2 0 l) = g (ix2 0 l)) : f = g := by
  funext x
  rw [show x = ix2 (0 : Fin 1) (x 1) from (eq_ix2 x).trans (congrArg (ix2 · (x 1)) (Subsingleton.elim (α := Fin 1) (x 0) 0))]
  exact h _

/-! ## What the regions find -/

variable (m : (ℓ : Loc nD τ sig) → Buf (Elt Ideal) ℓ) (ρ : Dev nD → PrngReg) (c : Dev nD)

/-- The arguments: queries and keys, values, decay logits, the output's cotangent. -/
def argQK : (⟨3, ![2, 4160, 2048]⟩ : Shape).Idx → EReal := m ((c : Thread nD τ).loc main_arg0)
def argV : (⟨3, ![2, 4160, 12800]⟩ : Shape).Idx → EReal := m ((c : Thread nD τ).loc main_arg1)
def argZ (h : Fin 4) : EReal := (m ((c : Thread nD τ).loc main_arg2) : (⟨1, ![4]⟩ : Shape).Idx → EReal) (ix1 h)
def argG : (⟨3, ![2, 4160, 2048]⟩ : Shape).Idx → EReal := m ((c : Thread nD τ).loc main_arg3)

/-- The host lays the four logits on the first lanes of a row. -/
theorem lanes_at (h : Fin 4) (hl : h.val < 128) : W3 m ρ c (Proc.devRef .tc main_v1) (ix2 0 ⟨h.val, hl⟩) = argZ m c h := by
  have e : W3 m ρ c (Proc.devRef .tc main_v1)
      = shapeCast S1x128 (pad S128 ![0] ![124] ![0] (m ((c : Thread nD τ).loc main_arg2)) (sitofp (F := Ideal) .f32 (constantI S_ 32 0#32)) pads_S4_S128_01240 h_S_) shapeCasts_S128_S1x128 := by
    unfold W3 W2 W1
    after_results
    rfl
  rw [e]
  pointwise
  refine (dif_pos fun a => ?_).trans rfl
  match a with
  | ⟨0, _⟩ => exact h.isLt

theorem VF_arg0 : VF m ρ c main_arg0 = m ((c : Thread nD τ).loc main_arg0) := W3_of m ρ c main_arg0 (by decide) (by decide) (by decide)
theorem VF_arg1 : VF m ρ c main_arg1 = m ((c : Thread nD τ).loc main_arg1) := W3_of m ρ c main_arg1 (by decide) (by decide) (by decide)
theorem VF_arg3 : VF m ρ c main_arg3 = m ((c : Thread nD τ).loc main_arg3) := W3_of m ρ c main_arg3 (by decide) (by decide) (by decide)
theorem VB_arg0 : VB m ρ c main_arg0 = m ((c : Thread nD τ).loc main_arg0) := (W4_of m ρ c main_arg0 (by decide +kernel)).trans (VF_arg0 m ρ c)
theorem VB_arg1 : VB m ρ c main_arg1 = m ((c : Thread nD τ).loc main_arg1) := (W4_of m ρ c main_arg1 (by decide +kernel)).trans (VF_arg1 m ρ c)
theorem VB_arg3 : VB m ρ c main_arg3 = m ((c : Thread nD τ).loc main_arg3) := (W4_of m ρ c main_arg3 (by decide +kernel)).trans (VF_arg3 m ρ c)
theorem VB_lanes : VB m ρ c main_v1 = VF m ρ c main_v1 := W4_of m ρ c main_v1 (by decide +kernel)

theorem data_fwd (b : Fin 2) : Fwd.data (VF m ρ) c b = dataOf (argQK m c) (argV m c) (argZ m c) b := by
  have hz : (fun h : Fin 4 => VF m ρ c main_v1 (ix2 0 ⟨h.val, Nat.lt_of_lt_of_le h.isLt (by decide)⟩)) = argZ m c := funext fun h => lanes_at m ρ c h _
  unfold Fwd.data
  rw [VF_arg0, VF_arg1, hz]
  rfl
theorem logit_bwd (h : Fin 4) : Bwd.logit (VB m ρ) c h = argZ m c h := by
  unfold Bwd.logit
  rw [VB_lanes]
  exact lanes_at m ρ c h _
theorem data_bwd (b : Fin 2) : Bwd.data (VB m ρ) c b = dataOf (argQK m c) (argV m c) (argZ m c) b := by
  unfold Bwd.data
  rw [VB_arg0, VB_arg1, show Bwd.logit (VB m ρ) c = argZ m c from funext (logit_bwd m ρ c)]
  rfl
theorem grads_bwd (b : Fin 2) : Bwd.grads (VB m ρ) c b = cotOf (argG m c) b := by
  unfold Bwd.grads
  rw [VB_arg3]
  rfl

/-- The backward region finds the states the forward region saved. -/
theorem saved : Bwd.SavedStates (VB m ρ) c := fun b n h d e => by
  rw [data_bwd, ← data_fwd m ρ c b, ← Fwd.saved_at (VF m ρ) c b n h d e]
  exact congrFun (W4_arr m ρ c 5) _

end Cert.Ret

end
-- ==== Proof.RefPre.lean ====
/- What the reference computes before its loops, at an index: the chunks of the reversed queries, keys and values, the
   decays, and from them the decayed queries and keys and the masked product. -/
module

public import proofs.«01_k».proof.Proof.RefRun
public import proofs.«01_k».proof.Proof.RetSpec
public import Idealize.ShloMosaic.Lib.Pointwise

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

variable (V : Valuation τ sig (Elt Ideal))

/-- The decay logit of a head. -/
def logit (h : Fin 4) : EReal := V (Proc.devRef .tc main_arg2) (ix1 h)
/-- A batch row's queries, keys, values and decays. -/
def data (b : Fin 2) : Data := dataOf (V (Proc.devRef .tc main_arg0)) (V (Proc.devRef .tc main_arg1)) (logit V) b
/-- A batch row's output cotangents. -/
def grads (b : Fin 2) : Fin 4160 → Fin 4 → Fin 512 → EReal := cotOf (V (Proc.devRef .tc main_arg3)) b

theorem ix3_eq {a b c : ℕ} {x x' : Fin a} {y y' : Fin b} {z z' : Fin c} (hx : x = x') (hy : y = y') (hz : z = z') : ix3 x y z = ix3 x' y' z' := by
  rw [hx, hy, hz]

/-- The buffers after the lines before the loops. -/
abbrev Pre : Valuation τ sig (Elt Ideal) := after preOps V

/-- Row `i` of chunk `n` among the reversed rows. -/
theorem rev_row (n : Fin 65) (i : Fin 64) (hn : n.val * 64 + i.val < 4160) : Fin.rev (⟨n.val * 64 + i.val, hn⟩ : Fin 4160) = row n.val i :=
  Fin.ext (by simp only [Fin.val_rev, row]; omega)

/-- The queries by chunk. -/
theorem q_at (n : Fin 65) (b : Fin 2) (h : Fin 4) (i : Fin 64) (d : Fin 256) :
    Pre V (Proc.devRef .tc main_v11) (ix5 n b h i d) = ((data V b).chunk n.val h).q i d := by
  unfold Pre
  rw [unary_at pre_writes V 58 (y := main_v11) (x := main_v10) rfl, reshape_at pre_writes V 57 (y := main_v10) (x := main_v6) rfl,
    unary_at pre_writes V 6 (y := main_v6) (x := main_v3) (f := Host.reverse (s := S2x4160x4x256) [1]) rfl,
    reshape_at pre_writes V 3 (y := main_v3) (x := main_v0) rfl,
    unary_at pre_writes V 0 (y := main_v0) (x := main_arg0) rfl, kept pre_writes V (by decide +kernel)]
  pointwise
  exact congrArg (V (Proc.devRef .tc main_arg0)) (ix3_eq rfl (rev_row n i _) (Fin.ext (by show h.val * 256 + d.val = 0 + (256 * h.val + d.val); omega)))

/-- The scaled keys by chunk. -/
theorem ks_at (n : Fin 65) (b : Fin 2) (h : Fin 4) (i : Fin 64) (d : Fin 256) :
    Pre V (Proc.devRef .tc main_v15) (ix5 n b h i d) = ((data V b).chunk n.val h).ks i d := by
  unfold Pre
  rw [unary_at pre_writes V 63 (y := main_v15) (x := main_v14) rfl, reshape_at pre_writes V 62 (y := main_v14) (x := main_v13) rfl,
    binary_at pre_writes V 61 (y := main_v13) (a := main_v7) (b := main_v12) rfl,
    unary_at pre_writes V 60 (y := main_v12) (x := main_cst) rfl,
    nullary_at pre_writes V 59 (y := main_cst) rfl,
    unary_at pre_writes V 7 (y := main_v7) (x := main_v4) (f := Host.reverse (s := S2x4160x4x256) [1]) rfl,
    reshape_at pre_writes V 4 (y := main_v4) (x := main_v1) rfl,
    unary_at pre_writes V 1 (y := main_v1) (x := main_arg0) rfl, kept pre_writes V (by decide +kernel)]
  pointwise
  exact congrArg (fun x : EReal => x * c16) (congrArg (V (Proc.devRef .tc main_arg0))
    (ix3_eq rfl (rev_row n i _) (Fin.ext (by show 1024 + (h.val * 256 + d.val) = 1024 + (256 * h.val + d.val); omega))))

/-- The values by chunk. -/
theorem v_at (n : Fin 65) (b : Fin 2) (h : Fin 4) (i : Fin 64) (e : Fin 512) :
    Pre V (Proc.devRef .tc main_v17) (ix5 n b h i e) = ((data V b).chunk n.val h).v i e := by
  unfold Pre
  rw [unary_at pre_writes V 65 (y := main_v17) (x := main_v16) rfl, reshape_at pre_writes V 64 (y := main_v16) (x := main_v8) rfl,
    unary_at pre_writes V 8 (y := main_v8) (x := main_v5) (f := Host.reverse (s := S2x4160x4x512) [1]) rfl,
    reshape_at pre_writes V 5 (y := main_v5) (x := main_v2) rfl,
    unary_at pre_writes V 2 (y := main_v2) (x := main_arg1) rfl, kept pre_writes V (by decide +kernel)]
  pointwise
  exact congrArg (V (Proc.devRef .tc main_arg1)) (ix3_eq rfl (rev_row n i _) (Fin.ext (by show 6144 + (h.val * 512 + e.val) = 6144 + (512 * h.val + e.val); omega)))

/-! ## The decays -/

/-- The negated logit. -/
theorem neg_at (h : Fin 4) : Pre V (Proc.devRef .tc main_call3_v0) (ix1 h) = -logit V h := by
  unfold Pre
  rw [unary_at pre_writes V 9 (y := main_call3_v0) (x := main_arg2) (f := Host.negf (F := Ideal) (s := S4) (φ := .f32)) rfl,
    kept pre_writes V (by decide +kernel)]
  pointwise
  rfl

/-- Its softplus. -/
theorem softplus_at (h : Fin 4) : Pre V (Proc.devRef .tc main_call3_v1_0) (ix1 h) = softplus (-logit V h) := by
  have h0 := neg_at V h
  unfold Pre at h0 ⊢
  rw [ternary_at pre_writes V 23 (y := main_call3_v1_0) (c := main_call3_call0_v4) (a := main_call3_call0_v6) (b := main_call3_call0_v11)
      (f := select (s := S4)) rfl,
    binary_at pre_writes V 15 (y := main_call3_call0_v4) (a := main_call3_call0_v3) (b := main_call3_call0_v3) (f := cmpf (F := Ideal) (s := S4) (φ := .f32) .une) rfl,
    binary_at pre_writes V 22 (y := main_call3_call0_v11) (a := main_call3_call0_v1) (b := main_call3_call0_v10) (f := addf (F := Ideal) (s := S4) (φ := .f32)) rfl,
    unary_at pre_writes V 21 (y := main_call3_call0_v10) (x := main_call3_call0_v9) (f := Host.log1p (F := Ideal) (s := S4) (φ := .f32)) rfl,
    unary_at pre_writes V 20 (y := main_call3_call0_v9) (x := main_call3_call0_v8) (f := Host.exp (F := Ideal) (s := S4) (φ := .f32)) rfl,
    unary_at pre_writes V 19 (y := main_call3_call0_v8) (x := main_call3_call0_v7) (f := Host.negf (F := Ideal) (s := S4) (φ := .f32)) rfl,
    unary_at pre_writes V 18 (y := main_call3_call0_v7) (x := main_call3_call0_v3) (f := Host.absf (F := Ideal) (s := S4) (φ := .f32)) rfl,
    binary_at pre_writes V 14 (y := main_call3_call0_v3) (a := main_call3_v0) (b := main_call3_call0_v2) (f := subf (F := Ideal) (s := S4) (φ := .f32)) rfl,
    unary_at pre_writes V 13 (y := main_call3_call0_v2) (x := main_call3_call0_cst) (f := broadcastInDim S4 ![] bcast_S_S4) rfl,
    binary_at pre_writes V 12 (y := main_call3_call0_v1) (a := main_call3_v0) (b := main_call3_call0_v0) (f := maximumf (F := Ideal) (s := S4) (φ := .f32)) rfl,
    unary_at pre_writes V 11 (y := main_call3_call0_v0) (x := main_call3_call0_cst) (f := broadcastInDim S4 ![] bcast_S_S4) rfl,
    nullary_at pre_writes V 10 (y := main_call3_call0_cst) (v := constant (F := Ideal) S_ .f32 0x00000000#32) rfl]
  pointwise [h0]
  rw [if_neg (fun h => h rfl)]
  rfl

/-- The log-decay. -/
theorem lsig_at (h : Fin 4) : Pre V (Proc.devRef .tc main_v9_0) (ix1 h) = lsig (logit V h) := by
  have h0 := softplus_at V h
  unfold Pre at h0 ⊢
  rw [unary_at pre_writes V 56 (y := main_v9_0) (x := main_call3_v1_0) (f := Host.negf (F := Ideal) (s := S4) (φ := .f32)) rfl]
  pointwise [h0]
  rfl

/-- Its derivative. -/
theorem sgrad_at (h : Fin 4) : Pre V (Proc.devRef .tc main_v9_1) (ix1 h) = sgrad (logit V h) := by
  have h0 := softplus_at V h
  have h1 := neg_at V h
  unfold Pre at h0 h1 ⊢
  rw [unary_at pre_writes V 37 (y := main_v9_1) (x := main_call3_call0_v21) (f := Host.exp (F := Ideal) (s := S4) (φ := .f32)) rfl,
    binary_at pre_writes V 36 (y := main_call3_call0_v21) (a := main_call3_call0_v16) (b := main_call3_call0_v20) (f := subf (F := Ideal) (s := S4) (φ := .f32)) rfl,
    ternary_at pre_writes V 35 (y := main_call3_call0_v20) (c := main_call3_call0_v18) (a := main_call3_call0_v19) (b := main_call3_v1_0) (f := select (s := S4)) rfl,
    unary_at pre_writes V 34 (y := main_call3_call0_v19) (x := main_call3_call0_cst_3) (f := broadcastInDim S4 ![] bcast_S_S4) rfl,
    nullary_at pre_writes V 33 (y := main_call3_call0_cst_3) (v := constant (F := Ideal) S_ .f32 0x00000000#32) rfl,
    binary_at pre_writes V 32 (y := main_call3_call0_v18) (a := main_call3_v1_0) (b := main_call3_call0_v17) (f := cmpf (F := Ideal) (s := S4) (φ := .f32) .oeq) rfl,
    unary_at pre_writes V 31 (y := main_call3_call0_v17) (x := main_call3_call0_cst_2) (f := broadcastInDim S4 ![] bcast_S_S4) rfl,
    nullary_at pre_writes V 30 (y := main_call3_call0_cst_2) (v := constant (F := Ideal) S_ .f32 0x7F800000#32) rfl,
    ternary_at pre_writes V 29 (y := main_call3_call0_v16) (c := main_call3_call0_v14) (a := main_call3_call0_v15) (b := main_call3_v0) (f := select (s := S4)) rfl,
    unary_at pre_writes V 28 (y := main_call3_call0_v15) (x := main_call3_call0_cst_1) (f := broadcastInDim S4 ![] bcast_S_S4) rfl,
    nullary_at pre_writes V 27 (y := main_call3_call0_cst_1) (v := constant (F := Ideal) S_ .f32 0x00000000#32) rfl,
    binary_at pre_writes V 26 (y := main_call3_call0_v14) (a := main_call3_v0) (b := main_call3_call0_v13) (f := cmpf (F := Ideal) (s := S4) (φ := .f32) .oeq) rfl,
    unary_at pre_writes V 25 (y := main_call3_call0_v13) (x := main_call3_call0_cst_0) (f := broadcastInDim S4 ![] bcast_S_S4) rfl,
    nullary_at pre_writes V 24 (y := main_call3_call0_cst_0) (v := constant (F := Ideal) S_ .f32 0x7F800000#32) rfl]
  pointwise [h0, h1]
  rfl

/-- The log-decay as a column. -/
theorem lg_at (h : Fin 4) (z : Fin 1) : Pre V (Proc.devRef .tc main_v19) (ix2 h z) = lsig (logit V h) := by
  have h0 := lsig_at V h
  unfold Pre at h0 ⊢
  rw [unary_at pre_writes V 67 (y := main_v19) (x := main_v9_0) rfl]
  pointwise [h0]

/-- The positions. -/
theorem pos_at (i : Fin 64) : Pre V (Proc.devRef .tc main_v18) (ix1 i) = pos i := by
  unfold Pre
  rw [nullary_at pre_writes V 66 (y := main_v18) (v := sitofp (F := Ideal) .f32 (iotaInDim S64 32 0)) rfl]
  have h : ∀ i : Fin 64, (BitVec.ofNat 32 i.val).toInt = (i.val : ℤ) := by decide +kernel
  show (((BitVec.ofNat 32 i.val).toInt : ℝ) : EReal) = _
  rw [h i]
  rfl

theorem pos_le (i j : Fin 64) : pos j ≤ pos i ↔ j.val ≤ i.val := by
  unfold pos
  rw [EReal.coe_le_coe_iff, Int.cast_le, Nat.cast_le]

/-- The distance where the mask is on. -/
def dist (i j : Fin 64) : EReal := if j.val ≤ i.val then rel i j else 0

/-- The mask. -/
theorem mask_at (i j : Fin 64) : Pre V (Proc.devRef .tc main_v24) (ix2 i j) = if j.val ≤ i.val then 1#1 else 0#1 := by
  have hi := pos_at V i
  have hj := pos_at V j
  unfold Pre at hi hj ⊢
  rw [binary_at pre_writes V 72 (y := main_v24) (a := main_v22) (b := main_v23) rfl,
    unary_at pre_writes V 71 (y := main_v23) (x := main_v21) rfl, unary_at pre_writes V 70 (y := main_v22) (x := main_v20) rfl,
    unary_at pre_writes V 69 (y := main_v21) (x := main_v18) rfl, unary_at pre_writes V 68 (y := main_v20) (x := main_v18) rfl]
  pointwise [hi, hj]
  simp only [pos_le]
  split <;> simp [*]

/-- The masked distance. -/
theorem dist_at (i j : Fin 64) : Pre V (Proc.devRef .tc main_v30) (ix2 i j) = dist i j := by
  have hi := pos_at V i
  have hj := pos_at V j
  have hm := mask_at V i j
  unfold Pre at hi hj hm ⊢
  rw [ternary_at pre_writes V 81 (y := main_v30) (c := main_v24) (a := main_v29) (b := main_call4_v1) (f := select (s := S64x64)) rfl,
    unary_at pre_writes V 80 (y := main_call4_v1) (x := main_call4_v0) (f := broadcastInDim S64x64 ![] bcast_S_S64x64) rfl,
    unary_at pre_writes V 79 (y := main_call4_v0) (x := main_cst_0) (f := fun x => x) rfl,
    nullary_at pre_writes V 78 (y := main_cst_0) rfl,
    binary_at pre_writes V 77 (y := main_v29) (a := main_v27) (b := main_v28) rfl,
    unary_at pre_writes V 76 (y := main_v28) (x := main_v26) rfl, unary_at pre_writes V 75 (y := main_v27) (x := main_v25) rfl,
    unary_at pre_writes V 74 (y := main_v26) (x := main_v18) rfl, unary_at pre_writes V 73 (y := main_v25) (x := main_v18) rfl]
  pointwise [hi, hj, hm]
  unfold dist
  split
  · refine Eq.trans (if_pos rfl) ?_
    unfold pos rel
    rw [← EReal.coe_sub, Int.cast_sub]
  · exact if_neg (by decide)

/-- The mask for every head. -/
theorem masks_at (h : Fin 4) (i j : Fin 64) : Pre V (Proc.devRef .tc main_v37_1) (ix3 h i j) = if j.val ≤ i.val then 1#1 else 0#1 := by
  have hm := mask_at V i j
  unfold Pre at hm ⊢
  rw [unary_at pre_writes V 90 (y := main_v37_1) (x := main_v24) (f := broadcastInDim S4x64x64 ![1, 2] bcast_S64x64_S4x64x64_1_2) rfl]
  pointwise [hm]

/-- The decay over the masked distance. -/
theorem decay_at (h : Fin 4) (i j : Fin 64) : Pre V (Proc.devRef .tc main_v36) (ix3 h i j) = Ideal.exp (dist i j * lsig (logit V h)) := by
  have hm := dist_at V i j
  have hg := lg_at V h
  unfold Pre at hm hg ⊢
  rw [unary_at pre_writes V 87 (y := main_v36) (x := main_v35) rfl, binary_at pre_writes V 86 (y := main_v35) (a := main_v33) (b := main_v34) rfl,
    unary_at pre_writes V 85 (y := main_v34) (x := main_v32) rfl, unary_at pre_writes V 84 (y := main_v33) (x := main_v31) rfl,
    unary_at pre_writes V 83 (y := main_v32) (x := main_v19) rfl, unary_at pre_writes V 82 (y := main_v31) (x := main_v30) rfl]
  pointwise [hm, hg]

/-- The masked decay. -/
theorem intra_at (h : Fin 4) (i j : Fin 64) : Pre V (Proc.devRef .tc main_v37_0) (ix3 h i j) = intra (lsig (logit V h)) i j := by
  have hm := masks_at V h i j
  have hg := decay_at V h i j
  unfold Pre at hm hg ⊢
  rw [ternary_at pre_writes V 92 (y := main_v37_0) (c := main_v37_1) (a := main_v36) (b := main_call5_v2) (f := select (s := S4x64x64)) rfl,
    unary_at pre_writes V 91 (y := main_call5_v2) (x := main_call5_v0) (f := broadcastInDim S4x64x64 ![] bcast_S_S4x64x64) rfl,
    unary_at pre_writes V 89 (y := main_call5_v0) (x := main_cst_1) (f := fun x => x) rfl,
    nullary_at pre_writes V 88 (y := main_cst_1) rfl]
  pointwise [hm, hg]
  unfold intra dist
  split
  · exact if_pos rfl
  · exact if_neg (by decide)

/-! ## The chunks' products and decayed rows -/

/-- The plain product of queries and keys. -/
theorem dot_at (n : Fin 65) (b : Fin 2) (h : Fin 4) (i j : Fin 64) :
    Pre V (Proc.devRef .tc main_v38) (ix5 n b h i j) = ∑ d, ((data V b).chunk n.val h).q i d * ((data V b).chunk n.val h).ks j d := by
  have hq := q_at V n b h
  have hk := ks_at V n b h
  unfold Pre at hq hk ⊢
  rw [binary_at pre_writes V 95 (y := main_v38) (a := main_v11) (b := main_v15) rfl]
  pointwise [hq, hk]

/-- The masked decay, for every chunk alike. -/
theorem intra5_at (z z' : Fin 1) (h : Fin 4) (i j : Fin 64) : Pre V (Proc.devRef .tc main_v39) (ix5 z z' h i j) = intra (lsig (logit V h)) i j := by
  have hm := intra_at V h i j
  unfold Pre at hm ⊢
  rw [unary_at pre_writes V 96 (y := main_v39) (x := main_v37_0) rfl]
  pointwise [hm]

/-- The masked product. -/
theorem qk_at (n : Fin 65) (b : Fin 2) (h : Fin 4) (i j : Fin 64) :
    Pre V (Proc.devRef .tc main_v41) (ix5 n b h i j) = ((data V b).chunk n.val h).qk i j := by
  have hq := dot_at V n b h i j
  have hm := intra5_at V 0 0 h i j
  unfold Pre at hq hm ⊢
  rw [binary_at pre_writes V 98 (y := main_v41) (a := main_v38) (b := main_v40) rfl, unary_at pre_writes V 97 (y := main_v40) (x := main_v39) rfl]
  pointwise [hq, hm]
  rfl

/-- Positions counted from one. -/
theorem pos1_at (z : Fin 1) (i : Fin 64) : Pre V (Proc.devRef .tc main_v44) (ix2 z i) = pos i + 1 := by
  have hi := pos_at V i
  unfold Pre at hi ⊢
  rw [unary_at pre_writes V 102 (y := main_v44) (x := main_v43) rfl, binary_at pre_writes V 101 (y := main_v43) (a := main_v18) (b := main_v42) rfl,
    unary_at pre_writes V 100 (y := main_v42) (x := main_cst_2) rfl, nullary_at pre_writes V 99 (y := main_cst_2) rfl]
  pointwise [hi]

/-- The queries' decay. -/
theorem wq_at (h : Fin 4) (i : Fin 64) : Pre V (Proc.devRef .tc main_v48) (ix2 h i) = wq (lsig (logit V h)) i := by
  have hi := pos1_at V 0 i
  have hg := lg_at V h
  unfold Pre at hi hg ⊢
  rw [unary_at pre_writes V 106 (y := main_v48) (x := main_v47) rfl, binary_at pre_writes V 105 (y := main_v47) (a := main_v45) (b := main_v46) rfl,
    unary_at pre_writes V 104 (y := main_v46) (x := main_v44) rfl, unary_at pre_writes V 103 (y := main_v45) (x := main_v19) rfl]
  pointwise [hi, hg]
  rfl

/-- The same for every chunk alike. -/
theorem wq5_at (z z' : Fin 1) (h : Fin 4) (i : Fin 64) (o : Fin 1) : Pre V (Proc.devRef .tc main_v50) (ix5 z z' h i o) = wq (lsig (logit V h)) i := by
  have hi := wq_at V h i
  unfold Pre at hi ⊢
  rw [unary_at pre_writes V 108 (y := main_v50) (x := main_v49) rfl, unary_at pre_writes V 107 (y := main_v49) (x := main_v48) rfl]
  pointwise [hi]

/-- The decayed queries. -/
theorem qd_at (n : Fin 65) (b : Fin 2) (h : Fin 4) (i : Fin 64) (d : Fin 256) :
    Pre V (Proc.devRef .tc main_v52) (ix5 n b h i d) = ((data V b).chunk n.val h).qd i d := by
  have hq := q_at V n b h i d
  have hm := wq5_at V 0 0 h i 0
  unfold Pre at hq hm ⊢
  rw [binary_at pre_writes V 110 (y := main_v52) (a := main_v11) (b := main_v51) rfl, unary_at pre_writes V 109 (y := main_v51) (x := main_v50) rfl]
  pointwise [hq, hm]
  rfl

/-- Positions counted back from the end. -/
theorem pos63_at (z : Fin 1) (i : Fin 64) : Pre V (Proc.devRef .tc main_v55) (ix2 z i) = c63 - pos i := by
  have hi := pos_at V i
  unfold Pre at hi ⊢
  rw [unary_at pre_writes V 114 (y := main_v55) (x := main_v54) rfl, binary_at pre_writes V 113 (y := main_v54) (a := main_v53) (b := main_v18) rfl,
    unary_at pre_writes V 112 (y := main_v53) (x := main_cst_3) rfl, nullary_at pre_writes V 111 (y := main_cst_3) rfl]
  pointwise [hi]
  rfl

/-- The keys' decay. -/
theorem wk_at (h : Fin 4) (i : Fin 64) : Pre V (Proc.devRef .tc main_v59) (ix2 h i) = wk (lsig (logit V h)) i := by
  have hi := pos63_at V 0 i
  have hg := lg_at V h
  unfold Pre at hi hg ⊢
  rw [unary_at pre_writes V 118 (y := main_v59) (x := main_v58) rfl, binary_at pre_writes V 117 (y := main_v58) (a := main_v56) (b := main_v57) rfl,
    unary_at pre_writes V 116 (y := main_v57) (x := main_v55) rfl, unary_at pre_writes V 115 (y := main_v56) (x := main_v19) rfl]
  pointwise [hi, hg]
  rfl

/-- The same for every chunk alike. -/
theorem wk5_at (z z' : Fin 1) (h : Fin 4) (i : Fin 64) (o : Fin 1) : Pre V (Proc.devRef .tc main_v61) (ix5 z z' h i o) = wk (lsig (logit V h)) i := by
  have hi := wk_at V h i
  unfold Pre at hi ⊢
  rw [unary_at pre_writes V 120 (y := main_v61) (x := main_v60) rfl, unary_at pre_writes V 119 (y := main_v60) (x := main_v59) rfl]
  pointwise [hi]

/-- The decayed keys. -/
theorem kd_at (n : Fin 65) (b : Fin 2) (h : Fin 4) (i : Fin 64) (d : Fin 256) :
    Pre V (Proc.devRef .tc main_v63) (ix5 n b h i d) = ((data V b).chunk n.val h).kd i d := by
  have hq := ks_at V n b h i d
  have hm := wk5_at V 0 0 h i 0
  unfold Pre at hq hm ⊢
  rw [binary_at pre_writes V 122 (y := main_v63) (a := main_v15) (b := main_v62) rfl, unary_at pre_writes V 121 (y := main_v62) (x := main_v61) rfl]
  pointwise [hq, hm]
  rfl

/-- The state's decay over a chunk. -/
theorem wr_at (h : Fin 4) (z : Fin 1) : Pre V (Proc.devRef .tc main_v66) (ix2 h z) = wr (lsig (logit V h)) := by
  have hg := lg_at V h
  unfold Pre at hg ⊢
  rw [unary_at pre_writes V 126 (y := main_v66) (x := main_v65) rfl, binary_at pre_writes V 125 (y := main_v65) (a := main_v19) (b := main_v64) rfl,
    unary_at pre_writes V 124 (y := main_v64) (x := main_cst_4) rfl, nullary_at pre_writes V 123 (y := main_cst_4) rfl]
  pointwise [hg]
  rfl

/-- The same as the loops read it. -/
theorem wr4_at (z : Fin 1) (h : Fin 4) (o o' : Fin 1) : Pre V (Proc.devRef .tc main_v69) (ix4 z h o o') = wr (lsig (logit V h)) := by
  have hg := wr_at V h 0
  unfold Pre at hg ⊢
  rw [unary_at pre_writes V 130 (y := main_v69) (x := main_v67) rfl, unary_at pre_writes V 127 (y := main_v67) (x := main_v66) rfl]
  pointwise [hg]

/-- The first loop's state starts at zero. -/
theorem zero_at (b : Fin 2) (h : Fin 4) (d : Fin 256) (e : Fin 512) : Pre V (Proc.devRef .tc main_v68) (ix4 b h d e) = (0 : EReal) := by
  unfold Pre
  rw [unary_at pre_writes V 129 (y := main_v68) (x := main_cst_5) rfl, nullary_at pre_writes V 128 (y := main_cst_5) rfl]
  pointwise

end Cert.Ref

end
-- ==== Proof.RefSlice.lean ====
/- One chunk of a stack of sixty-five read out of it, and one written into it, at a computed position. -/
module

public import proofs.«01_k».proof.Proof.RefRun
public import Idealize.ShloMosaic.Lib.Pointwise

@[expose] public section

noncomputable section

namespace Cert.Read

open Idealize.ShloMosaic

variable {A B : ℕ} {α : Type}

/-- A stack of chunks, and one chunk of it. -/
abbrev Stack (A B : ℕ) : Shape := ⟨5, ![65, 2, 4, A, B]⟩
abbrev One (A B : ℕ) : Shape := ⟨5, ![1, 2, 4, A, B]⟩

/-- Where the chunk starts on each axis. -/
theorem starts (ht : (One A B).rank = (Stack A B).rank) (start : Fin 5 → Int) (n : Fin 65) (h0 : start 0 = n.val) (h1 : start 1 = 0)
    (h2 : start 2 = 0) (h3 : start 3 = 0) (h4 : start 4 = 0) (a : Fin 5) :
    Host.clampedStart (Stack A B) (One A B) ht start a = (![n.val, 0, 0, 0, 0] : Fin 5 → ℕ) a := by
  have hn := n.isLt
  match a with
  | 0 => exact Host.clampedStart_of_le (s := Stack A B) (t := One A B) ht start 0 n.val h0 (by show n.val + 1 ≤ 65; omega)
  | 1 => exact Host.clampedStart_of_le (s := Stack A B) (t := One A B) ht start 1 0 h1 (by show 0 + 2 ≤ 2; omega)
  | 2 => exact Host.clampedStart_of_le (s := Stack A B) (t := One A B) ht start 2 0 h2 (by show 0 + 4 ≤ 4; omega)
  | 3 => exact Host.clampedStart_of_le (s := Stack A B) (t := One A B) ht start 3 0 h3 (by show 0 + A ≤ A; omega)
  | 4 => exact Host.clampedStart_of_le (s := Stack A B) (t := One A B) ht start 4 0 h4 (by show 0 + B ≤ B; omega)

/-- One chunk read. -/
theorem lead_slice (x : (Stack A B).Idx → α) (start : Fin 5 → Int) (h : (Stack A B).Slices (fun _ => 0) (One A B)) (n : Fin 65)
    (h0 : start 0 = n.val) (h1 : start 1 = 0) (h2 : start 2 = 0) (h3 : start 3 = 0) (h4 : start 4 = 0)
    (z : Fin 1) (b : Fin 2) (g : Fin 4) (i : Fin A) (d : Fin B) :
    Host.dynamicSlice (One A B) x start h (ix5 z b g i d) = x (ix5 n b g i d) := by
  refine congrArg x (funext fun a => Fin.ext ?_)
  show Host.clampedStart (Stack A B) (One A B) h.1 start a + _ = _
  rw [starts h.1 start n h0 h1 h2 h3 h4 a]
  match a with
  | 0 => show n.val + z.val = n.val; omega
  | 1 => exact Nat.zero_add _
  | 2 => exact Nat.zero_add _
  | 3 => exact Nat.zero_add _
  | 4 => exact Nat.zero_add _

/-- One chunk written. -/
theorem lead_update (x : (Stack A B).Idx → α) (u : (One A B).Idx → α) (start : Fin 5 → Int) (h : (Stack A B).Slices (fun _ => 0) (One A B)) (n : Fin 65)
    (h0 : start 0 = n.val) (h1 : start 1 = 0) (h2 : start 2 = 0) (h3 : start 3 = 0) (h4 : start 4 = 0)
    (m : Fin 65) (b : Fin 2) (g : Fin 4) (i : Fin A) (d : Fin B) :
    Host.dynamicUpdateSlice x u start h (ix5 m b g i d) = if m = n then u (ix5 0 b g i d) else x (ix5 m b g i d) := by
  have hs := starts h.1 start n h0 h1 h2 h3 h4
  rw [Host.dynamicUpdateSlice_apply]
  by_cases hm : m = n
  · subst hm
    rw [if_pos rfl, dif_pos (fun a => by
      rw [hs a]
      match a with
      | 0 => exact ⟨le_refl _, Nat.lt_succ_self _⟩
      | 1 => exact ⟨Nat.zero_le _, by show b.val < 0 + 2; omega⟩
      | 2 => exact ⟨Nat.zero_le _, by show g.val < 0 + 4; omega⟩
      | 3 => exact ⟨Nat.zero_le _, by show i.val < 0 + A; omega⟩
      | 4 => exact ⟨Nat.zero_le _, by show d.val < 0 + B; omega⟩)]
    refine congrArg u (funext fun a => Fin.ext ?_)
    show _ - Host.clampedStart (Stack A B) (One A B) h.1 start a = _
    rw [hs a]
    match a with
    | 0 => exact Nat.sub_self _
    | 1 => rfl
    | 2 => rfl
    | 3 => rfl
    | 4 => rfl
  · rw [if_neg hm, dif_neg]
    intro hall
    have := hall 0
    rw [hs 0] at this
    have h1 : n.val ≤ m.val ∧ m.val < n.val + 1 := this
    exact hm (Fin.ext (by omega))

end Cert.Read

namespace Cert.Ref

open Cert.ReferenceIdeal Cert.ReferenceIdeal.Gen Cert.Read
open Idealize.ShloMosaic Idealize.ShloMosaic.TcCoe Idealize.ShloMosaic.StableHlo Idealize.ShloMosaic.Tactic

variable {A B : ℕ} {ops : List (HloOp τ sig (Elt Ideal))} {W : List (Ref sig .tc)}
  (hW : ops.map HloOp.writes = W.map fun r => {Proc.devRef (τ := τ) .tc r}) (Y : Valuation τ sig (Elt Ideal)) (i : ℕ)

/-- An index operand as an integer. -/
abbrev word (ops : List (HloOp τ sig (Elt Ideal))) (Y : Valuation τ sig (Elt Ideal)) (t : TRef sig ⟨S_, .i32⟩) : Int :=
  ((t.ofBuf (after ops Y (Proc.devRef .tc t.ref)) : S_.Idx → BitVec 32) (Shape.Idx.first h_S_)).toInt

include hW in
/-- An index operand a line sets to zero. -/
theorem zero_word (t : TRef sig ⟨S_, .i32⟩) (h : ops[i]? = some (TRef.nullary t (constantI S_ 32 0#32)))
    (hr : t.ref ∉ W.drop (i + 1) := by decide +kernel) : word ops Y t = 0 := by
  unfold word
  rw [nullary_at hW Y i h hr, TRef.ofBuf_toBuf]
  rfl

include hW in
/-- One chunk read by a line. -/
theorem slice_at (n : Fin 65) {ta : TRef sig ⟨Stack A B, .f32⟩} {ty : TRef sig ⟨One A B, .f32⟩} {t0 t1 t2 t3 t4 : TRef sig ⟨S_, .i32⟩} {hf}
    (h : ops[i]? = some (TRef.unaryIndexed ta ![t0, t1, t2, t3, t4] ty
      (fun x k => Host.dynamicSlice (One A B) x (fun j => (k j (Shape.Idx.first h_S_)).toInt) hf)))
    (h0 : word ops Y t0 = n.val) (h1 : word ops Y t1 = 0) (h2 : word ops Y t2 = 0) (h3 : word ops Y t3 = 0) (h4 : word ops Y t4 = 0)
    (z : Fin 1) (b : Fin 2) (g : Fin 4) (p : Fin A) (q : Fin B)
    (hr : ty.ref ∉ W.drop (i + 1) := by decide +kernel) (ha : ta.ref ∉ W.drop i := by decide +kernel)
    (hi : ∀ k : Fin 5, (![t0, t1, t2, t3, t4] k).ref ∉ W.drop i := by decide +kernel) :
    (ty.ofBuf (after ops Y (Proc.devRef .tc ty.ref)) : (One A B).Idx → EReal) (ix5 z b g p q)
      = (ta.ofBuf (after ops Y (Proc.devRef .tc ta.ref)) : (Stack A B).Idx → EReal) (ix5 n b g p q) := by
  rw [unaryIndexed_at hW Y i h hr ha hi, TRef.ofBuf_toBuf]
  exact lead_slice _ _ _ n h0 h1 h2 h3 h4 z b g p q

include hW in
/-- One chunk written by a line. -/
theorem update_at (n : Fin 65) {ta : TRef sig ⟨Stack A B, .f32⟩} {tb : TRef sig ⟨One A B, .f32⟩} {ty : TRef sig ⟨Stack A B, .f32⟩}
    {t0 t1 t2 t3 t4 : TRef sig ⟨S_, .i32⟩} {hf}
    (h : ops[i]? = some (TRef.binaryIndexed ta tb ![t0, t1, t2, t3, t4] ty
      (fun x u k => Host.dynamicUpdateSlice x u (fun j => (k j (Shape.Idx.first h_S_)).toInt) hf)))
    (h0 : word ops Y t0 = n.val) (h1 : word ops Y t1 = 0) (h2 : word ops Y t2 = 0) (h3 : word ops Y t3 = 0) (h4 : word ops Y t4 = 0)
    (m : Fin 65) (b : Fin 2) (g : Fin 4) (p : Fin A) (q : Fin B)
    (hr : ty.ref ∉ W.drop (i + 1) := by decide +kernel) (ha : ta.ref ∉ W.drop i := by decide +kernel)
    (hb : tb.ref ∉ W.drop i := by decide +kernel)
    (hi : ∀ k : Fin 5, (![t0, t1, t2, t3, t4] k).ref ∉ W.drop i := by decide +kernel) :
    (ty.ofBuf (after ops Y (Proc.devRef .tc ty.ref)) : (Stack A B).Idx → EReal) (ix5 m b g p q)
      = if m = n then (tb.ofBuf (after ops Y (Proc.devRef .tc tb.ref)) : (One A B).Idx → EReal) (ix5 0 b g p q)
        else (ta.ofBuf (after ops Y (Proc.devRef .tc ta.ref)) : (Stack A B).Idx → EReal) (ix5 m b g p q) := by
  rw [binaryIndexed_at hW Y i h hr ha hb hi, TRef.ofBuf_toBuf]
  exact lead_update _ _ _ _ n h0 h1 h2 h3 h4 m b g p q

end Cert.Ref

end
-- ==== Proof.RefFwd.lean ====
/- The reference's first loop: the state before each chunk and each chunk's output. -/
module

public import proofs.«01_k».proof.Proof.RefPre
public import proofs.«01_k».proof.Proof.RefSlice

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

/-- The first loop's body up to the lines that carry its results to the next trip. -/
abbrev core0Ops : List (HloOp τ sig (Elt Ideal)) := body0Ops.take 43
theorem core0_writes : core0Ops.map HloOp.writes = (body0W.take 43).map fun r => {Proc.devRef (τ := τ) .tc r} := by
  rw [List.map_take, body0_writes, List.map_take]

section Trip

variable (Y : Valuation τ sig (Elt Ideal)) (n : Fin 65)
  (hY : Y (Proc.devRef .tc main_v72_5) = fun _ => Scf.iv 0#32 1#32 n.val)

include hY in
/-- The counter. -/
theorem ctr0_word : word core0Ops Y (.of main_v72_5) = n.val := by
  unfold word
  have h : ∀ n : Fin 65, (Scf.iv 0#32 1#32 n.val).toInt = (n.val : ℤ) := by decide +kernel
  have h1 := (kept core0_writes Y (r := main_v72_5) (by decide +kernel)).trans hY
  exact (congrArg (fun z : S_.Idx → BitVec 32 => (z (Shape.Idx.first h_S_)).toInt) h1).trans (h n)

include hY in
/-- The trip's decayed queries, -/
theorem qd0_at (b : Fin 2) (h : Fin 4) (i : Fin 64) (d : Fin 256) :
    after core0Ops Y (Proc.devRef .tc main_while0b_v160) (ix4 b h i d) = Y (Proc.devRef .tc main_v72_0) (ix5 n b h i d) := by
  rw [reshape_at core0_writes Y 5 (y := main_while0b_v160) (x := main_while0b_call6_v0) rfl, ← kept core0_writes Y (r := main_v72_0) (by decide +kernel)]
  pointwise
  exact slice_at core0_writes Y 4 n (ta := .of main_v72_0) (ty := .of main_while0b_call6_v0) (t0 := .of main_v72_5) (t1 := .of main_while0b_call6_c)
    (t2 := .of main_while0b_call6_c_0) (t3 := .of main_while0b_call6_c_1) (t4 := .of main_while0b_call6_c_2) rfl (ctr0_word Y n hY)
    (zero_word core0_writes Y 0 _ rfl) (zero_word core0_writes Y 1 _ rfl) (zero_word core0_writes Y 2 _ rfl) (zero_word core0_writes Y 3 _ rfl) 0 b h i d

include hY in
/-- decayed keys, -/
theorem kd0_at (b : Fin 2) (h : Fin 4) (i : Fin 64) (d : Fin 256) :
    after core0Ops Y (Proc.devRef .tc main_while0b_v161) (ix4 b h i d) = Y (Proc.devRef .tc main_v72_1) (ix5 n b h i d) := by
  rw [reshape_at core0_writes Y 11 (y := main_while0b_v161) (x := main_while0b_call7_v0) rfl, ← kept core0_writes Y (r := main_v72_1) (by decide +kernel)]
  pointwise
  exact slice_at core0_writes Y 10 n (ta := .of main_v72_1) (ty := .of main_while0b_call7_v0) (t0 := .of main_v72_5) (t1 := .of main_while0b_call7_c)
    (t2 := .of main_while0b_call7_c_0) (t3 := .of main_while0b_call7_c_1) (t4 := .of main_while0b_call7_c_2) rfl (ctr0_word Y n hY)
    (zero_word core0_writes Y 6 _ rfl) (zero_word core0_writes Y 7 _ rfl) (zero_word core0_writes Y 8 _ rfl) (zero_word core0_writes Y 9 _ rfl) 0 b h i d

include hY in
/-- masked product -/
theorem qk0_at (b : Fin 2) (h : Fin 4) (i : Fin 64) (d : Fin 64) :
    after core0Ops Y (Proc.devRef .tc main_while0b_v162) (ix4 b h i d) = Y (Proc.devRef .tc main_v72_2) (ix5 n b h i d) := by
  rw [reshape_at core0_writes Y 17 (y := main_while0b_v162) (x := main_while0b_call8_v0) rfl, ← kept core0_writes Y (r := main_v72_2) (by decide +kernel)]
  pointwise
  exact slice_at core0_writes Y 16 n (ta := .of main_v72_2) (ty := .of main_while0b_call8_v0) (t0 := .of main_v72_5) (t1 := .of main_while0b_call8_c)
    (t2 := .of main_while0b_call8_c_0) (t3 := .of main_while0b_call8_c_1) (t4 := .of main_while0b_call8_c_2) rfl (ctr0_word Y n hY)
    (zero_word core0_writes Y 12 _ rfl) (zero_word core0_writes Y 13 _ rfl) (zero_word core0_writes Y 14 _ rfl) (zero_word core0_writes Y 15 _ rfl) 0 b h i d

include hY in
/-- and values. -/
theorem v0_at (b : Fin 2) (h : Fin 4) (i : Fin 64) (d : Fin 512) :
    after core0Ops Y (Proc.devRef .tc main_while0b_v163) (ix4 b h i d) = Y (Proc.devRef .tc main_v72_3) (ix5 n b h i d) := by
  rw [reshape_at core0_writes Y 23 (y := main_while0b_v163) (x := main_while0b_call9_v0) rfl, ← kept core0_writes Y (r := main_v72_3) (by decide +kernel)]
  pointwise
  exact slice_at core0_writes Y 22 n (ta := .of main_v72_3) (ty := .of main_while0b_call9_v0) (t0 := .of main_v72_5) (t1 := .of main_while0b_call9_c)
    (t2 := .of main_while0b_call9_c_0) (t3 := .of main_while0b_call9_c_1) (t4 := .of main_while0b_call9_c_2) rfl (ctr0_word Y n hY)
    (zero_word core0_writes Y 18 _ rfl) (zero_word core0_writes Y 19 _ rfl) (zero_word core0_writes Y 20 _ rfl) (zero_word core0_writes Y 21 _ rfl) 0 b h i d

variable (C : Fin 2 → Fin 4 → Chunk) (R : Fin 2 → Fin 4 → Fin 256 → Fin 512 → EReal)
  (hQ : ∀ b h i d, Y (Proc.devRef .tc main_v72_0) (ix5 n b h i d) = (C b h).qd i d)
  (hK : ∀ b h i d, Y (Proc.devRef .tc main_v72_1) (ix5 n b h i d) = (C b h).kd i d)
  (hP : ∀ b h i j, Y (Proc.devRef .tc main_v72_2) (ix5 n b h i j) = (C b h).qk i j)
  (hV : ∀ b h i e, Y (Proc.devRef .tc main_v72_3) (ix5 n b h i e) = (C b h).v i e)
  (hD : ∀ b h, Y (Proc.devRef .tc main_v72_4) (ix4 0 h 0 0) = wr (C b h).lg)
  (hR : ∀ b h d e, Y (Proc.devRef .tc main_v72_6) (ix4 b h d e) = R b h d e)

include hY hQ hP hV hR in
/-- The trip's output. -/
theorem out0_at (b : Fin 2) (h : Fin 4) (i : Fin 64) (e : Fin 512) :
    after core0Ops Y (Proc.devRef .tc main_while0b_v166) (ix4 b h i e) = (C b h).out (R b h) i e := by
  have h1 := fun d => (qd0_at Y n hY b h i d).trans (hQ b h i d)
  have h2 := fun j => (qk0_at Y n hY b h i j).trans (hP b h i j)
  have h3 := fun j => (v0_at Y n hY b h j e).trans (hV b h j e)
  have h4 := fun d => (congrFun (kept core0_writes Y (r := main_v72_6) (by decide +kernel)) (ix4 b h d e)).trans (hR b h d e)
  rw [binary_at core0_writes Y 26 (y := main_while0b_v166) (a := main_while0b_v164) (b := main_while0b_v165) rfl,
    binary_at core0_writes Y 25 (y := main_while0b_v165) (a := main_while0b_v162) (b := main_while0b_v163) rfl,
    binary_at core0_writes Y 24 (y := main_while0b_v164) (a := main_while0b_v160) (b := main_v72_6) rfl]
  pointwise [h1, h2, h3, h4]
  rfl

include hY hK hV hD hR in
/-- The state after it. -/
theorem next0_at (b : Fin 2) (h : Fin 4) (d : Fin 256) (e : Fin 512) :
    after core0Ops Y (Proc.devRef .tc main_while0b_v170) (ix4 b h d e) = (C b h).next (R b h) d e := by
  have h1 := fun i => (kd0_at Y n hY b h i d).trans (hK b h i d)
  have h3 := fun j => (v0_at Y n hY b h j e).trans (hV b h j e)
  have h4 := (congrFun (kept core0_writes Y (r := main_v72_6) (by decide +kernel)) (ix4 b h d e)).trans (hR b h d e)
  have h5 := (congrFun (kept core0_writes Y (r := main_v72_4) (by decide +kernel)) (ix4 0 h 0 0)).trans (hD b h)
  rw [binary_at core0_writes Y 30 (y := main_while0b_v170) (a := main_while0b_v168) (b := main_while0b_v169) rfl,
    binary_at core0_writes Y 29 (y := main_while0b_v169) (a := main_while0b_v161) (b := main_while0b_v163) rfl,
    binary_at core0_writes Y 28 (y := main_while0b_v168) (a := main_v72_6) (b := main_while0b_v167) rfl,
    unary_at core0_writes Y 27 (y := main_while0b_v167) (x := main_v72_4) rfl]
  pointwise [h1, h3, h4, h5]
  rfl

include hY hQ hP hV hR in
/-- The outputs gathered so far. -/
theorem outs0_at (m : Fin 65) (b : Fin 2) (h : Fin 4) (i : Fin 64) (e : Fin 512) :
    after core0Ops Y (Proc.devRef .tc main_while0b_v171) (ix5 m b h i e)
      = if m = n then (C b h).out (R b h) i e else Y (Proc.devRef .tc main_v72_7) (ix5 m b h i e) := by
  have h1 := out0_at Y n hY C R hQ hP hV hR b h i e
  have h2 : after core0Ops Y (Proc.devRef .tc main_while0b_call10_v0) (ix5 0 b h i e) = (C b h).out (R b h) i e := by
    rw [unary_at core0_writes Y 31 (y := main_while0b_call10_v0) (x := main_while0b_v166) (f := broadcastInDim S1x2x4x64x512 ![1, 2, 3, 4] bcast_S2x4x64x512_S1x2x4x64x512_1_2_3_4) rfl]
    pointwise [h1]
  rw [← h2, ← kept core0_writes Y (r := main_v72_7) (by decide +kernel)]
  exact update_at core0_writes Y 36 n (ta := .of main_v72_7) (tb := .of main_while0b_call10_v0) (ty := .of main_while0b_v171) (t0 := .of main_v72_5)
    (t1 := .of main_while0b_call10_c) (t2 := .of main_while0b_call10_c_0) (t3 := .of main_while0b_call10_c_1) (t4 := .of main_while0b_call10_c_2) rfl (ctr0_word Y n hY)
    (zero_word core0_writes Y 32 _ rfl) (zero_word core0_writes Y 33 _ rfl) (zero_word core0_writes Y 34 _ rfl) (zero_word core0_writes Y 35 _ rfl) m b h i e

include hY hR in
/-- The states gathered so far. -/
theorem states0_at (m : Fin 65) (b : Fin 2) (h : Fin 4) (d : Fin 256) (e : Fin 512) :
    after core0Ops Y (Proc.devRef .tc main_while0b_v172) (ix5 m b h d e)
      = if m = n then R b h d e else Y (Proc.devRef .tc main_v72_8) (ix5 m b h d e) := by
  have h1 := (congrFun (kept core0_writes Y (r := main_v72_6) (by decide +kernel)) (ix4 b h d e)).trans (hR b h d e)
  have h2 : after core0Ops Y (Proc.devRef .tc main_while0b_call11_v0) (ix5 0 b h d e) = R b h d e := by
    rw [unary_at core0_writes Y 37 (y := main_while0b_call11_v0) (x := main_v72_6) (f := broadcastInDim S1x2x4x256x512 ![1, 2, 3, 4] bcast_S2x4x256x512_S1x2x4x256x512_1_2_3_4) rfl]
    pointwise [h1]
  rw [← h2, ← kept core0_writes Y (r := main_v72_8) (by decide +kernel)]
  exact update_at core0_writes Y 42 n (ta := .of main_v72_8) (tb := .of main_while0b_call11_v0) (ty := .of main_while0b_v172) (t0 := .of main_v72_5)
    (t1 := .of main_while0b_call11_c) (t2 := .of main_while0b_call11_c_0) (t3 := .of main_while0b_call11_c_1) (t4 := .of main_while0b_call11_c_2) rfl (ctr0_word Y n hY)
    (zero_word core0_writes Y 38 _ rfl) (zero_word core0_writes Y 39 _ rfl) (zero_word core0_writes Y 40 _ rfl) (zero_word core0_writes Y 41 _ rfl) m b h d e

end Trip

/-! ## The buffers a trip leaves for the next -/

theorem trip0_state (Y : Valuation τ sig (Elt Ideal)) : afterL body0I Y (Proc.devRef .tc main_v72_6) = after core0Ops Y (Proc.devRef .tc main_while0b_v170) := by
  rw [afterL_eq_after_flatten, after_split body0Ops 43]
  have h : ∀ Z : Valuation τ sig (Elt Ideal), after (body0Ops.drop 43) Z (Proc.devRef .tc main_v72_6) = Z (Proc.devRef .tc main_while0b_v170) := fun Z => by
    show after while0Ops0_7 Z _ = _; after_results; rfl
  exact h _

theorem trip0_outs (Y : Valuation τ sig (Elt Ideal)) : afterL body0I Y (Proc.devRef .tc main_v72_7) = after core0Ops Y (Proc.devRef .tc main_while0b_v171) := by
  rw [afterL_eq_after_flatten, after_split body0Ops 43]
  have h : ∀ Z : Valuation τ sig (Elt Ideal), after (body0Ops.drop 43) Z (Proc.devRef .tc main_v72_7) = Z (Proc.devRef .tc main_while0b_v171) := fun Z => by
    show after while0Ops0_7 Z _ = _; after_results; rfl
  exact h _

theorem trip0_states (Y : Valuation τ sig (Elt Ideal)) : afterL body0I Y (Proc.devRef .tc main_v72_8) = after core0Ops Y (Proc.devRef .tc main_while0b_v172) := by
  rw [afterL_eq_after_flatten, after_split body0Ops 43]
  have h : ∀ Z : Valuation τ sig (Elt Ideal), after (body0Ops.drop 43) Z (Proc.devRef .tc main_v72_8) = Z (Proc.devRef .tc main_while0b_v172) := fun Z => by
    show after while0Ops0_7 Z _ = _; after_results; rfl
  exact h _

end Cert.Ref

end
-- ==== Proof.RefLoop.lean ====
/- The reference's first loop run through: every chunk's state and output, and from them the output array. -/
module

public import proofs.«01_k».proof.Proof.RefFwd

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

variable (m : (ℓ : Loc nD τ sig) → Buf (Elt Ideal) ℓ) (c : Dev nD)

/-- The buffers at the launch. -/
abbrev L : Valuation τ sig (Elt Ideal) := launchContents m c

theorem U0_eq (r : DevRef τ sig) : U0 m c r = Pre (L m c) r := by
  unfold U0 Pre
  rw [afterL_eq_after_flatten]

/-- What the first loop reads on every trip. -/
theorem qd_X0 (k : ℕ) (n : Fin 65) (b : Fin 2) (h : Fin 4) (i : Fin 64) (d : Fin 256) :
    X0 m k c (Proc.devRef .tc main_v72_0) (ix5 n b h i d) = ((data (L m c) b).chunk n.val h).qd i d := by
  rw [X0_kept m (by decide +kernel) (by decide +kernel), U0_eq, ← qd_at]
  exact congrFun (unary_at pre_writes (L m c) 136 (y := main_v72_0) (x := main_v52) (f := fun x => x) rfl) _
theorem kd_X0 (k : ℕ) (n : Fin 65) (b : Fin 2) (h : Fin 4) (i : Fin 64) (d : Fin 256) :
    X0 m k c (Proc.devRef .tc main_v72_1) (ix5 n b h i d) = ((data (L m c) b).chunk n.val h).kd i d := by
  rw [X0_kept m (by decide +kernel) (by decide +kernel), U0_eq, ← kd_at]
  exact congrFun (unary_at pre_writes (L m c) 137 (y := main_v72_1) (x := main_v63) (f := fun x => x) rfl) _
theorem qk_X0 (k : ℕ) (n : Fin 65) (b : Fin 2) (h : Fin 4) (i j : Fin 64) :
    X0 m k c (Proc.devRef .tc main_v72_2) (ix5 n b h i j) = ((data (L m c) b).chunk n.val h).qk i j := by
  rw [X0_kept m (by decide +kernel) (by decide +kernel), U0_eq, ← qk_at]
  exact congrFun (unary_at pre_writes (L m c) 138 (y := main_v72_2) (x := main_v41) (f := fun x => x) rfl) _
theorem v_X0 (k : ℕ) (n : Fin 65) (b : Fin 2) (h : Fin 4) (i : Fin 64) (e : Fin 512) :
    X0 m k c (Proc.devRef .tc main_v72_3) (ix5 n b h i e) = ((data (L m c) b).chunk n.val h).v i e := by
  rw [X0_kept m (by decide +kernel) (by decide +kernel), U0_eq, ← v_at]
  exact congrFun (unary_at pre_writes (L m c) 139 (y := main_v72_3) (x := main_v17) (f := fun x => x) rfl) _
theorem wr_X0 (k : ℕ) (h : Fin 4) : X0 m k c (Proc.devRef .tc main_v72_4) (ix4 0 h 0 0) = wr (lsig (logit (L m c) h)) := by
  rw [X0_kept m (by decide +kernel) (by decide +kernel), U0_eq, ← wr4_at (L m c) 0 h 0 0]
  exact congrFun (unary_at pre_writes (L m c) 140 (y := main_v72_4) (x := main_v69) (f := fun x => x) rfl) _

/-- Chunk `n`'s output for head `h` of batch row `b`. -/
def outOf (b : Fin 2) (h : Fin 4) (n : ℕ) (i : Fin 64) (e : Fin 512) : EReal :=
  ((data (L m c) b).chunk n h).out ((data (L m c) b).R h n) i e

/-- Before the `k`-th test the loop holds the state before chunk `k`, and the outputs and states of the chunks before it. -/
theorem X0_inv : ∀ k ≤ 65,
    (∀ b h d e, X0 m k c (Proc.devRef .tc main_v72_6) (ix4 b h d e) = (data (L m c) b).R h k d e)
    ∧ (∀ (n : Fin 65) b h i e, n.val < k → X0 m k c (Proc.devRef .tc main_v72_7) (ix5 n b h i e) = outOf m c b h n.val i e)
    ∧ (∀ (n : Fin 65) b h d e, n.val < k → X0 m k c (Proc.devRef .tc main_v72_8) (ix5 n b h d e) = (data (L m c) b).R h n.val d e)
  | 0, _ => by
    refine ⟨fun b h d e => ?_, fun n b h i e hn => absurd hn (Nat.not_lt_zero _), fun n b h d e hn => absurd hn (Nat.not_lt_zero _)⟩
    rw [show X0 m 0 c = U0 m c from rfl, U0_eq]
    exact (congrFun (unary_at pre_writes (L m c) 142 (y := main_v72_6) (x := main_v68) (f := fun x => x) rfl) _).trans (zero_at (L m c) b h d e)
  | k + 1, hk => by
    obtain ⟨h6, h7, h8⟩ := X0_inv k (by omega)
    have hY : ∀ {r : Ref sig .tc}, r ∉ [main_while0c_c_41, main_while0c_v160] →
        after cond0Ops (X0 m k c) (Proc.devRef .tc r) = X0 m k c (Proc.devRef .tc r) := fun hr => kept cond0_writes _ hr
    have hc : after cond0Ops (X0 m k c) (Proc.devRef .tc main_v72_5) = fun _ => Scf.iv 0#32 1#32 k :=
      (hY (by decide +kernel)).trans (ctr0_at (U0 m) (U0_ctr m) c k)
    have hR : ∀ b h d e, after cond0Ops (X0 m k c) (Proc.devRef .tc main_v72_6) (ix4 b h d e) = (data (L m c) b).R h k d e :=
      fun b h d e => by rw [hY (by decide +kernel), h6]
    have hQ : ∀ b h i d, after cond0Ops (X0 m k c) (Proc.devRef .tc main_v72_0) (ix5 ⟨k, hk⟩ b h i d) = ((data (L m c) b).chunk k h).qd i d :=
      fun b h i d => by rw [hY (by decide +kernel), qd_X0]
    have hK : ∀ b h i d, after cond0Ops (X0 m k c) (Proc.devRef .tc main_v72_1) (ix5 ⟨k, hk⟩ b h i d) = ((data (L m c) b).chunk k h).kd i d :=
      fun b h i d => by rw [hY (by decide +kernel), kd_X0]
    have hP : ∀ b h i d, after cond0Ops (X0 m k c) (Proc.devRef .tc main_v72_2) (ix5 ⟨k, hk⟩ b h i d) = ((data (L m c) b).chunk k h).qk i d :=
      fun b h i d => by rw [hY (by decide +kernel), qk_X0]
    have hV : ∀ b h i d, after cond0Ops (X0 m k c) (Proc.devRef .tc main_v72_3) (ix5 ⟨k, hk⟩ b h i d) = ((data (L m c) b).chunk k h).v i d :=
      fun b h i d => by rw [hY (by decide +kernel), v_X0]
    have hD : ∀ (b : Fin 2) h, after cond0Ops (X0 m k c) (Proc.devRef .tc main_v72_4) (ix4 0 h 0 0) = wr ((data (L m c) b).chunk k h).lg :=
      fun b h => by rw [hY (by decide +kernel), wr_X0]; rfl
    rw [show X0 m (k + 1) c = afterL body0I (after cond0Ops (X0 m k c)) from rfl]
    refine ⟨fun b h d e => ?_, fun n b h i e hn => ?_, fun n b h d e hn => ?_⟩
    · rw [trip0_state]
      exact next0_at _ ⟨k, hk⟩ hc (fun b h => (data (L m c) b).chunk k h) (fun b h => (data (L m c) b).R h k) hK hV hD hR b h d e
    · rw [trip0_outs, outs0_at _ ⟨k, hk⟩ hc (fun b h => (data (L m c) b).chunk k h) (fun b h => (data (L m c) b).R h k) hQ hP hV hR n b h i e]
      split
      · next he => subst he; rfl
      · next he => rw [hY (by decide +kernel)]; exact h7 n b h i e (by have : n.val ≠ k := fun h => he (Fin.ext h); omega)
    · rw [trip0_states, states0_at _ ⟨k, hk⟩ hc (fun b h => (data (L m c) b).R h k) hR n b h d e]
      split
      · next he => subst he; rfl
      · next he => rw [hY (by decide +kernel)]; exact h8 n b h d e (by have : n.val ≠ k := fun h => he (Fin.ext h); omega)

/-! ## Between the loops -/

theorem U1_eq (r : DevRef τ sig) : U1 m c r = after midOps (E0 m c) r := by
  unfold U1
  rw [afterL_eq_after_flatten]

theorem outs_E0 (n : Fin 65) (b : Fin 2) (h : Fin 4) (i : Fin 64) (e : Fin 512) :
    E0 m c (Proc.devRef .tc main_v72_7) (ix5 n b h i e) = outOf m c b h n.val i e := by
  unfold E0
  rw [kept cond0_writes _ (by decide +kernel)]
  exact (X0_inv m c 65 (le_refl _)).2.1 n b h i e n.isLt

theorem states_E0 (n : Fin 65) (b : Fin 2) (h : Fin 4) (d : Fin 256) (e : Fin 512) :
    E0 m c (Proc.devRef .tc main_v72_8) (ix5 n b h d e) = (data (L m c) b).R h n.val d e := by
  unfold E0
  rw [kept cond0_writes _ (by decide +kernel)]
  exact (X0_inv m c 65 (le_refl _)).2.2 n b h d e n.isLt

theorem rev_div (r : Fin 4160) : r.rev.val / 64 = chunkOf r := by
  have := r.isLt
  simp only [Fin.val_rev, chunkOf]
  omega

theorem rev_mod (r : Fin 4160) (h : r.rev.val % 64 < 64) : (⟨r.rev.val % 64, h⟩ : Fin 64) = placeOf r := by
  have := r.isLt
  refine Fin.ext ?_
  simp only [Fin.val_rev, placeOf]
  omega

/-- The output array. -/
theorem o_at (b : Fin 2) (r : Fin 4160) (h : Fin 4) (e : Fin 512) :
    U1 m c (Proc.devRef .tc main_v76) (ix3 b r (colAt 0 512 (by decide) h e)) = (data (L m c) b).o r h e := by
  have h7 := outs_E0 m c
  rw [U1_eq]
  rw [reshape_at mid_writes (E0 m c) 3 (y := main_v76) (x := main_v75) rfl,
    unary_at mid_writes (E0 m c) 2 (y := main_v75) (x := main_v74) (f := Host.reverse (s := S2x4160x4x512) [1]) rfl,
    reshape_at mid_writes (E0 m c) 1 (y := main_v74) (x := main_v73) rfl,
    unary_at mid_writes (E0 m c) 0 (y := main_v73) (x := main_v72_7) rfl, kept mid_writes (E0 m c) (r := main_v72_7) (by decide +kernel)]
  unfold colAt
  pointwise [h7]
  exact congrArg₂ (fun n i => outOf m c b h n i e) (rev_div r) (rev_mod r (Nat.mod_lt _ (by decide)))

/-- The cotangents by chunk. -/
theorem go_at (n : Fin 65) (b : Fin 2) (h : Fin 4) (i : Fin 64) (e : Fin 512) :
    U1 m c (Proc.devRef .tc main_v88_0) (ix5 n b h i e) = cot (grads (L m c) b) n.val h i e := by
  rw [U1_eq, unary_at mid_writes (E0 m c) 23 (y := main_v88_0) (x := main_v81) (f := fun x => x) rfl,
    unary_at mid_writes (E0 m c) 9 (y := main_v81) (x := main_v80) rfl,
    reshape_at mid_writes (E0 m c) 8 (y := main_v80) (x := main_v79) rfl,
    unary_at mid_writes (E0 m c) 7 (y := main_v79) (x := main_v78) (f := Host.reverse (s := S2x4160x4x512) [1]) rfl,
    reshape_at mid_writes (E0 m c) 6 (y := main_v78) (x := main_arg3) rfl,
    ← U1_eq, U1_kept m (by decide +kernel) (by decide +kernel) (by decide +kernel), U0_eq]
  unfold Pre
  rw [kept pre_writes (L m c) (by decide +kernel)]
  pointwise
  exact congrArg (L m c (Proc.devRef .tc main_arg3)) (ix3_eq rfl (rev_row n i _) (Fin.ext (by show h.val * 512 + e.val = 0 + (512 * h.val + e.val); omega)))

end Cert.Ref

end
-- ==== Proof.RefSum.lean ====
/- Sums over several axes of an array at once, as sums over one axis after another. -/
module

public import Idealize.ShloMosaic.Lib.Pointwise

@[expose] public section

noncomputable section

namespace Cert.Read

open Idealize.ShloMosaic

variable {n0 n1 n2 n3 n4 : ℕ}

/-- Rank four, all axes but the second. -/
theorem reduceAdd_023 (h : (⟨4, ![n0, n1, n2, n3]⟩ : Shape).ReducesTo [0, 2, 3] ⟨1, ![n1]⟩)
    (x : (⟨4, ![n0, n1, n2, n3]⟩ : Shape).Idx → EReal) (init : EReal) (j : Fin n1) :
    Ideal.hostReduceAdd h x init (ix1 j) = init + ∑ a, ∑ b, ∑ c, x (ix4 a j b c) := by
  refine congrArg (init + ·) ((Finset.sum_filter_eq_sum_of_fiber _ (fun k : Fin n0 × Fin n2 × Fin n3 => ix4 k.1 j k.2.1 k.2.2)
    (fun _ _ e => Prod.ext (congrFun e 0) (Prod.ext (congrFun e 2) (congrFun e 3))) (fun i => ⟨fun e => ?_, ?_⟩) x).trans (by simp only [Fintype.sum_prod_type]))
  · refine ⟨(i 0, i 2, i 3), funext fun a => Fin.ext ?_⟩
    match a with
    | ⟨0, _⟩ => rfl
    | ⟨1, _⟩ => exact (congrArg Fin.val (congrFun e 0)).symm
    | ⟨2, _⟩ => rfl
    | ⟨3, _⟩ => rfl
  · rintro ⟨k, rfl⟩
    funext b
    apply Fin.ext
    match b with
    | ⟨0, _⟩ => rfl

/-- Rank five, all axes but the third and the fourth. -/
theorem reduceAdd_014 (h : (⟨5, ![n0, n1, n2, n3, n4]⟩ : Shape).ReducesTo [0, 1, 4] ⟨2, ![n2, n3]⟩)
    (x : (⟨5, ![n0, n1, n2, n3, n4]⟩ : Shape).Idx → EReal) (init : EReal) (i : Fin n2) (j : Fin n3) :
    Ideal.hostReduceAdd h x init (ix2 i j) = init + ∑ a, ∑ b, ∑ c, x (ix5 a b i j c) := by
  refine congrArg (init + ·) ((Finset.sum_filter_eq_sum_of_fiber _ (fun k : Fin n0 × Fin n1 × Fin n4 => ix5 k.1 k.2.1 i j k.2.2)
    (fun _ _ e => Prod.ext (congrFun e 0) (Prod.ext (congrFun e 1) (congrFun e 4))) (fun z => ⟨fun e => ?_, ?_⟩) x).trans (by simp only [Fintype.sum_prod_type]))
  · refine ⟨(z 0, z 1, z 4), funext fun a => Fin.ext ?_⟩
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b
    apply Fin.ext
    match b with
    | ⟨0, _⟩ => rfl
    | ⟨1, _⟩ => rfl

/-- Rank five, the two leading axes. -/
theorem reduceAdd_01 (h : (⟨5, ![n0, n1, n2, n3, n4]⟩ : Shape).ReducesTo [0, 1] ⟨3, ![n2, n3, n4]⟩)
    (x : (⟨5, ![n0, n1, n2, n3, n4]⟩ : Shape).Idx → EReal) (init : EReal) (i : Fin n2) (j : Fin n3) (l : Fin n4) :
    Ideal.hostReduceAdd h x init (ix3 i j l) = init + ∑ a, ∑ b, x (ix5 a b i j l) := by
  refine congrArg (init + ·) ((Finset.sum_filter_eq_sum_of_fiber _ (fun k : Fin n0 × Fin n1 => ix5 k.1 k.2 i j l)
    (fun _ _ e => Prod.ext (congrFun e 0) (congrFun e 1)) (fun z => ⟨fun e => ?_, ?_⟩) x).trans (by simp only [Fintype.sum_prod_type]))
  · refine ⟨(z 0, z 1), funext fun a => Fin.ext ?_⟩
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl

end Cert.Read
-- ==== Proof.RefBwd.lean ====
/- The reference's second loop: what one trip computes, the gradients of one chunk. -/
module

public import proofs.«01_k».proof.Proof.RefSlice
public import proofs.«01_k».proof.Proof.RefSum
public import proofs.«01_k».proof.Proof.RetSpec

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

/-- The second loop's body up to the lines that carry its results to the next trip. -/
abbrev core1Ops : List (HloOp τ sig (Elt Ideal)) := body1Ops.take 86
theorem core1_writes : core1Ops.map HloOp.writes = (body1W.take 86).map fun r => {Proc.devRef (τ := τ) .tc r} := by
  rw [List.map_take, body1_writes, List.map_take]

section Trip

variable (Y : Valuation τ sig (Elt Ideal)) (n : Fin 65) (k : ℕ) (hk : n.val + k = 64)
  (hY : Y (Proc.devRef .tc main_v88_7) = fun _ => Scf.iv 0#32 1#32 k)

include hk hY in
/-- The chunk the trip works on, counted from the last. -/
theorem ctr1_word : word core1Ops Y (.of main_while1b_v161) = n.val := by
  unfold word
  have h : ∀ k : Fin 65, (65#32 - Scf.iv 0#32 1#32 k.val - 1#32).toInt = 64 - (k.val : ℤ) := by decide +kernel
  have h0 := (kept core1_writes Y (r := main_v88_7) (by decide +kernel)).trans hY
  have h1 := binary_at core1_writes Y 3 (y := main_while1b_v161) (a := main_while1b_v160) (b := main_while1b_c_47) rfl
  rw [binary_at core1_writes Y 1 (y := main_while1b_v160) (a := main_while1b_c_46) (b := main_v88_7) rfl, h0,
    nullary_at core1_writes Y 0 (y := main_while1b_c_46) rfl, nullary_at core1_writes Y 2 (y := main_while1b_c_47) rfl] at h1
  have h2 := h ⟨k, by omega⟩
  refine (congrArg (fun z : S_.Idx → BitVec 32 => (z (Shape.Idx.first h_S_)).toInt) h1).trans (Eq.trans h2 ?_)
  show 64 - (k : ℤ) = n.val
  omega

include hk hY in
/-- The trip's output cotangents, -/
theorem do1_at (b : Fin 2) (h : Fin 4) (i : Fin 64) (d : Fin 512) :
    after core1Ops Y (Proc.devRef .tc main_while1b_v162) (ix4 b h i d) = Y (Proc.devRef .tc main_v88_0) (ix5 n b h i d) := by
  rw [reshape_at core1_writes Y 9 (y := main_while1b_v162) (x := main_while1b_call14_v0) rfl, ← kept core1_writes Y (r := main_v88_0) (by decide +kernel)]
  pointwise
  exact slice_at core1_writes Y 8 n (ta := .of main_v88_0) (ty := .of main_while1b_call14_v0) (t0 := .of main_while1b_v161) (t1 := .of main_while1b_call14_c)
    (t2 := .of main_while1b_call14_c_0) (t3 := .of main_while1b_call14_c_1) (t4 := .of main_while1b_call14_c_2) rfl (ctr1_word Y n k hk hY)
    (zero_word core1_writes Y 4 _ rfl) (zero_word core1_writes Y 5 _ rfl) (zero_word core1_writes Y 6 _ rfl) (zero_word core1_writes Y 7 _ rfl) 0 b h i d

include hk hY in
/-- state, -/
theorem r1_at (b : Fin 2) (h : Fin 4) (i : Fin 256) (d : Fin 512) :
    after core1Ops Y (Proc.devRef .tc main_while1b_v163) (ix4 b h i d) = Y (Proc.devRef .tc main_v88_1) (ix5 n b h i d) := by
  rw [reshape_at core1_writes Y 15 (y := main_while1b_v163) (x := main_while1b_call15_v0) rfl, ← kept core1_writes Y (r := main_v88_1) (by decide +kernel)]
  pointwise
  exact slice_at core1_writes Y 14 n (ta := .of main_v88_1) (ty := .of main_while1b_call15_v0) (t0 := .of main_while1b_v161) (t1 := .of main_while1b_call15_c)
    (t2 := .of main_while1b_call15_c_0) (t3 := .of main_while1b_call15_c_1) (t4 := .of main_while1b_call15_c_2) rfl (ctr1_word Y n k hk hY)
    (zero_word core1_writes Y 10 _ rfl) (zero_word core1_writes Y 11 _ rfl) (zero_word core1_writes Y 12 _ rfl) (zero_word core1_writes Y 13 _ rfl) 0 b h i d

include hk hY in
/-- decayed queries, -/
theorem qd1_at (b : Fin 2) (h : Fin 4) (i : Fin 64) (d : Fin 256) :
    after core1Ops Y (Proc.devRef .tc main_while1b_v164) (ix4 b h i d) = Y (Proc.devRef .tc main_v88_2) (ix5 n b h i d) := by
  rw [reshape_at core1_writes Y 21 (y := main_while1b_v164) (x := main_while1b_call16_v0) rfl, ← kept core1_writes Y (r := main_v88_2) (by decide +kernel)]
  pointwise
  exact slice_at core1_writes Y 20 n (ta := .of main_v88_2) (ty := .of main_while1b_call16_v0) (t0 := .of main_while1b_v161) (t1 := .of main_while1b_call16_c)
    (t2 := .of main_while1b_call16_c_0) (t3 := .of main_while1b_call16_c_1) (t4 := .of main_while1b_call16_c_2) rfl (ctr1_word Y n k hk hY)
    (zero_word core1_writes Y 16 _ rfl) (zero_word core1_writes Y 17 _ rfl) (zero_word core1_writes Y 18 _ rfl) (zero_word core1_writes Y 19 _ rfl) 0 b h i d

include hk hY in
/-- values, -/
theorem v1_at (b : Fin 2) (h : Fin 4) (i : Fin 64) (d : Fin 512) :
    after core1Ops Y (Proc.devRef .tc main_while1b_v165) (ix4 b h i d) = Y (Proc.devRef .tc main_v88_3) (ix5 n b h i d) := by
  rw [reshape_at core1_writes Y 27 (y := main_while1b_v165) (x := main_while1b_call17_v0) rfl, ← kept core1_writes Y (r := main_v88_3) (by decide +kernel)]
  pointwise
  exact slice_at core1_writes Y 26 n (ta := .of main_v88_3) (ty := .of main_while1b_call17_v0) (t0 := .of main_while1b_v161) (t1 := .of main_while1b_call17_c)
    (t2 := .of main_while1b_call17_c_0) (t3 := .of main_while1b_call17_c_1) (t4 := .of main_while1b_call17_c_2) rfl (ctr1_word Y n k hk hY)
    (zero_word core1_writes Y 22 _ rfl) (zero_word core1_writes Y 23 _ rfl) (zero_word core1_writes Y 24 _ rfl) (zero_word core1_writes Y 25 _ rfl) 0 b h i d

include hk hY in
/-- masked product -/
theorem qk1_at (b : Fin 2) (h : Fin 4) (i : Fin 64) (d : Fin 64) :
    after core1Ops Y (Proc.devRef .tc main_while1b_v166) (ix4 b h i d) = Y (Proc.devRef .tc main_v88_4) (ix5 n b h i d) := by
  rw [reshape_at core1_writes Y 33 (y := main_while1b_v166) (x := main_while1b_call18_v0) rfl, ← kept core1_writes Y (r := main_v88_4) (by decide +kernel)]
  pointwise
  exact slice_at core1_writes Y 32 n (ta := .of main_v88_4) (ty := .of main_while1b_call18_v0) (t0 := .of main_while1b_v161) (t1 := .of main_while1b_call18_c)
    (t2 := .of main_while1b_call18_c_0) (t3 := .of main_while1b_call18_c_1) (t4 := .of main_while1b_call18_c_2) rfl (ctr1_word Y n k hk hY)
    (zero_word core1_writes Y 28 _ rfl) (zero_word core1_writes Y 29 _ rfl) (zero_word core1_writes Y 30 _ rfl) (zero_word core1_writes Y 31 _ rfl) 0 b h i d

include hk hY in
/-- and decayed keys. -/
theorem kd1_at (b : Fin 2) (h : Fin 4) (i : Fin 64) (d : Fin 256) :
    after core1Ops Y (Proc.devRef .tc main_while1b_v167) (ix4 b h i d) = Y (Proc.devRef .tc main_v88_5) (ix5 n b h i d) := by
  rw [reshape_at core1_writes Y 39 (y := main_while1b_v167) (x := main_while1b_call19_v0) rfl, ← kept core1_writes Y (r := main_v88_5) (by decide +kernel)]
  pointwise
  exact slice_at core1_writes Y 38 n (ta := .of main_v88_5) (ty := .of main_while1b_call19_v0) (t0 := .of main_while1b_v161) (t1 := .of main_while1b_call19_c)
    (t2 := .of main_while1b_call19_c_0) (t3 := .of main_while1b_call19_c_1) (t4 := .of main_while1b_call19_c_2) rfl (ctr1_word Y n k hk hY)
    (zero_word core1_writes Y 34 _ rfl) (zero_word core1_writes Y 35 _ rfl) (zero_word core1_writes Y 36 _ rfl) (zero_word core1_writes Y 37 _ rfl) 0 b h i d

variable (C : Fin 2 → Fin 4 → Chunk) (R : Fin 2 → Fin 4 → Fin 256 → Fin 512 → EReal)
  (go : Fin 2 → Fin 4 → Fin 64 → Fin 512 → EReal) (g : Fin 2 → Fin 4 → Fin 256 → Fin 512 → EReal) (acc : Fin 4 → EReal)
  (hO : ∀ b h i e, Y (Proc.devRef .tc main_v88_0) (ix5 n b h i e) = go b h i e)
  (hS : ∀ b h d e, Y (Proc.devRef .tc main_v88_1) (ix5 n b h d e) = R b h d e)
  (hQ : ∀ b h i d, Y (Proc.devRef .tc main_v88_2) (ix5 n b h i d) = (C b h).qd i d)
  (hV : ∀ b h i e, Y (Proc.devRef .tc main_v88_3) (ix5 n b h i e) = (C b h).v i e)
  (hP : ∀ b h i j, Y (Proc.devRef .tc main_v88_4) (ix5 n b h i j) = (C b h).qk i j)
  (hK : ∀ b h i d, Y (Proc.devRef .tc main_v88_5) (ix5 n b h i d) = (C b h).kd i d)
  (hD : ∀ b h, Y (Proc.devRef .tc main_v88_6) (ix4 0 h 0 0) = wr (C b h).lg)
  (hA : ∀ h, Y (Proc.devRef .tc main_v88_8) (ix3 h 0 0) = acc h)
  (hG : ∀ b h d e, Y (Proc.devRef .tc main_v88_9) (ix4 b h d e) = g b h d e)

include hG in
theorem g1_at (b : Fin 2) (h : Fin 4) (d : Fin 256) (e : Fin 512) : after core1Ops Y (Proc.devRef .tc main_v88_9) (ix4 b h d e) = g b h d e :=
  (congrFun (kept core1_writes Y (r := main_v88_9) (by decide +kernel)) (ix4 b h d e)).trans (hG b h d e)

include hk hY hO hS in
/-- The gradient of the decayed queries, -/
theorem gqd1_at (b : Fin 2) (h : Fin 4) (i : Fin 64) (d : Fin 256) :
    after core1Ops Y (Proc.devRef .tc main_while1b_v187) (ix4 b h i d) = gqd (R b h) (go b h) i d := by
  have h1 := fun e => (do1_at Y n k hk hY b h i e).trans (hO b h i e)
  have h2 := fun e => (r1_at Y n k hk hY b h d e).trans (hS b h d e)
  rw [binary_at core1_writes Y 61 (y := main_while1b_v187) (a := main_while1b_v162) (b := main_while1b_v163) rfl]
  pointwise [h1, h2]
  rfl

include hk hY hV hG in
/-- of the decayed keys, -/
theorem gkd1_at (b : Fin 2) (h : Fin 4) (i : Fin 64) (d : Fin 256) :
    after core1Ops Y (Proc.devRef .tc main_while1b_v171) (ix4 b h i d) = (C b h).gkd (g b h) i d := by
  have h1 := fun e => (v1_at Y n k hk hY b h i e).trans (hV b h i e)
  have h2 := fun e => g1_at Y g hG b h d e
  rw [unary_at core1_writes Y 43 (y := main_while1b_v171) (x := main_while1b_v170) rfl,
    binary_at core1_writes Y 42 (y := main_while1b_v170) (a := main_v88_9) (b := main_while1b_v165) rfl]
  pointwise [h1, h2]
  rfl

include hk hY hO hV in
/-- of the masked product, -/
theorem gqk1_at (b : Fin 2) (h : Fin 4) (i j : Fin 64) :
    after core1Ops Y (Proc.devRef .tc main_while1b_v183) (ix4 b h i j) = (C b h).gqk (go b h) i j := by
  have h1 := fun e => (do1_at Y n k hk hY b h i e).trans (hO b h i e)
  have h2 := fun e => (v1_at Y n k hk hY b h j e).trans (hV b h j e)
  rw [binary_at core1_writes Y 57 (y := main_while1b_v183) (a := main_while1b_v162) (b := main_while1b_v165) rfl]
  pointwise [h1, h2]
  rfl

include hk hY hO hP hK hG in
/-- of the values, -/
theorem gv1_at (b : Fin 2) (h : Fin 4) (j : Fin 64) (e : Fin 512) :
    after core1Ops Y (Proc.devRef .tc main_while1b_v182) (ix4 b h j e) = (C b h).gv (go b h) (g b h) j e := by
  have h1 := fun i => (do1_at Y n k hk hY b h i e).trans (hO b h i e)
  have h2 := fun i => (qk1_at Y n k hk hY b h i j).trans (hP b h i j)
  have h3 := fun d => (kd1_at Y n k hk hY b h j d).trans (hK b h j d)
  have h4 := fun d => g1_at Y g hG b h d e
  rw [binary_at core1_writes Y 56 (y := main_while1b_v182) (a := main_while1b_v169) (b := main_while1b_v181) rfl,
    unary_at core1_writes Y 55 (y := main_while1b_v181) (x := main_while1b_v180) rfl,
    binary_at core1_writes Y 54 (y := main_while1b_v180) (a := main_while1b_v162) (b := main_while1b_v166) rfl,
    unary_at core1_writes Y 41 (y := main_while1b_v169) (x := main_while1b_v168) rfl,
    binary_at core1_writes Y 40 (y := main_while1b_v168) (a := main_v88_9) (b := main_while1b_v167) rfl]
  pointwise [h1, h2, h3, h4]
  rfl

include hk hY hO hQ hD hG in
/-- and of the state. -/
theorem gr1_at (b : Fin 2) (h : Fin 4) (d : Fin 256) (e : Fin 512) :
    after core1Ops Y (Proc.devRef .tc main_while1b_v186) (ix4 b h d e) = (C b h).gr (go b h) (g b h) d e := by
  have h1 := fun i => (do1_at Y n k hk hY b h i e).trans (hO b h i e)
  have h2 := fun i => (qd1_at Y n k hk hY b h i d).trans (hQ b h i d)
  have h3 := (congrFun (kept core1_writes Y (r := main_v88_6) (by decide +kernel)) (ix4 0 h 0 0)).trans (hD b h)
  have h4 := g1_at Y g hG b h d e
  rw [binary_at core1_writes Y 60 (y := main_while1b_v186) (a := main_while1b_v176) (b := main_while1b_v185) rfl,
    unary_at core1_writes Y 59 (y := main_while1b_v185) (x := main_while1b_v184) rfl,
    binary_at core1_writes Y 58 (y := main_while1b_v184) (a := main_while1b_v162) (b := main_while1b_v164) rfl,
    binary_at core1_writes Y 49 (y := main_while1b_v176) (a := main_v88_9) (b := main_while1b_v175) rfl,
    unary_at core1_writes Y 48 (y := main_while1b_v175) (x := main_v88_6) rfl]
  pointwise [h1, h2, h3, h4]
  rfl

include hk hY hS hA hG in
/-- The state decay's gradient so far. -/
theorem acc1_at (h : Fin 4) :
    after core1Ops Y (Proc.devRef .tc main_while1b_v179) (ix3 h 0 0) = acc h + ∑ b, ∑ d, ∑ e, R b h d e * g b h d e := by
  have h1 := fun b d e => (r1_at Y n k hk hY b h d e).trans (hS b h d e)
  have h2 := fun b d e => g1_at Y g hG b h d e
  have h3 := (congrFun (kept core1_writes Y (r := main_v88_8) (by decide +kernel)) (ix3 h 0 0)).trans (hA h)
  rw [binary_at core1_writes Y 53 (y := main_while1b_v179) (a := main_v88_8) (b := main_while1b_v178) rfl,
    unary_at core1_writes Y 52 (y := main_while1b_v178) (x := main_while1b_v177) rfl,
    binary_at core1_writes Y 51 (y := main_while1b_v177) (a := main_while1b_v174) (b := main_while1b_cst_49) rfl,
    nullary_at core1_writes Y 50 (y := main_while1b_cst_49) rfl,
    reshape_at core1_writes Y 47 (y := main_while1b_v174) (x := main_while1b_v173) rfl,
    binary_at core1_writes Y 46 (y := main_while1b_v173) (a := main_while1b_v172) (b := main_while1b_cst_48) rfl,
    nullary_at core1_writes Y 45 (y := main_while1b_cst_48) rfl,
    binary_at core1_writes Y 44 (y := main_while1b_v172) (a := main_while1b_v163) (b := main_v88_9) rfl]
  pointwise [h1, h2, h3]
  refine congrArg (acc h + ·) ((reduceAdd_023 _ _ 0 h).trans ((zero_add _).trans ?_))
  simp only [Fin.sum_univ_one]
  refine (reduceAdd_023 _ _ 0 h).trans ((zero_add _).trans ?_)
  refine Finset.sum_congr rfl fun b _ => Finset.sum_congr rfl fun d _ => Finset.sum_congr rfl fun e _ => ?_
  pointwise [h1, h2]

include hk hY hO hS in
/-- The decayed queries' gradients gathered so far, -/
theorem gqds1_at (m : Fin 65) (b : Fin 2) (h : Fin 4) (i : Fin 64) (d : Fin 256) :
    after core1Ops Y (Proc.devRef .tc main_while1b_v188) (ix5 m b h i d)
      = if m = n then gqd (R b h) (go b h) i d else Y (Proc.devRef .tc main_v88_10) (ix5 m b h i d) := by
  have h1 := gqd1_at Y n k hk hY R go hO hS b h i d
  have h2 : after core1Ops Y (Proc.devRef .tc main_while1b_call20_v0) (ix5 0 b h i d) = gqd (R b h) (go b h) i d := by
    rw [unary_at core1_writes Y 62 (y := main_while1b_call20_v0) (x := main_while1b_v187) (f := broadcastInDim S1x2x4x64x256 ![1, 2, 3, 4] bcast_S2x4x64x256_S1x2x4x64x256_1_2_3_4) rfl]
    pointwise [h1]
  rw [← h2, ← kept core1_writes Y (r := main_v88_10) (by decide +kernel)]
  exact update_at core1_writes Y 67 n (ta := .of main_v88_10) (tb := .of main_while1b_call20_v0) (ty := .of main_while1b_v188) (t0 := .of main_while1b_v161)
    (t1 := .of main_while1b_call20_c) (t2 := .of main_while1b_call20_c_0) (t3 := .of main_while1b_call20_c_1) (t4 := .of main_while1b_call20_c_2) rfl (ctr1_word Y n k hk hY)
    (zero_word core1_writes Y 63 _ rfl) (zero_word core1_writes Y 64 _ rfl) (zero_word core1_writes Y 65 _ rfl) (zero_word core1_writes Y 66 _ rfl) m b h i d

include hk hY hV hG in
/-- the decayed keys', -/
theorem gkds1_at (m : Fin 65) (b : Fin 2) (h : Fin 4) (i : Fin 64) (d : Fin 256) :
    after core1Ops Y (Proc.devRef .tc main_while1b_v189) (ix5 m b h i d)
      = if m = n then (C b h).gkd (g b h) i d else Y (Proc.devRef .tc main_v88_11) (ix5 m b h i d) := by
  have h1 := gkd1_at Y n k hk hY C g hV hG b h i d
  have h2 : after core1Ops Y (Proc.devRef .tc main_while1b_call21_v0) (ix5 0 b h i d) = (C b h).gkd (g b h) i d := by
    rw [unary_at core1_writes Y 68 (y := main_while1b_call21_v0) (x := main_while1b_v171) (f := broadcastInDim S1x2x4x64x256 ![1, 2, 3, 4] bcast_S2x4x64x256_S1x2x4x64x256_1_2_3_4) rfl]
    pointwise [h1]
  rw [← h2, ← kept core1_writes Y (r := main_v88_11) (by decide +kernel)]
  exact update_at core1_writes Y 73 n (ta := .of main_v88_11) (tb := .of main_while1b_call21_v0) (ty := .of main_while1b_v189) (t0 := .of main_while1b_v161)
    (t1 := .of main_while1b_call21_c) (t2 := .of main_while1b_call21_c_0) (t3 := .of main_while1b_call21_c_1) (t4 := .of main_while1b_call21_c_2) rfl (ctr1_word Y n k hk hY)
    (zero_word core1_writes Y 69 _ rfl) (zero_word core1_writes Y 70 _ rfl) (zero_word core1_writes Y 71 _ rfl) (zero_word core1_writes Y 72 _ rfl) m b h i d

include hk hY hO hV in
/-- the masked product's -/
theorem gqks1_at (m : Fin 65) (b : Fin 2) (h : Fin 4) (i : Fin 64) (d : Fin 64) :
    after core1Ops Y (Proc.devRef .tc main_while1b_v190) (ix5 m b h i d)
      = if m = n then (C b h).gqk (go b h) i d else Y (Proc.devRef .tc main_v88_12) (ix5 m b h i d) := by
  have h1 := gqk1_at Y n k hk hY C go hO hV b h i d
  have h2 : after core1Ops Y (Proc.devRef .tc main_while1b_call22_v0) (ix5 0 b h i d) = (C b h).gqk (go b h) i d := by
    rw [unary_at core1_writes Y 74 (y := main_while1b_call22_v0) (x := main_while1b_v183) (f := broadcastInDim S1x2x4x64x64 ![1, 2, 3, 4] bcast_S2x4x64x64_S1x2x4x64x64_1_2_3_4) rfl]
    pointwise [h1]
  rw [← h2, ← kept core1_writes Y (r := main_v88_12) (by decide +kernel)]
  exact update_at core1_writes Y 79 n (ta := .of main_v88_12) (tb := .of main_while1b_call22_v0) (ty := .of main_while1b_v190) (t0 := .of main_while1b_v161)
    (t1 := .of main_while1b_call22_c) (t2 := .of main_while1b_call22_c_0) (t3 := .of main_while1b_call22_c_1) (t4 := .of main_while1b_call22_c_2) rfl (ctr1_word Y n k hk hY)
    (zero_word core1_writes Y 75 _ rfl) (zero_word core1_writes Y 76 _ rfl) (zero_word core1_writes Y 77 _ rfl) (zero_word core1_writes Y 78 _ rfl) m b h i d

include hk hY hO hK hP hG in
/-- and the values'. -/
theorem gvs1_at (m : Fin 65) (b : Fin 2) (h : Fin 4) (i : Fin 64) (d : Fin 512) :
    after core1Ops Y (Proc.devRef .tc main_while1b_v191) (ix5 m b h i d)
      = if m = n then (C b h).gv (go b h) (g b h) i d else Y (Proc.devRef .tc main_v88_13) (ix5 m b h i d) := by
  have h1 := gv1_at Y n k hk hY C go g hO hP hK hG b h i d
  have h2 : after core1Ops Y (Proc.devRef .tc main_while1b_call23_v0) (ix5 0 b h i d) = (C b h).gv (go b h) (g b h) i d := by
    rw [unary_at core1_writes Y 80 (y := main_while1b_call23_v0) (x := main_while1b_v182) (f := broadcastInDim S1x2x4x64x512 ![1, 2, 3, 4] bcast_S2x4x64x512_S1x2x4x64x512_1_2_3_4) rfl]
    pointwise [h1]
  rw [← h2, ← kept core1_writes Y (r := main_v88_13) (by decide +kernel)]
  exact update_at core1_writes Y 85 n (ta := .of main_v88_13) (tb := .of main_while1b_call23_v0) (ty := .of main_while1b_v191) (t0 := .of main_while1b_v161)
    (t1 := .of main_while1b_call23_c) (t2 := .of main_while1b_call23_c_0) (t3 := .of main_while1b_call23_c_1) (t4 := .of main_while1b_call23_c_2) rfl (ctr1_word Y n k hk hY)
    (zero_word core1_writes Y 81 _ rfl) (zero_word core1_writes Y 82 _ rfl) (zero_word core1_writes Y 83 _ rfl) (zero_word core1_writes Y 84 _ rfl) m b h i d

end Trip

/-! ## The buffers a trip leaves for the next -/

theorem trip1_acc (Y : Valuation τ sig (Elt Ideal)) : afterL body1I Y (Proc.devRef .tc main_v88_8) = after core1Ops Y (Proc.devRef .tc main_while1b_v179) := by
  rw [afterL_eq_after_flatten, after_split body1Ops 86]
  have h : ∀ Z : Valuation τ sig (Elt Ideal), after (body1Ops.drop 86) Z (Proc.devRef .tc main_v88_8) = Z (Proc.devRef .tc main_while1b_v179) := fun Z => by
    show after while1Ops0_12 Z _ = _; after_results; rfl
  exact h _

theorem trip1_state (Y : Valuation τ sig (Elt Ideal)) : afterL body1I Y (Proc.devRef .tc main_v88_9) = after core1Ops Y (Proc.devRef .tc main_while1b_v186) := by
  rw [afterL_eq_after_flatten, after_split body1Ops 86]
  have h : ∀ Z : Valuation τ sig (Elt Ideal), after (body1Ops.drop 86) Z (Proc.devRef .tc main_v88_9) = Z (Proc.devRef .tc main_while1b_v186) := fun Z => by
    show after while1Ops0_12 Z _ = _; after_results; rfl
  exact h _

theorem trip1_gqds (Y : Valuation τ sig (Elt Ideal)) : afterL body1I Y (Proc.devRef .tc main_v88_10) = after core1Ops Y (Proc.devRef .tc main_while1b_v188) := by
  rw [afterL_eq_after_flatten, after_split body1Ops 86]
  have h : ∀ Z : Valuation τ sig (Elt Ideal), after (body1Ops.drop 86) Z (Proc.devRef .tc main_v88_10) = Z (Proc.devRef .tc main_while1b_v188) := fun Z => by
    show after while1Ops0_12 Z _ = _; after_results; rfl
  exact h _

theorem trip1_gkds (Y : Valuation τ sig (Elt Ideal)) : afterL body1I Y (Proc.devRef .tc main_v88_11) = after core1Ops Y (Proc.devRef .tc main_while1b_v189) := by
  rw [afterL_eq_after_flatten, after_split body1Ops 86]
  have h : ∀ Z : Valuation τ sig (Elt Ideal), after (body1Ops.drop 86) Z (Proc.devRef .tc main_v88_11) = Z (Proc.devRef .tc main_while1b_v189) := fun Z => by
    show after while1Ops0_12 Z _ = _; after_results; rfl
  exact h _

theorem trip1_gqks (Y : Valuation τ sig (Elt Ideal)) : afterL body1I Y (Proc.devRef .tc main_v88_12) = after core1Ops Y (Proc.devRef .tc main_while1b_v190) := by
  rw [afterL_eq_after_flatten, after_split body1Ops 86]
  have h : ∀ Z : Valuation τ sig (Elt Ideal), after (body1Ops.drop 86) Z (Proc.devRef .tc main_v88_12) = Z (Proc.devRef .tc main_while1b_v190) := fun Z => by
    show after while1Ops0_12 Z _ = _; after_results; rfl
  exact h _

theorem trip1_gvs (Y : Valuation τ sig (Elt Ideal)) : afterL body1I Y (Proc.devRef .tc main_v88_13) = after core1Ops Y (Proc.devRef .tc main_while1b_v191) := by
  rw [afterL_eq_after_flatten, after_split body1Ops 86]
  have h : ∀ Z : Valuation τ sig (Elt Ideal), after (body1Ops.drop 86) Z (Proc.devRef .tc main_v88_13) = Z (Proc.devRef .tc main_while1b_v191) := fun Z => by
    show after while1Ops0_12 Z _ = _; after_results; rfl
  exact h _

end Cert.Ref

end
-- ==== Proof.RefLoop1.lean ====
/- The reference's second loop run through: every chunk's gradients, and the state decay's gradient. -/
module

public import proofs.«01_k».proof.Proof.RefLoop
public import proofs.«01_k».proof.Proof.RefBwd

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

variable (m : (ℓ : Loc nD τ sig) → Buf (Elt Ideal) ℓ) (c : Dev nD)

/-- A buffer that neither loop nor the operations between them write. -/
theorem U1_pre {r : Ref sig .tc} (h0 : r ∉ midW) (h1 : r ∉ [main_while0c_c_41, main_while0c_v160]) (h2 : r ∉ body0W) :
    after midOps (E0 m c) (Proc.devRef .tc r) = Pre (L m c) (Proc.devRef .tc r) := by
  rw [← U1_eq, U1_kept m h0 h1 h2, U0_eq]

/-! ## What the second loop reads on every trip -/

theorem go_X1 (k : ℕ) (n : Fin 65) (b : Fin 2) (h : Fin 4) (i : Fin 64) (e : Fin 512) :
    X1 m k c (Proc.devRef .tc main_v88_0) (ix5 n b h i e) = cot (grads (L m c) b) n.val h i e := by
  rw [X1_kept m (by decide +kernel) (by decide +kernel), go_at]
theorem r_X1 (k : ℕ) (n : Fin 65) (b : Fin 2) (h : Fin 4) (d : Fin 256) (e : Fin 512) :
    X1 m k c (Proc.devRef .tc main_v88_1) (ix5 n b h d e) = (data (L m c) b).R h n.val d e := by
  rw [X1_kept m (by decide +kernel) (by decide +kernel), U1_eq, unary_at mid_writes (E0 m c) 24 (y := main_v88_1) (x := main_v72_8) (f := fun x => x) rfl,
    kept mid_writes (E0 m c) (r := main_v72_8) (by decide +kernel), states_E0]
theorem qd_X1 (k : ℕ) (n : Fin 65) (b : Fin 2) (h : Fin 4) (i : Fin 64) (d : Fin 256) :
    X1 m k c (Proc.devRef .tc main_v88_2) (ix5 n b h i d) = ((data (L m c) b).chunk n.val h).qd i d := by
  rw [X1_kept m (by decide +kernel) (by decide +kernel), U1_eq, unary_at mid_writes (E0 m c) 25 (y := main_v88_2) (x := main_v52) (f := fun x => x) rfl,
    U1_pre m c (by decide +kernel) (by decide +kernel) (by decide +kernel), qd_at]
theorem v_X1 (k : ℕ) (n : Fin 65) (b : Fin 2) (h : Fin 4) (i : Fin 64) (e : Fin 512) :
    X1 m k c (Proc.devRef .tc main_v88_3) (ix5 n b h i e) = ((data (L m c) b).chunk n.val h).v i e := by
  rw [X1_kept m (by decide +kernel) (by decide +kernel), U1_eq, unary_at mid_writes (E0 m c) 26 (y := main_v88_3) (x := main_v17) (f := fun x => x) rfl,
    U1_pre m c (by decide +kernel) (by decide +kernel) (by decide +kernel), ← v_at]
theorem qk_X1 (k : ℕ) (n : Fin 65) (b : Fin 2) (h : Fin 4) (i j : Fin 64) :
    X1 m k c (Proc.devRef .tc main_v88_4) (ix5 n b h i j) = ((data (L m c) b).chunk n.val h).qk i j := by
  rw [X1_kept m (by decide +kernel) (by decide +kernel), U1_eq, unary_at mid_writes (E0 m c) 27 (y := main_v88_4) (x := main_v41) (f := fun x => x) rfl,
    U1_pre m c (by decide +kernel) (by decide +kernel) (by decide +kernel), qk_at]
theorem kd_X1 (k : ℕ) (n : Fin 65) (b : Fin 2) (h : Fin 4) (i : Fin 64) (d : Fin 256) :
    X1 m k c (Proc.devRef .tc main_v88_5) (ix5 n b h i d) = ((data (L m c) b).chunk n.val h).kd i d := by
  rw [X1_kept m (by decide +kernel) (by decide +kernel), U1_eq, unary_at mid_writes (E0 m c) 28 (y := main_v88_5) (x := main_v63) (f := fun x => x) rfl,
    U1_pre m c (by decide +kernel) (by decide +kernel) (by decide +kernel), kd_at]
theorem wr_X1 (k : ℕ) (h : Fin 4) : X1 m k c (Proc.devRef .tc main_v88_6) (ix4 0 h 0 0) = wr (lsig (logit (L m c) h)) := by
  rw [X1_kept m (by decide +kernel) (by decide +kernel), U1_eq, unary_at mid_writes (E0 m c) 29 (y := main_v88_6) (x := main_v69) (f := fun x => x) rfl,
    U1_pre m c (by decide +kernel) (by decide +kernel) (by decide +kernel), wr4_at]

/-! ## Where it starts -/

theorem zero_U1 (b : Fin 2) (h : Fin 4) (d : Fin 256) (e : Fin 512) : U1 m c (Proc.devRef .tc main_v88_9) (ix4 b h d e) = (0 : EReal) := by
  rw [U1_eq, unary_at mid_writes (E0 m c) 32 (y := main_v88_9) (x := main_v82) (f := fun x => x) rfl,
    unary_at mid_writes (E0 m c) 11 (y := main_v82) (x := main_cst_9) rfl, nullary_at mid_writes (E0 m c) 10 (y := main_cst_9) rfl]
  pointwise
theorem acc_U1 (h : Fin 4) : U1 m c (Proc.devRef .tc main_v88_8) (ix3 h 0 0) = (0 : EReal) := by
  rw [U1_eq, unary_at mid_writes (E0 m c) 31 (y := main_v88_8) (x := main_v83) (f := fun x => x) rfl,
    unary_at mid_writes (E0 m c) 13 (y := main_v83) (x := main_cst_10) rfl, nullary_at mid_writes (E0 m c) 12 (y := main_cst_10) rfl]
  pointwise

/-! ## The trips -/

/-- The cotangent of the state after chunk `n`. -/
def gOf (b : Fin 2) (h : Fin 4) (n : ℕ) : Fin 256 → Fin 512 → EReal := (data (L m c) b).GR (grads (L m c) b) h (64 - n)

/-- The state decay's gradient over the last `k` chunks. -/
def accOf (h : Fin 4) (k : ℕ) : EReal :=
  ∑ x ∈ Finset.range k, ∑ b : Fin 2, ∑ d, ∑ e, (data (L m c) b).R h (64 - x) d e * (data (L m c) b).GR (grads (L m c) b) h x d e

/-- Before the `k`-th test the loop holds the state's cotangent, the decay's gradient, and the gradients of the last `k` chunks. -/
theorem X1_inv : ∀ k ≤ 65,
    (∀ b h d e, X1 m k c (Proc.devRef .tc main_v88_9) (ix4 b h d e) = (data (L m c) b).GR (grads (L m c) b) h k d e)
    ∧ (∀ h, X1 m k c (Proc.devRef .tc main_v88_8) (ix3 h 0 0) = accOf m c h k)
    ∧ (∀ (n : Fin 65) b h i d, 64 < n.val + k → X1 m k c (Proc.devRef .tc main_v88_10) (ix5 n b h i d)
        = gqd ((data (L m c) b).R h n.val) (cot (grads (L m c) b) n.val h) i d)
    ∧ (∀ (n : Fin 65) b h i d, 64 < n.val + k → X1 m k c (Proc.devRef .tc main_v88_11) (ix5 n b h i d)
        = ((data (L m c) b).chunk n.val h).gkd (gOf m c b h n.val) i d)
    ∧ (∀ (n : Fin 65) b h i j, 64 < n.val + k → X1 m k c (Proc.devRef .tc main_v88_12) (ix5 n b h i j)
        = ((data (L m c) b).chunk n.val h).gqk (cot (grads (L m c) b) n.val h) i j)
    ∧ (∀ (n : Fin 65) b h i e, 64 < n.val + k → X1 m k c (Proc.devRef .tc main_v88_13) (ix5 n b h i e)
        = ((data (L m c) b).chunk n.val h).gv (cot (grads (L m c) b) n.val h) (gOf m c b h n.val) i e)
  | 0, _ => by
    have no : ∀ {P : Prop} (n : Fin 65), 64 < n.val + 0 → P := fun n hn => absurd hn (by have := n.isLt; omega)
    exact ⟨fun b h d e => zero_U1 m c b h d e, fun h => (acc_U1 m c h).trans (by unfold accOf; rw [Finset.sum_range_zero]),
      fun n _ _ _ _ hn => no n hn, fun n _ _ _ _ hn => no n hn, fun n _ _ _ _ hn => no n hn, fun n _ _ _ _ hn => no n hn⟩
  | k + 1, hk => by
    obtain ⟨h9, h8, h10, h11, h12, h13⟩ := X1_inv k (by omega)
    have hY : ∀ {r : Ref sig .tc}, r ∉ [main_while1c_c_46, main_while1c_v160] →
        after cond1Ops (X1 m k c) (Proc.devRef .tc r) = X1 m k c (Proc.devRef .tc r) := fun hr => kept cond1_writes _ hr
    have hc : after cond1Ops (X1 m k c) (Proc.devRef .tc main_v88_7) = fun _ => Scf.iv 0#32 1#32 k :=
      (hY (by decide +kernel)).trans (ctr1_at (U1 m) (U1_ctr m) c k)
    obtain ⟨n, hn⟩ : ∃ n : Fin 65, n.val + k = 64 := ⟨⟨64 - k, by omega⟩, by show 64 - k + k = 64; omega⟩
    have hnk : 64 - k = n.val := by omega
    have hkn : 64 - n.val = k := by omega
    let C : Fin 2 → Fin 4 → Chunk := fun b h => (data (L m c) b).chunk n.val h
    let R : Fin 2 → Fin 4 → Fin 256 → Fin 512 → EReal := fun b h => (data (L m c) b).R h n.val
    let go : Fin 2 → Fin 4 → Fin 64 → Fin 512 → EReal := fun b h => cot (grads (L m c) b) n.val h
    let g : Fin 2 → Fin 4 → Fin 256 → Fin 512 → EReal := fun b h => (data (L m c) b).GR (grads (L m c) b) h k
    have hO : ∀ b h i e, after cond1Ops (X1 m k c) (Proc.devRef .tc main_v88_0) (ix5 n b h i e) = go b h i e := fun b h i e => by rw [hY (by decide +kernel), go_X1]
    have hS : ∀ b h d e, after cond1Ops (X1 m k c) (Proc.devRef .tc main_v88_1) (ix5 n b h d e) = R b h d e := fun b h d e => by rw [hY (by decide +kernel), r_X1]
    have hQ : ∀ b h i d, after cond1Ops (X1 m k c) (Proc.devRef .tc main_v88_2) (ix5 n b h i d) = (C b h).qd i d := fun b h i d => by rw [hY (by decide +kernel), qd_X1]
    have hV : ∀ b h i e, after cond1Ops (X1 m k c) (Proc.devRef .tc main_v88_3) (ix5 n b h i e) = (C b h).v i e := fun b h i e => by rw [hY (by decide +kernel), v_X1]
    have hP : ∀ b h i j, after cond1Ops (X1 m k c) (Proc.devRef .tc main_v88_4) (ix5 n b h i j) = (C b h).qk i j := fun b h i j => by rw [hY (by decide +kernel), qk_X1]
    have hK : ∀ b h i d, after cond1Ops (X1 m k c) (Proc.devRef .tc main_v88_5) (ix5 n b h i d) = (C b h).kd i d := fun b h i d => by rw [hY (by decide +kernel), kd_X1]
    have hD : ∀ (b : Fin 2) h, after cond1Ops (X1 m k c) (Proc.devRef .tc main_v88_6) (ix4 0 h 0 0) = wr (C b h).lg :=
      fun b h => by rw [hY (by decide +kernel), wr_X1]; rfl
    have hA : ∀ h, after cond1Ops (X1 m k c) (Proc.devRef .tc main_v88_8) (ix3 h 0 0) = accOf m c h k := fun h => by rw [hY (by decide +kernel), h8]
    have hG : ∀ b h d e, after cond1Ops (X1 m k c) (Proc.devRef .tc main_v88_9) (ix4 b h d e) = g b h d e := fun b h d e => by rw [hY (by decide +kernel), h9]
    have hg : ∀ b h, g b h = gOf m c b h n.val := fun b h => by unfold gOf; rw [hkn]
    rw [show X1 m (k + 1) c = afterL body1I (after cond1Ops (X1 m k c)) from rfl]
    refine ⟨fun b h d e => ?_, fun h => ?_, fun x b h i d hx => ?_, fun x b h i d hx => ?_, fun x b h i d hx => ?_, fun x b h i d hx => ?_⟩
    · rw [trip1_state, gr1_at _ n k hn hc C go g hO hQ hD hG b h d e]
      unfold Data.GR
      rw [hnk]
    · rw [trip1_acc, acc1_at _ n k hn hc R g (accOf m c · k) hS hA hG h]
      unfold accOf
      rw [Finset.sum_range_succ, hnk]
    · rw [trip1_gqds, gqds1_at _ n k hn hc R go hO hS x b h i d]
      split
      · next he => subst he; rfl
      · next he => rw [hY (by decide +kernel)]; exact h10 x b h i d (by have : x.val ≠ n.val := fun h => he (Fin.ext h); omega)
    · rw [trip1_gkds, gkds1_at _ n k hn hc C g hV hG x b h i d]
      split
      · next he => subst he; rw [hg]
      · next he => rw [hY (by decide +kernel)]; exact h11 x b h i d (by have : x.val ≠ n.val := fun h => he (Fin.ext h); omega)
    · rw [trip1_gqks, gqks1_at _ n k hn hc C go hO hV x b h i d]
      split
      · next he => subst he; rfl
      · next he => rw [hY (by decide +kernel)]; exact h12 x b h i d (by have : x.val ≠ n.val := fun h => he (Fin.ext h); omega)
    · rw [trip1_gvs, gvs1_at _ n k hn hc C go g hO hP hK hG x b h i d]
      split
      · next he => subst he; rw [hg]
      · next he => rw [hY (by decide +kernel)]; exact h13 x b h i d (by have : x.val ≠ n.val := fun h => he (Fin.ext h); omega)

/-! ## What it leaves -/

theorem acc_E1 (h : Fin 4) : E1 m c (Proc.devRef .tc main_v88_8) (ix3 h 0 0) = accOf m c h 65 := by
  unfold E1
  rw [kept cond1_writes _ (by decide +kernel)]
  exact (X1_inv m c 65 (le_refl _)).2.1 h
theorem gqd_E1 (n : Fin 65) (b : Fin 2) (h : Fin 4) (i : Fin 64) (d : Fin 256) :
    E1 m c (Proc.devRef .tc main_v88_10) (ix5 n b h i d) = gqd ((data (L m c) b).R h n.val) (cot (grads (L m c) b) n.val h) i d := by
  unfold E1
  rw [kept cond1_writes _ (by decide +kernel)]
  exact (X1_inv m c 65 (le_refl _)).2.2.1 n b h i d (by omega)
theorem gkd_E1 (n : Fin 65) (b : Fin 2) (h : Fin 4) (i : Fin 64) (d : Fin 256) :
    E1 m c (Proc.devRef .tc main_v88_11) (ix5 n b h i d) = ((data (L m c) b).chunk n.val h).gkd (gOf m c b h n.val) i d := by
  unfold E1
  rw [kept cond1_writes _ (by decide +kernel)]
  exact (X1_inv m c 65 (le_refl _)).2.2.2.1 n b h i d (by omega)
theorem gqk_E1 (n : Fin 65) (b : Fin 2) (h : Fin 4) (i j : Fin 64) :
    E1 m c (Proc.devRef .tc main_v88_12) (ix5 n b h i j) = ((data (L m c) b).chunk n.val h).gqk (cot (grads (L m c) b) n.val h) i j := by
  unfold E1
  rw [kept cond1_writes _ (by decide +kernel)]
  exact (X1_inv m c 65 (le_refl _)).2.2.2.2.1 n b h i j (by omega)
theorem gv_E1 (n : Fin 65) (b : Fin 2) (h : Fin 4) (i : Fin 64) (e : Fin 512) :
    E1 m c (Proc.devRef .tc main_v88_13) (ix5 n b h i e)
      = ((data (L m c) b).chunk n.val h).gv (cot (grads (L m c) b) n.val h) (gOf m c b h n.val) i e := by
  unfold E1
  rw [kept cond1_writes _ (by decide +kernel)]
  exact (X1_inv m c 65 (le_refl _)).2.2.2.2.2 n b h i e (by omega)

/-- A buffer written before the first loop only. -/
theorem E1_pre {r : Ref sig .tc} (h0 : r ∉ midW) (h1 : r ∉ [main_while0c_c_41, main_while0c_v160]) (h2 : r ∉ body0W)
    (h3 : r ∉ [main_while1c_c_46, main_while1c_v160]) (h4 : r ∉ body1W) :
    E1 m c (Proc.devRef .tc r) = Pre (L m c) (Proc.devRef .tc r) := by
  unfold E1
  rw [kept cond1_writes _ h3, X1_kept m h4 h3, U1_kept m h0 h1 h2, U0_eq]

end Cert.Ref

end
-- ==== Proof.RetSum.lean ====
/- The decay's gradient: summed over the chunks and batch rows before it is multiplied by the decays and distances, or after. -/
module

public import proofs.«01_k».proof.Proof.RetSpec

@[expose] public section

noncomputable section

namespace Cert.Math

open Idealize.ShloMosaic

/-! ## Factors that distribute over every sum: those neither negative nor infinite -/

/-- Neither negative nor infinite. -/
def Tame (a : EReal) : Prop := 0 ≤ a ∧ a ≠ ⊤

theorem sum_mul_tame {ι : Type} (s : Finset ι) (f : ι → EReal) {a : EReal} (ha : Tame a) : (∑ i ∈ s, f i) * a = ∑ i ∈ s, f i * a := by
  classical
  induction s using Finset.induction_on with
  | empty => rw [Finset.sum_empty, Finset.sum_empty, zero_mul]
  | insert i s hi ih => rw [Finset.sum_insert hi, Finset.sum_insert hi, EReal.right_distrib_of_nonneg_of_ne_top ha.1 ha.2, ih]

theorem exp_nonneg (x : EReal) : 0 ≤ Ideal.exp x := by
  induction x with
  | bot => exact le_refl _
  | top => exact le_top
  | coe r => rw [Ideal.exp_coe]; exact EReal.coe_nonneg.mpr (Real.exp_pos r).le

theorem exp_tame {x : EReal} (hx : x ≠ ⊤) : Tame (Ideal.exp x) := by
  refine ⟨exp_nonneg x, ?_⟩
  induction x with
  | bot => rw [Ideal.exp_bot]; exact EReal.zero_ne_top
  | top => exact absurd rfl hx
  | coe r => rw [Ideal.exp_coe]; exact EReal.coe_ne_top _

theorem log_nonneg {x : EReal} (hx : 1 ≤ x) : 0 ≤ Ideal.log x := by
  induction x with
  | bot => exact absurd hx (by decide)
  | top => exact le_top
  | coe r =>
    have hr : 1 ≤ r := by exact_mod_cast hx
    show 0 ≤ if r ≤ 0 then (⊥ : EReal) else (Real.log r : EReal)
    rw [if_neg (not_le.mpr (lt_of_lt_of_le one_pos hr))]
    exact EReal.coe_nonneg.mpr (Real.log_nonneg hr)

theorem softplus_nonneg (y : EReal) : 0 ≤ softplus y := by
  unfold softplus Ideal.log1p
  refine add_nonneg (le_max_right _ _) (log_nonneg ?_)
  exact le_add_of_nonneg_right (exp_nonneg _)

theorem lsig_nonpos (z : EReal) : lsig z ≤ 0 := by
  unfold lsig
  rw [← neg_zero]
  exact EReal.neg_le_neg_iff.mpr (softplus_nonneg _)

theorem sgrad_tame (z : EReal) : Tame (sgrad z) := by
  unfold sgrad
  have hi : infty = ⊤ := by simp [infty, Ideal.ofBits, Ideal.ieee]
  rw [hi]
  refine exp_tame ?_
  have h1 : (if -z = ⊤ then (0 : EReal) else -z) ≠ ⊤ := by split <;> simp_all
  have h2 : (if softplus (-z) = ⊤ then (0 : EReal) else softplus (-z)) ≠ ⊥ := by
    split
    · exact EReal.zero_ne_bot
    · exact ne_of_gt (lt_of_lt_of_le EReal.bot_lt_zero (softplus_nonneg _))
  rw [sub_eq_add_neg]
  exact EReal.add_ne_top h1 (by simpa using h2)

/-- The decay of a distance that is not negative. -/
theorem decay_tame (z : EReal) {p : EReal} (hp : 0 ≤ p) : Tame (Ideal.exp (lsig z * p)) :=
  exp_tame (ne_of_lt (lt_of_le_of_lt (EReal.mul_nonpos_iff.mpr (Or.inr ⟨lsig_nonpos z, hp⟩)) EReal.zero_lt_top))

theorem c63_eq : c63 = ((63 : ℝ) : EReal) := by
  simp [c63, Ideal.ofBits, Ideal.ieee, -EReal.coe_mul]; norm_num
theorem c64_eq : c64 = ((64 : ℝ) : EReal) := by
  simp [c64, Ideal.ofBits, Ideal.ieee, -EReal.coe_mul]; norm_num

theorem coe_tame {r : ℝ} (h : 0 ≤ r) : Tame (r : EReal) := ⟨EReal.coe_nonneg.mpr h, EReal.coe_ne_top r⟩

theorem pos1_tame (i : Fin 64) : Tame (pos i + 1) :=
  coe_tame (r := ((i.val : ℤ) : ℝ) + 1) (by positivity)
theorem pos63_tame (j : Fin 64) : Tame (c63 - pos j) := by
  rw [c63_eq]
  refine coe_tame (r := 63 - ((j.val : ℤ) : ℝ)) (sub_nonneg.mpr ?_)
  exact_mod_cast (by omega : (j.val : ℤ) ≤ 63)
theorem c64_tame : Tame c64 := by
  rw [c64_eq]
  exact coe_tame (by norm_num)
theorem rel_tame {i j : Fin 64} (h : j.val ≤ i.val) : Tame (rel i j) := by
  unfold rel
  exact coe_tame (by exact_mod_cast (by omega : (0 : ℤ) ≤ (i.val : ℤ) - j.val))

/-! ## The gradient -/

/-- An innermost sum brought outside two others. -/
theorem sum_out {κ : Type} [Fintype κ] (f : Fin 65 → Fin 2 → κ → EReal) : ∑ n, ∑ b, ∑ j, f n b j = ∑ j, ∑ n, ∑ b, f n b j := by
  rw [Finset.sum_comm (s := (Finset.univ : Finset κ))]
  exact Finset.sum_congr rfl fun n _ => Finset.sum_comm

/-- A factor brought inside both sums. -/
theorem sum2_mul (f : Fin 65 → Fin 2 → EReal) {a : EReal} (ha : Tame a) : (∑ n, ∑ b, f n b) * a = ∑ n, ∑ b, f n b * a := by
  rw [sum_mul_tame _ _ ha]
  exact Finset.sum_congr rfl fun n _ => sum_mul_tame _ _ ha

/-- A sum over the chunks from the last to the first. -/
theorem sum_chunks (f : ℕ → EReal) : ∑ n : Fin 65, f n.val = ∑ n : Fin 65, f (64 - n.val) :=
  (Equiv.sum_comp Fin.revPerm fun n : Fin 65 => f n.val).symm.trans
    (Finset.sum_congr rfl fun n _ => congrArg f (by show (Fin.rev n).val = _; rw [Fin.val_rev]; omega))

variable (D : Fin 2 → Data) (G : Fin 2 → Fin 4160 → Fin 4 → Fin 512 → EReal) (h : Fin 4) (z : EReal)

/-- The log-decay's gradient with the sums over chunks and batch rows taken first. -/
def glgSum : EReal :=
  ((∑ x ∈ Finset.range 65, ∑ b : Fin 2, ∑ d, ∑ e, (D b).R h (64 - x) d e * (D b).GR (G b) h x d e) * wr (lsig z)) * c64
    + (∑ j, ((∑ n : Fin 65, ∑ b : Fin 2, ∑ d, ((D b).chunk n.val h).ks j d * ((D b).chunk n.val h).gkd ((D b).GR (G b) h (64 - n.val)) j d)
        * wk (lsig z) j) * (c63 - pos j))
    + (∑ i, ((∑ n : Fin 65, ∑ b : Fin 2, ∑ d, ((D b).chunk n.val h).q i d * gqd ((D b).R h n.val) (cot (G b) n.val h) i d)
        * wq (lsig z) i) * (pos i + 1))
    + ∑ i : Fin 64, ∑ j : Fin 64, (if j.val ≤ i.val then rel i j else 0)
        * ((if j.val ≤ i.val then ∑ n : Fin 65, ∑ b : Fin 2,
              (∑ d, ((D b).chunk n.val h).q i d * ((D b).chunk n.val h).ks j d) * ((D b).chunk n.val h).gqk (cot (G b) n.val h) i j else 0)
          * Ideal.exp ((if j.val ≤ i.val then rel i j else 0) * lsig z))

/-- It is the sum of the chunks' own gradients. -/
theorem glgSum_eq (hD : ∀ b, (D b).lg h = lsig z) :
    glgSum D G h z * sgrad z = ∑ b, ∑ n : Fin 65, (D b).glg (G b) h n.val * sgrad z := by
  have hc : ∀ n b, ((D b).chunk n h).lg = lsig z := fun n b => hD b
  have hwr : Tame (wr (lsig z)) := decay_tame z c64_tame.1
  have hwk : ∀ j, Tame (wk (lsig z) j) := fun j => decay_tame z (pos63_tame j).1
  have hwq : ∀ i, Tame (wq (lsig z) i) := fun i => decay_tame z (pos1_tame i).1
  have hin : ∀ {i j : Fin 64}, j.val ≤ i.val → Tame (Ideal.exp (rel i j * lsig z)) := fun hij => by
    rw [mul_comm]; exact decay_tame z (rel_tame hij).1
  rw [Finset.sum_comm, ← sum2_mul _ (sgrad_tame z)]
  refine congrArg (· * sgrad z) ?_
  rw [sum_chunks fun n => ∑ b, (D b).glg (G b) h n]
  have hg : ∀ (n : Fin 65) b, (D b).glg (G b) h (64 - n.val)
      = (∑ d, ∑ e, (D b).R h n.val d e * (D b).GR (G b) h (64 - n.val) d e) * wr (lsig z) * c64
        + (∑ j, (∑ d, ((D b).chunk n.val h).ks j d * ((D b).chunk n.val h).gkd ((D b).GR (G b) h (64 - n.val)) j d) * wk (lsig z) j * (c63 - pos j))
        + (∑ i, (∑ d, ((D b).chunk n.val h).q i d * gqd ((D b).R h n.val) (cot (G b) n.val h) i d) * wq (lsig z) i * (pos i + 1))
        + ∑ i, ∑ j, rel i j * ((∑ d, ((D b).chunk n.val h).q i d * ((D b).chunk n.val h).ks j d)
            * ((D b).chunk n.val h).gqk (cot (G b) n.val h) i j * intra (lsig z) i j) := fun n b => by
    unfold Data.glg Chunk.glg
    rw [hc, show 64 - (64 - n.val) = n.val by omega]
  simp only [hg, Finset.sum_add_distrib]
  unfold glgSum
  refine congrArg₂ (· + ·) (congrArg₂ (· + ·) (congrArg₂ (· + ·) ?_ ?_) ?_) ?_
  · rw [Finset.sum_range fun x => ∑ b : Fin 2, ∑ d, ∑ e, (D b).R h (64 - x) d e * (D b).GR (G b) h x d e,
      sum_chunks fun x => ∑ b : Fin 2, ∑ d, ∑ e, (D b).R h (64 - x) d e * (D b).GR (G b) h x d e, sum2_mul _ hwr, sum2_mul _ c64_tame]
    refine Finset.sum_congr rfl fun n _ => Finset.sum_congr rfl fun b _ => ?_
    rw [show 64 - (64 - n.val) = n.val by omega]
  · rw [sum_out]
    refine Finset.sum_congr rfl fun j _ => ?_
    rw [sum2_mul _ (hwk j), sum2_mul _ (pos63_tame j)]
  · rw [sum_out]
    refine Finset.sum_congr rfl fun i _ => ?_
    rw [sum2_mul _ (hwq i), sum2_mul _ (pos1_tame i)]
  · rw [sum_out]
    refine Finset.sum_congr rfl fun i _ => ?_
    rw [sum_out]
    refine Finset.sum_congr rfl fun j _ => ?_
    unfold intra
    split
    · next hij => rw [sum2_mul _ (hin hij), mul_comm (rel i j), sum2_mul _ (rel_tame hij)]; simp only [mul_comm (rel i j)]
    · simp only [zero_mul, mul_zero, Finset.sum_const_zero]

end Cert.Math

end
-- ==== Proof.RefPost.lean ====
/- The reference's lines after the loops: the gradients as arrays. -/
module

public import proofs.«01_k».proof.Proof.RefLoop1
public import proofs.«01_k».proof.Proof.RetSum

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

variable (m : (ℓ : Loc nD τ sig) → Buf (Elt Ideal) ℓ) (c : Dev nD)

/-- The buffers at the end. -/
abbrev Post : Valuation τ sig (Elt Ideal) := after postOps (E1 m c)

theorem Last_eq (r : DevRef τ sig) : Last m c r = Post m c r := by
  unfold Last Post
  rw [afterL_eq_after_flatten]

/-- A buffer written before the first loop only. -/
theorem Post_pre {r : Ref sig .tc} (h5 : r ∉ postW := by decide +kernel) (h0 : r ∉ midW := by decide +kernel)
    (h1 : r ∉ [main_while0c_c_41, main_while0c_v160] := by decide +kernel) (h2 : r ∉ body0W := by decide +kernel)
    (h3 : r ∉ [main_while1c_c_46, main_while1c_v160] := by decide +kernel) (h4 : r ∉ body1W := by decide +kernel) :
    Post m c (Proc.devRef .tc r) = Pre (L m c) (Proc.devRef .tc r) := by
  unfold Post
  rw [kept post_writes _ h5, E1_pre m c h0 h1 h2 h3 h4]

/-- A buffer the lines after the loops do not write. -/
theorem Post_kept {r : Ref sig .tc} (h5 : r ∉ postW := by decide +kernel) : Post m c (Proc.devRef .tc r) = E1 m c (Proc.devRef .tc r) :=
  kept post_writes _ h5

theorem chunkOf_lt (r : Fin 4160) : chunkOf r < 65 := by unfold chunkOf; omega

/-- The gradients of the values. -/
theorem dv_at (b : Fin 2) (r : Fin 4160) (h : Fin 4) (e : Fin 512) :
    Post m c (Proc.devRef .tc main_v154) (ix3 b r (colAt 0 512 (by decide) h e)) = (data (L m c) b).dv (grads (L m c) b) r h e := by
  have h1 := fun n b h i e => (congrFun (Post_kept m c (r := main_v88_13)) _).trans (gv_E1 m c n b h i e)
  unfold Post at h1 ⊢
  rw [reshape_at post_writes (E1 m c) 85 (y := main_v154) (x := main_v151) rfl,
    unary_at post_writes (E1 m c) 82 (y := main_v151) (x := main_v143) (f := Host.reverse (s := S2x4160x4x512) [1]) rfl,
    reshape_at post_writes (E1 m c) 71 (y := main_v143) (x := main_v142) rfl,
    unary_at post_writes (E1 m c) 70 (y := main_v142) (x := main_v88_13) rfl]
  unfold colAt
  pointwise [h1]
  exact congrArg₂ (fun n i => ((data (L m c) b).chunk n h).gv (cot (grads (L m c) b) n h) (gOf m c b h n) i e) (rev_div r) (rev_mod r (Nat.mod_lt _ (by decide)))

/-- The masked product's gradient, masked and decayed. -/
theorem gqki_at (n : Fin 65) (b : Fin 2) (h : Fin 4) (i j : Fin 64) :
    Post m c (Proc.devRef .tc main_v126) (ix5 n b h i j)
      = ((data (L m c) b).chunk n.val h).gqk (cot (grads (L m c) b) n.val h) i j * intra (lsig (logit (L m c) h)) i j := by
  have h1 := (congrFun (Post_kept m c (r := main_v88_12)) _).trans (gqk_E1 m c n b h i j)
  have h2 := (congrFun (Post_pre m c (r := main_v39)) _).trans (intra5_at (L m c) 0 0 h i j)
  unfold Post at h1 h2 ⊢
  rw [binary_at post_writes (E1 m c) 48 (y := main_v126) (a := main_v88_12) (b := main_v125) rfl,
    unary_at post_writes (E1 m c) 47 (y := main_v125) (x := main_v39) rfl]
  pointwise [h1, h2]

/-- The gradients of the queries by chunk, -/
theorem gq_at (n : Fin 65) (b : Fin 2) (h : Fin 4) (i : Fin 64) (d : Fin 256) :
    Post m c (Proc.devRef .tc main_v131) (ix5 n b h i d)
      = ((data (L m c) b).chunk n.val h).gq ((data (L m c) b).R h n.val) (cot (grads (L m c) b) n.val h) i d := by
  have h1 := (congrFun (Post_kept m c (r := main_v88_10)) _).trans (gqd_E1 m c n b h i d)
  have h2 := (congrFun (Post_pre m c (r := main_v50)) _).trans (wq5_at (L m c) 0 0 h i 0)
  have h3 := fun j => gqki_at m c n b h i j
  have h4 := fun j => (congrFun (Post_pre m c (r := main_v15)) _).trans (ks_at (L m c) n b h j d)
  unfold Post at h1 h2 h3 h4 ⊢
  rw [binary_at post_writes (E1 m c) 54 (y := main_v131) (a := main_v112) (b := main_v130) rfl,
    binary_at post_writes (E1 m c) 53 (y := main_v130) (a := main_v126) (b := main_v15) rfl,
    binary_at post_writes (E1 m c) 30 (y := main_v112) (a := main_v88_10) (b := main_v111) rfl,
    unary_at post_writes (E1 m c) 29 (y := main_v111) (x := main_v50) rfl]
  pointwise [h1, h2, h3, h4]
  rfl

/-- and of the keys before their scale. -/
theorem gk_at (n : Fin 65) (b : Fin 2) (h : Fin 4) (j : Fin 64) (d : Fin 256) :
    Post m c (Proc.devRef .tc main_v129) (ix5 n b h j d)
      = ((data (L m c) b).chunk n.val h).gkd (gOf m c b h n.val) j d * wk (lsig (logit (L m c) h)) j
        + ∑ i, ((data (L m c) b).chunk n.val h).gqk (cot (grads (L m c) b) n.val h) i j * intra (lsig (logit (L m c) h)) i j
            * ((data (L m c) b).chunk n.val h).q i d := by
  have h1 := (congrFun (Post_kept m c (r := main_v88_11)) _).trans (gkd_E1 m c n b h j d)
  have h2 := (congrFun (Post_pre m c (r := main_v61)) _).trans (wk5_at (L m c) 0 0 h j 0)
  have h3 := fun i => gqki_at m c n b h i j
  have h4 := fun i => (congrFun (Post_pre m c (r := main_v11)) _).trans (q_at (L m c) n b h i d)
  unfold Post at h1 h2 h3 h4 ⊢
  rw [binary_at post_writes (E1 m c) 52 (y := main_v129) (a := main_v98) (b := main_v128) rfl,
    binary_at post_writes (E1 m c) 51 (y := main_v128) (a := main_v126) (b := main_v11) rfl,
    binary_at post_writes (E1 m c) 12 (y := main_v98) (a := main_v88_11) (b := main_v97) rfl,
    unary_at post_writes (E1 m c) 11 (y := main_v97) (x := main_v61) rfl]
  pointwise [h1, h2, h3, h4]

/-- The queries' gradients as an array, -/
theorem dqs_at (b : Fin 2) (r : Fin 4160) (h : Fin 4) (d : Fin 256) :
    Post m c (Proc.devRef .tc main_v156) (ix3 b r (colAt 0 256 (by decide) h d)) = (data (L m c) b).dq (grads (L m c) b) r h d := by
  have h1 := gq_at m c
  unfold Post at h1 ⊢
  rw [reshape_at post_writes (E1 m c) 87 (y := main_v156) (x := main_v153) rfl,
    unary_at post_writes (E1 m c) 84 (y := main_v153) (x := main_v149) (f := Host.reverse (s := S2x4160x4x256) [1]) rfl,
    reshape_at post_writes (E1 m c) 78 (y := main_v149) (x := main_v148) rfl,
    unary_at post_writes (E1 m c) 77 (y := main_v148) (x := main_v131) rfl]
  unfold colAt
  pointwise [h1]
  exact congrArg₂ (fun n i => ((data (L m c) b).chunk n h).gq ((data (L m c) b).R h n) (cot (grads (L m c) b) n h) i d) (rev_div r) (rev_mod r (Nat.mod_lt _ (by decide)))

/-- the keys', -/
theorem dks_at (b : Fin 2) (r : Fin 4160) (h : Fin 4) (d : Fin 256) :
    Post m c (Proc.devRef .tc main_v155) (ix3 b r (colAt 0 256 (by decide) h d)) = (data (L m c) b).dk (grads (L m c) b) r h d := by
  have h1 := gk_at m c
  unfold Post at h1 ⊢
  rw [reshape_at post_writes (E1 m c) 86 (y := main_v155) (x := main_v152) rfl,
    unary_at post_writes (E1 m c) 83 (y := main_v152) (x := main_v147) (f := Host.reverse (s := S2x4160x4x256) [1]) rfl,
    binary_at post_writes (E1 m c) 76 (y := main_v147) (a := main_v145) (b := main_v146) rfl,
    unary_at post_writes (E1 m c) 75 (y := main_v146) (x := main_cst_31) rfl, nullary_at post_writes (E1 m c) 74 (y := main_cst_31) rfl,
    reshape_at post_writes (E1 m c) 73 (y := main_v145) (x := main_v144) rfl,
    unary_at post_writes (E1 m c) 72 (y := main_v144) (x := main_v129) rfl]
  unfold colAt
  pointwise [h1]
  exact congrArg₂ (fun n i => ((data (L m c) b).chunk n h).gk (cot (grads (L m c) b) n h) (gOf m c b h n) i d) (rev_div r) (rev_mod r (Nat.mod_lt _ (by decide)))

/-- and both side by side. -/
theorem dq_at (b : Fin 2) (r : Fin 4160) (h : Fin 4) (d : Fin 256) :
    Post m c (Proc.devRef .tc main_v157) (ix3 b r (colAt 0 256 (by decide) h d)) = (data (L m c) b).dq (grads (L m c) b) r h d := by
  rw [← dqs_at]
  unfold Post
  rw [binary_at post_writes (E1 m c) 88 (y := main_v157) (a := main_v156) (b := main_v155) rfl]
  unfold colAt
  pointwise
  exact dif_pos (by have := h.isLt; have := d.isLt; omega)
theorem dk_at (b : Fin 2) (r : Fin 4160) (h : Fin 4) (d : Fin 256) :
    Post m c (Proc.devRef .tc main_v157) (ix3 b r (colAt 1024 256 (by decide) h d)) = (data (L m c) b).dk (grads (L m c) b) r h d := by
  rw [← dks_at]
  unfold Post
  rw [binary_at post_writes (E1 m c) 88 (y := main_v157) (a := main_v156) (b := main_v155) rfl]
  unfold colAt
  pointwise

end Cert.Ref

end
-- ==== Proof.RefLog.lean ====
/- The reference's lines after the loops: the decay logits' gradient. -/
module

public import proofs.«01_k».proof.Proof.RefPost

@[expose] public section

set_option maxRecDepth 4000

noncomputable section

namespace Cert.Ref

open Cert.ReferenceIdeal Cert.ReferenceIdeal.Gen Cert.Read Cert.Math
open Idealize.ShloMosaic Idealize.ShloMosaic.TcCoe Idealize.ShloMosaic.StableHlo Idealize.ShloMosaic.Tactic

variable (m : (ℓ : Loc nD τ sig) → Buf (Elt Ideal) ℓ) (c : Dev nD)

/-- The state decay's share, -/
theorem share0_at (h : Fin 4) (z : Fin 1) :
    Post m c (Proc.devRef .tc main_v93) (ix2 h z) = accOf m c h 65 * wr (lsig (logit (L m c) h)) * c64 := by
  have h1 := (congrFun (Post_kept m c (r := main_v88_8)) _).trans (acc_E1 m c h)
  have h2 := (congrFun (Post_pre m c (r := main_v66)) _).trans (wr_at (L m c) h z)
  unfold Post at h1 h2 ⊢
  rw [binary_at post_writes (E1 m c) 6 (y := main_v93) (a := main_v91) (b := main_v92) rfl,
    unary_at post_writes (E1 m c) 5 (y := main_v92) (x := main_cst_17) rfl, nullary_at post_writes (E1 m c) 4 (y := main_cst_17) rfl,
    binary_at post_writes (E1 m c) 3 (y := main_v91) (a := main_v90) (b := main_v66) rfl,
    unary_at post_writes (E1 m c) 2 (y := main_v90) (x := main_v89) rfl,
    binary_at post_writes (E1 m c) 1 (y := main_v89) (a := main_v88_8) (b := main_cst_16) rfl, nullary_at post_writes (E1 m c) 0 (y := main_cst_16) rfl]
  pointwise [h1, h2]
  simp only [Fin.sum_univ_one]
  rw [h1]
  rfl

/-- the keys' decay's, -/
theorem share1_at (h : Fin 4) (z : Fin 1) :
    Post m c (Proc.devRef .tc main_v106) (ix2 h z)
      = ∑ j, ((∑ n : Fin 65, ∑ b : Fin 2, ∑ d, ((data (L m c) b).chunk n.val h).ks j d * ((data (L m c) b).chunk n.val h).gkd (gOf m c b h n.val) j d)
        * wk (lsig (logit (L m c) h)) j) * (c63 - pos j) := by
  have h1 := fun n b j d => (congrFun (Post_kept m c (r := main_v88_11)) _).trans (gkd_E1 m c n b h j d)
  have h2 := fun n b j d => (congrFun (Post_pre m c (r := main_v15)) _).trans (ks_at (L m c) n b h j d)
  have h3 := fun j => (congrFun (Post_pre m c (r := main_v59)) _).trans (wk_at (L m c) h j)
  have h4 := fun j => (congrFun (Post_pre m c (r := main_v55)) _).trans (pos63_at (L m c) 0 j)
  have h5 : ∀ j, Post m c (Proc.devRef .tc main_v95) (ix2 h j)
      = ∑ n : Fin 65, ∑ b : Fin 2, ∑ d, ((data (L m c) b).chunk n.val h).ks j d * ((data (L m c) b).chunk n.val h).gkd (gOf m c b h n.val) j d := fun j => by
    unfold Post at h1 h2 ⊢
    rw [binary_at post_writes (E1 m c) 9 (y := main_v95) (a := main_v94) (b := main_cst_18) rfl, nullary_at post_writes (E1 m c) 8 (y := main_cst_18) rfl,
      binary_at post_writes (E1 m c) 7 (y := main_v94) (a := main_v15) (b := main_v88_11) rfl]
    refine (reduceAdd_014 _ _ _ h j).trans ?_
    pointwise [h1, h2]
  have h6 : ∀ j, Post m c (Proc.devRef .tc main_v99) (ix2 h j) = Post m c (Proc.devRef .tc main_v95) (ix2 h j) := fun j => by
    unfold Post
    rw [binary_at post_writes (E1 m c) 14 (y := main_v99) (a := main_v96) (b := main_cst_19) rfl, nullary_at post_writes (E1 m c) 13 (y := main_cst_19) rfl,
      reshape_at post_writes (E1 m c) 10 (y := main_v96) (x := main_v95) rfl]
    refine (reduceAdd_014 _ _ _ h j).trans ?_
    simp only [Fin.sum_univ_one]
    pointwise
  unfold Post at h3 h4 h5 h6 ⊢
  rw [reshape_at post_writes (E1 m c) 23 (y := main_v106) (x := main_v105) rfl,
    binary_at post_writes (E1 m c) 22 (y := main_v105) (a := main_v104) (b := main_cst_21) rfl, nullary_at post_writes (E1 m c) 21 (y := main_cst_21) rfl,
    binary_at post_writes (E1 m c) 20 (y := main_v104) (a := main_v102) (b := main_v103) rfl,
    unary_at post_writes (E1 m c) 19 (y := main_v103) (x := main_v55) rfl,
    binary_at post_writes (E1 m c) 18 (y := main_v102) (a := main_v101) (b := main_v59) rfl,
    binary_at post_writes (E1 m c) 17 (y := main_v101) (a := main_v100) (b := main_cst_20) rfl, nullary_at post_writes (E1 m c) 16 (y := main_cst_20) rfl,
    unary_at post_writes (E1 m c) 15 (y := main_v100) (x := main_v99) rfl]
  pointwise [h3, h4, h6, h5]
  simp only [Fin.sum_univ_one]

/-- the queries' decay's, -/
theorem share2_at (h : Fin 4) (z : Fin 1) :
    Post m c (Proc.devRef .tc main_v120) (ix2 h z)
      = ∑ i, ((∑ n : Fin 65, ∑ b : Fin 2, ∑ d, ((data (L m c) b).chunk n.val h).q i d
          * gqd ((data (L m c) b).R h n.val) (cot (grads (L m c) b) n.val h) i d)
        * wq (lsig (logit (L m c) h)) i) * (pos i + 1) := by
  have h1 := fun n b i d => (congrFun (Post_kept m c (r := main_v88_10)) _).trans (gqd_E1 m c n b h i d)
  have h2 := fun n b i d => (congrFun (Post_pre m c (r := main_v11)) _).trans (q_at (L m c) n b h i d)
  have h3 := fun i => (congrFun (Post_pre m c (r := main_v48)) _).trans (wq_at (L m c) h i)
  have h4 := fun i => (congrFun (Post_pre m c (r := main_v44)) _).trans (pos1_at (L m c) 0 i)
  have h5 : ∀ i, Post m c (Proc.devRef .tc main_v109) (ix2 h i)
      = ∑ n : Fin 65, ∑ b : Fin 2, ∑ d, ((data (L m c) b).chunk n.val h).q i d
          * gqd ((data (L m c) b).R h n.val) (cot (grads (L m c) b) n.val h) i d := fun i => by
    unfold Post at h1 h2 ⊢
    rw [binary_at post_writes (E1 m c) 27 (y := main_v109) (a := main_v108) (b := main_cst_22) rfl, nullary_at post_writes (E1 m c) 26 (y := main_cst_22) rfl,
      binary_at post_writes (E1 m c) 25 (y := main_v108) (a := main_v11) (b := main_v88_10) rfl]
    refine (reduceAdd_014 _ _ _ h i).trans ?_
    pointwise [h1, h2]
  have h6 : ∀ i, Post m c (Proc.devRef .tc main_v113) (ix2 h i) = Post m c (Proc.devRef .tc main_v109) (ix2 h i) := fun i => by
    unfold Post
    rw [binary_at post_writes (E1 m c) 32 (y := main_v113) (a := main_v110) (b := main_cst_23) rfl, nullary_at post_writes (E1 m c) 31 (y := main_cst_23) rfl,
      reshape_at post_writes (E1 m c) 28 (y := main_v110) (x := main_v109) rfl]
    refine (reduceAdd_014 _ _ _ h i).trans ?_
    simp only [Fin.sum_univ_one]
    pointwise
  unfold Post at h3 h4 h5 h6 ⊢
  rw [reshape_at post_writes (E1 m c) 41 (y := main_v120) (x := main_v119) rfl,
    binary_at post_writes (E1 m c) 40 (y := main_v119) (a := main_v118) (b := main_cst_25) rfl, nullary_at post_writes (E1 m c) 39 (y := main_cst_25) rfl,
    binary_at post_writes (E1 m c) 38 (y := main_v118) (a := main_v116) (b := main_v117) rfl,
    unary_at post_writes (E1 m c) 37 (y := main_v117) (x := main_v44) rfl,
    binary_at post_writes (E1 m c) 36 (y := main_v116) (a := main_v115) (b := main_v48) rfl,
    binary_at post_writes (E1 m c) 35 (y := main_v115) (a := main_v114) (b := main_cst_24) rfl, nullary_at post_writes (E1 m c) 34 (y := main_cst_24) rfl,
    unary_at post_writes (E1 m c) 33 (y := main_v114) (x := main_v113) rfl]
  pointwise [h3, h4, h6, h5]
  simp only [Fin.sum_univ_one]

/-- and the mask's. -/
theorem share3_at (h : Fin 4) (z : Fin 1) :
    Post m c (Proc.devRef .tc main_v139) (ix2 h z)
      = ∑ i : Fin 64, ∑ j : Fin 64, (if j.val ≤ i.val then rel i j else 0)
        * ((if j.val ≤ i.val then ∑ n : Fin 65, ∑ b : Fin 2,
              (∑ d, ((data (L m c) b).chunk n.val h).q i d * ((data (L m c) b).chunk n.val h).ks j d)
                * ((data (L m c) b).chunk n.val h).gqk (cot (grads (L m c) b) n.val h) i j else 0)
          * Ideal.exp ((if j.val ≤ i.val then rel i j else 0) * lsig (logit (L m c) h))) := by
  have h1 := fun n b i j => (congrFun (Post_kept m c (r := main_v88_12)) _).trans (gqk_E1 m c n b h i j)
  have h2 := fun n b i j => (congrFun (Post_pre m c (r := main_v38)) _).trans (dot_at (L m c) n b h i j)
  have h3 := fun i j => (congrFun (Post_pre m c (r := main_v37_1)) _).trans (masks_at (L m c) h i j)
  have h4 := fun i j => (congrFun (Post_pre m c (r := main_v36)) _).trans (decay_at (L m c) h i j)
  have h5 : ∀ i j, Post m c (Proc.devRef .tc main_v31) (ix3 0 i j) = dist i j := fun i j => by
    have h0 := dist_at (L m c) i j
    rw [Post_pre m c (r := main_v31)]
    unfold Pre at h0 ⊢
    rw [unary_at pre_writes (L m c) 82 (y := main_v31) (x := main_v30) rfl]
    pointwise [h0]
  have h6 : ∀ i j, Post m c (Proc.devRef .tc main_v123) (ix3 h i j)
      = ∑ n : Fin 65, ∑ b : Fin 2, (∑ d, ((data (L m c) b).chunk n.val h).q i d * ((data (L m c) b).chunk n.val h).ks j d)
          * ((data (L m c) b).chunk n.val h).gqk (cot (grads (L m c) b) n.val h) i j := fun i j => by
    unfold Post at h1 h2 ⊢
    rw [binary_at post_writes (E1 m c) 45 (y := main_v123) (a := main_v122) (b := main_cst_26) rfl, nullary_at post_writes (E1 m c) 44 (y := main_cst_26) rfl,
      binary_at post_writes (E1 m c) 43 (y := main_v122) (a := main_v38) (b := main_v88_12) rfl]
    refine (reduceAdd_01 _ _ _ h i j).trans ?_
    pointwise [h1, h2]
  have h7 : ∀ i j, Post m c (Proc.devRef .tc main_v127) (ix3 h i j) = Post m c (Proc.devRef .tc main_v123) (ix3 h i j) := fun i j => by
    unfold Post
    rw [binary_at post_writes (E1 m c) 50 (y := main_v127) (a := main_v124) (b := main_cst_27) rfl, nullary_at post_writes (E1 m c) 49 (y := main_cst_27) rfl,
      reshape_at post_writes (E1 m c) 46 (y := main_v124) (x := main_v123) rfl]
    refine (reduceAdd_01 _ _ _ h i j).trans ?_
    simp only [Fin.sum_univ_one]
    pointwise
  have h8 : ∀ i j, Post m c (Proc.devRef .tc main_v132) (ix3 h i j)
      = if j.val ≤ i.val then Post m c (Proc.devRef .tc main_v123) (ix3 h i j) else (0 : EReal) := fun i j => by
    unfold Post at h3 h7 ⊢
    rw [ternary_at post_writes (E1 m c) 57 (y := main_v132) (c := main_v37_1) (a := main_v127) (b := main_call24_v0) (f := select (s := S4x64x64)) rfl,
      unary_at post_writes (E1 m c) 56 (y := main_call24_v0) (x := main_call24_cst) (f := broadcastInDim S4x64x64 ![] bcast_S_S4x64x64) rfl,
      nullary_at post_writes (E1 m c) 55 (y := main_call24_cst) (v := constant (F := Ideal) S_ .f32 0x00000000#32) rfl]
    pointwise [h3, h7]
    by_cases hij : j.val ≤ i.val
    · rw [if_pos hij, if_pos hij]; rfl
    · rw [if_neg hij, if_neg hij]; rfl
  unfold Post at h4 h5 h6 h8 ⊢
  rw [unary_at post_writes (E1 m c) 66 (y := main_v139) (x := main_v138) rfl,
    binary_at post_writes (E1 m c) 65 (y := main_v138) (a := main_v137) (b := main_cst_29) rfl, nullary_at post_writes (E1 m c) 64 (y := main_cst_29) rfl,
    reshape_at post_writes (E1 m c) 63 (y := main_v137) (x := main_v136) rfl,
    binary_at post_writes (E1 m c) 62 (y := main_v136) (a := main_v135) (b := main_cst_28) rfl, nullary_at post_writes (E1 m c) 61 (y := main_cst_28) rfl,
    binary_at post_writes (E1 m c) 60 (y := main_v135) (a := main_v134) (b := main_v133) rfl,
    unary_at post_writes (E1 m c) 59 (y := main_v134) (x := main_v31) rfl,
    binary_at post_writes (E1 m c) 58 (y := main_v133) (a := main_v132) (b := main_v36) rfl]
  pointwise [h4, h5, h8, h6]
  simp only [Fin.sum_univ_one, dist]

/-- The logits' gradient. -/
theorem dz_at (h : Fin 4) :
    Post m c (Proc.devRef .tc main_v150) (ix1 h)
      = glgSum (data (L m c)) (grads (L m c)) h (logit (L m c) h) * sgrad (logit (L m c) h) := by
  have h0 := share0_at m c h 0
  have h1 := share1_at m c h 0
  have h2 := share2_at m c h 0
  have h3 := share3_at m c h 0
  have h4 := (congrFun (Post_pre m c (r := main_v9_1)) _).trans (sgrad_at (L m c) h)
  have h5 : Post m c (Proc.devRef .tc main_v140) (ix2 h 0) = glgSum (data (L m c)) (grads (L m c)) h (logit (L m c) h) := by
    unfold glgSum
    unfold gOf at h1
    unfold accOf at h0
    unfold Post at h0 h1 h2 h3 ⊢
    rw [binary_at post_writes (E1 m c) 67 (y := main_v140) (a := main_v121) (b := main_v139) rfl,
      binary_at post_writes (E1 m c) 42 (y := main_v121) (a := main_v107) (b := main_v120) rfl,
      binary_at post_writes (E1 m c) 24 (y := main_v107) (a := main_v93) (b := main_v106) rfl]
    exact congrArg₂ (· + ·) (congrArg₂ (· + ·) (congrArg₂ (· + ·) h0 h1) h2) h3
  unfold Post at h4 h5 ⊢
  rw [unary_at post_writes (E1 m c) 81 (y := main_v150) (x := main_call25_v1) (f := Host.negf (F := Ideal) (s := S4) (φ := .f32)) rfl,
    binary_at post_writes (E1 m c) 80 (y := main_call25_v1) (a := main_call25_v0) (b := main_v9_1) (f := mulf (F := Ideal) (s := S4) (φ := .f32)) rfl,
    unary_at post_writes (E1 m c) 79 (y := main_call25_v0) (x := main_v141) (f := Host.negf (F := Ideal) (s := S4) (φ := .f32)) rfl,
    binary_at post_writes (E1 m c) 69 (y := main_v141) (a := main_v140) (b := main_cst_30) rfl, nullary_at post_writes (E1 m c) 68 (y := main_cst_30) rfl]
  pointwise [h4, h5]
  simp only [Fin.sum_univ_one]
  rw [h5, EReal.neg_mul, neg_neg]

/-- The same on the lanes of a row of 128, zero past the fourth. -/
theorem lg_row (l : Fin 128) :
    Post m c (Proc.devRef .tc main_v159) (ix2 0 l)
      = if h : l.val < 4 then ∑ b : Fin 2, ∑ n : Fin 65, (data (L m c) b).glg (grads (L m c) b) ⟨l.val, h⟩ n.val * sgrad (logit (L m c) ⟨l.val, h⟩) else 0 := by
  have h1 := fun h : Fin 4 => (dz_at m c h).trans (glgSum_eq (data (L m c)) (grads (L m c)) h (logit (L m c) h) fun b => rfl)
  unfold Post at h1 ⊢
  rw [reshape_at post_writes (E1 m c) 92 (y := main_v159) (x := main_v158) rfl,
    binary_at post_writes (E1 m c) 91 (y := main_v158) (a := main_v150) (b := main_call29_v0) (f := fun x v => pad S128 ![0] ![124] ![0] x v pads_S4_S128_01240 h_S_) rfl,
    unary_at post_writes (E1 m c) 90 (y := main_call29_v0) (x := main_c_32) (f := sitofp (F := Ideal) (s := S_) (w := 32) .f32) rfl,
    nullary_at post_writes (E1 m c) 89 (y := main_c_32) rfl]
  pointwise [h1]
  by_cases hl : l.val < 4
  · rw [dif_pos hl]
    exact dif_pos fun a => by
      match a with
      | ⟨0, _⟩ => exact hl
  · rw [dif_neg hl]
    refine (dif_neg fun hh => hl (hh ⟨0, Nat.zero_lt_one⟩)).trans ?_
    show ((((0#32 : BitVec 32).toInt : ℤ) : ℝ) : EReal) = 0
    simp

end Cert.Ref

end
-- ==== Proof.Equal.lean ====
/- The two programs' results over the extended reals: from the same arguments, the same arrays. -/
module

public import proofs.«01_k».proof.Proof.RetEq
public import proofs.«01_k».proof.Proof.RefLog

@[expose] public section

set_option maxRecDepth 16384

noncomputable section

namespace Cert.Equal

open Cert.Math Cert.Ret
open Idealize.ShloMosaic Idealize.ShloMosaic.TcCoe

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The memories agree on the arguments. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

variable {m m' c} (h : Agree m m' c)

include h

theorem logit_eq (i : Fin 4) : Ref.logit (Ref.L m' c) i = argZ m c i := congrFun h.2.2.1 (ix1 i)
theorem data_eq (b : Fin 2) : Ref.data (Ref.L m' c) b = dataOf (argQK m c) (argV m c) (argZ m c) b := by
  have h0 : Ref.L m' c (Proc.devRef .tc ReferenceIdeal.main_arg0) = argQK m c := h.1
  have h1 : Ref.L m' c (Proc.devRef .tc ReferenceIdeal.main_arg1) = argV m c := h.2.1
  unfold Ref.data
  rw [h0, h1, show Ref.logit (Ref.L m' c) = argZ m c from funext (logit_eq h)]
theorem grads_eq (b : Fin 2) : Ref.grads (Ref.L m' c) b = cotOf (argG m c) b := by
  have h3 : Ref.L m' c (Proc.devRef .tc ReferenceIdeal.main_arg3) = argG m c := h.2.2.2
  unfold Ref.grads
  rw [h3]

/-- The output. -/
theorem o_eq : Ref.Last m' c (Proc.devRef .tc ReferenceIdeal.main_v76) = (Fwd.dat (VF m ρ) c).arrAt 4 KernelIdeal.cfg0.N := by
  refine ext_heads fun b r k e => ?_
  rw [Ref.Last_kept m' (by decide +kernel) (by decide +kernel) (by decide +kernel)]
  refine (Ref.o_at m' c b r k e).trans (Eq.trans ?_ (Fwd.out_at (VF m ρ) c b r k e).symm)
  rw [data_eq h, data_fwd]

/-- The gradients of the queries and the keys. -/
theorem dqk_eq : Ref.Last m' c (Proc.devRef .tc ReferenceIdeal.main_v157) = (Bwd.dat (VB m ρ) c).arrAt 6 KernelIdeal.cfg1.N := by
  rw [Ref.Last_eq]
  refine ext_halves (fun b r k d => ?_) (fun b r k d => ?_)
  · refine (Ref.dq_at m' c b r k d).trans (Eq.trans ?_ (Bwd.dq_at (VB m ρ) c (saved m ρ c) b r k d).symm)
    rw [data_eq h, grads_eq h, data_bwd, grads_bwd]
  · refine (Ref.dk_at m' c b r k d).trans (Eq.trans ?_ (Bwd.dk_at (VB m ρ) c b r k d).symm)
    rw [data_eq h, grads_eq h, data_bwd, grads_bwd]

/-- The gradients of the values. -/
theorem dv_eq : Ref.Last m' c (Proc.devRef .tc ReferenceIdeal.main_v154) = (Bwd.dat (VB m ρ) c).arrAt 7 KernelIdeal.cfg1.N := by
  rw [Ref.Last_eq]
  refine ext_heads fun b r k e => ?_
  refine (Ref.dv_at m' c b r k e).trans (Eq.trans ?_ (Bwd.dv_at (VB m ρ) c b r k e).symm)
  rw [data_eq h, grads_eq h, data_bwd, grads_bwd]

/-- The gradients of the decay logits. -/
theorem dz_eq : Ref.Last m' c (Proc.devRef .tc ReferenceIdeal.main_v159) = (Bwd.dat (VB m ρ) c).arrAt 8 KernelIdeal.cfg1.N := by
  rw [Ref.Last_eq]
  refine ext_lanes fun l => ?_
  refine (Ref.lg_row m' c l).trans (Eq.trans ?_ (Bwd.lg_at (VB m ρ) c (saved m ρ c) l).symm)
  by_cases hl : l.val < 4
  · rw [dif_pos hl, dif_pos hl]
    simp only [data_eq h, grads_eq h, logit_eq h, data_bwd, grads_bwd, logit_bwd]
  · rw [dif_neg hl, dif_neg hl]

end Cert.Equal

end
-- ==== Proof.Prod.lean ====
/- Products of matrices by blocks: whole buffers stored and loaded, matrices read at natural coordinates, sums over the contracted axis in
   parts, and an output accumulated over a run of grid points. -/
module

public import Idealize.ShloMosaic.Lib.Pointwise
public import Idealize.ShloMosaic.Lib.Pipeline.Value
public import Idealize.ShloMosaic.Lib.Pipeline.ReadBack

@[expose] public section

noncomputable section

namespace Cert.Prod

open Idealize.ShloMosaic

/-- The block that is a whole buffer begins at its origin. -/
theorem origin : (![0, 0] : Fin 2 → Nat) = fun _ => 0 := funext fun a => by fin_cases a <;> rfl

/-- A load of a whole buffer reads it. -/
theorem load_whole {F : FTy → Type} {m n : ℕ} {e : EltTy} (x : Vec F (⟨2, ![m, n]⟩ : Shape) e)
    (inb : ∀ a, (![0, 0] : Fin 2 → Nat) a + (![m, n] : Fin 2 → Nat) a ≤ (![m, n] : Fin 2 → Nat) a) :
    View.ld x (Rect.unit (s := (⟨2, ![m, n]⟩ : Shape)) ![0, 0] ![m, n] inb) = x := View.ld_unit_zero (S := (⟨2, ![m, n]⟩ : Shape)) origin inb x

/-- One store of a whole buffer leaves what it stored, whatever was there. -/
theorem read_store {Val : EltTy → Type} [∀ e, Nonempty (Val e)] {sig : RefSig} {κ : Kind} {sp : Space} {S : Shape} {e : EltTy} (v : View sig κ sp S e)
    (f : v.ty.Contents Val) {off : Fin S.rank → Nat} (h : off = fun _ => 0) (inb : ∀ a, off a + S.size a ≤ S.size a) (x : S.Idx → Val e) :
    v.read Val (v.writes Val f [(⟨Rect.unit off S.size inb, x⟩ : View.Piece Val S e)]) = x :=
  (View.read_writes_eq_canon v f _ fun y => ⟨_, List.mem_singleton_self _, View.mem_set_unit_zero h inb y⟩).trans (View.canon_unit_zero h inb x)

theorem read_stored {Val : EltTy → Type} [∀ e, Nonempty (Val e)] {sig : RefSig} {κ : Kind} {sp : Space} {m n : ℕ} {e : EltTy}
    (v : View sig κ sp (⟨2, ![m, n]⟩ : Shape) e) (f : v.ty.Contents Val) (inb : ∀ a, (![0, 0] : Fin 2 → Nat) a + (![m, n] : Fin 2 → Nat) a ≤ (![m, n] : Fin 2 → Nat) a)
    (x : (⟨2, ![m, n]⟩ : Shape).Idx → Val e) :
    v.read Val (v.writes Val f [(⟨Rect.unit (s := (⟨2, ![m, n]⟩ : Shape)) ![0, 0] ![m, n] inb, x⟩ : View.Piece Val (⟨2, ![m, n]⟩ : Shape) e)]) = x :=
  read_store (S := (⟨2, ![m, n]⟩ : Shape)) v f origin inb x

/-- A matrix at natural coordinates, zero outside it. -/
def entry {m n : ℕ} (x : (⟨2, ![m, n]⟩ : Shape).Idx → EReal) (r c : ℕ) : EReal :=
  if h : r < m ∧ c < n then x (ix2 ⟨r, h.1⟩ ⟨c, h.2⟩) else 0

theorem entry_of {m n : ℕ} (x : (⟨2, ![m, n]⟩ : Shape).Idx → EReal) (r c : ℕ) (hr : r < m) (hc : c < n) :
    entry x r c = x (ix2 ⟨r, hr⟩ ⟨c, hc⟩) := dif_pos ⟨hr, hc⟩

/-- An index of a matrix, read at its coordinates. -/
theorem entry_ix {m n : ℕ} (x : (⟨2, ![m, n]⟩ : Shape).Idx → EReal) (r : Fin m) (c : Fin n) :
    x (ix2 r c) = entry x r.val c.val := (entry_of x r.val c.val r.isLt c.isLt).symm

/-- Matrices equal at every pair of coordinates are equal. -/
theorem ext_entries {m n : ℕ} {x y : (⟨2, ![m, n]⟩ : Shape).Idx → EReal} (h : ∀ r c, x (ix2 r c) = y (ix2 r c)) : x = y := funext fun i => by
  rw [eq_ix2 i]; exact h _ _

/-- What holds at every place of every tile of a matrix holds everywhere: the matrix is cut in `G` rows of `g` tiles, numbered row by row. -/
theorem of_tiles {m n tm tn : ℕ} (G g : ℕ) (hm : tm * G = m) (hn : tn * g = n) {P : Fin m → Fin n → Prop}
    (h : ∀ t < G * g, ∀ (r : Fin tm) (d : Fin tn) (R : Fin m) (C : Fin n), R.val = tm * (t / g) + r.val → C.val = tn * (t % g) + d.val → P R C)
    (R : Fin m) (C : Fin n) : P R C := by
  have hR : R.val < tm * G := hm ▸ R.isLt
  have hC : C.val < tn * g := hn ▸ C.isLt
  have tm0 : 0 < tm := Nat.pos_of_mul_pos_right (Nat.zero_lt_of_lt hR)
  have tn0 : 0 < tn := Nat.pos_of_mul_pos_right (Nat.zero_lt_of_lt hC)
  have hs : C.val / tn < g := Nat.div_lt_of_lt_mul hC
  have q : (g * (R.val / tm) + C.val / tn) / g = R.val / tm := by rw [Nat.mul_add_div (Nat.zero_lt_of_lt hs), Nat.div_eq_of_lt hs, Nat.add_zero]
  have s : (g * (R.val / tm) + C.val / tn) % g = C.val / tn := by rw [Nat.mul_add_mod, Nat.mod_eq_of_lt hs]
  refine h (g * (R.val / tm) + C.val / tn) ?_ ⟨R.val % tm, Nat.mod_lt _ tm0⟩ ⟨C.val % tn, Nat.mod_lt _ tn0⟩ R C ?_ ?_
  · calc g * (R.val / tm) + C.val / tn < g * (R.val / tm) + g := Nat.add_lt_add_left hs _
      _ = g * (R.val / tm + 1) := (Nat.mul_succ _ _).symm
      _ ≤ g * G := Nat.mul_le_mul_left g (Nat.div_lt_of_lt_mul hR)
      _ = G * g := Nat.mul_comm g G
  · rw [q]; exact (Nat.div_add_mod _ _).symm
  · rw [s]; exact (Nat.div_add_mod _ _).symm

/-- A sum over an axis cut into parts of equal length. -/
theorem sum_parts (f : ℕ → EReal) (B : ℕ) : ∀ K : ℕ,
    ∑ s ∈ Finset.range K, ∑ k : Fin B, f (B * s + k.val) = ∑ k ∈ Finset.range (B * K), f k
  | 0 => by simp
  | K + 1 => by
    rw [Finset.sum_range_succ, sum_parts f B K, Nat.mul_succ, Finset.sum_range_add, Fin.sum_univ_eq_sum_range (fun k => f (B * K + k)) B]

/-- What grid point `n` of runs of `J` points adds to entry (`r`, `d`) of its output block: part `n % J`, of length `B`, of the sum over
    the contracted axis of `f`, at the row `R` and the column `C` where the run's block has them. -/
def part (J B : ℕ) (f : ℕ → ℕ → ℕ → EReal) (R C : ℕ → ℕ → ℕ) (n r d : ℕ) : EReal :=
  ∑ k : Fin B, f (R (n / J) r) (C (n / J) d) (B * (n % J) + k.val)

/-- An accumulator set at the first point of each run of `J` points and added to at the following ones but the last. -/
structure Fills {N tm tn : ℕ} (J B : ℕ) (f : ℕ → ℕ → ℕ → EReal) (R C : ℕ → ℕ → ℕ)
    (S : (n : ℕ) → n < N → (⟨2, ![tm, tn]⟩ : Shape).Idx → EReal) : Prop where
  first : ∀ (n : ℕ) (h : n < N) (r : Fin tm) (d : Fin tn), n % J = 0 → S n h (ix2 r d) = part J B f R C n r.val d.val
  next : ∀ (n : ℕ) (h : n < N) (h' : n - 1 < N) (r : Fin tm) (d : Fin tn), 1 ≤ n % J → n % J + 2 ≤ J →
    S n h (ix2 r d) = S (n - 1) h' (ix2 r d) + part J B f R C n r.val d.val

variable {N tm tn J B : ℕ} {f : ℕ → ℕ → ℕ → EReal} {R C : ℕ → ℕ → ℕ} {S : (n : ℕ) → n < N → (⟨2, ![tm, tn]⟩ : Shape).Idx → EReal}

/-- The accumulator within a run: the sum of the parts so far. -/
theorem Fills.partial_sum (hS : Fills J B f R C S) (q : ℕ) (r : Fin tm) (d : Fin tn) : ∀ (j : ℕ) (h : J * q + j < N), j + 2 ≤ J →
    S (J * q + j) h (ix2 r d) = ∑ s ∈ Finset.range (j + 1), part J B f R C (J * q + s) r.val d.val
  | 0, h, _ => by
    rw [hS.first (J * q + 0) h r d (by rw [Nat.add_zero]; exact Nat.mul_mod_right J q), Finset.sum_range_one]
  | j + 1, h, hj => by
    have e : (J * q + (j + 1)) % J = j + 1 := by rw [Nat.mul_add_mod]; exact Nat.mod_eq_of_lt (by omega)
    rw [hS.next (J * q + (j + 1)) h (by omega) r d (by omega) (by omega), Finset.sum_range_succ _ (j + 1),
      ← hS.partial_sum q r d j (by omega) (by omega)]
    rfl

/-- The accumulator and the last point's part together: the sum over the whole contracted axis. -/
theorem Fills.total (hS : Fills J B f R C S) (hJ : 2 ≤ J) (K : ℕ) (hK : B * J = K) (q : ℕ) (h : J * q + (J - 1) - 1 < N) (r : Fin tm) (d : Fin tn) :
    S (J * q + (J - 1) - 1) h (ix2 r d) + part J B f R C (J * q + (J - 1)) r.val d.val = ∑ k : Fin K, f (R q r.val) (C q d.val) k.val := by
  have cut : ∀ s ∈ Finset.range J, part J B f R C (J * q + s) r.val d.val = ∑ k : Fin B, f (R q r.val) (C q d.val) (B * s + k.val) := fun s hs => by
    have hs := Finset.mem_range.mp hs
    unfold part
    rw [Nat.mul_add_div (by omega), Nat.div_eq_of_lt hs, Nat.add_zero, Nat.mul_add_mod, Nat.mod_eq_of_lt hs]
  have all : ∑ s ∈ Finset.range J, part J B f R C (J * q + s) r.val d.val = ∑ k : Fin K, f (R q r.val) (C q d.val) k.val := by
    rw [Finset.sum_congr rfl cut, sum_parts (fun k => f (R q r.val) (C q d.val) k), hK,
      Fin.sum_univ_eq_sum_range (fun k => f (R q r.val) (C q d.val) k)]
  rw [← all]
  obtain ⟨j, rfl⟩ : ∃ j, J = j + 2 := ⟨J - 2, by omega⟩
  rw [Finset.sum_range_succ _ (j + 1), ← hS.partial_sum q r d j (by omega) (by omega)]
  rfl

/-- An output and its accumulator: the last point of each run leaves the accumulator plus its part in the output. -/
structure Accumulates {N tm tn : ℕ} (J B : ℕ) (f : ℕ → ℕ → ℕ → EReal) (R C : ℕ → ℕ → ℕ)
    (O : (n : ℕ) → n < N → ((⟨2, ![tm, tn]⟩ : Shape).Idx → EReal) × ((⟨2, ![tm, tn]⟩ : Shape).Idx → EReal)) : Prop
    extends Fills J B f R C fun n h => (O n h).2 where
  last : ∀ (n : ℕ) (h : n < N) (h' : n - 1 < N) (r : Fin tm) (d : Fin tn), n % J + 1 = J →
    (O n h).1 (ix2 r d) = (O (n - 1) h').2 (ix2 r d) + part J B f R C n r.val d.val

/-- What the output holds at the end of a run: the sum over the whole contracted axis. -/
theorem Accumulates.total {O : (n : ℕ) → n < N → ((⟨2, ![tm, tn]⟩ : Shape).Idx → EReal) × ((⟨2, ![tm, tn]⟩ : Shape).Idx → EReal)}
    (hO : Accumulates J B f R C O) (hJ : 2 ≤ J) (K : ℕ) (hK : B * J = K) (q : ℕ) (h : J * q + (J - 1) < N) (r : Fin tm) (d : Fin tn) :
    (O (J * q + (J - 1)) h).1 (ix2 r d) = ∑ k : Fin K, f (R q r.val) (C q d.val) k.val := by
  rw [hO.last _ h (by omega) r d (by rw [Nat.mul_add_mod, Nat.mod_eq_of_lt (by omega)]; omega)]
  exact hO.toFills.total hJ K hK q (by omega) r d

end Cert.Prod

end
-- ==== Proof.WGrad.lean ====
/- The gradient of the input projection's weights: the region's array is the transposed argument times the cotangent, by the sum over all
   rows, and so is the reference's, which multiplies in the other order and transposes. -/
module

public import proofs.«01_k».proof.Proof.Prod
public import proofs.«01_k».proof.Defs
public import proofs.«01_k».proof.Proof.Gen.Kernel2Ideal.Value
public import proofs.«01_k».proof.Proof.Gen.Reference2Ideal.Run
public import Idealize.ShloMosaic.Lib.Pipeline.ValueKit.Acc
public import Idealize.ShloMosaic.Lib.Pipeline.ValueKit.Point

@[expose] public section

set_option maxRecDepth 16384

noncomputable section

namespace Cert.WGrad

open Cert.Kernel2Ideal Cert.Kernel2Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val % 5 ∧ win0_0.index t 1 = 0) ∧ win0_1.index t 0 = t.val % 5 ∧ win0_1.index t 1 = t.val / 5 := by decide +kernel

/-- The argument and the cotangent the region finds, and the term of an entry of their product at contracted row `k`. -/
abbrev arg : S8320x1024.Idx → EReal := m ((c : Thread nD τ).loc main_arg0)
abbrev cot : S8320x12800.Idx → EReal := m ((c : Thread nD τ).loc main_arg2)
def term (r d k : ℕ) : EReal := entry (arg m c) k r * entry (cot m c) k d

theorem arg_at (t : Fin cfg0.N) (k : Fin 1664) (r : Fin 1024) :
    iblk m c 0 t (ix2 k r) = entry (arg m c) (1664 * (t.val % 5) + k.val) r.val := by
  obtain ⟨⟨e0, e1⟩, -⟩ := places t
  rw [entry_of _ _ _ (by omega) (by omega)]
  blk_ext! [iblk, V, e0, e1]
theorem cot_at (t : Fin cfg0.N) (k : Fin 1664) (d : Fin 1280) :
    iblk m c 1 t (ix2 k d) = entry (cot m c) (1664 * (t.val % 5) + k.val) (1280 * (t.val / 5) + d.val) := by
  obtain ⟨-, e0, e1⟩ := places t
  have ht : t.val < 50 := Nat.lt_of_lt_of_eq t.isLt N_0
  rw [entry_of _ _ _ (by omega) (by omega)]
  blk_ext! [iblk, V, e0, e1]

/-- The accumulator is set, added to, and left in the output with the last part. -/
theorem accumulates : Accumulates 5 1664 (term m c) (fun _ r => r) (fun q d => 1280 * q + d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [arg_at, cot_at]
    rfl

/-- The array the region leaves: each entry is the sum over all rows. -/
theorem out_at (r : Fin 1024) (d : Fin 12800) :
    Cert.Kernel2Ideal.Value.G2 m c (ix2 r d) = ∑ k : Fin 8320, arg m c (ix2 k r) * cot m c (ix2 k d) := by
  have hN : cfg0.N = 50 := N_0
  have hq : 5 * (d.val / 1280) + 4 < cfg0.N := by omega
  have place : Cert.Kernel2Ideal.Value.pt2Of (ix2 r d) = 5 * (d.val / 1280) + 4 := by
    show 5 * (10 * (r.val / 1024 - 0) + 1 * (d.val / 1280 - 0)) + 4 = _
    omega
  unfold Cert.Kernel2Ideal.Value.G2
  rw [dif_pos (by rw [place]; exact hq), Cert.Kernel2Ideal.Value.fold0_congr m c _ _ _ (by omega) place,
    ← Cert.Kernel2Ideal.Value.outsAt0_sweep m c _ hq]
  rw [eq_ix2 (Cert.Kernel2Ideal.Value.loc2Of (ix2 r d))]
  refine ((accumulates m c).total (by decide) 8320 rfl (d.val / 1280) hq _ _).trans (Finset.sum_congr rfl fun k _ => ?_)
  show term m c (r.val % 1024) (1280 * (d.val / 1280) + d.val % 1280) k.val = _
  rw [Nat.div_add_mod, Nat.mod_eq_of_lt r.isLt, entry_ix (arg m c) k r, entry_ix (cot m c) k d]
  rfl

/-- The reference's product at an entry. -/
theorem ref_at (hb : FTy.bits .bf16 < FTy.bits .f32) (ht : Cert.Reference2Ideal.S12800x1024.Transposes [1, 0] S1024x12800)
    (x : FVec Ideal S8320x1024 .bf16) (w : FVec Ideal S8320x12800 .bf16) (r : Fin 1024) (d : Fin 12800) :
    (transpose S1024x12800 [1, 0] (Host.dotGeneral Cert.Reference2Ideal.dot_S8320x12800_S8320x1024_S12800x1024_0_0_1_1_n_n none
      (extf .f32 w hb) (extf .f32 x hb) : FVec Ideal Cert.Reference2Ideal.S12800x1024 .f32) ht : FVec Ideal S1024x12800 .f32) (ix2 r d)
      = (∑ k : Fin 8320, (x (ix2 k r) : EReal) * (w (ix2 k d) : EReal) : EReal) := by
  pointwise
  exact Finset.sum_congr rfl fun k _ => mul_comm _ _

/-- Over the extended reals the kernel and the reference end with the same gradient. -/
theorem equal : algebraic_Kernel2Ideal_Reference2Ideal (hKernel2Ideal := Cert.Kernel2Ideal.Gen.facts) (hReference2Ideal := Cert.Reference2Ideal.Gen.facts) :=
  fun m ρ m' ρ' _ h => ⟨fun c => Cert.Kernel2Ideal.Value.G2 m c, Cert.Kernel2Ideal.Value.run m ρ,
    (θ_run Cert.Reference2Ideal.defs _ _).mono (fun _ r c => ⟨(r c).1.trans (by
      obtain ⟨e0, -, e2⟩ := h c
      rw [e0, e2]
      exact ext_entries fun i d => (ref_at _ _ _ _ i d).trans (out_at m c i d).symm), (r c).2⟩) (Cert.Reference2Ideal.Value.run m' ρ')⟩

end Cert.WGrad

end
-- ==== Proof.XGrad.lean ====
/- The gradient of the input projection's argument: the region's array is the cotangent times the transposed weights, by the sum over all
   columns, and so is the reference's. -/
module

public import proofs.«01_k».proof.Proof.Prod
public import proofs.«01_k».proof.Defs
public import proofs.«01_k».proof.Proof.Gen.Kernel3Ideal.Value
public import proofs.«01_k».proof.Proof.Gen.Reference3Ideal.Run
public import Idealize.ShloMosaic.Lib.Pipeline.ValueKit.Acc
public import Idealize.ShloMosaic.Lib.Pipeline.ValueKit.Point

@[expose] public section

set_option maxRecDepth 16384

noncomputable section

namespace Cert.XGrad

open Cert.Kernel3Ideal Cert.Kernel3Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val / 10 ∧ win0_0.index t 1 = t.val % 10) ∧ win0_1.index t 0 = 0 ∧ win0_1.index t 1 = t.val % 10 := by decide +kernel

/-- The cotangent and the weights the region finds, and the term of an entry of their product at contracted column `k`. -/
abbrev cot : S8320x12800.Idx → EReal := m ((c : Thread nD τ).loc main_arg2)
abbrev wts : S1024x12800.Idx → EReal := m ((c : Thread nD τ).loc main_arg1)
def term (r d k : ℕ) : EReal := entry (cot m c) r k * entry (wts m c) d k

theorem cot_at (t : Fin cfg0.N) (r : Fin 2080) (k : Fin 1280) :
    iblk m c 0 t (ix2 r k) = entry (cot m c) (2080 * (t.val / 10) + r.val) (1280 * (t.val % 10) + k.val) := by
  obtain ⟨⟨e0, e1⟩, -⟩ := places t
  have ht : t.val < 40 := Nat.lt_of_lt_of_eq t.isLt N_0
  rw [entry_of _ _ _ (by omega) (by omega)]
  blk_ext! [iblk, V, e0, e1]
theorem wts_at (t : Fin cfg0.N) (d : Fin 1024) (k : Fin 1280) :
    iblk m c 1 t (ix2 d k) = entry (wts m c) d.val (1280 * (t.val % 10) + k.val) := by
  obtain ⟨-, e0, e1⟩ := places t
  rw [entry_of _ _ _ (by omega) (by omega)]
  blk_ext! [iblk, V, e0, e1]

/-- The accumulator is set, added to, and left in the output with the last part. -/
theorem accumulates : Accumulates 10 1280 (term m c) (fun q r => 2080 * q + r) (fun _ d => d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [cot_at, wts_at]
    rfl

/-- The array the region leaves: each entry is the sum over all columns. -/
theorem out_at (r : Fin 8320) (d : Fin 1024) :
    Cert.Kernel3Ideal.Value.G2 m c (ix2 r d) = ∑ k : Fin 12800, cot m c (ix2 r k) * wts m c (ix2 d k) := by
  have hN : cfg0.N = 40 := N_0
  have hq : 10 * (r.val / 2080) + 9 < cfg0.N := by omega
  have place : Cert.Kernel3Ideal.Value.pt2Of (ix2 r d) = 10 * (r.val / 2080) + 9 := by
    show 10 * (1 * (r.val / 2080 - 0) + 1 * (d.val / 1024 - 0)) + 9 = _
    omega
  unfold Cert.Kernel3Ideal.Value.G2
  rw [dif_pos (by rw [place]; exact hq), Cert.Kernel3Ideal.Value.fold0_congr m c _ _ _ (by omega) place,
    ← Cert.Kernel3Ideal.Value.outsAt0_sweep m c _ hq]
  rw [eq_ix2 (Cert.Kernel3Ideal.Value.loc2Of (ix2 r d))]
  refine ((accumulates m c).total (by decide) 12800 rfl (r.val / 2080) hq _ _).trans (Finset.sum_congr rfl fun k _ => ?_)
  show term m c (2080 * (r.val / 2080) + r.val % 2080) (d.val % 1024) k.val = _
  rw [Nat.div_add_mod, Nat.mod_eq_of_lt d.isLt, entry_ix (cot m c) r k, entry_ix (wts m c) d k]
  rfl

/-- The reference's product at an entry. -/
theorem ref_at (hb : FTy.bits .bf16 < FTy.bits .f32) (x : FVec Ideal S8320x12800 .bf16) (w : FVec Ideal S1024x12800 .bf16) (r : Fin 8320) (d : Fin 1024) :
    (Host.dotGeneral Cert.Reference3Ideal.dot_S8320x12800_S1024x12800_S8320x1024_1_1_0_0_n_n none (extf .f32 x hb) (extf .f32 w hb) : FVec Ideal S8320x1024 .f32)
      (ix2 r d) = (∑ k : Fin 12800, (x (ix2 r k) : EReal) * (w (ix2 d k) : EReal) : EReal) := by
  pointwise

/-- Over the extended reals the kernel and the reference end with the same gradient. -/
theorem equal : algebraic_Kernel3Ideal_Reference3Ideal (hKernel3Ideal := Cert.Kernel3Ideal.Gen.facts) (hReference3Ideal := Cert.Reference3Ideal.Gen.facts) :=
  fun m ρ m' ρ' _ h => ⟨fun c => Cert.Kernel3Ideal.Value.G2 m c, Cert.Kernel3Ideal.Value.run m ρ,
    (θ_run Cert.Reference3Ideal.defs _ _).mono (fun _ r c => ⟨(r c).1.trans (by
      obtain ⟨-, e1, e2⟩ := h c
      rw [e1, e2]
      exact ext_entries fun i d => (ref_at _ _ _ i d).trans (out_at m c i d).symm), (r c).2⟩) (Cert.Reference3Ideal.Value.run m' ρ')⟩

end Cert.XGrad

end
-- ==== Proof.Proj.lean ====
/- A projection: each point writes one block of the product, and the blocks make the reference's product. -/
module

public import proofs.«01_k».proof.Proof.Prod
public import proofs.«01_k».proof.Defs
public import proofs.«01_k».proof.Proof.Gen.Kernel4Ideal.Value
public import proofs.«01_k».proof.Proof.Gen.Reference4Ideal.Run
public import Idealize.ShloMosaic.Lib.Pipeline.ValueKit.Acc
public import Idealize.ShloMosaic.Lib.Pipeline.ValueKit.Point

@[expose] public section

set_option maxRecDepth 16384

noncomputable section

namespace Cert.Proj

open Cert.Kernel4Ideal Cert.Kernel4Ideal.Gen
open Idealize.SL.Sem Idealize.ShloMosaic Idealize.ShloMosaic.TcCoe Idealize.ShloMosaic.Tactic
open Cert.Prod

/-- What a point leaves in the output's buffer: the product of its blocks. -/
theorem out_entry (x : Vec Ideal S2080x1024 .bf16) (w : Vec Ideal S1024x1280 .bf16) (r : Fin 2080) (d : Fin 1280) :
    out0_2 x w (ix2 r d) = (∑ k : Fin 1024, (x (ix2 r k) : EReal) * (w (ix2 k d) : EReal) : EReal) := by
  unfold out0_2
  rw [View.canon_unit_zero origin, load_whole, load_whole]
  unfold k0_pay1
  pointwise

variable (m : (ℓ : Loc nD τ sig) → Buf (Elt Ideal) ℓ) (c : Dev nD)

/-- Where each window's block lies at each point. -/
theorem places : ∀ t : Fin grid0.N, (win0_0.index t 0 = t.val / 10 ∧ win0_0.index t 1 = 0) ∧ (win0_1.index t 0 = 0 ∧ win0_1.index t 1 = t.val % 10)
    ∧ win0_2.index t 0 = t.val / 10 ∧ win0_2.index t 1 = t.val % 10 := by decide +kernel

/-- The argument and the weights the region finds. -/
abbrev arg : S8320x1024.Idx → EReal := m ((c : Thread nD τ).loc main_arg0)
abbrev wts : S1024x12800.Idx → EReal := m ((c : Thread nD τ).loc main_arg1)

/-- What the region leaves where a point's block lies. -/
theorem block_at (t : Fin cfg0.N) (r : Fin 2080) (d : Fin 1280) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel4Ideal.Value.disjoint2 t (flush0_2 t) (ix2 r d)
  rw [Cert.Kernel4Ideal.Value.flushed2] at key
  generalize out0_2 (iblk m c 0 t) (iblk m c 1 t) = X at key ⊢
  exact key

/-- The array the region leaves: each entry is the sum over the contracted axis. -/
theorem out_at : ∀ (R : Fin 8320) (C : Fin 12800), (dats m 0 c).arrAt 2 cfg0.N (ix2 R C) = ∑ k : Fin 1024, arg m c (ix2 R k) * wts m c (ix2 k C) := by
  refine of_tiles (tm := 2080) (tn := 1280) 4 10 rfl rfl fun n hn r d R C hR hC => ?_
  obtain ⟨t, rfl⟩ : ∃ t : Fin cfg0.N, t.val = n := ⟨⟨n, Nat.lt_of_lt_of_eq hn N_0.symm⟩, rfl⟩
  obtain ⟨⟨a0, a1⟩, ⟨b0, b1⟩, e0, e1⟩ := places t
  have place : ((cfg0.win 2).blk t).view.emb (ix2 r d) = ix2 R C := by blk_ext! [e0, e1, hR, hC]
  refine (congrArg ((dats m 0 c).arrAt 2 cfg0.N) place).symm.trans ((block_at m c t r d).trans
    ((out_entry _ _ r d).trans (Finset.sum_congr rfl fun k _ => congrArg₂ (· * ·) ?_ ?_)))
  · blk_ext! [iblk, V, a0, a1, hR]
  · blk_ext! [iblk, V, b0, b1, hC]

/-- The reference's product at an entry. -/
theorem ref_at (hb : FTy.bits .bf16 < FTy.bits .f32) (x : FVec Ideal S8320x1024 .bf16) (w : FVec Ideal S1024x12800 .bf16) (r : Fin 8320) (d : Fin 12800) :
    (Host.dotGeneral Cert.Reference4Ideal.dot_S8320x1024_S1024x12800_S8320x12800_1_0_0_1_n_n none (extf .f32 x hb) (extf .f32 w hb) : FVec Ideal S8320x12800 .f32)
      (ix2 r d) = (∑ k : Fin 1024, (x (ix2 r k) : EReal) * (w (ix2 k d) : EReal) : EReal) := by
  pointwise

/-- Over the extended reals the kernel and the reference end with the same product. -/
theorem equal : algebraic_Kernel4Ideal_Reference4Ideal (hKernel4Ideal := Cert.Kernel4Ideal.Gen.facts) (hReference4Ideal := Cert.Reference4Ideal.Gen.facts) :=
  fun m ρ m' ρ' _ h => ⟨fun c => (dats m 0 c).arrAt 2 cfg0.N, Cert.Kernel4Ideal.Value.run_blocks m ρ,
    (θ_run Cert.Reference4Ideal.defs _ _).mono (fun _ r c => ⟨(r c).1.trans (by
      obtain ⟨e0, e1⟩ := h c
      rw [e0, e1]
      exact ext_entries fun i d => (ref_at _ _ _ i d).trans (out_at m c i d).symm), (r c).2⟩) (Cert.Reference4Ideal.Value.run m' ρ')⟩

end Cert.Proj

end
-- ==== Proof.FfnIn.lean ====
/- The feed-forward's input projection: each point writes one block of the product, and the blocks make the reference's product. -/
module

public import proofs.«01_k».proof.Proof.Prod
public import proofs.«01_k».proof.Defs
public import proofs.«01_k».proof.Proof.Gen.Kernel5Ideal.Value
public import proofs.«01_k».proof.Proof.Gen.Reference5Ideal.Run
public import Idealize.ShloMosaic.Lib.Pipeline.ValueKit.Acc
public import Idealize.ShloMosaic.Lib.Pipeline.ValueKit.Point

@[expose] public section

set_option maxRecDepth 16384

noncomputable section

namespace Cert.FfnIn

open Cert.Kernel5Ideal Cert.Kernel5Ideal.Gen
open Idealize.SL.Sem Idealize.ShloMosaic Idealize.ShloMosaic.TcCoe Idealize.ShloMosaic.Tactic
open Cert.Prod

/-- What a point leaves in the output's buffer: the product of its blocks. -/
theorem out_entry (x : Vec Ideal S2080x1024 .bf16) (w : Vec Ideal S1024x1408 .bf16) (r : Fin 2080) (d : Fin 1408) :
    out0_2 x w (ix2 r d) = (∑ k : Fin 1024, (x (ix2 r k) : EReal) * (w (ix2 k d) : EReal) : EReal) := by
  unfold out0_2
  rw [View.canon_unit_zero origin, load_whole, load_whole]
  unfold k0_pay1
  pointwise

variable (m : (ℓ : Loc nD τ sig) → Buf (Elt Ideal) ℓ) (c : Dev nD)

/-- Where each window's block lies at each point. -/
theorem places : ∀ t : Fin grid0.N, (win0_0.index t 0 = t.val / 4 ∧ win0_0.index t 1 = 0) ∧ (win0_1.index t 0 = 0 ∧ win0_1.index t 1 = t.val % 4)
    ∧ win0_2.index t 0 = t.val / 4 ∧ win0_2.index t 1 = t.val % 4 := by decide +kernel

/-- The argument and the weights the region finds. -/
abbrev arg : S8320x1024.Idx → EReal := m ((c : Thread nD τ).loc main_arg0)
abbrev wts : S1024x5632.Idx → EReal := m ((c : Thread nD τ).loc main_arg1)

/-- What the region leaves where a point's block lies. -/
theorem block_at (t : Fin cfg0.N) (r : Fin 2080) (d : Fin 1408) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel5Ideal.Value.disjoint2 t (flush0_2 t) (ix2 r d)
  rw [Cert.Kernel5Ideal.Value.flushed2] at key
  generalize out0_2 (iblk m c 0 t) (iblk m c 1 t) = X at key ⊢
  exact key

/-- The array the region leaves: each entry is the sum over the contracted axis. -/
theorem out_at : ∀ (R : Fin 8320) (C : Fin 5632), (dats m 0 c).arrAt 2 cfg0.N (ix2 R C) = ∑ k : Fin 1024, arg m c (ix2 R k) * wts m c (ix2 k C) := by
  refine of_tiles (tm := 2080) (tn := 1408) 4 4 rfl rfl fun n hn r d R C hR hC => ?_
  obtain ⟨t, rfl⟩ : ∃ t : Fin cfg0.N, t.val = n := ⟨⟨n, Nat.lt_of_lt_of_eq hn N_0.symm⟩, rfl⟩
  obtain ⟨⟨a0, a1⟩, ⟨b0, b1⟩, e0, e1⟩ := places t
  have place : ((cfg0.win 2).blk t).view.emb (ix2 r d) = ix2 R C := by blk_ext! [e0, e1, hR, hC]
  refine (congrArg ((dats m 0 c).arrAt 2 cfg0.N) place).symm.trans ((block_at m c t r d).trans
    ((out_entry _ _ r d).trans (Finset.sum_congr rfl fun k _ => congrArg₂ (· * ·) ?_ ?_)))
  · blk_ext! [iblk, V, a0, a1, hR]
  · blk_ext! [iblk, V, b0, b1, hC]

/-- The reference's product at an entry. -/
theorem ref_at (hb : FTy.bits .bf16 < FTy.bits .f32) (x : FVec Ideal S8320x1024 .bf16) (w : FVec Ideal S1024x5632 .bf16) (r : Fin 8320) (d : Fin 5632) :
    (Host.dotGeneral Cert.Reference5Ideal.dot_S8320x1024_S1024x5632_S8320x5632_1_0_0_1_n_n none (extf .f32 x hb) (extf .f32 w hb) : FVec Ideal S8320x5632 .f32)
      (ix2 r d) = (∑ k : Fin 1024, (x (ix2 r k) : EReal) * (w (ix2 k d) : EReal) : EReal) := by
  pointwise

/-- Over the extended reals the kernel and the reference end with the same product. -/
theorem equal : algebraic_Kernel5Ideal_Reference5Ideal (hKernel5Ideal := Cert.Kernel5Ideal.Gen.facts) (hReference5Ideal := Cert.Reference5Ideal.Gen.facts) :=
  fun m ρ m' ρ' _ h => ⟨fun c => (dats m 0 c).arrAt 2 cfg0.N, Cert.Kernel5Ideal.Value.run_blocks m ρ,
    (θ_run Cert.Reference5Ideal.defs _ _).mono (fun _ r c => ⟨(r c).1.trans (by
      obtain ⟨e0, e1⟩ := h c
      rw [e0, e1]
      exact ext_entries fun i d => (ref_at _ _ _ i d).trans (out_at m c i d).symm), (r c).2⟩) (Cert.Reference5Ideal.Value.run m' ρ')⟩

end Cert.FfnIn

end
-- ==== Proof.FfnInW.lean ====
/- The gradient of the feed-forward's input weights: the region's array is the transposed argument times the cotangent, by the sum over all
   rows, and so is the reference's, which multiplies in the other order and transposes. -/
module

public import proofs.«01_k».proof.Proof.Prod
public import proofs.«01_k».proof.Defs
public import proofs.«01_k».proof.Proof.Gen.Kernel6Ideal.Value
public import proofs.«01_k».proof.Proof.Gen.Reference6Ideal.Run
public import Idealize.ShloMosaic.Lib.Pipeline.ValueKit.Acc
public import Idealize.ShloMosaic.Lib.Pipeline.ValueKit.Point

@[expose] public section

set_option maxRecDepth 16384

noncomputable section

namespace Cert.FfnInW

open Cert.Kernel6Ideal Cert.Kernel6Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val % 5 ∧ win0_0.index t 1 = 0) ∧ win0_1.index t 0 = t.val % 5 ∧ win0_1.index t 1 = t.val / 5 := by decide +kernel

/-- The argument and the cotangent the region finds, and the term of an entry of their product at contracted row `k`. -/
abbrev arg : S8320x1024.Idx → EReal := m ((c : Thread nD τ).loc main_arg0)
abbrev cot : S8320x5632.Idx → EReal := m ((c : Thread nD τ).loc main_arg2)
def term (r d k : ℕ) : EReal := entry (arg m c) k r * entry (cot m c) k d

theorem arg_at (t : Fin cfg0.N) (k : Fin 1664) (r : Fin 1024) :
    iblk m c 0 t (ix2 k r) = entry (arg m c) (1664 * (t.val % 5) + k.val) r.val := by
  obtain ⟨⟨e0, e1⟩, -⟩ := places t
  rw [entry_of _ _ _ (by omega) (by omega)]
  blk_ext! [iblk, V, e0, e1]
theorem cot_at (t : Fin cfg0.N) (k : Fin 1664) (d : Fin 1408) :
    iblk m c 1 t (ix2 k d) = entry (cot m c) (1664 * (t.val % 5) + k.val) (1408 * (t.val / 5) + d.val) := by
  obtain ⟨-, e0, e1⟩ := places t
  have ht : t.val < 20 := Nat.lt_of_lt_of_eq t.isLt N_0
  rw [entry_of _ _ _ (by omega) (by omega)]
  blk_ext! [iblk, V, e0, e1]

/-- The accumulator is set, added to, and left in the output with the last part. -/
theorem accumulates : Accumulates 5 1664 (term m c) (fun _ r => r) (fun q d => 1408 * q + d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [arg_at, cot_at]
    rfl

/-- The array the region leaves: each entry is the sum over all rows. -/
theorem out_at (r : Fin 1024) (d : Fin 5632) :
    Cert.Kernel6Ideal.Value.G2 m c (ix2 r d) = ∑ k : Fin 8320, arg m c (ix2 k r) * cot m c (ix2 k d) := by
  have hN : cfg0.N = 20 := N_0
  have hq : 5 * (d.val / 1408) + 4 < cfg0.N := by omega
  have place : Cert.Kernel6Ideal.Value.pt2Of (ix2 r d) = 5 * (d.val / 1408) + 4 := by
    show 5 * (4 * (r.val / 1024 - 0) + 1 * (d.val / 1408 - 0)) + 4 = _
    omega
  unfold Cert.Kernel6Ideal.Value.G2
  rw [dif_pos (by rw [place]; exact hq), Cert.Kernel6Ideal.Value.fold0_congr m c _ _ _ (by omega) place,
    ← Cert.Kernel6Ideal.Value.outsAt0_sweep m c _ hq]
  rw [eq_ix2 (Cert.Kernel6Ideal.Value.loc2Of (ix2 r d))]
  refine ((accumulates m c).total (by decide) 8320 rfl (d.val / 1408) hq _ _).trans (Finset.sum_congr rfl fun k _ => ?_)
  show term m c (r.val % 1024) (1408 * (d.val / 1408) + d.val % 1408) k.val = _
  rw [Nat.div_add_mod, Nat.mod_eq_of_lt r.isLt, entry_ix (arg m c) k r, entry_ix (cot m c) k d]
  rfl

/-- The reference's product at an entry. -/
theorem ref_at (hb : FTy.bits .bf16 < FTy.bits .f32) (ht : Cert.Reference6Ideal.S5632x1024.Transposes [1, 0] S1024x5632)
    (x : FVec Ideal S8320x1024 .bf16) (w : FVec Ideal S8320x5632 .bf16) (r : Fin 1024) (d : Fin 5632) :
    (transpose S1024x5632 [1, 0] (Host.dotGeneral Cert.Reference6Ideal.dot_S8320x5632_S8320x1024_S5632x1024_0_0_1_1_n_n none
      (extf .f32 w hb) (extf .f32 x hb) : FVec Ideal Cert.Reference6Ideal.S5632x1024 .f32) ht : FVec Ideal S1024x5632 .f32) (ix2 r d)
      = (∑ k : Fin 8320, (x (ix2 k r) : EReal) * (w (ix2 k d) : EReal) : EReal) := by
  pointwise
  exact Finset.sum_congr rfl fun k _ => mul_comm _ _

/-- Over the extended reals the kernel and the reference end with the same gradient. -/
theorem equal : algebraic_Kernel6Ideal_Reference6Ideal (hKernel6Ideal := Cert.Kernel6Ideal.Gen.facts) (hReference6Ideal := Cert.Reference6Ideal.Gen.facts) :=
  fun m ρ m' ρ' _ h => ⟨fun c => Cert.Kernel6Ideal.Value.G2 m c, Cert.Kernel6Ideal.Value.run m ρ,
    (θ_run Cert.Reference6Ideal.defs _ _).mono (fun _ r c => ⟨(r c).1.trans (by
      obtain ⟨e0, -, e2⟩ := h c
      rw [e0, e2]
      exact ext_entries fun i d => (ref_at _ _ _ _ i d).trans (out_at m c i d).symm), (r c).2⟩) (Cert.Reference6Ideal.Value.run m' ρ')⟩

end Cert.FfnInW

end
-- ==== Proof.FfnInX.lean ====
/- The gradient of the feed-forward's input argument: the region's array is the cotangent times the transposed weights, by the sum over all
   columns, and so is the reference's. -/
module

public import proofs.«01_k».proof.Proof.Prod
public import proofs.«01_k».proof.Defs
public import proofs.«01_k».proof.Proof.Gen.Kernel7Ideal.Value
public import proofs.«01_k».proof.Proof.Gen.Reference7Ideal.Run
public import Idealize.ShloMosaic.Lib.Pipeline.ValueKit.Acc
public import Idealize.ShloMosaic.Lib.Pipeline.ValueKit.Point

@[expose] public section

set_option maxRecDepth 16384

noncomputable section

namespace Cert.FfnInX

open Cert.Kernel7Ideal Cert.Kernel7Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val / 4 ∧ win0_0.index t 1 = t.val % 4) ∧ win0_1.index t 0 = 0 ∧ win0_1.index t 1 = t.val % 4 := by decide +kernel

/-- The cotangent and the weights the region finds, and the term of an entry of their product at contracted column `k`. -/
abbrev cot : S8320x5632.Idx → EReal := m ((c : Thread nD τ).loc main_arg2)
abbrev wts : S1024x5632.Idx → EReal := m ((c : Thread nD τ).loc main_arg1)
def term (r d k : ℕ) : EReal := entry (cot m c) r k * entry (wts m c) d k

theorem cot_at (t : Fin cfg0.N) (r : Fin 1040) (k : Fin 1408) :
    iblk m c 0 t (ix2 r k) = entry (cot m c) (1040 * (t.val / 4) + r.val) (1408 * (t.val % 4) + k.val) := by
  obtain ⟨⟨e0, e1⟩, -⟩ := places t
  have ht : t.val < 32 := Nat.lt_of_lt_of_eq t.isLt N_0
  rw [entry_of _ _ _ (by omega) (by omega)]
  blk_ext! [iblk, V, e0, e1]
theorem wts_at (t : Fin cfg0.N) (d : Fin 1024) (k : Fin 1408) :
    iblk m c 1 t (ix2 d k) = entry (wts m c) d.val (1408 * (t.val % 4) + k.val) := by
  obtain ⟨-, e0, e1⟩ := places t
  rw [entry_of _ _ _ (by omega) (by omega)]
  blk_ext! [iblk, V, e0, e1]

/-- The accumulator is set, added to, and left in the output with the last part. -/
theorem accumulates : Accumulates 4 1408 (term m c) (fun q r => 1040 * q + r) (fun _ d => d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [cot_at, wts_at]
    rfl

/-- The array the region leaves: each entry is the sum over all columns. -/
theorem out_at (r : Fin 8320) (d : Fin 1024) :
    Cert.Kernel7Ideal.Value.G2 m c (ix2 r d) = ∑ k : Fin 5632, cot m c (ix2 r k) * wts m c (ix2 d k) := by
  have hN : cfg0.N = 32 := N_0
  have hq : 4 * (r.val / 1040) + 3 < cfg0.N := by omega
  have place : Cert.Kernel7Ideal.Value.pt2Of (ix2 r d) = 4 * (r.val / 1040) + 3 := by
    show 4 * (1 * (r.val / 1040 - 0) + 1 * (d.val / 1024 - 0)) + 3 = _
    omega
  unfold Cert.Kernel7Ideal.Value.G2
  rw [dif_pos (by rw [place]; exact hq), Cert.Kernel7Ideal.Value.fold0_congr m c _ _ _ (by omega) place,
    ← Cert.Kernel7Ideal.Value.outsAt0_sweep m c _ hq]
  rw [eq_ix2 (Cert.Kernel7Ideal.Value.loc2Of (ix2 r d))]
  refine ((accumulates m c).total (by decide) 5632 rfl (r.val / 1040) hq _ _).trans (Finset.sum_congr rfl fun k _ => ?_)
  show term m c (1040 * (r.val / 1040) + r.val % 1040) (d.val % 1024) k.val = _
  rw [Nat.div_add_mod, Nat.mod_eq_of_lt d.isLt, entry_ix (cot m c) r k, entry_ix (wts m c) d k]
  rfl

/-- The reference's product at an entry. -/
theorem ref_at (hb : FTy.bits .bf16 < FTy.bits .f32) (x : FVec Ideal S8320x5632 .bf16) (w : FVec Ideal S1024x5632 .bf16) (r : Fin 8320) (d : Fin 1024) :
    (Host.dotGeneral Cert.Reference7Ideal.dot_S8320x5632_S1024x5632_S8320x1024_1_1_0_0_n_n none (extf .f32 x hb) (extf .f32 w hb) : FVec Ideal S8320x1024 .f32)
      (ix2 r d) = (∑ k : Fin 5632, (x (ix2 r k) : EReal) * (w (ix2 d k) : EReal) : EReal) := by
  pointwise

/-- Over the extended reals the kernel and the reference end with the same gradient. -/
theorem equal : algebraic_Kernel7Ideal_Reference7Ideal (hKernel7Ideal := Cert.Kernel7Ideal.Gen.facts) (hReference7Ideal := Cert.Reference7Ideal.Gen.facts) :=
  fun m ρ m' ρ' _ h => ⟨fun c => Cert.Kernel7Ideal.Value.G2 m c, Cert.Kernel7Ideal.Value.run m ρ,
    (θ_run Cert.Reference7Ideal.defs _ _).mono (fun _ r c => ⟨(r c).1.trans (by
      obtain ⟨-, e1, e2⟩ := h c
      rw [e1, e2]
      exact ext_entries fun i d => (ref_at _ _ _ i d).trans (out_at m c i d).symm), (r c).2⟩) (Cert.Reference7Ideal.Value.run m' ρ')⟩

end Cert.FfnInX

end
-- ==== Proof.FfnOut.lean ====
/- The feed-forward's output projection: the region's array is the product, by the sum over all columns in two parts, plus the array the
   layer carries past it, and so is the reference's. -/
module

public import proofs.«01_k».proof.Proof.Prod
public import proofs.«01_k».proof.Defs
public import proofs.«01_k».proof.Proof.Gen.Kernel8Ideal.Value
public import proofs.«01_k».proof.Proof.Gen.Reference8Ideal.Run
public import Idealize.ShloMosaic.Lib.Pipeline.ValueKit.Acc
public import Idealize.ShloMosaic.Lib.Pipeline.ValueKit.Point

@[expose] public section

set_option maxRecDepth 16384

noncomputable section

namespace Cert.FfnOut

open Cert.Kernel8Ideal Cert.Kernel8Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val / 2 ∧ win0_0.index t 1 = t.val % 2) ∧ (win0_1.index t 0 = t.val % 2 ∧ win0_1.index t 1 = 0)
      ∧ win0_2.index t 0 = t.val / 2 ∧ win0_2.index t 1 = 0 := by decide +kernel

/-- The argument, the weights and the carried array the region finds, and the term of an entry of the product at contracted column `k`. -/
abbrev arg : S8320x2816.Idx → EReal := m ((c : Thread nD τ).loc main_arg0)
abbrev wts : S2816x1024.Idx → EReal := m ((c : Thread nD τ).loc main_arg1)
abbrev res : S8320x1024.Idx → EReal := m ((c : Thread nD τ).loc main_arg2)
def term (r d k : ℕ) : EReal := entry (arg m c) r k * entry (wts m c) k d

theorem arg_at (t : Fin cfg0.N) (r : Fin 1040) (k : Fin 1408) :
    iblk m c 0 t (ix2 r k) = entry (arg m c) (1040 * (t.val / 2) + r.val) (1408 * (t.val % 2) + k.val) := by
  obtain ⟨⟨e0, e1⟩, -⟩ := places t
  have ht : t.val < 16 := Nat.lt_of_lt_of_eq t.isLt N_0
  rw [entry_of _ _ _ (by omega) (by omega)]
  blk_ext! [iblk, V, e0, e1]
theorem wts_at (t : Fin cfg0.N) (k : Fin 1408) (d : Fin 1024) :
    iblk m c 1 t (ix2 k d) = entry (wts m c) (1408 * (t.val % 2) + k.val) d.val := by
  obtain ⟨-, ⟨e0, e1⟩, -⟩ := places t
  rw [entry_of _ _ _ (by omega) (by omega)]
  blk_ext! [iblk, V, e0, e1]
theorem res_at (t : Fin cfg0.N) (r : Fin 1040) (d : Fin 1024) :
    iblk m c 2 t (ix2 r d) = entry (res m c) (1040 * (t.val / 2) + r.val) d.val := by
  obtain ⟨-, -, e0, e1⟩ := places t
  have ht : t.val < 16 := Nat.lt_of_lt_of_eq t.isLt N_0
  rw [entry_of _ _ _ (by omega) (by omega)]
  blk_ext! [iblk, V, e0, e1]

theorem fills : Fills 2 1408 (term m c) (fun q r => 1040 * q + r) (fun _ d => d) (fun n h => (outsAt0 m c n h).2) where
  first n h r d hn := by
    refine (congrFun (congrArg Prod.snd (outsAt0_A m c ⟨n, h⟩ hn (by dsimp only; omega))) _).trans ?_
    unfold sout0_A_0 kernelRun0_A k0_pay1
    simp only [read_stored, View.readAt_eq_ld, Memref.IsWhole.read_unread, read_unread_whole, load_whole]
    pointwise
    simp only [arg_at, wts_at]
    rfl
  next n h h' r d h1 h2 := by omega

/-- The second of two points leaves the accumulator, its part and the carried entry in the output. -/
theorem last (n : ℕ) (h : n < cfg0.N) (h' : n - 1 < cfg0.N) (r : Fin 1040) (d : Fin 1024) (hn : n % 2 = 1) :
    (outsAt0 m c n h).1 (ix2 r d) = (outsAt0 m c (n - 1) h').2 (ix2 r d) + part 2 1408 (term m c) (fun q r => 1040 * q + r) (fun _ d => d) n r.val d.val
      + entry (res m c) (1040 * (n / 2) + r.val) d.val := by
  refine (congrFun (congrArg Prod.fst (outsAt0_B m c ⟨n, h⟩ (by dsimp only; omega) hn)) _).trans ?_
  unfold out0_B_3 kernelRun0_B k0_pay3
  simp only [read_stored, View.readAt_eq_ld, Memref.IsWhole.read_unread, read_unread_whole, load_whole]
  pointwise
  simp only [arg_at, wts_at, res_at]
  rfl

/-- The array the region leaves: each entry is the sum over all columns plus the carried entry. -/
theorem out_at (r : Fin 8320) (d : Fin 1024) :
    Cert.Kernel8Ideal.Value.G3 m c (ix2 r d) = (∑ k : Fin 2816, arg m c (ix2 r k) * wts m c (ix2 k d)) + res m c (ix2 r d) := by
  have hN : cfg0.N = 16 := N_0
  have hq : 2 * (r.val / 1040) + 1 < cfg0.N := by omega
  have place : Cert.Kernel8Ideal.Value.pt3Of (ix2 r d) = 2 * (r.val / 1040) + 1 := by
    show 2 * (1 * (r.val / 1040 - 0) + 1 * (d.val / 1024 - 0)) + 1 = _
    omega
  unfold Cert.Kernel8Ideal.Value.G3
  rw [dif_pos (by rw [place]; exact hq), Cert.Kernel8Ideal.Value.fold0_congr m c _ _ _ (by omega) place,
    ← Cert.Kernel8Ideal.Value.outsAt0_sweep m c _ hq]
  rw [eq_ix2 (Cert.Kernel8Ideal.Value.loc3Of (ix2 r d))]
  refine (last m c _ hq (by omega) _ _ (by omega)).trans (congrArg₂ (· + ·) (((fills m c).total (by decide) 2816 rfl (r.val / 1040) (by omega) _ _).trans (Finset.sum_congr rfl fun k _ => ?_)) ?_)
  · show term m c (1040 * (r.val / 1040) + r.val % 1040) (d.val % 1024) k.val = _
    rw [Nat.div_add_mod, Nat.mod_eq_of_lt d.isLt, entry_ix (arg m c) r k, entry_ix (wts m c) k d]
    rfl
  · show entry (res m c) (1040 * ((2 * (r.val / 1040) + 1) / 2) + r.val % 1040) (d.val % 1024) = _
    rw [show (2 * (r.val / 1040) + 1) / 2 = r.val / 1040 by omega, Nat.div_add_mod, Nat.mod_eq_of_lt d.isLt, entry_ix (res m c) r d]

/-- The reference's sum at an entry. -/
theorem ref_at (hb : FTy.bits .bf16 < FTy.bits .f32) (x : FVec Ideal S8320x2816 .bf16) (w : FVec Ideal S2816x1024 .bf16) (y : FVec Ideal S8320x1024 .f32)
    (r : Fin 8320) (d : Fin 1024) :
    (addf y (Host.dotGeneral Cert.Reference8Ideal.dot_S8320x2816_S2816x1024_S8320x1024_1_0_0_1_n_n none (extf .f32 x hb) (extf .f32 w hb)) : FVec Ideal S8320x1024 .f32)
      (ix2 r d) = ((∑ k : Fin 2816, (x (ix2 r k) : EReal) * (w (ix2 k d) : EReal)) + (y (ix2 r d) : EReal) : EReal) := by
  pointwise
  exact add_comm _ _

/-- Over the extended reals the kernel and the reference end with the same array. -/
theorem equal : algebraic_Kernel8Ideal_Reference8Ideal (hKernel8Ideal := Cert.Kernel8Ideal.Gen.facts) (hReference8Ideal := Cert.Reference8Ideal.Gen.facts) :=
  fun m ρ m' ρ' _ h => ⟨fun c => Cert.Kernel8Ideal.Value.G3 m c, Cert.Kernel8Ideal.Value.run m ρ,
    (θ_run Cert.Reference8Ideal.defs _ _).mono (fun _ r c => ⟨(r c).1.trans (by
      obtain ⟨e0, e1, e2⟩ := h c
      rw [e0, e1, e2]
      exact ext_entries fun i d => (ref_at _ _ _ _ i d).trans (out_at m c i d).symm), (r c).2⟩) (Cert.Reference8Ideal.Value.run m' ρ')⟩

end Cert.FfnOut

end
-- ==== Proof.FfnOutW.lean ====
/- The gradient of the feed-forward's output weights: the region's array is the transposed argument times the cotangent, by the sum over all
   rows, and so is the reference's, which multiplies in the other order and transposes. -/
module

public import proofs.«01_k».proof.Proof.Prod
public import proofs.«01_k».proof.Defs
public import proofs.«01_k».proof.Proof.Gen.Kernel9Ideal.Value
public import proofs.«01_k».proof.Proof.Gen.Reference9Ideal.Run
public import Idealize.ShloMosaic.Lib.Pipeline.ValueKit.Acc
public import Idealize.ShloMosaic.Lib.Pipeline.ValueKit.Point

@[expose] public section

set_option maxRecDepth 16384

noncomputable section

namespace Cert.FfnOutW

open Cert.Kernel9Ideal Cert.Kernel9Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val % 5 ∧ win0_0.index t 1 = t.val / 5) ∧ win0_1.index t 0 = t.val % 5 ∧ win0_1.index t 1 = 0 := by decide +kernel

/-- The argument and the cotangent the region finds, and the term of an entry of their product at contracted row `k`. -/
abbrev arg : S8320x2816.Idx → EReal := m ((c : Thread nD τ).loc main_arg0)
abbrev cot : S8320x1024.Idx → EReal := m ((c : Thread nD τ).loc main_arg2)
def term (r d k : ℕ) : EReal := entry (arg m c) k r * entry (cot m c) k d

theorem arg_at (t : Fin cfg0.N) (k : Fin 1664) (r : Fin 1408) :
    iblk m c 0 t (ix2 k r) = entry (arg m c) (1664 * (t.val % 5) + k.val) (1408 * (t.val / 5) + r.val) := by
  obtain ⟨⟨e0, e1⟩, -⟩ := places t
  have ht : t.val < 10 := Nat.lt_of_lt_of_eq t.isLt N_0
  rw [entry_of _ _ _ (by omega) (by omega)]
  blk_ext! [iblk, V, e0, e1]
theorem cot_at (t : Fin cfg0.N) (k : Fin 1664) (d : Fin 1024) :
    iblk m c 1 t (ix2 k d) = entry (cot m c) (1664 * (t.val % 5) + k.val) d.val := by
  obtain ⟨-, e0, e1⟩ := places t
  rw [entry_of _ _ _ (by omega) (by omega)]
  blk_ext! [iblk, V, e0, e1]

/-- The accumulator is set, added to, and left in the output with the last part. -/
theorem accumulates : Accumulates 5 1664 (term m c) (fun q r => 1408 * q + r) (fun _ d => d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [arg_at, cot_at]
    rfl

/-- The array the region leaves: each entry is the sum over all rows. -/
theorem out_at (r : Fin 2816) (d : Fin 1024) :
    Cert.Kernel9Ideal.Value.G2 m c (ix2 r d) = ∑ k : Fin 8320, arg m c (ix2 k r) * cot m c (ix2 k d) := by
  have hN : cfg0.N = 10 := N_0
  have hq : 5 * (r.val / 1408) + 4 < cfg0.N := by omega
  have place : Cert.Kernel9Ideal.Value.pt2Of (ix2 r d) = 5 * (r.val / 1408) + 4 := by
    show 5 * (1 * (r.val / 1408 - 0) + 1 * (d.val / 1024 - 0)) + 4 = _
    omega
  unfold Cert.Kernel9Ideal.Value.G2
  rw [dif_pos (by rw [place]; exact hq), Cert.Kernel9Ideal.Value.fold0_congr m c _ _ _ (by omega) place,
    ← Cert.Kernel9Ideal.Value.outsAt0_sweep m c _ hq]
  rw [eq_ix2 (Cert.Kernel9Ideal.Value.loc2Of (ix2 r d))]
  refine ((accumulates m c).total (by decide) 8320 rfl (r.val / 1408) hq _ _).trans (Finset.sum_congr rfl fun k _ => ?_)
  show term m c (1408 * (r.val / 1408) + r.val % 1408) (d.val % 1024) k.val = _
  rw [Nat.div_add_mod, Nat.mod_eq_of_lt d.isLt, entry_ix (arg m c) k r, entry_ix (cot m c) k d]
  rfl

/-- The reference's product at an entry. -/
theorem ref_at (hb : FTy.bits .bf16 < FTy.bits .f32) (ht : Cert.Reference9Ideal.S1024x2816.Transposes [1, 0] S2816x1024)
    (x : FVec Ideal S8320x2816 .bf16) (w : FVec Ideal S8320x1024 .f32) (r : Fin 2816) (d : Fin 1024) :
    (transpose S2816x1024 [1, 0] (Host.dotGeneral Cert.Reference9Ideal.dot_S8320x1024_S8320x2816_S1024x2816_0_0_1_1_n_n none
      w (extf .f32 x hb) : FVec Ideal Cert.Reference9Ideal.S1024x2816 .f32) ht : FVec Ideal S2816x1024 .f32) (ix2 r d)
      = (∑ k : Fin 8320, (x (ix2 k r) : EReal) * (w (ix2 k d) : EReal) : EReal) := by
  pointwise
  exact Finset.sum_congr rfl fun k _ => mul_comm _ _

/-- Over the extended reals the kernel and the reference end with the same gradient. -/
theorem equal : algebraic_Kernel9Ideal_Reference9Ideal (hKernel9Ideal := Cert.Kernel9Ideal.Gen.facts) (hReference9Ideal := Cert.Reference9Ideal.Gen.facts) :=
  fun m ρ m' ρ' _ h => ⟨fun c => Cert.Kernel9Ideal.Value.G2 m c, Cert.Kernel9Ideal.Value.run m ρ,
    (θ_run Cert.Reference9Ideal.defs _ _).mono (fun _ r c => ⟨(r c).1.trans (by
      obtain ⟨e0, -, e2⟩ := h c
      rw [e0, e2]
      exact ext_entries fun i d => (ref_at _ _ _ _ i d).trans (out_at m c i d).symm), (r c).2⟩) (Cert.Reference9Ideal.Value.run m' ρ')⟩

end Cert.FfnOutW

end
-- ==== Proof.FfnOutX.lean ====
/- The gradient of the feed-forward's output argument: each point writes one block of the cotangent times the transposed weights, and the
   blocks make the reference's product. -/
module

public import proofs.«01_k».proof.Proof.Prod
public import proofs.«01_k».proof.Defs
public import proofs.«01_k».proof.Proof.Gen.Kernel10Ideal.Value
public import proofs.«01_k».proof.Proof.Gen.Reference10Ideal.Run
public import Idealize.ShloMosaic.Lib.Pipeline.ValueKit.Acc
public import Idealize.ShloMosaic.Lib.Pipeline.ValueKit.Point

@[expose] public section

set_option maxRecDepth 16384

noncomputable section

namespace Cert.FfnOutX

open Cert.Kernel10Ideal Cert.Kernel10Ideal.Gen
open Idealize.SL.Sem Idealize.ShloMosaic Idealize.ShloMosaic.TcCoe Idealize.ShloMosaic.Tactic
open Cert.Prod

/-- What a point leaves in the output's buffer: the product of its blocks. -/
theorem out_entry (x : Vec Ideal S1040x1024 .f32) (w : Vec Ideal S1408x1024 .bf16) (r : Fin 1040) (d : Fin 1408) :
    out0_2 x w (ix2 r d) = (∑ k : Fin 1024, (x (ix2 r k) : EReal) * (w (ix2 d k) : EReal) : EReal) := by
  unfold out0_2
  rw [View.canon_unit_zero origin, load_whole, load_whole]
  unfold k0_pay1
  pointwise

variable (m : (ℓ : Loc nD τ sig) → Buf (Elt Ideal) ℓ) (c : Dev nD)

/-- Where each window's block lies at each point. -/
theorem places : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 := by decide +kernel

/-- The cotangent and the weights the region finds. -/
abbrev cot : S8320x1024.Idx → EReal := m ((c : Thread nD τ).loc main_arg2)
abbrev wts : S2816x1024.Idx → EReal := m ((c : Thread nD τ).loc main_arg1)

/-- What the region leaves where a point's block lies. -/
theorem block_at (t : Fin cfg0.N) (r : Fin 1040) (d : Fin 1408) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel10Ideal.Value.disjoint2 t (flush0_2 t) (ix2 r d)
  rw [Cert.Kernel10Ideal.Value.flushed2] at key
  generalize out0_2 (iblk m c 0 t) (iblk m c 1 t) = X at key ⊢
  exact key

/-- The array the region leaves: each entry is the sum over the contracted axis. -/
theorem out_at : ∀ (R : Fin 8320) (C : Fin 2816), (dats m 0 c).arrAt 2 cfg0.N (ix2 R C) = ∑ k : Fin 1024, cot m c (ix2 R k) * wts m c (ix2 C k) := by
  refine of_tiles (tm := 1040) (tn := 1408) 8 2 rfl rfl fun n hn r d R C hR hC => ?_
  obtain ⟨t, rfl⟩ : ∃ t : Fin cfg0.N, t.val = n := ⟨⟨n, Nat.lt_of_lt_of_eq hn N_0.symm⟩, rfl⟩
  obtain ⟨⟨a0, a1⟩, ⟨b0, b1⟩, e0, e1⟩ := places t
  have place : ((cfg0.win 2).blk t).view.emb (ix2 r d) = ix2 R C := by blk_ext! [e0, e1, hR, hC]
  refine (congrArg ((dats m 0 c).arrAt 2 cfg0.N) place).symm.trans ((block_at m c t r d).trans
    ((out_entry _ _ r d).trans (Finset.sum_congr rfl fun k _ => congrArg₂ (· * ·) ?_ ?_)))
  · blk_ext! [iblk, V, a0, a1, hR]
  · blk_ext! [iblk, V, b0, b1, hC]

/-- The reference's product at an entry. -/
theorem ref_at (hb : FTy.bits .bf16 < FTy.bits .f32) (x : FVec Ideal S8320x1024 .f32) (w : FVec Ideal S2816x1024 .bf16) (r : Fin 8320) (d : Fin 2816) :
    (Host.dotGeneral Cert.Reference10Ideal.dot_S8320x1024_S2816x1024_S8320x2816_1_1_0_0_n_n none x (extf .f32 w hb) : FVec Ideal S8320x2816 .f32)
      (ix2 r d) = (∑ k : Fin 1024, (x (ix2 r k) : EReal) * (w (ix2 d k) : EReal) : EReal) := by
  pointwise

/-- Over the extended reals the kernel and the reference end with the same product. -/
theorem equal : algebraic_Kernel10Ideal_Reference10Ideal (hKernel10Ideal := Cert.Kernel10Ideal.Gen.facts) (hReference10Ideal := Cert.Reference10Ideal.Gen.facts) :=
  fun m ρ m' ρ' _ h => ⟨fun c => (dats m 0 c).arrAt 2 cfg0.N, Cert.Kernel10Ideal.Value.run_blocks m ρ,
    (θ_run Cert.Reference10Ideal.defs _ _).mono (fun _ r c => ⟨(r c).1.trans (by
      obtain ⟨-, e1, e2⟩ := h c
      rw [e1, e2]
      exact ext_entries fun i d => (ref_at _ _ _ i d).trans (out_at m c i d).symm), (r c).2⟩) (Cert.Reference10Ideal.Value.run m' ρ')⟩

end Cert.FfnOutX

end
-- ==== Proof.Up.lean ====
/- The retention branch's output projection: the region's array is the product, by the sum over all columns in two parts, and so is the
   reference's. -/
module

public import proofs.«01_k».proof.Proof.Prod
public import proofs.«01_k».proof.Defs
public import proofs.«01_k».proof.Proof.Gen.Kernel11Ideal.Value
public import proofs.«01_k».proof.Proof.Gen.Reference11Ideal.Run
public import Idealize.ShloMosaic.Lib.Pipeline.ValueKit.Acc
public import Idealize.ShloMosaic.Lib.Pipeline.ValueKit.Point

@[expose] public section

set_option maxRecDepth 16384

noncomputable section

namespace Cert.Up

open Cert.Kernel11Ideal Cert.Kernel11Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val / 2 ∧ win0_0.index t 1 = t.val % 2) ∧ win0_1.index t 0 = t.val % 2 ∧ win0_1.index t 1 = 0 := by decide +kernel

/-- The argument and the weights the region finds, and the term of an entry of the product at contracted column `k`. -/
abbrev arg : S8320x2048.Idx → EReal := m ((c : Thread nD τ).loc main_arg0)
abbrev wts : S2048x1024.Idx → EReal := m ((c : Thread nD τ).loc main_arg1)
def term (r d k : ℕ) : EReal := entry (arg m c) r k * entry (wts m c) k d

theorem arg_at (t : Fin cfg0.N) (r : Fin 2080) (k : Fin 1024) :
    iblk m c 0 t (ix2 r k) = entry (arg m c) (2080 * (t.val / 2) + r.val) (1024 * (t.val % 2) + k.val) := by
  obtain ⟨⟨e0, e1⟩, -⟩ := places t
  have ht : t.val < 8 := Nat.lt_of_lt_of_eq t.isLt N_0
  rw [entry_of _ _ _ (by omega) (by omega)]
  blk_ext! [iblk, V, e0, e1]
theorem wts_at (t : Fin cfg0.N) (k : Fin 1024) (d : Fin 1024) :
    iblk m c 1 t (ix2 k d) = entry (wts m c) (1024 * (t.val % 2) + k.val) d.val := by
  obtain ⟨-, e0, e1⟩ := places t
  rw [entry_of _ _ _ (by omega) (by omega)]
  blk_ext! [iblk, V, e0, e1]

/-- The accumulator is set, and left in the output with the second part. -/
theorem accumulates : Accumulates 2 1024 (term m c) (fun q r => 2080 * q + r) (fun _ d => d) (outsAt0 m c) where
  first n h r d hn := by
    refine (congrFun (congrArg Prod.snd (outsAt0_A m c ⟨n, h⟩ hn (by dsimp only; omega))) _).trans ?_
    unfold sout0_A_0 kernelRun0_A k0_pay1
    simp only [read_stored, View.readAt_eq_ld, Memref.IsWhole.read_unread, read_unread_whole, load_whole]
    pointwise
    simp only [arg_at, wts_at]
    rfl
  next n h h' r d h1 h2 := by omega
  last n h h' r d hn := by
    refine (congrFun (congrArg Prod.fst (outsAt0_B m c ⟨n, h⟩ (by dsimp only; omega) (by dsimp only; omega))) _).trans ?_
    unfold out0_B_2 kernelRun0_B k0_pay3
    simp only [read_stored, View.readAt_eq_ld, Memref.IsWhole.read_unread, read_unread_whole, load_whole]
    pointwise
    simp only [arg_at, wts_at]
    rfl

/-- The array the region leaves: each entry is the sum over all columns. -/
theorem out_at (r : Fin 8320) (d : Fin 1024) :
    Cert.Kernel11Ideal.Value.G2 m c (ix2 r d) = ∑ k : Fin 2048, arg m c (ix2 r k) * wts m c (ix2 k d) := by
  have hN : cfg0.N = 8 := N_0
  have hq : 2 * (r.val / 2080) + 1 < cfg0.N := by omega
  have place : Cert.Kernel11Ideal.Value.pt2Of (ix2 r d) = 2 * (r.val / 2080) + 1 := by
    show 2 * (1 * (r.val / 2080 - 0) + 1 * (d.val / 1024 - 0)) + 1 = _
    omega
  unfold Cert.Kernel11Ideal.Value.G2
  rw [dif_pos (by rw [place]; exact hq), Cert.Kernel11Ideal.Value.fold0_congr m c _ _ _ (by omega) place,
    ← Cert.Kernel11Ideal.Value.outsAt0_sweep m c _ hq]
  rw [eq_ix2 (Cert.Kernel11Ideal.Value.loc2Of (ix2 r d))]
  refine ((accumulates m c).total (by decide) 2048 rfl (r.val / 2080) hq _ _).trans (Finset.sum_congr rfl fun k _ => ?_)
  show term m c (2080 * (r.val / 2080) + r.val % 2080) (d.val % 1024) k.val = _
  rw [Nat.div_add_mod, Nat.mod_eq_of_lt d.isLt, entry_ix (arg m c) r k, entry_ix (wts m c) k d]
  rfl

/-- The reference's product at an entry. -/
theorem ref_at (hb : FTy.bits .bf16 < FTy.bits .f32) (x : FVec Ideal S8320x2048 .bf16) (w : FVec Ideal S2048x1024 .bf16) (r : Fin 8320) (d : Fin 1024) :
    (Host.dotGeneral Cert.Reference11Ideal.dot_S8320x2048_S2048x1024_S8320x1024_1_0_0_1_n_n none (extf .f32 x hb) (extf .f32 w hb) : FVec Ideal S8320x1024 .f32)
      (ix2 r d) = (∑ k : Fin 2048, (x (ix2 r k) : EReal) * (w (ix2 k d) : EReal) : EReal) := by
  pointwise

/-- Over the extended reals the kernel and the reference end with the same product. -/
theorem equal : algebraic_Kernel11Ideal_Reference11Ideal (hKernel11Ideal := Cert.Kernel11Ideal.Gen.facts) (hReference11Ideal := Cert.Reference11Ideal.Gen.facts) :=
  fun m ρ m' ρ' _ h => ⟨fun c => Cert.Kernel11Ideal.Value.G2 m c, Cert.Kernel11Ideal.Value.run m ρ,
    (θ_run Cert.Reference11Ideal.defs _ _).mono (fun _ r c => ⟨(r c).1.trans (by
      obtain ⟨e0, e1⟩ := h c
      rw [e0, e1]
      exact ext_entries fun i d => (ref_at _ _ _ i d).trans (out_at m c i d).symm), (r c).2⟩) (Cert.Reference11Ideal.Value.run m' ρ')⟩

end Cert.Up

end
-- ==== Proof.UpW.lean ====
/- The gradient of the retention branch's output projection's weights: the region's array is the transposed argument times the cotangent, by the sum over all
   rows, and so is the reference's, which multiplies in the other order and transposes. -/
module

public import proofs.«01_k».proof.Proof.Prod
public import proofs.«01_k».proof.Defs
public import proofs.«01_k».proof.Proof.Gen.Kernel12Ideal.Value
public import proofs.«01_k».proof.Proof.Gen.Reference12Ideal.Run
public import Idealize.ShloMosaic.Lib.Pipeline.ValueKit.Acc
public import Idealize.ShloMosaic.Lib.Pipeline.ValueKit.Point

@[expose] public section

set_option maxRecDepth 16384

noncomputable section

namespace Cert.UpW

open Cert.Kernel12Ideal Cert.Kernel12Ideal.Gen
open Idealize.SL.Sem Idealize.ShloMosaic Idealize.ShloMosaic.TcCoe Idealize.ShloMosaic.Tactic
open Cert.Prod

variable (m : (ℓ : Loc nD τ sig) → Buf (Elt Ideal) ℓ) (c : Dev nD)

/-- Where each window's block lies at each point. -/
theorem places : ∀ t : Fin grid0.N, (win0_0.index t 0 = t.val % 5 ∧ win0_0.index t 1 = t.val / 5) ∧ win0_1.index t 0 = t.val % 5 ∧ win0_1.index t 1 = 0 := by decide +kernel

/-- The argument and the cotangent the region finds, and the term of an entry of their product at contracted row `k`. -/
abbrev arg : S8320x2048.Idx → EReal := m ((c : Thread nD τ).loc main_arg0)
abbrev cot : S8320x1024.Idx → EReal := m ((c : Thread nD τ).loc main_arg2)
def term (r d k : ℕ) : EReal := entry (arg m c) k r * entry (cot m c) k d

theorem arg_at (t : Fin cfg0.N) (k : Fin 1664) (r : Fin 1024) :
    iblk m c 0 t (ix2 k r) = entry (arg m c) (1664 * (t.val % 5) + k.val) (1024 * (t.val / 5) + r.val) := by
  obtain ⟨⟨e0, e1⟩, -⟩ := places t
  have ht : t.val < 10 := Nat.lt_of_lt_of_eq t.isLt N_0
  rw [entry_of _ _ _ (by omega) (by omega)]
  blk_ext! [iblk, V, e0, e1]
theorem cot_at (t : Fin cfg0.N) (k : Fin 1664) (d : Fin 1024) :
    iblk m c 1 t (ix2 k d) = entry (cot m c) (1664 * (t.val % 5) + k.val) d.val := by
  obtain ⟨-, e0, e1⟩ := places t
  rw [entry_of _ _ _ (by omega) (by omega)]
  blk_ext! [iblk, V, e0, e1]

/-- The accumulator is set, added to, and left in the output with the last part. -/
theorem accumulates : Accumulates 5 1664 (term m c) (fun q r => 1024 * q + r) (fun _ d => d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [arg_at, cot_at]
    rfl

/-- The array the region leaves: each entry is the sum over all rows. -/
theorem out_at (r : Fin 2048) (d : Fin 1024) :
    Cert.Kernel12Ideal.Value.G2 m c (ix2 r d) = ∑ k : Fin 8320, arg m c (ix2 k r) * cot m c (ix2 k d) := by
  have hN : cfg0.N = 10 := N_0
  have hq : 5 * (r.val / 1024) + 4 < cfg0.N := by omega
  have place : Cert.Kernel12Ideal.Value.pt2Of (ix2 r d) = 5 * (r.val / 1024) + 4 := by
    show 5 * (1 * (r.val / 1024 - 0) + 1 * (d.val / 1024 - 0)) + 4 = _
    omega
  unfold Cert.Kernel12Ideal.Value.G2
  rw [dif_pos (by rw [place]; exact hq), Cert.Kernel12Ideal.Value.fold0_congr m c _ _ _ (by omega) place,
    ← Cert.Kernel12Ideal.Value.outsAt0_sweep m c _ hq]
  rw [eq_ix2 (Cert.Kernel12Ideal.Value.loc2Of (ix2 r d))]
  refine ((accumulates m c).total (by decide) 8320 rfl (r.val / 1024) hq _ _).trans (Finset.sum_congr rfl fun k _ => ?_)
  show term m c (1024 * (r.val / 1024) + r.val % 1024) (d.val % 1024) k.val = _
  rw [Nat.div_add_mod, Nat.mod_eq_of_lt d.isLt, entry_ix (arg m c) k r, entry_ix (cot m c) k d]
  rfl

/-- The reference's product at an entry. -/
theorem ref_at (hb : FTy.bits .bf16 < FTy.bits .f32) (ht : Cert.Reference12Ideal.S1024x2048.Transposes [1, 0] S2048x1024)
    (x : FVec Ideal S8320x2048 .bf16) (w : FVec Ideal S8320x1024 .bf16) (r : Fin 2048) (d : Fin 1024) :
    (transpose S2048x1024 [1, 0] (Host.dotGeneral Cert.Reference12Ideal.dot_S8320x1024_S8320x2048_S1024x2048_0_0_1_1_n_n none
      (extf .f32 w hb) (extf .f32 x hb) : FVec Ideal Cert.Reference12Ideal.S1024x2048 .f32) ht : FVec Ideal S2048x1024 .f32) (ix2 r d)
      = (∑ k : Fin 8320, (x (ix2 k r) : EReal) * (w (ix2 k d) : EReal) : EReal) := by
  pointwise
  exact Finset.sum_congr rfl fun k _ => mul_comm _ _

/-- Over the extended reals the kernel and the reference end with the same gradient. -/
theorem equal : algebraic_Kernel12Ideal_Reference12Ideal (hKernel12Ideal := Cert.Kernel12Ideal.Gen.facts) (hReference12Ideal := Cert.Reference12Ideal.Gen.facts) :=
  fun m ρ m' ρ' _ h => ⟨fun c => Cert.Kernel12Ideal.Value.G2 m c, Cert.Kernel12Ideal.Value.run m ρ,
    (θ_run Cert.Reference12Ideal.defs _ _).mono (fun _ r c => ⟨(r c).1.trans (by
      obtain ⟨e0, -, e2⟩ := h c
      rw [e0, e2]
      exact ext_entries fun i d => (ref_at _ _ _ _ i d).trans (out_at m c i d).symm), (r c).2⟩) (Cert.Reference12Ideal.Value.run m' ρ')⟩

end Cert.UpW

end
-- ==== Proof.UpX.lean ====
/- The gradient of the retention branch's output projection's argument: each point writes one block of the cotangent times the transposed weights, and the
   blocks make the reference's product. -/
module

public import proofs.«01_k».proof.Proof.Prod
public import proofs.«01_k».proof.Defs
public import proofs.«01_k».proof.Proof.Gen.Kernel13Ideal.Value
public import proofs.«01_k».proof.Proof.Gen.Reference13Ideal.Run
public import Idealize.ShloMosaic.Lib.Pipeline.ValueKit.Acc
public import Idealize.ShloMosaic.Lib.Pipeline.ValueKit.Point

@[expose] public section

set_option maxRecDepth 16384

noncomputable section

namespace Cert.UpX

open Cert.Kernel13Ideal Cert.Kernel13Ideal.Gen
open Idealize.SL.Sem Idealize.ShloMosaic Idealize.ShloMosaic.TcCoe Idealize.ShloMosaic.Tactic
open Cert.Prod

/-- What a point leaves in the output's buffer: the product of its blocks. -/
theorem out_entry (x : Vec Ideal S2080x1024 .bf16) (w : Vec Ideal S1024x1024 .bf16) (r : Fin 2080) (d : Fin 1024) :
    out0_2 x w (ix2 r d) = (∑ k : Fin 1024, (x (ix2 r k) : EReal) * (w (ix2 d k) : EReal) : EReal) := by
  unfold out0_2
  rw [View.canon_unit_zero origin, load_whole, load_whole]
  unfold k0_pay1
  pointwise

variable (m : (ℓ : Loc nD τ sig) → Buf (Elt Ideal) ℓ) (c : Dev nD)

/-- Where each window's block lies at each point. -/
theorem places : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 := by decide +kernel

/-- The cotangent and the weights the region finds. -/
abbrev cot : S8320x1024.Idx → EReal := m ((c : Thread nD τ).loc main_arg2)
abbrev wts : S2048x1024.Idx → EReal := m ((c : Thread nD τ).loc main_arg1)

/-- What the region leaves where a point's block lies. -/
theorem block_at (t : Fin cfg0.N) (r : Fin 2080) (d : Fin 1024) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel13Ideal.Value.disjoint2 t (flush0_2 t) (ix2 r d)
  rw [Cert.Kernel13Ideal.Value.flushed2] at key
  generalize out0_2 (iblk m c 0 t) (iblk m c 1 t) = X at key ⊢
  exact key

/-- The array the region leaves: each entry is the sum over the contracted axis. -/
theorem out_at : ∀ (R : Fin 8320) (C : Fin 2048), (dats m 0 c).arrAt 2 cfg0.N (ix2 R C) = ∑ k : Fin 1024, cot m c (ix2 R k) * wts m c (ix2 C k) := by
  refine of_tiles (tm := 2080) (tn := 1024) 4 2 rfl rfl fun n hn r d R C hR hC => ?_
  obtain ⟨t, rfl⟩ : ∃ t : Fin cfg0.N, t.val = n := ⟨⟨n, Nat.lt_of_lt_of_eq hn N_0.symm⟩, rfl⟩
  obtain ⟨⟨a0, a1⟩, ⟨b0, b1⟩, e0, e1⟩ := places t
  have place : ((cfg0.win 2).blk t).view.emb (ix2 r d) = ix2 R C := by blk_ext! [e0, e1, hR, hC]
  refine (congrArg ((dats m 0 c).arrAt 2 cfg0.N) place).symm.trans ((block_at m c t r d).trans
    ((out_entry _ _ r d).trans (Finset.sum_congr rfl fun k _ => congrArg₂ (· * ·) ?_ ?_)))
  · blk_ext! [iblk, V, a0, a1, hR]
  · blk_ext! [iblk, V, b0, b1, hC]

/-- The reference's product at an entry. -/
theorem ref_at (hb : FTy.bits .bf16 < FTy.bits .f32) (x : FVec Ideal S8320x1024 .bf16) (w : FVec Ideal S2048x1024 .bf16) (r : Fin 8320) (d : Fin 2048) :
    (Host.dotGeneral Cert.Reference13Ideal.dot_S8320x1024_S2048x1024_S8320x2048_1_1_0_0_n_n none (extf .f32 x hb) (extf .f32 w hb) : FVec Ideal S8320x2048 .f32)
      (ix2 r d) = (∑ k : Fin 1024, (x (ix2 r k) : EReal) * (w (ix2 d k) : EReal) : EReal) := by
  pointwise

/-- Over the extended reals the kernel and the reference end with the same product. -/
theorem equal : algebraic_Kernel13Ideal_Reference13Ideal (hKernel13Ideal := Cert.Kernel13Ideal.Gen.facts) (hReference13Ideal := Cert.Reference13Ideal.Gen.facts) :=
  fun m ρ m' ρ' _ h => ⟨fun c => (dats m 0 c).arrAt 2 cfg0.N, Cert.Kernel13Ideal.Value.run_blocks m ρ,
    (θ_run Cert.Reference13Ideal.defs _ _).mono (fun _ r c => ⟨(r c).1.trans (by
      obtain ⟨-, e1, e2⟩ := h c
      rw [e1, e2]
      exact ext_entries fun i d => (ref_at _ _ _ i d).trans (out_at m c i d).symm), (r c).2⟩) (Cert.Reference13Ideal.Value.run m' ρ')⟩

end Cert.UpX

end
-- ==== Proof.UpA.lean ====
/- The output projection of the gated-delta branch, the gradient of its weights and the gradient of its argument, each a program of its
   own. The two whose points write a whole block of rows are known where each block is; the weights' one accumulates over five points. -/
module

public import proofs.«01_k».proof.Proof.Prod
public import proofs.«01_k».proof.Defs
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import Idealize.ShloMosaic.Lib.Pipeline.ValueKit.Acc
public import Idealize.ShloMosaic.Lib.Pipeline.ValueKit.Point

@[expose] public section

set_option maxRecDepth 16384

noncomputable section

open Idealize.SL.Sem Idealize.ShloMosaic Idealize.ShloMosaic.TcCoe Idealize.ShloMosaic.Tactic
open Cert.Prod

namespace Cert.UpA

open Cert.Kernel14Ideal Cert.Kernel14Ideal.Gen

/-- What a point leaves in the output's buffer: the product of its blocks. -/
theorem out_entry (x : Vec Ideal S2080x1024 .bf16) (w : Vec Ideal S1024x1024 .bf16) (r : Fin 2080) (d : Fin 1024) :
    out0_2 x w (ix2 r d) = (∑ k : Fin 1024, (x (ix2 r k) : EReal) * (w (ix2 k d) : EReal) : EReal) := by
  unfold out0_2 k0_pay1
  rw [View.canon_unit_zero origin, load_whole, load_whole]
  pointwise

variable (m : (ℓ : Loc nD τ sig) → Buf (Elt Ideal) ℓ) (c : Dev nD)

/-- The argument and the weights the region finds. -/
abbrev arg : S8320x1024.Idx → EReal := m ((c : Thread nD τ).loc main_arg0)
abbrev wts : S1024x1024.Idx → EReal := m ((c : Thread nD τ).loc main_arg1)

/-- Where each window's block lies at each point. -/
theorem places : ∀ t : Fin grid0.N, (win0_0.index t 0 = t.val ∧ win0_0.index t 1 = 0) ∧ (win0_1.index t 0 = 0 ∧ win0_1.index t 1 = 0)
    ∧ win0_2.index t 0 = t.val ∧ win0_2.index t 1 = 0 := by decide +kernel

/-- What the region leaves where a point's block lies. -/
theorem block_at (t : Fin cfg0.N) (r : Fin 2080) (d : Fin 1024) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel14Ideal.Value.disjoint2 t (flush0_2 t) (ix2 r d)
  rw [Cert.Kernel14Ideal.Value.flushed2] at key
  generalize out0_2 (iblk m c 0 t) (iblk m c 1 t) = X at key ⊢
  exact key

/-- The array the region leaves: each entry is the sum over the contracted axis. -/
theorem out_at : ∀ (R : Fin 8320) (C : Fin 1024), (dats m 0 c).arrAt 2 cfg0.N (ix2 R C) = ∑ k : Fin 1024, arg m c (ix2 R k) * wts m c (ix2 k C) := by
  refine of_tiles (tm := 2080) (tn := 1024) 4 1 rfl rfl fun n hn r d R C hR hC => ?_
  obtain ⟨t, rfl⟩ : ∃ t : Fin cfg0.N, t.val = n := ⟨⟨n, Nat.lt_of_lt_of_eq hn N_0.symm⟩, rfl⟩
  rw [Nat.div_one] at hR
  obtain rfl : C = d := Fin.ext (by omega)
  obtain ⟨⟨a0, a1⟩, ⟨b0, b1⟩, e0, e1⟩ := places t
  have place : ((cfg0.win 2).blk t).view.emb (ix2 r C) = ix2 R C := by blk_ext! [e0, e1, hR]
  refine (congrArg ((dats m 0 c).arrAt 2 cfg0.N) place).symm.trans ((block_at m c t r C).trans
    ((out_entry _ _ r C).trans (Finset.sum_congr rfl fun k _ => congrArg₂ (· * ·) ?_ ?_)))
  · blk_ext! [iblk, V, a0, a1, hR]
  · blk_ext! [iblk, V, b0, b1]

/-- The reference's product at an entry. -/
theorem ref_at (hb : FTy.bits .bf16 < FTy.bits .f32) (x : FVec Ideal S8320x1024 .bf16) (w : FVec Ideal S1024x1024 .bf16) (r : Fin 8320) (d : Fin 1024) :
    (Host.dotGeneral Cert.Reference14Ideal.dot_S8320x1024_S1024x1024_S8320x1024_1_0_0_1_n_n none (extf .f32 x hb) (extf .f32 w hb) : FVec Ideal S8320x1024 .f32)
      (ix2 r d) = (∑ k : Fin 1024, (x (ix2 r k) : EReal) * (w (ix2 k d) : EReal) : EReal) := by
  pointwise

/-- Over the extended reals the kernel and the reference end with the same product. -/
theorem equal : algebraic_Kernel14Ideal_Reference14Ideal (hKernel14Ideal := Cert.Kernel14Ideal.Gen.facts) (hReference14Ideal := Cert.Reference14Ideal.Gen.facts) :=
  fun m ρ m' ρ' _ h => ⟨fun c => (dats m 0 c).arrAt 2 cfg0.N, Cert.Kernel14Ideal.Value.run_blocks m ρ,
    (θ_run Cert.Reference14Ideal.defs _ _).mono (fun _ r c => ⟨(r c).1.trans (by
      obtain ⟨e0, e1⟩ := h c
      rw [e0, e1]
      exact ext_entries fun i d => (ref_at _ _ _ i d).trans (out_at m c i d).symm), (r c).2⟩) (Cert.Reference14Ideal.Value.run m' ρ')⟩

end Cert.UpA

namespace Cert.UpAW

open Cert.Kernel15Ideal Cert.Kernel15Ideal.Gen

variable (m : (ℓ : Loc nD τ sig) → Buf (Elt Ideal) ℓ) (c : Dev nD)

/-- The argument and the cotangent the region finds, and the term of an entry of their product at contracted row `k`. -/
abbrev arg : S8320x1024.Idx → EReal := m ((c : Thread nD τ).loc main_arg0)
abbrev cot : S8320x1024.Idx → EReal := m ((c : Thread nD τ).loc main_arg2)
def term (r d k : ℕ) : EReal := entry (arg m c) k r * entry (cot m c) k d

/-- Where each input's block lies at each point. -/
theorem places : ∀ t : Fin grid0.N, (win0_0.index t 0 = t.val % 5 ∧ win0_0.index t 1 = 0) ∧ win0_1.index t 0 = t.val % 5 ∧ win0_1.index t 1 = 0 := by
  decide +kernel

theorem arg_at (t : Fin cfg0.N) (k : Fin 1664) (r : Fin 1024) : iblk m c 0 t (ix2 k r) = entry (arg m c) (1664 * (t.val % 5) + k.val) r.val := by
  obtain ⟨⟨e0, e1⟩, -⟩ := places t
  rw [entry_of _ _ _ (by omega) (by omega)]
  blk_ext! [iblk, V, e0, e1]
theorem cot_at (t : Fin cfg0.N) (k : Fin 1664) (d : Fin 1024) : iblk m c 1 t (ix2 k d) = entry (cot m c) (1664 * (t.val % 5) + k.val) d.val := by
  obtain ⟨-, e0, e1⟩ := places t
  rw [entry_of _ _ _ (by omega) (by omega)]
  blk_ext! [iblk, V, e0, e1]

/-- The accumulator is set, added to, and left in the output with the last part. -/
theorem accumulates : Accumulates 5 1664 (term m c) (fun _ r => r) (fun _ d => d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [arg_at, cot_at]
    rfl

/-- The array the region leaves, its one block: each entry is the sum over all rows. -/
theorem out_at (r d : Fin 1024) : Cert.Kernel15Ideal.Value.G2 m c (ix2 r d) = ∑ k : Fin 8320, arg m c (ix2 k r) * cot m c (ix2 k d) := by
  have hq : 5 * 0 + (5 - 1) < cfg0.N := by rw [show cfg0.N = 5 from N_0]; decide
  have place : Cert.Kernel15Ideal.Value.pt2Of (ix2 r d) = 4 := by
    show 5 * (1 * (r.val / 1024 - 0) + 1 * (d.val / 1024 - 0)) + 4 = _
    omega
  unfold Cert.Kernel15Ideal.Value.G2
  rw [dif_pos (by rw [place]; exact hq), Cert.Kernel15Ideal.Value.fold0_congr m c _ _ 4 (by omega) place, ← Cert.Kernel15Ideal.Value.outsAt0_sweep m c 4 hq,
    eq_ix2 (Cert.Kernel15Ideal.Value.loc2Of (ix2 r d))]
  refine ((accumulates m c).total (by decide) 8320 rfl 0 hq _ _).trans (Finset.sum_congr rfl fun k _ => ?_)
  show term m c (r.val % 1024) (d.val % 1024) k.val = _
  rw [Nat.mod_eq_of_lt r.isLt, Nat.mod_eq_of_lt d.isLt, entry_ix (arg m c) k r, entry_ix (cot m c) k d]
  rfl

/-- The reference's product at an entry. -/
theorem ref_at (hb : FTy.bits .bf16 < FTy.bits .f32) (ht : S1024x1024.Transposes [1, 0] S1024x1024)
    (x : FVec Ideal S8320x1024 .bf16) (w : FVec Ideal S8320x1024 .bf16) (r : Fin 1024) (d : Fin 1024) :
    (transpose S1024x1024 [1, 0] (Host.dotGeneral Cert.Reference15Ideal.dot_S8320x1024_S8320x1024_S1024x1024_0_0_1_1_n_n none
      (extf .f32 w hb) (extf .f32 x hb) : FVec Ideal S1024x1024 .f32) ht : FVec Ideal S1024x1024 .f32) (ix2 r d)
      = (∑ k : Fin 8320, (x (ix2 k r) : EReal) * (w (ix2 k d) : EReal) : EReal) := by
  pointwise
  exact Finset.sum_congr rfl fun k _ => mul_comm _ _

/-- Over the extended reals the kernel and the reference end with the same gradient. -/
theorem equal : algebraic_Kernel15Ideal_Reference15Ideal (hKernel15Ideal := Cert.Kernel15Ideal.Gen.facts) (hReference15Ideal := Cert.Reference15Ideal.Gen.facts) :=
  fun m ρ m' ρ' _ h => ⟨fun c => Cert.Kernel15Ideal.Value.G2 m c, Cert.Kernel15Ideal.Value.run m ρ,
    (θ_run Cert.Reference15Ideal.defs _ _).mono (fun _ r c => ⟨(r c).1.trans (by
      obtain ⟨e0, -, e2⟩ := h c
      rw [e0, e2]
      exact ext_entries fun i d => (ref_at _ _ _ _ i d).trans (out_at m c i d).symm), (r c).2⟩) (Cert.Reference15Ideal.Value.run m' ρ')⟩

end Cert.UpAW

namespace Cert.UpAX

open Cert.Kernel16Ideal Cert.Kernel16Ideal.Gen

/-- What a point leaves in the output's buffer: its block of the cotangent times the transposed weights. -/
theorem out_entry (x : Vec Ideal S2080x1024 .bf16) (w : Vec Ideal S1024x1024 .bf16) (r : Fin 2080) (d : Fin 1024) :
    out0_2 x w (ix2 r d) = (∑ k : Fin 1024, (x (ix2 r k) : EReal) * (w (ix2 d k) : EReal) : EReal) := by
  unfold out0_2 k0_pay1
  rw [View.canon_unit_zero origin, load_whole, load_whole]
  pointwise

variable (m : (ℓ : Loc nD τ sig) → Buf (Elt Ideal) ℓ) (c : Dev nD)

/-- The cotangent and the weights the region finds. -/
abbrev cot : S8320x1024.Idx → EReal := m ((c : Thread nD τ).loc main_arg2)
abbrev wts : S1024x1024.Idx → EReal := m ((c : Thread nD τ).loc main_arg1)

/-- Where each window's block lies at each point. -/
theorem places : ∀ t : Fin grid0.N, (win0_0.index t 0 = t.val ∧ win0_0.index t 1 = 0) ∧ (win0_1.index t 0 = 0 ∧ win0_1.index t 1 = 0)
    ∧ win0_2.index t 0 = t.val ∧ win0_2.index t 1 = 0 := by decide +kernel

/-- What the region leaves where a point's block lies. -/
theorem block_at (t : Fin cfg0.N) (r : Fin 2080) (d : Fin 1024) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel16Ideal.Value.disjoint2 t (flush0_2 t) (ix2 r d)
  rw [Cert.Kernel16Ideal.Value.flushed2] at key
  generalize out0_2 (iblk m c 0 t) (iblk m c 1 t) = X at key ⊢
  exact key

/-- The array the region leaves: each entry is the sum over the contracted axis. -/
theorem out_at : ∀ (R : Fin 8320) (C : Fin 1024), (dats m 0 c).arrAt 2 cfg0.N (ix2 R C) = ∑ k : Fin 1024, cot m c (ix2 R k) * wts m c (ix2 C k) := by
  refine of_tiles (tm := 2080) (tn := 1024) 4 1 rfl rfl fun n hn r d R C hR hC => ?_
  obtain ⟨t, rfl⟩ : ∃ t : Fin cfg0.N, t.val = n := ⟨⟨n, Nat.lt_of_lt_of_eq hn N_0.symm⟩, rfl⟩
  rw [Nat.div_one] at hR
  obtain rfl : C = d := Fin.ext (by omega)
  obtain ⟨⟨a0, a1⟩, ⟨b0, b1⟩, e0, e1⟩ := places t
  have place : ((cfg0.win 2).blk t).view.emb (ix2 r C) = ix2 R C := by blk_ext! [e0, e1, hR]
  refine (congrArg ((dats m 0 c).arrAt 2 cfg0.N) place).symm.trans ((block_at m c t r C).trans
    ((out_entry _ _ r C).trans (Finset.sum_congr rfl fun k _ => congrArg₂ (· * ·) ?_ ?_)))
  · blk_ext! [iblk, V, a0, a1, hR]
  · blk_ext! [iblk, V, b0, b1]

/-- The reference's product at an entry. -/
theorem ref_at (hb : FTy.bits .bf16 < FTy.bits .f32) (x : FVec Ideal S8320x1024 .bf16) (w : FVec Ideal S1024x1024 .bf16) (r : Fin 8320) (d : Fin 1024) :
    (Host.dotGeneral Cert.Reference16Ideal.dot_S8320x1024_S1024x1024_S8320x1024_1_1_0_0_n_n none (extf .f32 x hb) (extf .f32 w hb) : FVec Ideal S8320x1024 .f32)
      (ix2 r d) = (∑ k : Fin 1024, (x (ix2 r k) : EReal) * (w (ix2 d k) : EReal) : EReal) := by
  pointwise

/-- Over the extended reals the kernel and the reference end with the same gradient. -/
theorem equal : algebraic_Kernel16Ideal_Reference16Ideal (hKernel16Ideal := Cert.Kernel16Ideal.Gen.facts) (hReference16Ideal := Cert.Reference16Ideal.Gen.facts) :=
  fun m ρ m' ρ' _ h => ⟨fun c => (dats m 0 c).arrAt 2 cfg0.N, Cert.Kernel16Ideal.Value.run_blocks m ρ,
    (θ_run Cert.Reference16Ideal.defs _ _).mono (fun _ r c => ⟨(r c).1.trans (by
      obtain ⟨-, e1, e2⟩ := h c
      rw [e1, e2]
      exact ext_entries fun i d => (ref_at _ _ _ i d).trans (out_at m c i d).symm), (r c).2⟩) (Cert.Reference16Ideal.Value.run m' ρ')⟩

end Cert.UpAX

end
-- ==== Proof.Mix.lean ====
/- The output projection of the merged branches and its two gradients: each region's array is the product, by sums over the whole contracted
   axis, and so is the reference's. The projection adds its product to the array the layer carries past it; the two gradients
   take that array's float32 gradient and cast it to bfloat16 in the body, which over the extended reals changes nothing. -/
module

public import proofs.«01_k».proof.Proof.Prod
public import proofs.«01_k».proof.Defs
public import proofs.«01_k».proof.Proof.Gen.Kernel17Ideal.Value
public import proofs.«01_k».proof.Proof.Gen.Kernel18Ideal.Value
public import proofs.«01_k».proof.Proof.Gen.Kernel19Ideal.Value
public import proofs.«01_k».proof.Proof.Gen.Reference17Ideal.Run
public import proofs.«01_k».proof.Proof.Gen.Reference18Ideal.Run
public import proofs.«01_k».proof.Proof.Gen.Reference19Ideal.Run
public import Idealize.ShloMosaic.Lib.Pipeline.ValueKit.Acc
public import Idealize.ShloMosaic.Lib.Pipeline.ValueKit.Point

@[expose] public section

set_option maxRecDepth 16384

noncomputable section

open Idealize.SL.Sem Idealize.ShloMosaic Idealize.ShloMosaic.TcCoe Idealize.ShloMosaic.Tactic
open Cert.Prod

namespace Cert.Mix

open Cert.Kernel17Ideal Cert.Kernel17Ideal.Gen

/-- What a point leaves in the output's buffer: its block of the product, added to that of the carried array. -/
theorem out_entry (x : Vec Ideal S1040x1024 .bf16) (w : Vec Ideal S1024x1024 .bf16) (y : Vec Ideal S1040x1024 .f32) (r : Fin 1040) (d : Fin 1024) :
    out0_3 x w y (ix2 r d) = ((∑ k : Fin 1024, (x (ix2 r k) : EReal) * (w (ix2 k d) : EReal)) + (y (ix2 r d) : EReal) : EReal) := by
  unfold out0_3 k0_pay1
  rw [View.canon_unit_zero origin, load_whole, load_whole, load_whole]
  pointwise

variable (m : (ℓ : Loc nD τ sig) → Buf (Elt Ideal) ℓ) (c : Dev nD)

/-- The argument, the weights and the carried array the region finds. -/
abbrev arg : S8320x1024.Idx → EReal := m ((c : Thread nD τ).loc main_arg0)
abbrev wts : S1024x1024.Idx → EReal := m ((c : Thread nD τ).loc main_arg1)
abbrev res : S8320x1024.Idx → EReal := m ((c : Thread nD τ).loc main_arg2)

/-- Where each window's block lies at each point. -/
theorem places : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ win0_3.index t 0 = t.val ∧ win0_3.index t 1 = 0 := by decide +kernel

/-- What the region leaves where a point's block lies. -/
theorem block_at (t : Fin cfg0.N) (r : Fin 1040) (d : Fin 1024) :
    (dats m 0 c).arrAt 3 cfg0.N (((cfg0.win 3).blk t).view.emb (ix2 r d)) = out0_3 (iblk m c 0 t) (iblk m c 1 t) (iblk m c 2 t) (ix2 r d) := by
  have key := (dats m 0 c).arrAt_emb_eq_flushed 3 Cert.Kernel17Ideal.Value.disjoint3 t (flush0_3 t) (ix2 r d)
  rw [Cert.Kernel17Ideal.Value.flushed3] at key
  generalize out0_3 (iblk m c 0 t) (iblk m c 1 t) (iblk m c 2 t) = X at key ⊢
  exact key

/-- The array the region leaves: each entry is the sum over the contracted axis, plus the carried entry. -/
theorem out_at : ∀ (R : Fin 8320) (C : Fin 1024),
    (dats m 0 c).arrAt 3 cfg0.N (ix2 R C) = (∑ k : Fin 1024, arg m c (ix2 R k) * wts m c (ix2 k C)) + res m c (ix2 R C) := by
  refine of_tiles (tm := 1040) (tn := 1024) 8 1 rfl rfl fun n hn r d R C hR hC => ?_
  obtain ⟨t, rfl⟩ : ∃ t : Fin cfg0.N, t.val = n := ⟨⟨n, Nat.lt_of_lt_of_eq hn N_0.symm⟩, rfl⟩
  rw [Nat.div_one] at hR
  obtain rfl : C = d := Fin.ext (by omega)
  obtain ⟨⟨a0, a1⟩, ⟨b0, b1⟩, ⟨y0, y1⟩, e0, e1⟩ := places t
  have place : ((cfg0.win 3).blk t).view.emb (ix2 r C) = ix2 R C := by blk_ext! [e0, e1, hR]
  refine (congrArg ((dats m 0 c).arrAt 3 cfg0.N) place).symm.trans ((block_at m c t r C).trans
    ((out_entry _ _ _ r C).trans (congrArg₂ (· + ·) (Finset.sum_congr rfl fun k _ => congrArg₂ (· * ·) ?_ ?_) ?_)))
  · blk_ext! [iblk, V, a0, a1, hR]
  · blk_ext! [iblk, V, b0, b1]
  · blk_ext! [iblk, V, y0, y1, hR]

/-- The reference's array at an entry: it adds its product to the carried array, the terms the other way round. -/
theorem ref_at (hb : FTy.bits .bf16 < FTy.bits .f32) (x : FVec Ideal S8320x1024 .bf16) (w : FVec Ideal S1024x1024 .bf16) (y : FVec Ideal S8320x1024 .f32)
    (r : Fin 8320) (d : Fin 1024) :
    (addf y (Host.dotGeneral Cert.Reference17Ideal.dot_S8320x1024_S1024x1024_S8320x1024_1_0_0_1_n_n none (extf .f32 x hb) (extf .f32 w hb)) : FVec Ideal S8320x1024 .f32)
      (ix2 r d) = ((∑ k : Fin 1024, (x (ix2 r k) : EReal) * (w (ix2 k d) : EReal)) + (y (ix2 r d) : EReal) : EReal) := by
  pointwise
  exact add_comm _ _

/-- Over the extended reals the kernel and the reference end with the same array. -/
theorem equal : algebraic_Kernel17Ideal_Reference17Ideal (hKernel17Ideal := Cert.Kernel17Ideal.Gen.facts) (hReference17Ideal := Cert.Reference17Ideal.Gen.facts) :=
  fun m ρ m' ρ' _ h => ⟨fun c => (dats m 0 c).arrAt 3 cfg0.N, Cert.Kernel17Ideal.Value.run_blocks m ρ,
    (θ_run Cert.Reference17Ideal.defs _ _).mono (fun _ r c => ⟨(r c).1.trans (by
      obtain ⟨e0, e1, e2⟩ := h c
      rw [e0, e1, e2]
      exact ext_entries fun i d => (ref_at _ _ _ _ i d).trans (out_at m c i d).symm), (r c).2⟩) (Cert.Reference17Ideal.Value.run m' ρ')⟩

end Cert.Mix

namespace Cert.MixW

open Cert.Kernel18Ideal Cert.Kernel18Ideal.Gen

variable (m : (ℓ : Loc nD τ sig) → Buf (Elt Ideal) ℓ) (c : Dev nD)

/-- The argument and the cotangent the region finds, and the term of an entry of their product at contracted row `k`. -/
abbrev arg : S8320x1024.Idx → EReal := m ((c : Thread nD τ).loc main_arg0)
abbrev cot : S8320x1024.Idx → EReal := m ((c : Thread nD τ).loc main_arg2)
def term (r d k : ℕ) : EReal := entry (arg m c) k r * entry (cot m c) k d

/-- Where each input's block lies at each point. -/
theorem places : ∀ t : Fin grid0.N, (win0_0.index t 0 = t.val % 5 ∧ win0_0.index t 1 = 0) ∧ win0_1.index t 0 = t.val % 5 ∧ win0_1.index t 1 = 0 := by
  decide +kernel

theorem arg_at (t : Fin cfg0.N) (k : Fin 1664) (r : Fin 1024) : iblk m c 0 t (ix2 k r) = entry (arg m c) (1664 * (t.val % 5) + k.val) r.val := by
  obtain ⟨⟨e0, e1⟩, -⟩ := places t
  rw [entry_of _ _ _ (by omega) (by omega)]
  blk_ext! [iblk, V, e0, e1]
theorem cot_at (t : Fin cfg0.N) (k : Fin 1664) (d : Fin 1024) : iblk m c 1 t (ix2 k d) = entry (cot m c) (1664 * (t.val % 5) + k.val) d.val := by
  obtain ⟨-, e0, e1⟩ := places t
  rw [entry_of _ _ _ (by omega) (by omega)]
  blk_ext! [iblk, V, e0, e1]

/-- The accumulator is set, added to, and left in the output with the last part. -/
theorem accumulates : Accumulates 5 1664 (term m c) (fun _ r => r) (fun _ d => d) (outsAt0 m c) := by
  refine ⟨⟨fun n h r d hn => (congrFun (congrArg Prod.snd (outsAt0_A m c ⟨n, h⟩ hn (by dsimp only; omega) (by dsimp only; omega))) _).trans ?_,
    fun n h h' r d h1 h2 => (congrFun (congrArg Prod.snd (outsAt0_B m c ⟨n, h⟩ (by dsimp only; omega) (by dsimp only; omega) (by dsimp only; omega))) _).trans ?_⟩,
    fun n h h' r d hn => (congrFun (congrArg Prod.fst (outsAt0_C m c ⟨n, h⟩ (by dsimp only; omega) (by dsimp only; omega) (by dsimp only; omega))) _).trans ?_⟩
  on_goal 1 => unfold sout0_A_0 kernelRun0_A k0_pay1
  on_goal 2 => unfold sout0_B_0 kernelRun0_B k0_pay2
  on_goal 3 => unfold out0_C_2 kernelRun0_C k0_pay3
  all_goals
    simp only [read_stored, View.readAt_eq_ld, Memref.IsWhole.read_unread, read_unread_whole, load_whole]
    pointwise
    simp only [arg_at, cot_at]
    rfl

/-- The array the region leaves, its one block: each entry is the sum over all rows. -/
theorem out_at (r d : Fin 1024) : Cert.Kernel18Ideal.Value.G2 m c (ix2 r d) = ∑ k : Fin 8320, arg m c (ix2 k r) * cot m c (ix2 k d) := by
  have hq : 5 * 0 + (5 - 1) < cfg0.N := by rw [show cfg0.N = 5 from N_0]; decide
  have place : Cert.Kernel18Ideal.Value.pt2Of (ix2 r d) = 4 := by
    show 5 * (1 * (r.val / 1024 - 0) + 1 * (d.val / 1024 - 0)) + 4 = _
    omega
  unfold Cert.Kernel18Ideal.Value.G2
  rw [dif_pos (by rw [place]; exact hq), Cert.Kernel18Ideal.Value.fold0_congr m c _ _ 4 (by omega) place, ← Cert.Kernel18Ideal.Value.outsAt0_sweep m c 4 hq,
    eq_ix2 (Cert.Kernel18Ideal.Value.loc2Of (ix2 r d))]
  refine ((accumulates m c).total (by decide) 8320 rfl 0 hq _ _).trans (Finset.sum_congr rfl fun k _ => ?_)
  show term m c (r.val % 1024) (d.val % 1024) k.val = _
  rw [Nat.mod_eq_of_lt r.isLt, Nat.mod_eq_of_lt d.isLt, entry_ix (arg m c) k r, entry_ix (cot m c) k d]
  rfl

/-- The reference's product at an entry. -/
theorem ref_at (hb : FTy.bits .bf16 < FTy.bits .f32) (ht : S1024x1024.Transposes [1, 0] S1024x1024)
    (x : FVec Ideal S8320x1024 .bf16) (w : FVec Ideal S8320x1024 .f32) (r : Fin 1024) (d : Fin 1024) :
    (transpose S1024x1024 [1, 0] (Host.dotGeneral Cert.Reference18Ideal.dot_S8320x1024_S8320x1024_S1024x1024_0_0_1_1_n_n none
      w (extf .f32 x hb) : FVec Ideal S1024x1024 .f32) ht : FVec Ideal S1024x1024 .f32) (ix2 r d)
      = (∑ k : Fin 8320, (x (ix2 k r) : EReal) * (w (ix2 k d) : EReal) : EReal) := by
  pointwise
  exact Finset.sum_congr rfl fun k _ => mul_comm _ _

/-- Over the extended reals the kernel and the reference end with the same gradient. -/
theorem equal : algebraic_Kernel18Ideal_Reference18Ideal (hKernel18Ideal := Cert.Kernel18Ideal.Gen.facts) (hReference18Ideal := Cert.Reference18Ideal.Gen.facts) :=
  fun m ρ m' ρ' _ h => ⟨fun c => Cert.Kernel18Ideal.Value.G2 m c, Cert.Kernel18Ideal.Value.run m ρ,
    (θ_run Cert.Reference18Ideal.defs _ _).mono (fun _ r c => ⟨(r c).1.trans (by
      obtain ⟨e0, -, e2⟩ := h c
      rw [e0, e2]
      exact ext_entries fun i d => (ref_at _ _ _ _ i d).trans (out_at m c i d).symm), (r c).2⟩) (Cert.Reference18Ideal.Value.run m' ρ')⟩

end Cert.MixW

namespace Cert.MixX

open Cert.Kernel19Ideal Cert.Kernel19Ideal.Gen

/-- What a point leaves in the output's buffer: its block of the cotangent times the transposed weights. -/
theorem out_entry (x : Vec Ideal S2080x1024 .f32) (w : Vec Ideal S1024x1024 .bf16) (r : Fin 2080) (d : Fin 1024) :
    out0_2 x w (ix2 r d) = (∑ k : Fin 1024, (x (ix2 r k) : EReal) * (w (ix2 d k) : EReal) : EReal) := by
  unfold out0_2 k0_pay1
  rw [View.canon_unit_zero origin, load_whole, load_whole]
  pointwise

variable (m : (ℓ : Loc nD τ sig) → Buf (Elt Ideal) ℓ) (c : Dev nD)

/-- The cotangent and the weights the region finds. -/
abbrev cot : S8320x1024.Idx → EReal := m ((c : Thread nD τ).loc main_arg2)
abbrev wts : S1024x1024.Idx → EReal := m ((c : Thread nD τ).loc main_arg1)

/-- Where each window's block lies at each point. -/
theorem places : ∀ t : Fin grid0.N, (win0_0.index t 0 = t.val ∧ win0_0.index t 1 = 0) ∧ (win0_1.index t 0 = 0 ∧ win0_1.index t 1 = 0)
    ∧ win0_2.index t 0 = t.val ∧ win0_2.index t 1 = 0 := by decide +kernel

/-- What the region leaves where a point's block lies. -/
theorem block_at (t : Fin cfg0.N) (r : Fin 2080) (d : Fin 1024) :
    (dats m 0 c).arrAt 2 cfg0.N (((cfg0.win 2).blk t).view.emb (ix2 r d)) = out0_2 (iblk m c 0 t) (iblk m c 1 t) (ix2 r d) := by
  have key := (dats m 0 c).arrAt_emb_eq_flushed 2 Cert.Kernel19Ideal.Value.disjoint2 t (flush0_2 t) (ix2 r d)
  rw [Cert.Kernel19Ideal.Value.flushed2] at key
  generalize out0_2 (iblk m c 0 t) (iblk m c 1 t) = X at key ⊢
  exact key

/-- The array the region leaves: each entry is the sum over the contracted axis. -/
theorem out_at : ∀ (R : Fin 8320) (C : Fin 1024), (dats m 0 c).arrAt 2 cfg0.N (ix2 R C) = ∑ k : Fin 1024, cot m c (ix2 R k) * wts m c (ix2 C k) := by
  refine of_tiles (tm := 2080) (tn := 1024) 4 1 rfl rfl fun n hn r d R C hR hC => ?_
  obtain ⟨t, rfl⟩ : ∃ t : Fin cfg0.N, t.val = n := ⟨⟨n, Nat.lt_of_lt_of_eq hn N_0.symm⟩, rfl⟩
  rw [Nat.div_one] at hR
  obtain rfl : C = d := Fin.ext (by omega)
  obtain ⟨⟨a0, a1⟩, ⟨b0, b1⟩, e0, e1⟩ := places t
  have place : ((cfg0.win 2).blk t).view.emb (ix2 r C) = ix2 R C := by blk_ext! [e0, e1, hR]
  refine (congrArg ((dats m 0 c).arrAt 2 cfg0.N) place).symm.trans ((block_at m c t r C).trans
    ((out_entry _ _ r C).trans (Finset.sum_congr rfl fun k _ => congrArg₂ (· * ·) ?_ ?_)))
  · blk_ext! [iblk, V, a0, a1, hR]
  · blk_ext! [iblk, V, b0, b1]

/-- The reference's product at an entry. -/
theorem ref_at (hb : FTy.bits .bf16 < FTy.bits .f32) (x : FVec Ideal S8320x1024 .f32) (w : FVec Ideal S1024x1024 .bf16) (r : Fin 8320) (d : Fin 1024) :
    (Host.dotGeneral Cert.Reference19Ideal.dot_S8320x1024_S1024x1024_S8320x1024_1_1_0_0_n_n none x (extf .f32 w hb) : FVec Ideal S8320x1024 .f32)
      (ix2 r d) = (∑ k : Fin 1024, (x (ix2 r k) : EReal) * (w (ix2 d k) : EReal) : EReal) := by
  pointwise

/-- Over the extended reals the kernel and the reference end with the same gradient. -/
theorem equal : algebraic_Kernel19Ideal_Reference19Ideal (hKernel19Ideal := Cert.Kernel19Ideal.Gen.facts) (hReference19Ideal := Cert.Reference19Ideal.Gen.facts) :=
  fun m ρ m' ρ' _ h => ⟨fun c => (dats m 0 c).arrAt 2 cfg0.N, Cert.Kernel19Ideal.Value.run_blocks m ρ,
    (θ_run Cert.Reference19Ideal.defs _ _).mono (fun _ r c => ⟨(r c).1.trans (by
      obtain ⟨-, e1, e2⟩ := h c
      rw [e1, e2]
      exact ext_entries fun i d => (ref_at _ _ _ i d).trans (out_at m c i d).symm), (r c).2⟩) (Cert.Reference19Ideal.Value.run m' ρ')⟩

end Cert.MixX

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.RetRun
public import proofs.«01_k».proof.Proof.RefRun
public import proofs.«01_k».proof.Proof.Equal
public import proofs.«01_k».proof.Proof.Gen.Kernel2
public import proofs.«01_k».proof.Proof.Gen.Kernel3
public import proofs.«01_k».proof.Proof.Gen.Kernel4
public import proofs.«01_k».proof.Proof.WGrad
public import proofs.«01_k».proof.Proof.XGrad
public import proofs.«01_k».proof.Proof.Proj
public import proofs.«01_k».proof.Proof.FfnIn
public import proofs.«01_k».proof.Proof.FfnInW
public import proofs.«01_k».proof.Proof.FfnInX
public import proofs.«01_k».proof.Proof.FfnOut
public import proofs.«01_k».proof.Proof.FfnOutW
public import proofs.«01_k».proof.Proof.FfnOutX
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Gen.Kernel10
public import proofs.«01_k».proof.Proof.Gen.Kernel11
public import proofs.«01_k».proof.Proof.Gen.Kernel12
public import proofs.«01_k».proof.Proof.Gen.Kernel13
public import proofs.«01_k».proof.Proof.Up
public import proofs.«01_k».proof.Proof.UpW
public import proofs.«01_k».proof.Proof.UpX
public import proofs.«01_k».proof.Proof.UpA
public import proofs.«01_k».proof.Proof.Mix
public import proofs.«01_k».proof.Proof.Gen.Kernel14
public import proofs.«01_k».proof.Proof.Gen.Kernel15
public import proofs.«01_k».proof.Proof.Gen.Kernel16
public import proofs.«01_k».proof.Proof.Gen.Kernel17
public import proofs.«01_k».proof.Proof.Gen.Kernel18
public import proofs.«01_k».proof.Proof.Gen.Kernel19
public import Idealize.ShloMosaic.Adequacy
public import Idealize.ShloMosaic.Init

@[expose] public section

noncomputable section

namespace Cert.Proof

open Idealize.ShloMosaic Idealize.SL.Sem Cert.Kernel

set_option maxHeartbeats 4000000 in
/-- The two printings of the kernel have one table of bodies over machine words. -/
theorem bodies_eq : Cert.KernelIdeal.defs₀ (F := Bits) = Cert.Kernel.defs₀ (F := Bits) := by
  unfold Cert.KernelIdeal.defs₀ Cert.Kernel.defs₀
  refine congrArg _ ?_
  funext l x
  obtain ⟨l, hl⟩ := l
  match l, hl, x with
  | 0, _, (t, s) => rfl
  | 1, _, (t, s) => rfl
  | n + 2, h, _ => exact absurd h (Nat.not_lt.2 (Nat.le_add_left _ _))

/-- So they have one table of labels. -/
theorem defs_eq : Cert.KernelIdeal.defs (F := Bits) = Cert.Kernel.defs (F := Bits) := congrArg (Pipeline.defs Cert.Kernel.pcfgs) bodies_eq

/-- The kernel program over machine words runs, its arguments unchanged, every counter at zero. -/
theorem frame_kernel : quiescent_Kernel (hKernel := Cert.Kernel.Gen.facts) := fun m ρ _ =>
  (congrArg (fun d => θ_run d (onTc (τ := τ) (Cert.Kernel.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)) defs_eq).mp
    ((θ_run Cert.KernelIdeal.defs _ _).mono
      (fun _ h => ⟨fun c => ⟨(h.1 c).1, (h.1 c).2.1, (h.1 c).2.2.1, (h.1 c).2.2.2.1⟩, h.2⟩) (Cert.Ret.run_main (F := Bits) m ρ))

/-- The same over the extended reals. -/
theorem frame_ideal : quiescent_KernelIdeal (hKernelIdeal := Cert.KernelIdeal.Gen.facts) := fun m ρ _ =>
  (θ_run Cert.KernelIdeal.defs _ _).mono
    (fun _ h => ⟨fun c => ⟨(h.1 c).1, (h.1 c).2.1, (h.1 c).2.2.1, (h.1 c).2.2.2.1⟩, h.2⟩) (Cert.Ret.run_main (F := Ideal) m ρ)

/-- The reference runs, its arguments unchanged, every counter at zero. -/
theorem frame_reference : quiescent_ReferenceIdeal (hReferenceIdeal := Cert.ReferenceIdeal.Gen.facts) := fun m ρ _ =>
  (θ_run Cert.ReferenceIdeal.defs _ _).mono
    (fun _ h => ⟨fun c => ⟨(h.1 c).1, (h.1 c).2.1, (h.1 c).2.2.1, (h.1 c).2.2.2.1⟩, h.2⟩) (Cert.Ref.run_main (F := Ideal) m ρ)

/-- Over the extended reals the two programs end with the same results. -/
theorem equal : algebraic_KernelIdeal_ReferenceIdeal (hKernelIdeal := Cert.KernelIdeal.Gen.facts) (hReferenceIdeal := Cert.ReferenceIdeal.Gen.facts) := fun m ρ m' ρ' _ h =>
  ⟨fun c => (Cert.Fwd.dat (Cert.Ret.VF m ρ) c).arrAt 4 Cert.KernelIdeal.cfg0.N, fun c => (Cert.Bwd.dat (Cert.Ret.VB m ρ) c).arrAt 6 Cert.KernelIdeal.cfg1.N,
    fun c => (Cert.Bwd.dat (Cert.Ret.VB m ρ) c).arrAt 7 Cert.KernelIdeal.cfg1.N, fun c => (Cert.Bwd.dat (Cert.Ret.VB m ρ) c).arrAt 8 Cert.KernelIdeal.cfg1.N,
    (θ_run Cert.KernelIdeal.defs _ _).mono (fun _ r c => by
      obtain ⟨a0, a1, a2, a3, r0, r1, r2, r3⟩ := r.1 c
      exact ⟨r0, r1, r2, r3, a0, a1, a2, a3⟩) (Cert.Ret.run_main (F := Ideal) m ρ),
    (θ_run Cert.ReferenceIdeal.defs _ _).mono (fun _ r c => by
      obtain ⟨a0, a1, a2, a3, r0, r1, r2, r3⟩ := r.1 c
      exact ⟨r0.trans (Cert.Equal.o_eq ρ (h c)), r1.trans (Cert.Equal.dqk_eq ρ (h c)), r2.trans (Cert.Equal.dv_eq ρ (h c)),
        r3.trans (Cert.Equal.dz_eq ρ (h c)), a0, a1, a2, a3⟩) (Cert.Ref.run_main (F := Ideal) m' ρ')⟩

/-! ## The products

Each generated run is over any float values. The two printings of a kernel have one table of labels, so the run of the ideal one, read
over machine words, is the frame of the other. -/

/-- Two tables with one label are equal if their bodies are. -/
theorem one_body {A : Fin 1 → Type} {B : Fin 1 → Type 1} {f g : (l : Fin 1) → A l → B l} (h : ∀ x, f 0 x = g 0 x) : f = g :=
  funext fun l => match l with
    | ⟨0, _⟩ => funext h

theorem defs_wgrad : Cert.Kernel2Ideal.defs (F := Bits) = Cert.Kernel2.defs (F := Bits) :=
  congrArg (Pipeline.defs Cert.Kernel2.pcfgs) (congrArg Defs.onTc (one_body fun _ => rfl))
theorem defs_xgrad : Cert.Kernel3Ideal.defs (F := Bits) = Cert.Kernel3.defs (F := Bits) :=
  congrArg (Pipeline.defs Cert.Kernel3.pcfgs) (congrArg Defs.onTc (one_body fun _ => rfl))
theorem defs_proj : Cert.Kernel4Ideal.defs (F := Bits) = Cert.Kernel4.defs (F := Bits) :=
  congrArg (Pipeline.defs Cert.Kernel4.pcfgs) (congrArg Defs.onTc (one_body fun _ => rfl))
theorem defs_ffnIn : Cert.Kernel5Ideal.defs (F := Bits) = Cert.Kernel5.defs (F := Bits) :=
  congrArg (Pipeline.defs Cert.Kernel5.pcfgs) (congrArg Defs.onTc (one_body fun _ => rfl))
theorem defs_ffnInW : Cert.Kernel6Ideal.defs (F := Bits) = Cert.Kernel6.defs (F := Bits) :=
  congrArg (Pipeline.defs Cert.Kernel6.pcfgs) (congrArg Defs.onTc (one_body fun _ => rfl))
theorem defs_ffnInX : Cert.Kernel7Ideal.defs (F := Bits) = Cert.Kernel7.defs (F := Bits) :=
  congrArg (Pipeline.defs Cert.Kernel7.pcfgs) (congrArg Defs.onTc (one_body fun _ => rfl))
theorem defs_ffnOut : Cert.Kernel8Ideal.defs (F := Bits) = Cert.Kernel8.defs (F := Bits) :=
  congrArg (Pipeline.defs Cert.Kernel8.pcfgs) (congrArg Defs.onTc (one_body fun _ => rfl))
theorem defs_ffnOutW : Cert.Kernel9Ideal.defs (F := Bits) = Cert.Kernel9.defs (F := Bits) :=
  congrArg (Pipeline.defs Cert.Kernel9.pcfgs) (congrArg Defs.onTc (one_body fun _ => rfl))
theorem defs_ffnOutX : Cert.Kernel10Ideal.defs (F := Bits) = Cert.Kernel10.defs (F := Bits) :=
  congrArg (Pipeline.defs Cert.Kernel10.pcfgs) (congrArg Defs.onTc (one_body fun _ => rfl))
theorem defs_up : Cert.Kernel11Ideal.defs (F := Bits) = Cert.Kernel11.defs (F := Bits) :=
  congrArg (Pipeline.defs Cert.Kernel11.pcfgs) (congrArg Defs.onTc (one_body fun _ => rfl))
theorem defs_upW : Cert.Kernel12Ideal.defs (F := Bits) = Cert.Kernel12.defs (F := Bits) :=
  congrArg (Pipeline.defs Cert.Kernel12.pcfgs) (congrArg Defs.onTc (one_body fun _ => rfl))
theorem defs_upX : Cert.Kernel13Ideal.defs (F := Bits) = Cert.Kernel13.defs (F := Bits) :=
  congrArg (Pipeline.defs Cert.Kernel13.pcfgs) (congrArg Defs.onTc (one_body fun _ => rfl))
theorem defs_upA : Cert.Kernel14Ideal.defs (F := Bits) = Cert.Kernel14.defs (F := Bits) :=
  congrArg (Pipeline.defs Cert.Kernel14.pcfgs) (congrArg Defs.onTc (one_body fun _ => rfl))
theorem defs_upAW : Cert.Kernel15Ideal.defs (F := Bits) = Cert.Kernel15.defs (F := Bits) :=
  congrArg (Pipeline.defs Cert.Kernel15.pcfgs) (congrArg Defs.onTc (one_body fun _ => rfl))
theorem defs_upAX : Cert.Kernel16Ideal.defs (F := Bits) = Cert.Kernel16.defs (F := Bits) :=
  congrArg (Pipeline.defs Cert.Kernel16.pcfgs) (congrArg Defs.onTc (one_body fun _ => rfl))
theorem defs_mix : Cert.Kernel17Ideal.defs (F := Bits) = Cert.Kernel17.defs (F := Bits) :=
  congrArg (Pipeline.defs Cert.Kernel17.pcfgs) (congrArg Defs.onTc (one_body fun _ => rfl))
theorem defs_mixW : Cert.Kernel18Ideal.defs (F := Bits) = Cert.Kernel18.defs (F := Bits) :=
  congrArg (Pipeline.defs Cert.Kernel18.pcfgs) (congrArg Defs.onTc (one_body fun _ => rfl))
theorem defs_mixX : Cert.Kernel19Ideal.defs (F := Bits) = Cert.Kernel19.defs (F := Bits) :=
  congrArg (Pipeline.defs Cert.Kernel19.pcfgs) (congrArg Defs.onTc (one_body fun _ => rfl))

/-! Each product's kernel runs over machine words, its arguments unchanged, every counter at zero. A name's `W` marks the gradient of the
product's weights and its `X` that of its argument; the input projection's three are `proj`, `wgrad` and `xgrad`. -/

theorem frame_wgrad : quiescent_Kernel2 (hKernel2 := Cert.Kernel2.Gen.facts) := fun m ρ _ => by
  refine (congrArg (fun d => θ_run d _ _ _) defs_wgrad).mp ?_
  exact Cert.Kernel2Ideal.Gen.frame (F := Bits) m ρ
theorem frame_xgrad : quiescent_Kernel3 (hKernel3 := Cert.Kernel3.Gen.facts) := fun m ρ _ => by
  refine (congrArg (fun d => θ_run d _ _ _) defs_xgrad).mp ?_
  exact Cert.Kernel3Ideal.Gen.frame (F := Bits) m ρ
theorem frame_proj : quiescent_Kernel4 (hKernel4 := Cert.Kernel4.Gen.facts) := fun m ρ _ => by
  refine (congrArg (fun d => θ_run d _ _ _) defs_proj).mp ?_
  exact Cert.Kernel4Ideal.Gen.frame (F := Bits) m ρ
theorem frame_ffnIn : quiescent_Kernel5 (hKernel5 := Cert.Kernel5.Gen.facts) := fun m ρ _ => by
  refine (congrArg (fun d => θ_run d _ _ _) defs_ffnIn).mp ?_
  exact Cert.Kernel5Ideal.Gen.frame (F := Bits) m ρ
theorem frame_ffnInW : quiescent_Kernel6 (hKernel6 := Cert.Kernel6.Gen.facts) := fun m ρ _ => by
  refine (congrArg (fun d => θ_run d _ _ _) defs_ffnInW).mp ?_
  exact Cert.Kernel6Ideal.Gen.frame (F := Bits) m ρ
theorem frame_ffnInX : quiescent_Kernel7 (hKernel7 := Cert.Kernel7.Gen.facts) := fun m ρ _ => by
  refine (congrArg (fun d => θ_run d _ _ _) defs_ffnInX).mp ?_
  exact Cert.Kernel7Ideal.Gen.frame (F := Bits) m ρ
theorem frame_ffnOut : quiescent_Kernel8 (hKernel8 := Cert.Kernel8.Gen.facts) := fun m ρ _ => by
  refine (congrArg (fun d => θ_run d _ _ _) defs_ffnOut).mp ?_
  exact Cert.Kernel8Ideal.Gen.frame (F := Bits) m ρ
theorem frame_ffnOutW : quiescent_Kernel9 (hKernel9 := Cert.Kernel9.Gen.facts) := fun m ρ _ => by
  refine (congrArg (fun d => θ_run d _ _ _) defs_ffnOutW).mp ?_
  exact Cert.Kernel9Ideal.Gen.frame (F := Bits) m ρ
theorem frame_ffnOutX : quiescent_Kernel10 (hKernel10 := Cert.Kernel10.Gen.facts) := fun m ρ _ => by
  refine (congrArg (fun d => θ_run d _ _ _) defs_ffnOutX).mp ?_
  exact Cert.Kernel10Ideal.Gen.frame (F := Bits) m ρ
theorem frame_up : quiescent_Kernel11 (hKernel11 := Cert.Kernel11.Gen.facts) := fun m ρ _ => by
  refine (congrArg (fun d => θ_run d _ _ _) defs_up).mp ?_
  exact Cert.Kernel11Ideal.Gen.frame (F := Bits) m ρ
theorem frame_upW : quiescent_Kernel12 (hKernel12 := Cert.Kernel12.Gen.facts) := fun m ρ _ => by
  refine (congrArg (fun d => θ_run d _ _ _) defs_upW).mp ?_
  exact Cert.Kernel12Ideal.Gen.frame (F := Bits) m ρ
theorem frame_upX : quiescent_Kernel13 (hKernel13 := Cert.Kernel13.Gen.facts) := fun m ρ _ => by
  refine (congrArg (fun d => θ_run d _ _ _) defs_upX).mp ?_
  exact Cert.Kernel13Ideal.Gen.frame (F := Bits) m ρ
theorem frame_upA : quiescent_Kernel14 (hKernel14 := Cert.Kernel14.Gen.facts) := fun m ρ _ => by
  refine (congrArg (fun d => θ_run d _ _ _) defs_upA).mp ?_
  exact Cert.Kernel14Ideal.Gen.frame (F := Bits) m ρ
theorem frame_upAW : quiescent_Kernel15 (hKernel15 := Cert.Kernel15.Gen.facts) := fun m ρ _ => by
  refine (congrArg (fun d => θ_run d _ _ _) defs_upAW).mp ?_
  exact Cert.Kernel15Ideal.Gen.frame (F := Bits) m ρ
theorem frame_upAX : quiescent_Kernel16 (hKernel16 := Cert.Kernel16.Gen.facts) := fun m ρ _ => by
  refine (congrArg (fun d => θ_run d _ _ _) defs_upAX).mp ?_
  exact Cert.Kernel16Ideal.Gen.frame (F := Bits) m ρ
theorem frame_mix : quiescent_Kernel17 (hKernel17 := Cert.Kernel17.Gen.facts) := fun m ρ _ => by
  refine (congrArg (fun d => θ_run d _ _ _) defs_mix).mp ?_
  exact Cert.Kernel17Ideal.Gen.frame (F := Bits) m ρ
theorem frame_mixW : quiescent_Kernel18 (hKernel18 := Cert.Kernel18.Gen.facts) := fun m ρ _ => by
  refine (congrArg (fun d => θ_run d _ _ _) defs_mixW).mp ?_
  exact Cert.Kernel18Ideal.Gen.frame (F := Bits) m ρ
theorem frame_mixX : quiescent_Kernel19 (hKernel19 := Cert.Kernel19.Gen.facts) := fun m ρ _ => by
  refine (congrArg (fun d => θ_run d _ _ _) defs_mixX).mp ?_
  exact Cert.Kernel19Ideal.Gen.frame (F := Bits) m ρ

/-! The same of each product's reference. -/

theorem frame_wgrad_ref : quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run m ρ)
theorem frame_xgrad_ref : quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩) (Cert.Reference3Ideal.Value.run m ρ)
theorem frame_proj_ref : quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩) (Cert.Reference4Ideal.Value.run m ρ)
theorem frame_ffnIn_ref : quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩) (Cert.Reference5Ideal.Value.run m ρ)
theorem frame_ffnInW_ref : quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩) (Cert.Reference6Ideal.Value.run m ρ)
theorem frame_ffnInX_ref : quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩) (Cert.Reference7Ideal.Value.run m ρ)
theorem frame_ffnOut_ref : quiescent_Reference8Ideal (hReference8Ideal := Cert.Reference8Ideal.Gen.facts) := fun m ρ _ =>
  (θ_run Cert.Reference8Ideal.defs _ _).mono (fun r h => ⟨fun c => (h c).2, sem_eq_zero_of_no_sems rfl r.2⟩) (Cert.Reference8Ideal.Value.run m ρ)
theorem frame_ffnOutW_ref : quiescent_Reference9Ideal (hReference9Ideal := Cert.Reference9Ideal.Gen.facts) := fun m ρ _ =>
  (θ_run Cert.Reference9Ideal.defs _ _).mono (fun r h => ⟨fun c => (h c).2, sem_eq_zero_of_no_sems rfl r.2⟩) (Cert.Reference9Ideal.Value.run m ρ)
theorem frame_ffnOutX_ref : quiescent_Reference10Ideal (hReference10Ideal := Cert.Reference10Ideal.Gen.facts) := fun m ρ _ =>
  (θ_run Cert.Reference10Ideal.defs _ _).mono (fun r h => ⟨fun c => (h c).2, sem_eq_zero_of_no_sems rfl r.2⟩) (Cert.Reference10Ideal.Value.run m ρ)
theorem frame_up_ref : quiescent_Reference11Ideal (hReference11Ideal := Cert.Reference11Ideal.Gen.facts) := fun m ρ _ =>
  (θ_run Cert.Reference11Ideal.defs _ _).mono (fun r h => ⟨fun c => (h c).2, sem_eq_zero_of_no_sems rfl r.2⟩) (Cert.Reference11Ideal.Value.run m ρ)
theorem frame_upW_ref : quiescent_Reference12Ideal (hReference12Ideal := Cert.Reference12Ideal.Gen.facts) := fun m ρ _ =>
  (θ_run Cert.Reference12Ideal.defs _ _).mono (fun r h => ⟨fun c => (h c).2, sem_eq_zero_of_no_sems rfl r.2⟩) (Cert.Reference12Ideal.Value.run m ρ)
theorem frame_upX_ref : quiescent_Reference13Ideal (hReference13Ideal := Cert.Reference13Ideal.Gen.facts) := fun m ρ _ =>
  (θ_run Cert.Reference13Ideal.defs _ _).mono (fun r h => ⟨fun c => (h c).2, sem_eq_zero_of_no_sems rfl r.2⟩) (Cert.Reference13Ideal.Value.run m ρ)
theorem frame_upA_ref : quiescent_Reference14Ideal (hReference14Ideal := Cert.Reference14Ideal.Gen.facts) := fun m ρ _ =>
  (θ_run Cert.Reference14Ideal.defs _ _).mono (fun r h => ⟨fun c => (h c).2, sem_eq_zero_of_no_sems rfl r.2⟩) (Cert.Reference14Ideal.Value.run m ρ)
theorem frame_upAW_ref : quiescent_Reference15Ideal (hReference15Ideal := Cert.Reference15Ideal.Gen.facts) := fun m ρ _ =>
  (θ_run Cert.Reference15Ideal.defs _ _).mono (fun r h => ⟨fun c => (h c).2, sem_eq_zero_of_no_sems rfl r.2⟩) (Cert.Reference15Ideal.Value.run m ρ)
theorem frame_upAX_ref : quiescent_Reference16Ideal (hReference16Ideal := Cert.Reference16Ideal.Gen.facts) := fun m ρ _ =>
  (θ_run Cert.Reference16Ideal.defs _ _).mono (fun r h => ⟨fun c => (h c).2, sem_eq_zero_of_no_sems rfl r.2⟩) (Cert.Reference16Ideal.Value.run m ρ)
theorem frame_mix_ref : quiescent_Reference17Ideal (hReference17Ideal := Cert.Reference17Ideal.Gen.facts) := fun m ρ _ =>
  (θ_run Cert.Reference17Ideal.defs _ _).mono (fun r h => ⟨fun c => (h c).2, sem_eq_zero_of_no_sems rfl r.2⟩) (Cert.Reference17Ideal.Value.run m ρ)
theorem frame_mixW_ref : quiescent_Reference18Ideal (hReference18Ideal := Cert.Reference18Ideal.Gen.facts) := fun m ρ _ =>
  (θ_run Cert.Reference18Ideal.defs _ _).mono (fun r h => ⟨fun c => (h c).2, sem_eq_zero_of_no_sems rfl r.2⟩) (Cert.Reference18Ideal.Value.run m ρ)
theorem frame_mixX_ref : quiescent_Reference19Ideal (hReference19Ideal := Cert.Reference19Ideal.Gen.facts) := fun m ρ _ =>
  (θ_run Cert.Reference19Ideal.defs _ _).mono (fun r h => ⟨fun c => (h c).2, sem_eq_zero_of_no_sems rfl r.2⟩) (Cert.Reference19Ideal.Value.run m ρ)

/-- All the claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  frame_kernel, frame_ideal, frame_reference,
  frame_wgrad, fun m ρ _ => Cert.Kernel2Ideal.Gen.frame m ρ, frame_wgrad_ref,
  frame_xgrad, fun m ρ _ => Cert.Kernel3Ideal.Gen.frame m ρ, frame_xgrad_ref,
  frame_proj, fun m ρ _ => Cert.Kernel4Ideal.Gen.frame m ρ, frame_proj_ref,
  frame_ffnIn, fun m ρ _ => Cert.Kernel5Ideal.Gen.frame m ρ, frame_ffnIn_ref,
  frame_ffnInW, fun m ρ _ => Cert.Kernel6Ideal.Gen.frame m ρ, frame_ffnInW_ref,
  frame_ffnInX, fun m ρ _ => Cert.Kernel7Ideal.Gen.frame m ρ, frame_ffnInX_ref,
  frame_ffnOut, fun m ρ _ => Cert.Kernel8Ideal.Gen.frame m ρ, frame_ffnOut_ref,
  frame_ffnOutW, fun m ρ _ => Cert.Kernel9Ideal.Gen.frame m ρ, frame_ffnOutW_ref,
  frame_ffnOutX, fun m ρ _ => Cert.Kernel10Ideal.Gen.frame m ρ, frame_ffnOutX_ref,
  frame_up, fun m ρ _ => Cert.Kernel11Ideal.Gen.frame m ρ, frame_up_ref,
  frame_upW, fun m ρ _ => Cert.Kernel12Ideal.Gen.frame m ρ, frame_upW_ref,
  frame_upX, fun m ρ _ => Cert.Kernel13Ideal.Gen.frame m ρ, frame_upX_ref,
  frame_upA, fun m ρ _ => Cert.Kernel14Ideal.Gen.frame m ρ, frame_upA_ref,
  frame_upAW, fun m ρ _ => Cert.Kernel15Ideal.Gen.frame m ρ, frame_upAW_ref,
  frame_upAX, fun m ρ _ => Cert.Kernel16Ideal.Gen.frame m ρ, frame_upAX_ref,
  frame_mix, fun m ρ _ => Cert.Kernel17Ideal.Gen.frame m ρ, frame_mix_ref,
  frame_mixW, fun m ρ _ => Cert.Kernel18Ideal.Gen.frame m ρ, frame_mixW_ref,
  frame_mixX, fun m ρ _ => Cert.Kernel19Ideal.Gen.frame m ρ, frame_mixX_ref,
  trivial, equal, trivial, Cert.WGrad.equal, trivial, Cert.XGrad.equal, trivial, Cert.Proj.equal,
  trivial, Cert.FfnIn.equal, trivial, Cert.FfnInW.equal, trivial, Cert.FfnInX.equal, trivial, Cert.FfnOut.equal, trivial, Cert.FfnOutW.equal, trivial, Cert.FfnOutX.equal, trivial, Cert.Up.equal, trivial, Cert.UpW.equal, trivial, Cert.UpX.equal,
  trivial, Cert.UpA.equal, trivial, Cert.UpAW.equal, trivial, Cert.UpAX.equal, trivial, Cert.Mix.equal, trivial, Cert.MixW.equal, trivial, Cert.MixX.equal⟩

end Cert.Proof

end
